-- ==== Defs.lean ====
def Pre_Kernel [hPre_in_order : Cert.Pre_in_order.Facts] (m : (ℓ : Loc Cert.Kernel.nD Cert.Kernel.τ Cert.Kernel.sig) → Buf (Elt Bits) ℓ) : Prop :=
  ∀ c : Dev Cert.Kernel.nD,
    (Cert.Pre_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_segments_and_sums [hPre_segments_and_sums : Cert.Pre_segments_and_sums.Facts] (m : (ℓ : Loc Cert.KernelIdeal.nD Cert.KernelIdeal.τ Cert.KernelIdeal.sig) → Buf (Elt Ideal) ℓ) : Prop :=
  ∀ c : Dev Cert.KernelIdeal.nD,
    (Cert.Pre_segments_and_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_and_sums [hPre_segments_and_sums : Cert.Pre_segments_and_sums.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_and_sums.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsIdeal_finite [hPre_finite : Cert.Pre_finite.Facts] (m : (ℓ : Loc Cert.WeightsIdeal.nD Cert.WeightsIdeal.τ Cert.WeightsIdeal.sig) → Buf (Elt Ideal) ℓ) : Prop :=
  ∀ c : Dev Cert.WeightsIdeal.nD,
    (Cert.Pre_finite.fn (F := Ideal) (m ((c.tc : Thread Cert.WeightsIdeal.nD Cert.WeightsIdeal.τ).loc Cert.WeightsIdeal.main_arg0)) (m ((c.tc : Thread Cert.WeightsIdeal.nD Cert.WeightsIdeal.τ).loc Cert.WeightsIdeal.main_arg1)) (m ((c.tc : Thread Cert.WeightsIdeal.nD Cert.WeightsIdeal.τ).loc Cert.WeightsIdeal.main_arg2))) = (fun _ => 1#1)

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReferenceIdeal_finite [hPre_finite : Cert.Pre_finite.Facts] (m : (ℓ : Loc Cert.WeightsReferenceIdeal.nD Cert.WeightsReferenceIdeal.τ Cert.WeightsReferenceIdeal.sig) → Buf (Elt Ideal) ℓ) : Prop :=
  ∀ c : Dev Cert.WeightsReferenceIdeal.nD,
    (Cert.Pre_finite.fn (F := Ideal) (m ((c.tc : Thread Cert.WeightsReferenceIdeal.nD Cert.WeightsReferenceIdeal.τ).loc Cert.WeightsReferenceIdeal.main_arg0)) (m ((c.tc : Thread Cert.WeightsReferenceIdeal.nD Cert.WeightsReferenceIdeal.τ).loc Cert.WeightsReferenceIdeal.main_arg1)) (m ((c.tc : Thread Cert.WeightsReferenceIdeal.nD Cert.WeightsReferenceIdeal.τ).loc Cert.WeightsReferenceIdeal.main_arg2))) = (fun _ => 1#1)

def Pre_WholeIdeal (m : (ℓ : Loc Cert.WholeIdeal.nD Cert.WholeIdeal.τ Cert.WholeIdeal.sig) → Buf (Elt Ideal) ℓ) : Prop :=
  True

def Pre_WholeIdeal_sorted_and_sums [hPre_sorted_and_sums : Cert.Pre_sorted_and_sums.Facts] (m : (ℓ : Loc Cert.WholeIdeal.nD Cert.WholeIdeal.τ Cert.WholeIdeal.sig) → Buf (Elt Ideal) ℓ) : Prop :=
  ∀ c : Dev Cert.WholeIdeal.nD,
    (Cert.Pre_sorted_and_sums.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_sorted_and_sums [hPre_sorted_and_sums : Cert.Pre_sorted_and_sums.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_sorted_and_sums.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4))) = (fun _ => 1#1)

def quiescent_Kernel [hKernel : Cert.Kernel.Facts] [hPre_in_order : Cert.Pre_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_segments_and_sums [hKernelIdeal : Cert.KernelIdeal.Facts] [hPre_segments_and_sums : Cert.Pre_segments_and_sums.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_and_sums m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_segments_and_sums [hReferenceIdeal : Cert.ReferenceIdeal.Facts] [hPre_segments_and_sums : Cert.Pre_segments_and_sums.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_and_sums m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ r.2.sem = fun _ => 0)

def quiescent_WeightsIdeal_pre_finite [hWeightsIdeal : Cert.WeightsIdeal.Facts] [hPre_finite : Cert.Pre_finite.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal_finite m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2))
      ∧ r.2.sem = fun _ => 0)

def quiescent_WeightsReferenceIdeal_pre_finite [hWeightsReferenceIdeal : Cert.WeightsReferenceIdeal.Facts] [hPre_finite : Cert.Pre_finite.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal_finite m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeIdeal_pre_sorted_and_sums [hWholeIdeal : Cert.WholeIdeal.Facts] [hPre_sorted_and_sums : Cert.Pre_sorted_and_sums.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_sorted_and_sums m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4))
      ∧ r.2.sem = fun _ => 0)

def quiescent_WholeReferenceIdeal_pre_sorted_and_sums [hWholeReferenceIdeal : Cert.WholeReferenceIdeal.Facts] [hPre_sorted_and_sums : Cert.Pre_sorted_and_sums.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_sorted_and_sums m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4))
      ∧ r.2.sem = fun _ => 0)

def preserves_Kernel_KernelIdeal : Prop :=
  True

def algebraic_KernelIdeal_ReferenceIdeal_pre_segments_and_sums [hKernelIdeal : Cert.KernelIdeal.Facts] [hReferenceIdeal : Cert.ReferenceIdeal.Facts] [hPre_segments_and_sums : Cert.Pre_segments_and_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_and_sums m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Weights_WeightsIdeal : Prop :=
  True

def algebraic_WeightsIdeal_WeightsReferenceIdeal_pre_finite [hWeightsIdeal : Cert.WeightsIdeal.Facts] [hWeightsReferenceIdeal : Cert.WeightsReferenceIdeal.Facts] [hPre_finite : Cert.Pre_finite.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal_finite m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)) →
    ∃ (v0 : (c : Dev Cert.WeightsIdeal.nD) → Buf (Elt Ideal) ((c.tc : Thread Cert.WeightsIdeal.nD Cert.WeightsIdeal.τ).loc Cert.WeightsIdeal.main_v0_0)) (v1 : (c : Dev Cert.WeightsIdeal.nD) → Buf (Elt Ideal) ((c.tc : Thread Cert.WeightsIdeal.nD Cert.WeightsIdeal.τ).loc Cert.WeightsIdeal.main_v0_1)) (v2 : (c : Dev Cert.WeightsIdeal.nD) → Buf (Elt Ideal) ((c.tc : Thread Cert.WeightsIdeal.nD Cert.WeightsIdeal.τ).loc Cert.WeightsIdeal.main_v0_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v0_0) = v0 c
          ∧ r.2.mem ((c.tc : Thread Cert.WeightsIdeal.nD Cert.WeightsIdeal.τ).loc Cert.WeightsIdeal.main_v0_1) = v1 c
          ∧ r.2.mem ((c.tc : Thread Cert.WeightsIdeal.nD Cert.WeightsIdeal.τ).loc Cert.WeightsIdeal.main_v0_2) = v2 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v71) = v0 c
          ∧ r.2.mem ((c.tc : Thread Cert.WeightsReferenceIdeal.nD Cert.WeightsReferenceIdeal.τ).loc Cert.WeightsReferenceIdeal.main_v72) = v1 c
          ∧ r.2.mem ((c.tc : Thread Cert.WeightsReferenceIdeal.nD Cert.WeightsReferenceIdeal.τ).loc Cert.WeightsReferenceIdeal.main_v73) = v2 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2))

def algebraic_WholeIdeal_WholeReferenceIdeal_pre_sorted_and_sums [hWholeIdeal : Cert.WholeIdeal.Facts] [hWholeReferenceIdeal : Cert.WholeReferenceIdeal.Facts] [hPre_sorted_and_sums : Cert.Pre_sorted_and_sums.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_sorted_and_sums m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)) →
    ∃ (v0 : (c : Dev Cert.WholeIdeal.nD) → Buf (Elt Ideal) ((c.tc : Thread Cert.WholeIdeal.nD Cert.WholeIdeal.τ).loc Cert.WholeIdeal.main_v44)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v44) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v203) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4))

def Claim : Prop :=
  ∃ (hKernel : Cert.Kernel.Facts) (hKernelIdeal : Cert.KernelIdeal.Facts) (hReferenceIdeal : Cert.ReferenceIdeal.Facts) (hWeights : Cert.Weights.Facts) (hWeightsIdeal : Cert.WeightsIdeal.Facts) (hWeightsReferenceIdeal : Cert.WeightsReferenceIdeal.Facts) (hWholeIdeal : Cert.WholeIdeal.Facts) (hWholeReferenceIdeal : Cert.WholeReferenceIdeal.Facts) (hPre_in_order : Cert.Pre_in_order.Facts) (hPre_segments_and_sums : Cert.Pre_segments_and_sums.Facts) (hPre_finite : Cert.Pre_finite.Facts) (hPre_sorted_and_sums : Cert.Pre_sorted_and_sums.Facts),
    quiescent_Kernel (hKernel := hKernel) (hPre_in_order := hPre_in_order)
    ∧ quiescent_KernelIdeal (hKernelIdeal := hKernelIdeal) (hPre_in_order := hPre_in_order)
    ∧ quiescent_KernelIdeal_pre_segments_and_sums (hKernelIdeal := hKernelIdeal) (hPre_segments_and_sums := hPre_segments_and_sums)
    ∧ quiescent_ReferenceIdeal (hReferenceIdeal := hReferenceIdeal)
    ∧ quiescent_ReferenceIdeal_pre_segments_and_sums (hReferenceIdeal := hReferenceIdeal) (hPre_segments_and_sums := hPre_segments_and_sums)
    ∧ quiescent_Weights (hWeights := hWeights)
    ∧ quiescent_WeightsIdeal (hWeightsIdeal := hWeightsIdeal)
    ∧ quiescent_WeightsIdeal_pre_finite (hWeightsIdeal := hWeightsIdeal) (hPre_finite := hPre_finite)
    ∧ quiescent_WeightsReferenceIdeal (hWeightsReferenceIdeal := hWeightsReferenceIdeal)
    ∧ quiescent_WeightsReferenceIdeal_pre_finite (hWeightsReferenceIdeal := hWeightsReferenceIdeal) (hPre_finite := hPre_finite)
    ∧ quiescent_WholeIdeal (hWholeIdeal := hWholeIdeal)
    ∧ quiescent_WholeIdeal_pre_sorted_and_sums (hWholeIdeal := hWholeIdeal) (hPre_sorted_and_sums := hPre_sorted_and_sums)
    ∧ quiescent_WholeReferenceIdeal (hWholeReferenceIdeal := hWholeReferenceIdeal)
    ∧ quiescent_WholeReferenceIdeal_pre_sorted_and_sums (hWholeReferenceIdeal := hWholeReferenceIdeal) (hPre_sorted_and_sums := hPre_sorted_and_sums)
    ∧ preserves_Kernel_KernelIdeal
    ∧ algebraic_KernelIdeal_ReferenceIdeal_pre_segments_and_sums (hKernelIdeal := hKernelIdeal) (hReferenceIdeal := hReferenceIdeal) (hPre_segments_and_sums := hPre_segments_and_sums)
    ∧ preserves_Weights_WeightsIdeal
    ∧ algebraic_WeightsIdeal_WeightsReferenceIdeal_pre_finite (hWeightsIdeal := hWeightsIdeal) (hWeightsReferenceIdeal := hWeightsReferenceIdeal) (hPre_finite := hPre_finite)
    ∧ algebraic_WholeIdeal_WholeReferenceIdeal_pre_sorted_and_sums (hWholeIdeal := hWholeIdeal) (hWholeReferenceIdeal := hWholeReferenceIdeal) (hPre_sorted_and_sums := hPre_sorted_and_sums)
-- ==== Pre_finite.lean ====
abbrev S8192x128 : Shape := ⟨2, ![8192, 128]⟩
abbrev S1x8256 : Shape := ⟨2, ![1, 8256]⟩
abbrev S1x8192 : Shape := ⟨2, ![1, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1x8256 : S_.BroadcastsInDim S1x8256 (![] : Fin 0 → Fin S1x8256.rank)
  reducesTo_S1x8256_S_d0_1 : S1x8256.ReducesTo [0, 1] S_

variable [Facts]

def fn {F : FTy → Type} [FloatOps F] (main_arg0 : FVec F S8192x128 .f32) (main_arg1 : FVec F S1x8256 .f32) (main_arg2 : IVec S1x8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S1x8256 .f32 := Host.absf main_arg1
  let main_cst_0 : FVec F S_ .f32 := constant S_ .f32 0x7F800000#32
  let main_v5 : FVec F S1x8256 .f32 := broadcastInDim S1x8256 ![] bcast_S_S1x8256 main_cst_0
  let main_v6 : IVec S1x8256 1 := cmpf .olt main_v4 main_v5
  let main_c_1 : IVec S_ 1 := constantI S_ 1 1#1
  let main_v7 : IVec S_ 1 := (fun x v => Host.reduce IntOp.andi x v reducesTo_S1x8256_S_d0_1 h_S_) main_v6 main_c_1
  let main_v8 : IVec S_ 1 := andi main_v3 main_v7
  main_v8
-- ==== Pre_in_order.lean ====
abbrev S65 : Shape := ⟨1, ![65]⟩
abbrev S128x8192 : Shape := ⟨2, ![128, 8192]⟩
abbrev S8192x128 : Shape := ⟨2, ![8192, 128]⟩
abbrev S1x8192 : Shape := ⟨2, ![1, 8192]⟩
abbrev S1x64 : Shape := ⟨2, ![1, 64]⟩
abbrev S64 : Shape := ⟨1, ![64]⟩
abbrev S_ : Shape := ⟨0, ![]⟩

class Facts : Prop where
  slices_S65_S64_0 : S65.Slices ![0] S64
  bcast_S_S64 : S_.BroadcastsInDim S64 (![] : Fin 0 → Fin S64.rank)
  slices_S65_S64_1 : S65.Slices ![1] S64

variable [Facts]

def fn {F : FTy → Type} [FloatOps F] (main_arg0 : IVec S65 32) (main_arg1 : FVec F S128x8192 .f32) (main_arg2 : FVec F S8192x128 .f32) (main_arg3 : IVec S1x8192 32) (main_arg4 : FVec F S1x64 .f32) : IVec S64 1 :=
  let main_v0 : IVec S64 32 := (extractStridedSlice S64 ![0] · slices_S65_S64_0) main_arg0
  let main_c : IVec S_ 32 := constantI S_ 32 0#32
  let main_v1 : IVec S64 32 := broadcastInDim S64 ![] bcast_S_S64 main_c
  let main_v2 : IVec S64 1 := cmpi .sge main_v0 main_v1
  let main_v3 : IVec S64 32 := (extractStridedSlice S64 ![0] · slices_S65_S64_0) main_arg0
  let main_v4 : IVec S64 32 := (extractStridedSlice S64 ![1] · slices_S65_S64_1) main_arg0
  let main_v5 : IVec S64 1 := cmpi .sle main_v3 main_v4
  let main_v6 : IVec S64 1 := andi main_v2 main_v5
  let main_v7 : IVec S64 32 := (extractStridedSlice S64 ![1] · slices_S65_S64_1) main_arg0
  let main_c_0 : IVec S_ 32 := constantI S_ 32 8192#32
  let main_v8 : IVec S64 32 := broadcastInDim S64 ![] bcast_S_S64 main_c_0
  let main_v9 : IVec S64 1 := cmpi .sle main_v7 main_v8
  let main_v10 : IVec S64 1 := andi main_v6 main_v9
  main_v10
-- ==== Pre_segments_and_sums.lean ====
abbrev S65 : Shape := ⟨1, ![65]⟩
abbrev S128x8192 : Shape := ⟨2, ![128, 8192]⟩
abbrev S8192x128 : Shape := ⟨2, ![8192, 128]⟩
abbrev S1x8192 : Shape := ⟨2, ![1, 8192]⟩
abbrev S1x64 : Shape := ⟨2, ![1, 64]⟩
abbrev S64 : Shape := ⟨1, ![64]⟩
abbrev S64x1 : Shape := ⟨2, ![64, 1]⟩
abbrev S8192 : Shape := ⟨1, ![8192]⟩
abbrev S64x8192 : Shape := ⟨2, ![64, 8192]⟩
abbrev S_ : Shape := ⟨0, ![]⟩

class Facts : Prop where
  bcast_S64_S64x1_0 : S64.BroadcastsInDim S64x1 (![0] : Fin 1 → Fin S64x1.rank)
  bcast_S8192_S1x8192_1 : S8192.BroadcastsInDim S1x8192 (![1] : Fin 1 → Fin S1x8192.rank)
  slices_S65_S64_0 : S65.Slices ![0] S64
  shapeCasts_S64_S64x1 : S64.ShapeCasts S64x1
  slices_S65_S64_1 : S65.Slices ![1] S64
  bcast_S1x8192_S64x8192_0_1 : S1x8192.BroadcastsInDim S64x8192 (![0, 1] : Fin 2 → Fin S64x8192.rank)
  bcast_S64x1_S64x8192_0_1 : S64x1.BroadcastsInDim S64x8192 (![0, 1] : Fin 2 → Fin S64x8192.rank)
  bcast_S_S64x1 : S_.BroadcastsInDim S64x1 (![] : Fin 0 → Fin S64x1.rank)
  shapeCasts_S1x64_S64x1 : S1x64.ShapeCasts S64x1

variable [Facts]

def fn_part1 {F : FTy → Type} [FloatOps F] (main_arg4 : FVec F S1x64 .f32) (main_v5 : IVec S64x1 32) (main_v7 : IVec S64x1 32) (main_v10 : IVec S64x8192 1) (main_v22 : IVec S64x8192 1) : IVec S64x8192 1 :=
  let main_v23 : IVec S64x1 1 := cmpi .sle main_v5 main_v7
  let main_v24 : IVec S64x8192 1 := broadcastInDim S64x8192 ![0, 1] bcast_S64x1_S64x8192_0_1 main_v23
  let main_v25 : IVec S64x8192 1 := andi main_v22 main_v24
  let main_c_0 : IVec S_ 32 := constantI S_ 32 8192#32
  let main_v26 : IVec S64x1 32 := broadcastInDim S64x1 ![] bcast_S_S64x1 main_c_0
  let main_v27 : IVec S64x1 1 := cmpi .sle main_v7 main_v26
  let main_v28 : IVec S64x8192 1 := broadcastInDim S64x8192 ![0, 1] bcast_S64x1_S64x8192_0_1 main_v27
  let main_v29 : IVec S64x8192 1 := andi main_v25 main_v28
  let main_v30 : IVec S64x8192 1 := noti main_v10
  let main_v31 : FVec F S64x1 .f32 := shapeCast S64x1 main_arg4 shapeCasts_S1x64_S64x1
  let main_cst : FVec F S_ .f32 := constant S_ .f32 0x0DA24260#32
  let main_v32 : FVec F S64x1 .f32 := broadcastInDim S64x1 ![] bcast_S_S64x1 main_cst
  let main_v33 : IVec S64x1 1 := cmpf .oge main_v31 main_v32
  let main_v34 : IVec S64x8192 1 := broadcastInDim S64x8192 ![0, 1] bcast_S64x1_S64x8192_0_1 main_v33
  let main_v35 : IVec S64x8192 1 := ori main_v30 main_v34
  let main_v36 : IVec S64x8192 1 := andi main_v29 main_v35
  main_v36

def fn {F : FTy → Type} [FloatOps F] (main_arg0 : IVec S65 32) (main_arg1 : FVec F S128x8192 .f32) (main_arg2 : FVec F S8192x128 .f32) (main_arg3 : IVec S1x8192 32) (main_arg4 : FVec F S1x64 .f32) : IVec S64x8192 1 :=
  let main_v0 : IVec S64 32 := iotaInDim S64 32 0
  let main_v1 : IVec S64x1 32 := broadcastInDim S64x1 ![0] bcast_S64_S64x1_0 main_v0
  let main_v2 : IVec S8192 32 := iotaInDim S8192 32 0
  let main_v3 : IVec S1x8192 32 := broadcastInDim S1x8192 ![1] bcast_S8192_S1x8192_1 main_v2
  let main_v4 : IVec S64 32 := (extractStridedSlice S64 ![0] · slices_S65_S64_0) main_arg0
  let main_v5 : IVec S64x1 32 := shapeCast S64x1 main_v4 shapeCasts_S64_S64x1
  let main_v6 : IVec S64 32 := (extractStridedSlice S64 ![1] · slices_S65_S64_1) main_arg0
  let main_v7 : IVec S64x1 32 := shapeCast S64x1 main_v6 shapeCasts_S64_S64x1
  let main_v8 : IVec S64x8192 32 := broadcastInDim S64x8192 ![0, 1] bcast_S1x8192_S64x8192_0_1 main_arg3
  let main_v9 : IVec S64x8192 32 := broadcastInDim S64x8192 ![0, 1] bcast_S64x1_S64x8192_0_1 main_v1
  let main_v10 : IVec S64x8192 1 := cmpi .eq main_v8 main_v9
  let main_v11 : IVec S64x8192 32 := broadcastInDim S64x8192 ![0, 1] bcast_S64x1_S64x8192_0_1 main_v5
  let main_v12 : IVec S64x8192 32 := broadcastInDim S64x8192 ![0, 1] bcast_S1x8192_S64x8192_0_1 main_v3
  let main_v13 : IVec S64x8192 1 := cmpi .sle main_v11 main_v12
  let main_v14 : IVec S64x8192 32 := broadcastInDim S64x8192 ![0, 1] bcast_S1x8192_S64x8192_0_1 main_v3
  let main_v15 : IVec S64x8192 32 := broadcastInDim S64x8192 ![0, 1] bcast_S64x1_S64x8192_0_1 main_v7
  let main_v16 : IVec S64x8192 1 := cmpi .slt main_v14 main_v15
  let main_v17 : IVec S64x8192 1 := andi main_v13 main_v16
  let main_v18 : IVec S64x8192 1 := cmpi .eq main_v10 main_v17
  let main_c : IVec S_ 32 := constantI S_ 32 0#32
  let main_v19 : IVec S64x1 32 := broadcastInDim S64x1 ![] bcast_S_S64x1 main_c
  let main_v20 : IVec S64x1 1 := cmpi .sge main_v5 main_v19
  let main_v21 : IVec S64x8192 1 := broadcastInDim S64x8192 ![0, 1] bcast_S64x1_S64x8192_0_1 main_v20
  let main_v22 : IVec S64x8192 1 := andi main_v18 main_v21
  fn_part1 (F := F) main_arg4 main_v5 main_v7 main_v10 main_v22
-- ==== Pre_sorted_and_sums.lean ====
abbrev S8192x128 : Shape := ⟨2, ![8192, 128]⟩
abbrev S8256x1 : Shape := ⟨2, ![8256, 1]⟩
abbrev S1 : Shape := ⟨1, ![1]⟩
abbrev S8192 : Shape := ⟨1, ![8192]⟩
abbrev S2x131072 : Shape := ⟨2, ![2, 131072]⟩
abbrev S1x8256 : Shape := ⟨2, ![1, 8256]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S8256 : Shape := ⟨1, ![8256]⟩
abbrev S128x128x1 : Shape := ⟨3, ![128, 128, 1]⟩
abbrev S8192x128x1 : Shape := ⟨3, ![8192, 128, 1]⟩
abbrev S8192x1x128 : Shape := ⟨3, ![8192, 1, 128]⟩
abbrev S8192x128x128 : Shape := ⟨3, ![8192, 128, 128]⟩
abbrev S1x128x128 : Shape := ⟨3, ![1, 128, 128]⟩
abbrev S1x8192 : Shape := ⟨2, ![1, 8192]⟩
abbrev S64 : Shape := ⟨1, ![64]⟩
abbrev S64x1 : Shape := ⟨2, ![64, 1]⟩
abbrev S64x8192 : Shape := ⟨2, ![64, 8192]⟩
abbrev S8191 : Shape := ⟨1, ![8191]⟩

class Facts : Prop where
  shapeCasts_S8256x1_S1x8256 : S8256x1.ShapeCasts S1x8256
  bcast_S128_S128x1_0 : S128.BroadcastsInDim S128x1 (![0] : Fin 1 → Fin S128x1.rank)
  bcast_S128_S1x128_1 : S128.BroadcastsInDim S1x128 (![1] : Fin 1 → Fin S1x128.rank)
  bcast_S_S128x1 : S_.BroadcastsInDim S128x1 (![] : Fin 0 → Fin S128x1.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  shapeCasts_S1x8256_S8256 : S1x8256.ShapeCasts S8256
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S8192x128_S8192x128x1_0_1 : S8192x128.BroadcastsInDim S8192x128x1 (![0, 1] : Fin 2 → Fin S8192x128x1.rank)
  bcast_S8192x128_S8192x1x128_0_2 : S8192x128.BroadcastsInDim S8192x1x128 (![0, 2] : Fin 2 → Fin S8192x1x128.rank)
  bcast_S8192x128x1_S8192x128x128_0_1_2 : S8192x128x1.BroadcastsInDim S8192x128x128 (![0, 1, 2] : Fin 3 → Fin S8192x128x128.rank)
  bcast_S8192x1x128_S8192x128x128_0_1_2 : S8192x1x128.BroadcastsInDim S8192x128x128 (![0, 1, 2] : Fin 3 → Fin S8192x128x128.rank)
  bcast_S128x128_S1x128x128_1_2 : S128x128.BroadcastsInDim S1x128x128 (![1, 2] : Fin 2 → Fin S1x128x128.rank)
  bcast_S1x128x128_S8192x128x128_0_1_2 : S1x128x128.BroadcastsInDim S8192x128x128 (![0, 1, 2] : Fin 3 → Fin S8192x128x128.rank)
  reducesTo_S8192x128x128_S8192_d1_2 : S8192x128x128.ReducesTo [1, 2] S8192
  h_S_ : 0 < S_.numel
  reducesTo_S8192_S_d0 : S8192.ReducesTo [0] S_
  bcast_S_S8192 : S_.BroadcastsInDim S8192 (![] : Fin 0 → Fin S8192.rank)
  bcast_S8192_S1x8192_1 : S8192.BroadcastsInDim S1x8192 (![1] : Fin 1 → Fin S1x8192.rank)
  bcast_S64_S64x1_0 : S64.BroadcastsInDim S64x1 (![0] : Fin 1 → Fin S64x1.rank)
  bcast_S1x8192_S64x8192_0_1 : S1x8192.BroadcastsInDim S64x8192 (![0, 1] : Fin 2 → Fin S64x8192.rank)
  bcast_S64x1_S64x8192_0_1 : S64x1.BroadcastsInDim S64x8192 (![0, 1] : Fin 2 → Fin S64x8192.rank)
  bcast_S_S64x8192 : S_.BroadcastsInDim S64x8192 (![] : Fin 0 → Fin S64x8192.rank)
  reducesTo_S64x8192_S64_d1 : S64x8192.ReducesTo [1] S64
  bcast_S_S8192x128 : S_.BroadcastsInDim S8192x128 (![] : Fin 0 → Fin S8192x128.rank)
  reducesTo_S8192x128_S_d0_1 : S8192x128.ReducesTo [0, 1] S_
  bcast_S_S8256x1 : S_.BroadcastsInDim S8256x1 (![] : Fin 0 → Fin S8256x1.rank)
  reducesTo_S8256x1_S_d0_1 : S8256x1.ReducesTo [0, 1] S_
  bcast_S_S1 : S_.BroadcastsInDim S1 (![] : Fin 0 → Fin S1.rank)
  reducesTo_S1_S_d0 : S1.ReducesTo [0] S_
  slices_S8192_S8191_0 : S8192.Slices ![0] S8191
  slices_S8192_S8191_1 : S8192.Slices ![1] S8191
  reducesTo_S8191_S_d0 : S8191.ReducesTo [0] S_
  bcast_S_S64x1 : S_.BroadcastsInDim S64x1 (![] : Fin 0 → Fin S64x1.rank)
  reducesTo_S64x8192_S_d0_1 : S64x8192.ReducesTo [0, 1] S_
  gather_S8256_S128x128x1_S128x128_n_0_n_n_0_2_1_wf : GatherDims.WF S8256 S128x128x1 S128x128 [] [0] [] [0] [] 2 ![1]

variable [Facts]

def gather_S8256_S128x128x1_S128x128_n_0_n_n_0_2_1 : GatherDims S8256 S128x128x1 S128x128 where
  offsetDims := []
  collapsedSliceDims := [0]
  operandBatchingDims := []
  startIndicesBatchingDims := []
  startIndexMap := [0]
  indexVectorDim := 2
  sliceSizes := ![1]
  wf := gather_S8256_S128x128x1_S128x128_n_0_n_n_0_2_1_wf
def fn_where {F : FTy → Type} [FloatOps F] (arg0 : IVec S128x128 1) (arg1 : IVec S128x128 32) (arg2 : IVec S_ 32) : IVec S128x128 32 :=
  let v0 : IVec S_ 32 := id arg2
  let v1 : IVec S128x128 32 := broadcastInDim S128x128 ![] bcast_S_S128x128 v0
  let v2 : IVec S128x128 32 := select arg0 arg1 v1
  v2

def fn_where_0 {F : FTy → Type} [FloatOps F] (arg0 : IVec S128x128 1) (arg1 : FVec F S128x128 .f32) (arg2 : FVec F S_ .f32) : FVec F S128x128 .f32 :=
  let v0 : FVec F S_ .f32 := id arg2
  let v1 : FVec F S128x128 .f32 := broadcastInDim S128x128 ![] bcast_S_S128x128 v0
  let v2 : FVec F S128x128 .f32 := select arg0 arg1 v1
  v2

def fn_where_1 {F : FTy → Type} [FloatOps F] (arg0 : IVec S64x8192 1) (arg1 : FVec F S1x8192 .f32) (arg2 : FVec F S_ .f32) : FVec F S64x8192 .f32 :=
  let v0 : FVec F S_ .f32 := id arg2
  let v1 : FVec F S64x8192 .f32 := broadcastInDim S64x8192 ![0, 1] bcast_S1x8192_S64x8192_0_1 arg1
  let v2 : FVec F S64x8192 .f32 := broadcastInDim S64x8192 ![] bcast_S_S64x8192 v0
  let v3 : FVec F S64x8192 .f32 := select arg0 v1 v2
  v3

def fn_part4 {F : FTy → Type} [FloatOps F] (main_v52 : IVec S64x8192 1) (main_v55 : FVec F S64 .f32) (main_v74 : IVec S_ 1) (main_v76 : IVec S8192 1) : IVec S_ 1 :=
  let main_c_17 : IVec S_ 1 := constantI S_ 1 1#1
  let main_v77 : IVec S_ 1 := (fun x v => Host.reduce IntOp.andi x v reducesTo_S8192_S_d0 h_S_) main_v76 main_c_17
  let main_v78 : IVec S_ 1 := andi main_v74 main_v77
  let main_v79 : IVec S64x8192 1 := noti main_v52
  let main_v80 : FVec F S64x1 .f32 := broadcastInDim S64x1 ![0] bcast_S64_S64x1_0 main_v55
  let main_cst_18 : FVec F S_ .f32 := constant S_ .f32 0x0DA24260#32
  let main_v81 : FVec F S64x1 .f32 := broadcastInDim S64x1 ![] bcast_S_S64x1 main_cst_18
  let main_v82 : IVec S64x1 1 := cmpf .oge main_v80 main_v81
  let main_v83 : IVec S64x8192 1 := broadcastInDim S64x8192 ![0, 1] bcast_S64x1_S64x8192_0_1 main_v82
  let main_v84 : IVec S64x8192 1 := ori main_v79 main_v83
  let main_c_19 : IVec S_ 1 := constantI S_ 1 1#1
  let main_v85 : IVec S_ 1 := (fun x v => Host.reduce IntOp.andi x v reducesTo_S64x8192_S_d0_1 h_S_) main_v84 main_c_19
  let main_v86 : IVec S_ 1 := andi main_v78 main_v85
  main_v86

def fn_part3 {F : FTy → Type} [FloatOps F] (main_arg1 : FVec F S8256x1 .f32) (main_arg2 : FVec F S1 .f32) (main_arg3 : IVec S8192 32) (main_v52 : IVec S64x8192 1) (main_v55 : FVec F S64 .f32) (main_v58 : IVec S8192x128 1) (main_c_10 : IVec S_ 1) : IVec S_ 1 :=
  let main_v59 : IVec S_ 1 := (fun x v => Host.reduce IntOp.andi x v reducesTo_S8192x128_S_d0_1 h_S_) main_v58 main_c_10
  let main_v60 : FVec F S8256x1 .f32 := Host.absf main_arg1
  let main_cst_11 : FVec F S_ .f32 := constant S_ .f32 0x7F800000#32
  let main_v61 : FVec F S8256x1 .f32 := broadcastInDim S8256x1 ![] bcast_S_S8256x1 main_cst_11
  let main_v62 : IVec S8256x1 1 := cmpf .olt main_v60 main_v61
  let main_c_12 : IVec S_ 1 := constantI S_ 1 1#1
  let main_v63 : IVec S_ 1 := (fun x v => Host.reduce IntOp.andi x v reducesTo_S8256x1_S_d0_1 h_S_) main_v62 main_c_12
  let main_v64 : IVec S_ 1 := andi main_v59 main_v63
  let main_v65 : FVec F S1 .f32 := Host.absf main_arg2
  let main_cst_13 : FVec F S_ .f32 := constant S_ .f32 0x7F800000#32
  let main_v66 : FVec F S1 .f32 := broadcastInDim S1 ![] bcast_S_S1 main_cst_13
  let main_v67 : IVec S1 1 := cmpf .olt main_v65 main_v66
  let main_c_14 : IVec S_ 1 := constantI S_ 1 1#1
  let main_v68 : IVec S_ 1 := (fun x v => Host.reduce IntOp.andi x v reducesTo_S1_S_d0 h_S_) main_v67 main_c_14
  let main_v69 : IVec S_ 1 := andi main_v64 main_v68
  let main_v70 : IVec S8191 32 := (extractStridedSlice S8191 ![0] · slices_S8192_S8191_0) main_arg3
  let main_v71 : IVec S8191 32 := (extractStridedSlice S8191 ![1] · slices_S8192_S8191_1) main_arg3
  let main_v72 : IVec S8191 1 := cmpi .sle main_v70 main_v71
  let main_c_15 : IVec S_ 1 := constantI S_ 1 1#1
  let main_v73 : IVec S_ 1 := (fun x v => Host.reduce IntOp.andi x v reducesTo_S8191_S_d0 h_S_) main_v72 main_c_15
  let main_v74 : IVec S_ 1 := andi main_v69 main_v73
  let main_c_16 : IVec S_ 32 := constantI S_ 32 0#32
  let main_v75 : IVec S8192 32 := broadcastInDim S8192 ![] bcast_S_S8192 main_c_16
  let main_v76 : IVec S8192 1 := cmpi .sge main_arg3 main_v75
  fn_part4 (F := F) main_v52 main_v55 main_v74 main_v76

def fn_part2 {F : FTy → Type} [FloatOps F] (main_arg0 : FVec F S8192x128 .f32) (main_arg1 : FVec F S8256x1 .f32) (main_arg2 : FVec F S1 .f32) (main_arg3 : IVec S8192 32) (main_v38 : FVec F S8192x128x128 .f32) (main_v40 : FVec F S8192x128x128 .f32) : IVec S_ 1 :=
  let main_v41 : FVec F S8192x128x128 .f32 := mulf main_v38 main_v40
  let main_cst_5 : FVec F S_ .f32 := constant S_ .f32 0x00000000#32
  let main_v42 : FVec F S8192 .f32 := (fun x v => Host.reduceAdd x v reducesTo_S8192x128x128_S8192_d1_2 h_S_) main_v41 main_cst_5
  let main_cst_6 : FVec F S_ .f32 := constant S_ .f32 0xFF800000#32
  let main_v43 : FVec F S_ .f32 := (fun x v => Host.reduce FloatOps.maximumf x v reducesTo_S8192_S_d0 h_S_) main_v42 main_cst_6
  let main_v44 : FVec F S8192 .f32 := broadcastInDim S8192 ![] bcast_S_S8192 main_v43
  let main_v45 : FVec F S8192 .f32 := subf main_v42 main_v44
  let main_v46 : FVec F S8192 .f32 := Host.exp main_v45
  let main_v47 : IVec S1x8192 32 := broadcastInDim S1x8192 ![1] bcast_S8192_S1x8192_1 main_arg3
  let main_v48 : IVec S64 32 := iotaInDim S64 32 0
  let main_v49 : IVec S64x1 32 := broadcastInDim S64x1 ![0] bcast_S64_S64x1_0 main_v48
  let main_v50 : IVec S64x8192 32 := broadcastInDim S64x8192 ![0, 1] bcast_S1x8192_S64x8192_0_1 main_v47
  let main_v51 : IVec S64x8192 32 := broadcastInDim S64x8192 ![0, 1] bcast_S64x1_S64x8192_0_1 main_v49
  let main_v52 : IVec S64x8192 1 := cmpi .eq main_v50 main_v51
  let main_v53 : FVec F S1x8192 .f32 := broadcastInDim S1x8192 ![1] bcast_S8192_S1x8192_1 main_v46
  let main_cst_7 : FVec F S_ .f32 := constant S_ .f32 0x00000000#32
  let main_v54 : FVec F S64x8192 .f32 := fn_where_1 (F := F) main_v52 main_v53 main_cst_7
  let main_cst_8 : FVec F S_ .f32 := constant S_ .f32 0x00000000#32
  let main_v55 : FVec F S64 .f32 := (fun x v => Host.reduceAdd x v reducesTo_S64x8192_S64_d1 h_S_) main_v54 main_cst_8
  let main_v56 : FVec F S8192x128 .f32 := Host.absf main_arg0
  let main_cst_9 : FVec F S_ .f32 := constant S_ .f32 0x7F800000#32
  let main_v57 : FVec F S8192x128 .f32 := broadcastInDim S8192x128 ![] bcast_S_S8192x128 main_cst_9
  let main_v58 : IVec S8192x128 1 := cmpf .olt main_v56 main_v57
  let main_c_10 : IVec S_ 1 := constantI S_ 1 1#1
  fn_part3 (F := F) main_arg1 main_arg2 main_arg3 main_v52 main_v55 main_v58 main_c_10

def fn_part1 {F : FTy → Type} [FloatOps F] (main_arg0 : FVec F S8192x128 .f32) (main_arg1 : FVec F S8256x1 .f32) (main_arg2 : FVec F S1 .f32) (main_arg3 : IVec S8192 32) (main_v0 : FVec F S1x8256 .f32) (main_v2 : IVec S128x1 32) (main_v4 : IVec S1x128 32) (main_v17 : IVec S128x128 32) (main_v20 : IVec S128x128 1) : IVec S_ 1 :=
  let main_v21 : FVec F S8256 .f32 := shapeCast S8256 main_v0 shapeCasts_S1x8256_S8256
  let main_v22 : IVec S128x128 32 := broadcastInDim S128x128 ![0, 1] bcast_S128x1_S128x128_0_1 main_v2
  let main_v23 : IVec S128x128 32 := broadcastInDim S128x128 ![0, 1] bcast_S1x128_S128x128_0_1 main_v4
  let main_v24 : IVec S128x128 1 := cmpi .sle main_v22 main_v23
  let main_c_2 : IVec S_ 32 := constantI S_ 32 0#32
  let main_v25 : IVec S128x128 32 := fn_where (F := F) main_v24 main_v17 main_c_2
  let main_c_3 : IVec S_ 32 := constantI S_ 32 0#32
  let main_v26 : IVec S128x128 32 := broadcastInDim S128x128 ![] bcast_S_S128x128 main_c_3
  let main_v27 : IVec S128x128 1 := cmpi .slt main_v25 main_v26
  let main_c_4 : IVec S_ 32 := constantI S_ 32 8256#32
  let main_v28 : IVec S128x128 32 := broadcastInDim S128x128 ![] bcast_S_S128x128 main_c_4
  let main_v29 : IVec S128x128 32 := addi main_v25 main_v28
  let main_v30 : IVec S128x128 32 := select main_v27 main_v29 main_v25
  let main_v31 : IVec S128x128x1 32 := broadcastInDim S128x128x1 ![0, 1] bcast_S128x128_S128x128x1_0_1 main_v30
  let main_v32 : FVec F S128x128 .f32 := (fun x i => Host.gather gather_S8256_S128x128x1_S128x128_n_0_n_n_0_2_1 x i) main_v21 main_v31
  let main_cst : FVec F S_ .f32 := constant S_ .f32 0x00000000#32
  let main_v33 : FVec F S128x128 .f32 := fn_where_0 (F := F) main_v20 main_v32 main_cst
  let main_v34 : FVec F S8192x128x1 .f32 := broadcastInDim S8192x128x1 ![0, 1] bcast_S8192x128_S8192x128x1_0_1 main_arg0
  let main_v35 : FVec F S8192x1x128 .f32 := broadcastInDim S8192x1x128 ![0, 2] bcast_S8192x128_S8192x1x128_0_2 main_arg0
  let main_v36 : FVec F S8192x128x128 .f32 := broadcastInDim S8192x128x128 ![0, 1, 2] bcast_S8192x128x1_S8192x128x128_0_1_2 main_v34
  let main_v37 : FVec F S8192x128x128 .f32 := broadcastInDim S8192x128x128 ![0, 1, 2] bcast_S8192x1x128_S8192x128x128_0_1_2 main_v35
  let main_v38 : FVec F S8192x128x128 .f32 := mulf main_v36 main_v37
  let main_v39 : FVec F S1x128x128 .f32 := broadcastInDim S1x128x128 ![1, 2] bcast_S128x128_S1x128x128_1_2 main_v33
  let main_v40 : FVec F S8192x128x128 .f32 := broadcastInDim S8192x128x128 ![0, 1, 2] bcast_S1x128x128_S8192x128x128_0_1_2 main_v39
  fn_part2 (F := F) main_arg0 main_arg1 main_arg2 main_arg3 main_v38 main_v40

def fn {F : FTy → Type} [FloatOps F] (main_arg0 : FVec F S8192x128 .f32) (main_arg1 : FVec F S8256x1 .f32) (main_arg2 : FVec F S1 .f32) (main_arg3 : IVec S8192 32) (main_arg4 : IVec S2x131072 32) : IVec S_ 1 :=
  let main_v0 : FVec F S1x8256 .f32 := shapeCast S1x8256 main_arg1 shapeCasts_S8256x1_S1x8256
  let main_v1 : IVec S128 32 := iotaInDim S128 32 0
  let main_v2 : IVec S128x1 32 := broadcastInDim S128x1 ![0] bcast_S128_S128x1_0 main_v1
  let main_v3 : IVec S128 32 := iotaInDim S128 32 0
  let main_v4 : IVec S1x128 32 := broadcastInDim S1x128 ![1] bcast_S128_S1x128_1 main_v3
  let main_c : IVec S_ 32 := constantI S_ 32 128#32
  let main_v5 : IVec S128x1 32 := broadcastInDim S128x1 ![] bcast_S_S128x1 main_c
  let main_v6 : IVec S128x1 32 := muli main_v5 main_v2
  let main_c_0 : IVec S_ 32 := constantI S_ 32 1#32
  let main_v7 : IVec S128x1 32 := broadcastInDim S128x1 ![] bcast_S_S128x1 main_c_0
  let main_v8 : IVec S128x1 32 := subi main_v2 main_v7
  let main_v9 : IVec S128x1 32 := muli main_v2 main_v8
  let main_c_1 : IVec S_ 32 := constantI S_ 32 1#32
  let main_v10 : IVec S128x1 32 := broadcastInDim S128x1 ![] bcast_S_S128x1 main_c_1
  let main_v11 : IVec S128x1 32 := Host.shrsi main_v9 main_v10
  let main_v12 : IVec S128x1 32 := subi main_v6 main_v11
  let main_v13 : IVec S128x128 32 := broadcastInDim S128x128 ![0, 1] bcast_S1x128_S128x128_0_1 main_v4
  let main_v14 : IVec S128x128 32 := broadcastInDim S128x128 ![0, 1] bcast_S128x1_S128x128_0_1 main_v2
  let main_v15 : IVec S128x128 32 := subi main_v13 main_v14
  let main_v16 : IVec S128x128 32 := broadcastInDim S128x128 ![0, 1] bcast_S128x1_S128x128_0_1 main_v12
  let main_v17 : IVec S128x128 32 := addi main_v16 main_v15
  let main_v18 : IVec S128x128 32 := broadcastInDim S128x128 ![0, 1] bcast_S128x1_S128x128_0_1 main_v2
  let main_v19 : IVec S128x128 32 := broadcastInDim S128x128 ![0, 1] bcast_S1x128_S128x128_0_1 main_v4
  let main_v20 : IVec S128x128 1 := cmpi .sle main_v18 main_v19
  fn_part1 (F := F) main_arg0 main_arg1 main_arg2 main_arg3 main_v0 main_v2 main_v4 main_v17 main_v20
-- ==== Kernel.lean ====
abbrev S65 : Shape := ⟨1, ![65]⟩
abbrev S128x8192 : Shape := ⟨2, ![128, 8192]⟩
abbrev S8192x128 : Shape := ⟨2, ![8192, 128]⟩
abbrev S1x8192 : Shape := ⟨2, ![1, 8192]⟩
abbrev S1x64 : Shape := ⟨2, ![1, 64]⟩
abbrev S64x128x128 : Shape := ⟨3, ![64, 128, 128]⟩
abbrev S8x128x128 : Shape := ⟨3, ![8, 128, 128]⟩
abbrev S128x128 : Shape := ⟨2, ![128, 128]⟩
abbrev S1 : Shape := ⟨1, ![1]⟩
abbrev S1x1024 : Shape := ⟨2, ![1, 1024]⟩
abbrev S128x1024 : Shape := ⟨2, ![128, 1024]⟩
abbrev S1024x128 : Shape := ⟨2, ![1024, 128]⟩
abbrev S1x1 : Shape := ⟨2, ![1, 1]⟩
abbrev S1x128x128 : Shape := ⟨3, ![1, 128, 128]⟩
abbrev S1x1x1 : Shape := ⟨3, ![1, 1, 1]⟩
abbrev S_ : Shape := ⟨0, ![]⟩
abbrev S16384 : Shape := ⟨1, ![16384]⟩
abbrev S8256 : Shape := ⟨1, ![8256]⟩
abbrev S16384x1 : Shape := ⟨2, ![16384, 1]⟩
abbrev S64x16384 : Shape := ⟨2, ![64, 16384]⟩
abbrev S8256x1 : Shape := ⟨2, ![8256, 1]⟩
abbrev S64x8256 : Shape := ⟨2, ![64, 8256]⟩

abbrev nBuf : Space → Nat
  | .hbm => 149
  | .vmem => 6
  | .smem => 1
  | _ => 0

abbrev hbmTy0_0 (i : Nat) : BufTy := match i % 128 with
  | 0 => ⟨S128x8192, .f32⟩
  | 1 => ⟨S8192x128, .f32⟩
  | 2 => ⟨S1x8192, .i32⟩
  | 3 => ⟨S1x64, .f32⟩
  | 4 => ⟨S64x128x128, .f32⟩
  | 5 => ⟨S_, .f32⟩
  | 6 => ⟨S128x128, .f32⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .f32⟩
  | 14 => ⟨S128x128, .f32⟩
  | 15 => ⟨S128x128, .f32⟩
  | 16 => ⟨S16384, .f32⟩
  | 17 => ⟨S_, .f32⟩
  | 18 => ⟨S16384, .f32⟩
  | 19 => ⟨S16384, .i1⟩
  | 20 => ⟨S16384, .i32⟩
  | 21 => ⟨S_, .i32⟩
  | 22 => ⟨S_, .i32⟩
  | 23 => ⟨S16384, .i32⟩
  | 24 => ⟨S_, .i32⟩
  | 25 => ⟨S8256, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S_, .i32⟩
  | 35 => ⟨S16384, .i32⟩
  | 36 => ⟨S8256, .i32⟩
  | 37 => ⟨S_, .i32⟩
  | 38 => ⟨S_, .i32⟩
  | 39 => ⟨S8256, .i32⟩
  | 40 => ⟨S_, .i32⟩
  | 41 => ⟨S_, .i32⟩
  | 42 => ⟨S8256, .i32⟩
  | 43 => ⟨S8256, .i32⟩
  | 44 => ⟨S8256, .i32⟩
  | 45 => ⟨S_, .i32⟩
  | 46 => ⟨S8256, .i32⟩
  | 47 => ⟨S8256, .i1⟩
  | 48 => ⟨S8256, .i32⟩
  | 49 => ⟨S8256, .i32⟩
  | 50 => ⟨S_, .i32⟩
  | 51 => ⟨S8256, .i32⟩
  | 52 => ⟨S8256, .i1⟩
  | 53 => ⟨S8256, .i1⟩
  | 54 => ⟨S_, .i32⟩
  | 55 => ⟨S8256, .i32⟩
  | 56 => ⟨S8256, .i32⟩
  | 57 => ⟨S8256, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8256, .i32⟩
  | 65 => ⟨S8256, .i32⟩
  | 66 => ⟨S_, .i32⟩
  | 67 => ⟨S8256, .i32⟩
  | 68 => ⟨S8256, .i1⟩
  | 69 => ⟨S_, .i32⟩
  | 70 => ⟨S8256, .i32⟩
  | 71 => ⟨S8256, .i1⟩
  | 72 => ⟨S_, .i32⟩
  | 73 => ⟨S_, .i1⟩
  | 74 => ⟨S8256, .i1⟩
  | 75 => ⟨S8256, .i1⟩
  | 76 => ⟨S8256, .i1⟩
  | 77 => ⟨S8256, .i32⟩
  | 78 => ⟨S8256, .i32⟩
  | 79 => ⟨S8256, .i32⟩
  | 80 => ⟨S_, .i32⟩
  | 81 => ⟨S_, .i32⟩
  | 82 => ⟨S8256, .i32⟩
  | 83 => ⟨S8256, .i32⟩
  | 84 => ⟨S8256, .i32⟩
  | 85 => ⟨S_, .i32⟩
  | 86 => ⟨S8256, .i32⟩
  | 87 => ⟨S8256, .i1⟩
  | 88 => ⟨S8256, .i32⟩
  | 89 => ⟨S8256, .i32⟩
  | 90 => ⟨S_, .i32⟩
  | 91 => ⟨S8256, .i32⟩
  | 92 => ⟨S8256, .i1⟩
  | 93 => ⟨S8256, .i1⟩
  | 94 => ⟨S_, .i32⟩
  | 95 => ⟨S8256, .i32⟩
  | 96 => ⟨S8256, .i32⟩
  | 97 => ⟨S8256, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S8256, .i32⟩
  | 105 => ⟨S8256, .i32⟩
  | 106 => ⟨S_, .i32⟩
  | 107 => ⟨S8256, .i32⟩
  | 108 => ⟨S8256, .i1⟩
  | 109 => ⟨S_, .i32⟩
  | 110 => ⟨S8256, .i32⟩
  | 111 => ⟨S8256, .i1⟩
  | 112 => ⟨S_, .i32⟩
  | 113 => ⟨S_, .i1⟩
  | 114 => ⟨S8256, .i1⟩
  | 115 => ⟨S8256, .i1⟩
  | 116 => ⟨S8256, .i1⟩
  | 117 => ⟨S8256, .i32⟩
  | 118 => ⟨S8256, .i32⟩
  | 119 => ⟨S8256, .i32⟩
  | 120 => ⟨S16384, .i32⟩
  | 121 => ⟨S_, .i32⟩
  | 122 => ⟨S_, .i32⟩
  | 123 => ⟨S1, .i32⟩
  | 124 => ⟨S8256, .i32⟩
  | 125 => ⟨S8256, .i32⟩
  | 126 => ⟨S8256, .i1⟩
  | 127 => ⟨S_, .i32⟩
  | _ => ⟨S128x8192, .f32⟩

abbrev hbmTy0_1 (i : Nat) : BufTy := match i % 128 with
  | 0 => ⟨S_, .i32⟩
  | 1 => ⟨S8256, .i32⟩
  | 2 => ⟨S8256, .i32⟩
  | 3 => ⟨S_, .i32⟩
  | 4 => ⟨S_, .i32⟩
  | 5 => ⟨S8256, .i32⟩
  | 6 => ⟨S8256, .i32⟩
  | 7 => ⟨S64x16384, .f32⟩
  | 8 => ⟨S_, .i32⟩
  | 9 => ⟨S8256, .i32⟩
  | 10 => ⟨S8256, .i32⟩
  | 11 => ⟨S8256, .i32⟩
  | 12 => ⟨S_, .i32⟩
  | 13 => ⟨S8256, .i32⟩
  | 14 => ⟨S8256, .i1⟩
  | 15 => ⟨S_, .i32⟩
  | 16 => ⟨S8256, .i32⟩
  | 17 => ⟨S8256, .i32⟩
  | 18 => ⟨S8256, .i32⟩
  | 19 => ⟨S8256x1, .i32⟩
  | 20 => ⟨S64x8256, .f32⟩
  | _ => ⟨S128x8192, .f32⟩

abbrev hbmTy (i : Nat) : BufTy := match i / 128 with
  | 0 => hbmTy0_0 i
  | 1 => hbmTy0_1 i
  | _ => ⟨S128x8192, .f32⟩

abbrev bufTy : (tb : Table) → Fin (tcTables nBuf tb) → BufTy
  | .hbm, ⟨i, _⟩ => hbmTy i
  | .local _ .vmem, ⟨0, _⟩ => ⟨S128x8192, .f32⟩
  | .local _ .vmem, ⟨1, _⟩ => ⟨S8192x128, .f32⟩
  | .local _ .vmem, ⟨2, _⟩ => ⟨S1x8192, .i32⟩
  | .local _ .vmem, ⟨3, _⟩ => ⟨S1x64, .f32⟩
  | .local _ .vmem, ⟨4, _⟩ => ⟨S8x128x128, .f32⟩
  | .local _ .vmem, ⟨5, _⟩ => ⟨S8x128x128, .f32⟩
  | .local _ .smem, ⟨0, _⟩ => ⟨S65, .i32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_call0_c : Ref sig .tc := ⟨.hbm, 21, rfl⟩
abbrev main_call1_call0_v0 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_call2_call0_c : Ref sig .tc := ⟨.hbm, 37, rfl⟩
abbrev main_call2_call0_v0 : Ref sig .tc := ⟨.hbm, 38, rfl⟩
abbrev main_v16 : Ref sig .tc := ⟨.hbm, 39, rfl⟩
abbrev main_c_4 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_c : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_0 : Ref sig .tc := ⟨.hbm, 54, rfl⟩
abbrev main_call3_v12 : Ref sig .tc := ⟨.hbm, 55, rfl⟩
abbrev main_call3_v13 : Ref sig .tc := ⟨.hbm, 56, rfl⟩
abbrev main_v17 : Ref sig .tc := ⟨.hbm, 57, rfl⟩
abbrev main_c_5 : Ref sig .tc := ⟨.hbm, 58, rfl⟩
abbrev main_call4_v0 : Ref sig .tc := ⟨.hbm, 59, rfl⟩
abbrev main_call4_c : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_c_1 : Ref sig .tc := ⟨.hbm, 66, rfl⟩
abbrev main_call4_v5 : Ref sig .tc := ⟨.hbm, 67, rfl⟩
abbrev main_call4_v6 : Ref sig .tc := ⟨.hbm, 68, rfl⟩
abbrev main_call4_c_2 : Ref sig .tc := ⟨.hbm, 69, rfl⟩
abbrev main_call4_v7 : Ref sig .tc := ⟨.hbm, 70, rfl⟩
abbrev main_call4_v8 : Ref sig .tc := ⟨.hbm, 71, rfl⟩
abbrev main_call4_c_3 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_v12 : Ref sig .tc := ⟨.hbm, 76, rfl⟩
abbrev main_call4_v13 : Ref sig .tc := ⟨.hbm, 77, rfl⟩
abbrev main_call4_v14 : Ref sig .tc := ⟨.hbm, 78, rfl⟩
abbrev main_v18 : Ref sig .tc := ⟨.hbm, 79, rfl⟩
abbrev main_c_6 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_c : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_0 : Ref sig .tc := ⟨.hbm, 94, rfl⟩
abbrev main_call5_v12 : Ref sig .tc := ⟨.hbm, 95, rfl⟩
abbrev main_call5_v13 : Ref sig .tc := ⟨.hbm, 96, rfl⟩
abbrev main_v19 : Ref sig .tc := ⟨.hbm, 97, rfl⟩
abbrev main_c_7 : Ref sig .tc := ⟨.hbm, 98, rfl⟩
abbrev main_call6_v0 : Ref sig .tc := ⟨.hbm, 99, rfl⟩
abbrev main_call6_c : Ref sig .tc := ⟨.hbm, 100, rfl⟩
abbrev main_call6_v1 : Ref sig .tc := ⟨.hbm, 101, rfl⟩
abbrev main_call6_c_0 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_c_1 : Ref sig .tc := ⟨.hbm, 106, rfl⟩
abbrev main_call6_v5 : Ref sig .tc := ⟨.hbm, 107, rfl⟩
abbrev main_call6_v6 : Ref sig .tc := ⟨.hbm, 108, rfl⟩
abbrev main_call6_c_2 : Ref sig .tc := ⟨.hbm, 109, rfl⟩
abbrev main_call6_v7 : Ref sig .tc := ⟨.hbm, 110, rfl⟩
abbrev main_call6_v8 : Ref sig .tc := ⟨.hbm, 111, rfl⟩
abbrev main_call6_c_3 : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_v12 : Ref sig .tc := ⟨.hbm, 116, rfl⟩
abbrev main_call6_v13 : Ref sig .tc := ⟨.hbm, 117, rfl⟩
abbrev main_call6_v14 : Ref sig .tc := ⟨.hbm, 118, rfl⟩
abbrev main_v20 : Ref sig .tc := ⟨.hbm, 119, rfl⟩
abbrev main_v21 : Ref sig .tc := ⟨.hbm, 120, rfl⟩
abbrev main_c_8 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_c_9 : Ref sig .tc := ⟨.hbm, 127, rfl⟩
abbrev main_call7_v0 : Ref sig .tc := ⟨.hbm, 128, rfl⟩
abbrev main_call7_v1 : Ref sig .tc := ⟨.hbm, 129, rfl⟩
abbrev main_v27 : Ref sig .tc := ⟨.hbm, 130, rfl⟩
abbrev main_c_10 : Ref sig .tc := ⟨.hbm, 131, rfl⟩
abbrev main_call8_v0 : Ref sig .tc := ⟨.hbm, 132, rfl⟩
abbrev main_call8_v1 : Ref sig .tc := ⟨.hbm, 133, rfl⟩
abbrev main_v28 : Ref sig .tc := ⟨.hbm, 134, rfl⟩
abbrev main_v29 : Ref sig .tc := ⟨.hbm, 135, rfl⟩
abbrev main_c_11 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_c_12 : Ref sig .tc := ⟨.hbm, 140, rfl⟩
abbrev main_v33 : Ref sig .tc := ⟨.hbm, 141, rfl⟩
abbrev main_v34 : Ref sig .tc := ⟨.hbm, 142, rfl⟩
abbrev main_c_13 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v7 : BitVec 32 := Scalar.muli arg0 c8_i32
  let c0_i32_0 : BitVec 32 := 0#32
  let v8 : BitVec 32 := Scalar.addi v7 c0_i32_0
  let v9 : Index := Scalar.indexCast v8
  ![v9.toNat]
def k0_off2 (i : grid0.Coords) : Fin 1 → Nat :=
  let arg0 : BitVec 32 := BitVec.ofNat 32 (i 0).val
  let c8_i32 : BitVec 32 := 8#32
  let v7 : BitVec 32 := Scalar.muli arg0 c8_i32
  let c0_i32_0 : BitVec 32 := 0#32
  let v8 : BitVec 32 := Scalar.addi v7 c0_i32_0
  let c1_i32 : BitVec 32 := 1#32
  let v11 : BitVec 32 := Scalar.addi v8 c1_i32
  let v12 : Index := Scalar.indexCast v11
  ![v12.toNat]
@[reducible] def k0_t1_loop (v10 : BitVec 32) (v13 : BitVec 32) : Scf.Loop 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_5 : BitVec 32 := 1#32
  ⟨v14, v23, c1_i32_5⟩

def k0_mult1 (v10 : BitVec 32) (v13 : BitVec 32) (k0_t1 : Fin (k0_t1_loop v10 v13).trips) : BitVec 32 :=
  let c10_i32 : BitVec 32 := 10#32
  let v14 : BitVec 32 := Scalar.shrsi v10 c10_i32
  let c1_i32_5 : BitVec 32 := 1#32
  let arg7 : BitVec 32 := Scf.iv v14 c1_i32_5 k0_t1
  let c1024_i32 : BitVec 32 := 1024#32
  let v705 : BitVec 32 := Scalar.muli arg7 c1024_i32
  v705
def k0_off3 (v10 : BitVec 32) (v13 : BitVec 32) (k0_t1 : Fin (k0_t1_loop v10 v13).trips) : Fin 2 → Nat :=
  let c0_344 : Index := 0#32
  let c10_i32 : BitVec 32 := 10#32
  let v14 : BitVec 32 := Scalar.shrsi v10 c10_i32
  let c1_i32_5 : BitVec 32 := 1#32
  let arg7 : BitVec 32 := Scf.iv v14 c1_i32_5 k0_t1
  let c1024_i32 : BitVec 32 := 1024#32
  let v705 : BitVec 32 := Scalar.muli arg7 c1024_i32
  let v706 : BitVec 32 := v705
  let v707 : Index := Scalar.indexCast v706
  ![0, v707.toNat]
def k0_off4 (v10 : BitVec 32) (v13 : BitVec 32) (k0_t1 : Fin (k0_t1_loop v10 v13).trips) : Fin 2 → Nat :=
  let c0_345 : Index := 0#32
  let c10_i32 : BitVec 32 := 10#32
  let v14 : BitVec 32 := Scalar.shrsi v10 c10_i32
  let c1_i32_5 : BitVec 32 := 1#32
  let arg7 : BitVec 32 := Scf.iv v14 c1_i32_5 k0_t1
  let c1024_i32 : BitVec 32 := 1024#32
  let v705 : BitVec 32 := Scalar.muli arg7 c1024_i32
  let v706 : BitVec 32 := v705
  let v709 : Index := Scalar.indexCast v706
  ![0, v709.toNat]
def k0_off5 (v10 : BitVec 32) (v13 : BitVec 32) (k0_t1 : Fin (k0_t1_loop v10 v13).trips) : Fin 2 → Nat :=
  let c10_i32 : BitVec 32 := 10#32
  let v14 : BitVec 32 := Scalar.shrsi v10 c10_i32
  let c1_i32_5 : BitVec 32 := 1#32
  let arg7 : BitVec 32 := Scf.iv v14 c1_i32_5 k0_t1
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t2_loop (v10 : BitVec 32) (v13 : BitVec 32) : Scf.Loop 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let v20 : BitVec 32 := Scalar.addi v14 v19
  let c1_i32_6 : BitVec 32 := 1#32
  ⟨v23, v20, c1_i32_6⟩
def k0_mult2 (v10 : BitVec 32) (v13 : BitVec 32) (k0_t2 : Fin (k0_t2_loop v10 v13).trips) : BitVec 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k0_t2
  let c1024_i32 : BitVec 32 := 1024#32
  let v705 : BitVec 32 := Scalar.muli arg7 c1024_i32
  v705
def k0_off6 (v10 : BitVec 32) (v13 : BitVec 32) (k0_t2 : Fin (k0_t2_loop v10 v13).trips) : Fin 2 → Nat :=
  let c0_344 : Index := 0#32
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k0_t2
  let c1024_i32 : BitVec 32 := 1024#32
  let v705 : BitVec 32 := Scalar.muli arg7 c1024_i32
  let v706 : BitVec 32 := v705
  let v707 : Index := Scalar.indexCast v706
  ![0, v707.toNat]
def k0_off7 (v10 : BitVec 32) (v13 : BitVec 32) (k0_t2 : Fin (k0_t2_loop v10 v13).trips) : Fin 2 → Nat :=
  let c0_345 : Index := 0#32
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k0_t2
  let c1024_i32 : BitVec 32 := 1024#32
  let v705 : BitVec 32 := Scalar.muli arg7 c1024_i32
  let v706 : BitVec 32 := v705
  let v709 : Index := Scalar.indexCast v706
  ![0, v709.toNat]
def k0_off8 (v10 : BitVec 32) (v13 : BitVec 32) (k0_t2 : Fin (k0_t2_loop v10 v13).trips) : Fin 2 → Nat :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k0_t2
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk1 (v10 : BitVec 32) (v13 : BitVec 32) : Prop :=
  ((k0_t1_loop v10 v13).OK) ∧
  (∀ k0_t1 : Fin (k0_t1_loop v10 v13).trips, 1024 ∣ (k0_mult1 v10 v13 k0_t1).toNat) ∧
  (∀ k0_t1 : Fin (k0_t1_loop v10 v13).trips, ∀ a, (k0_off3 v10 v13 k0_t1) a + S1x1024.size a ≤ S1x8192.size a) ∧
  (∀ k0_t1 : Fin (k0_t1_loop v10 v13).trips, ∀ a, (k0_off4 v10 v13 k0_t1) a + S128x1024.size a ≤ S128x8192.size a) ∧
  (∀ k0_t1 : Fin (k0_t1_loop v10 v13).trips, ∀ a, (k0_off5 v10 v13 k0_t1) a + S1024x128.size a ≤ S8192x128.size a) ∧
  ((k0_t2_loop v10 v13).OK) ∧
  (∀ k0_t2 : Fin (k0_t2_loop v10 v13).trips, 1024 ∣ (k0_mult2 v10 v13 k0_t2).toNat) ∧
  (∀ k0_t2 : Fin (k0_t2_loop v10 v13).trips, ∀ a, (k0_off6 v10 v13 k0_t2) a + S1x1024.size a ≤ S1x8192.size a) ∧
  (∀ k0_t2 : Fin (k0_t2_loop v10 v13).trips, ∀ a, (k0_off7 v10 v13 k0_t2) a + S128x1024.size a ≤ S128x8192.size a) ∧
  (∀ k0_t2 : Fin (k0_t2_loop v10 v13).trips, ∀ a, (k0_off8 v10 v13 k0_t2) a + S1024x128.size a ≤ S8192x128.size a)
theorem k0_t1_ok : ∀ (v10 : BitVec 32) (v13 : BitVec 32) (k0_hw1 : k0_chk1 v10 v13), (k0_t1_loop v10 v13).OK := fun v10 v13 k0_hw1 => k0_hw1.1
theorem k0_mult1_dvd : ∀ (v10 : BitVec 32) (v13 : BitVec 32) (k0_hw1 : k0_chk1 v10 v13) (k0_t1 : Fin (k0_t1_loop v10 v13).trips), 1024 ∣ (k0_mult1 v10 v13 k0_t1).toNat := fun v10 v13 k0_hw1 k0_t1 => k0_hw1.2.1 k0_t1
theorem k0_off3_inb : ∀ (v10 : BitVec 32) (v13 : BitVec 32) (k0_hw1 : k0_chk1 v10 v13) (k0_t1 : Fin (k0_t1_loop v10 v13).trips), ∀ a, (k0_off3 v10 v13 k0_t1) a + S1x1024.size a ≤ S1x8192.size a := fun v10 v13 k0_hw1 k0_t1 => k0_hw1.2.2.1 k0_t1
theorem k0_off4_inb : ∀ (v10 : BitVec 32) (v13 : BitVec 32) (k0_hw1 : k0_chk1 v10 v13) (k0_t1 : Fin (k0_t1_loop v10 v13).trips), ∀ a, (k0_off4 v10 v13 k0_t1) a + S128x1024.size a ≤ S128x8192.size a := fun v10 v13 k0_hw1 k0_t1 => k0_hw1.2.2.2.1 k0_t1
theorem k0_off5_inb : ∀ (v10 : BitVec 32) (v13 : BitVec 32) (k0_hw1 : k0_chk1 v10 v13) (k0_t1 : Fin (k0_t1_loop v10 v13).trips), ∀ a, (k0_off5 v10 v13 k0_t1) a + S1024x128.size a ≤ S8192x128.size a := fun v10 v13 k0_hw1 k0_t1 => k0_hw1.2.2.2.2.1 k0_t1
theorem k0_t2_ok : ∀ (v10 : BitVec 32) (v13 : BitVec 32) (k0_hw1 : k0_chk1 v10 v13), (k0_t2_loop v10 v13).OK := fun v10 v13 k0_hw1 => k0_hw1.2.2.2.2.2.1
theorem k0_mult2_dvd : ∀ (v10 : BitVec 32) (v13 : BitVec 32) (k0_hw1 : k0_chk1 v10 v13) (k0_t2 : Fin (k0_t2_loop v10 v13).trips), 1024 ∣ (k0_mult2 v10 v13 k0_t2).toNat := fun v10 v13 k0_hw1 k0_t2 => k0_hw1.2.2.2.2.2.2.1 k0_t2
theorem k0_off6_inb : ∀ (v10 : BitVec 32) (v13 : BitVec 32) (k0_hw1 : k0_chk1 v10 v13) (k0_t2 : Fin (k0_t2_loop v10 v13).trips), ∀ a, (k0_off6 v10 v13 k0_t2) a + S1x1024.size a ≤ S1x8192.size a := fun v10 v13 k0_hw1 k0_t2 => k0_hw1.2.2.2.2.2.2.2.1 k0_t2
theorem k0_off7_inb : ∀ (v10 : BitVec 32) (v13 : BitVec 32) (k0_hw1 : k0_chk1 v10 v13) (k0_t2 : Fin (k0_t2_loop v10 v13).trips), ∀ a, (k0_off7 v10 v13 k0_t2) a + S128x1024.size a ≤ S128x8192.size a := fun v10 v13 k0_hw1 k0_t2 => k0_hw1.2.2.2.2.2.2.2.2.1 k0_t2
theorem k0_off8_inb : ∀ (v10 : BitVec 32) (v13 : BitVec 32) (k0_hw1 : k0_chk1 v10 v13) (k0_t2 : Fin (k0_t2_loop v10 v13).trips), ∀ a, (k0_off8 v10 v13 k0_t2) a + S1024x128.size a ≤ S8192x128.size a := fun v10 v13 k0_hw1 k0_t2 => k0_hw1.2.2.2.2.2.2.2.2.2 k0_t2

def k0_off9 (i : grid0.Coords) : Fin 1 → Nat :=
  let arg0 : BitVec 32 := BitVec.ofNat 32 (i 0).val
  let c8_i32_7 : BitVec 32 := 8#32
  let v26 : BitVec 32 := Scalar.muli arg0 c8_i32_7
  let c1_i32_8 : BitVec 32 := 1#32
  let v27 : BitVec 32 := Scalar.addi v26 c1_i32_8
  let v28 : Index := Scalar.indexCast v27
  ![v28.toNat]
def k0_off10 (i : grid0.Coords) : Fin 1 → Nat :=
  let arg0 : BitVec 32 := BitVec.ofNat 32 (i 0).val
  let c8_i32_7 : BitVec 32 := 8#32
  let v26 : BitVec 32 := Scalar.muli arg0 c8_i32_7
  let c1_i32_8 : BitVec 32 := 1#32
  let v27 : BitVec 32 := Scalar.addi v26 c1_i32_8
  let c1_i32_9 : BitVec 32 := 1#32
  let v30 : BitVec 32 := Scalar.addi v27 c1_i32_9
  let v31 : Index := Scalar.indexCast v30
  ![v31.toNat]
@[reducible] def k0_t3_loop (v29 : BitVec 32) (v32 : BitVec 32) : Scf.Loop 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_16 : BitVec 32 := 1#32
  ⟨v33, v42, c1_i32_16⟩

def k0_mult3 (v29 : BitVec 32) (v32 : BitVec 32) (k0_t3 : Fin (k0_t3_loop v29 v32).trips) : BitVec 32 :=
  let c10_i32_10 : BitVec 32 := 10#32
  let v33 : BitVec 32 := Scalar.shrsi v29 c10_i32_10
  let c1_i32_16 : BitVec 32 := 1#32
  let arg7 : BitVec 32 := Scf.iv v33 c1_i32_16 k0_t3
  let c1024_i32 : BitVec 32 := 1024#32
  let v705 : BitVec 32 := Scalar.muli arg7 c1024_i32
  v705
def k0_off11 (v29 : BitVec 32) (v32 : BitVec 32) (k0_t3 : Fin (k0_t3_loop v29 v32).trips) : Fin 2 → Nat :=
  let c0_344 : Index := 0#32
  let c10_i32_10 : BitVec 32 := 10#32
  let v33 : BitVec 32 := Scalar.shrsi v29 c10_i32_10
  let c1_i32_16 : BitVec 32 := 1#32
  let arg7 : BitVec 32 := Scf.iv v33 c1_i32_16 k0_t3
  let c1024_i32 : BitVec 32 := 1024#32
  let v705 : BitVec 32 := Scalar.muli arg7 c1024_i32
  let v706 : BitVec 32 := v705
  let v707 : Index := Scalar.indexCast v706
  ![0, v707.toNat]
def k0_off12 (v29 : BitVec 32) (v32 : BitVec 32) (k0_t3 : Fin (k0_t3_loop v29 v32).trips) : Fin 2 → Nat :=
  let c0_345 : Index := 0#32
  let c10_i32_10 : BitVec 32 := 10#32
  let v33 : BitVec 32 := Scalar.shrsi v29 c10_i32_10
  let c1_i32_16 : BitVec 32 := 1#32
  let arg7 : BitVec 32 := Scf.iv v33 c1_i32_16 k0_t3
  let c1024_i32 : BitVec 32 := 1024#32
  let v705 : BitVec 32 := Scalar.muli arg7 c1024_i32
  let v706 : BitVec 32 := v705
  let v709 : Index := Scalar.indexCast v706
  ![0, v709.toNat]
def k0_off13 (v29 : BitVec 32) (v32 : BitVec 32) (k0_t3 : Fin (k0_t3_loop v29 v32).trips) : Fin 2 → Nat :=
  let c10_i32_10 : BitVec 32 := 10#32
  let v33 : BitVec 32 := Scalar.shrsi v29 c10_i32_10
  let c1_i32_16 : BitVec 32 := 1#32
  let arg7 : BitVec 32 := Scf.iv v33 c1_i32_16 k0_t3
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t4_loop (v29 : BitVec 32) (v32 : BitVec 32) : Scf.Loop 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let v39 : BitVec 32 := Scalar.addi v33 v38
  let c1_i32_17 : BitVec 32 := 1#32
  ⟨v42, v39, c1_i32_17⟩
def k0_mult4 (v29 : BitVec 32) (v32 : BitVec 32) (k0_t4 : Fin (k0_t4_loop v29 v32).trips) : BitVec 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k0_t4
  let c1024_i32 : BitVec 32 := 1024#32
  let v705 : BitVec 32 := Scalar.muli arg7 c1024_i32
  v705
def k0_off14 (v29 : BitVec 32) (v32 : BitVec 32) (k0_t4 : Fin (k0_t4_loop v29 v32).trips) : Fin 2 → Nat :=
  let c0_344 : Index := 0#32
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k0_t4
  let c1024_i32 : BitVec 32 := 1024#32
  let v705 : BitVec 32 := Scalar.muli arg7 c1024_i32
  let v706 : BitVec 32 := v705
  let v707 : Index := Scalar.indexCast v706
  ![0, v707.toNat]
def k0_off15 (v29 : BitVec 32) (v32 : BitVec 32) (k0_t4 : Fin (k0_t4_loop v29 v32).trips) : Fin 2 → Nat :=
  let c0_345 : Index := 0#32
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k0_t4
  let c1024_i32 : BitVec 32 := 1024#32
  let v705 : BitVec 32 := Scalar.muli arg7 c1024_i32
  let v706 : BitVec 32 := v705
  let v709 : Index := Scalar.indexCast v706
  ![0, v709.toNat]
def k0_off16 (v29 : BitVec 32) (v32 : BitVec 32) (k0_t4 : Fin (k0_t4_loop v29 v32).trips) : Fin 2 → Nat :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k0_t4
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk2 (v29 : BitVec 32) (v32 : BitVec 32) : Prop :=
  ((k0_t3_loop v29 v32).OK) ∧
  (∀ k0_t3 : Fin (k0_t3_loop v29 v32).trips, 1024 ∣ (k0_mult3 v29 v32 k0_t3).toNat) ∧
  (∀ k0_t3 : Fin (k0_t3_loop v29 v32).trips, ∀ a, (k0_off11 v29 v32 k0_t3) a + S1x1024.size a ≤ S1x8192.size a) ∧
  (∀ k0_t3 : Fin (k0_t3_loop v29 v32).trips, ∀ a, (k0_off12 v29 v32 k0_t3) a + S128x1024.size a ≤ S128x8192.size a) ∧
  (∀ k0_t3 : Fin (k0_t3_loop v29 v32).trips, ∀ a, (k0_off13 v29 v32 k0_t3) a + S1024x128.size a ≤ S8192x128.size a) ∧
  ((k0_t4_loop v29 v32).OK) ∧
  (∀ k0_t4 : Fin (k0_t4_loop v29 v32).trips, 1024 ∣ (k0_mult4 v29 v32 k0_t4).toNat) ∧
  (∀ k0_t4 : Fin (k0_t4_loop v29 v32).trips, ∀ a, (k0_off14 v29 v32 k0_t4) a + S1x1024.size a ≤ S1x8192.size a) ∧
  (∀ k0_t4 : Fin (k0_t4_loop v29 v32).trips, ∀ a, (k0_off15 v29 v32 k0_t4) a + S128x1024.size a ≤ S128x8192.size a) ∧
  (∀ k0_t4 : Fin (k0_t4_loop v29 v32).trips, ∀ a, (k0_off16 v29 v32 k0_t4) a + S1024x128.size a ≤ S8192x128.size a)
theorem k0_t3_ok : ∀ (v29 : BitVec 32) (v32 : BitVec 32) (k0_hw2 : k0_chk2 v29 v32), (k0_t3_loop v29 v32).OK := fun v29 v32 k0_hw2 => k0_hw2.1
theorem k0_mult3_dvd : ∀ (v29 : BitVec 32) (v32 : BitVec 32) (k0_hw2 : k0_chk2 v29 v32) (k0_t3 : Fin (k0_t3_loop v29 v32).trips), 1024 ∣ (k0_mult3 v29 v32 k0_t3).toNat := fun v29 v32 k0_hw2 k0_t3 => k0_hw2.2.1 k0_t3
theorem k0_off11_inb : ∀ (v29 : BitVec 32) (v32 : BitVec 32) (k0_hw2 : k0_chk2 v29 v32) (k0_t3 : Fin (k0_t3_loop v29 v32).trips), ∀ a, (k0_off11 v29 v32 k0_t3) a + S1x1024.size a ≤ S1x8192.size a := fun v29 v32 k0_hw2 k0_t3 => k0_hw2.2.2.1 k0_t3
theorem k0_off12_inb : ∀ (v29 : BitVec 32) (v32 : BitVec 32) (k0_hw2 : k0_chk2 v29 v32) (k0_t3 : Fin (k0_t3_loop v29 v32).trips), ∀ a, (k0_off12 v29 v32 k0_t3) a + S128x1024.size a ≤ S128x8192.size a := fun v29 v32 k0_hw2 k0_t3 => k0_hw2.2.2.2.1 k0_t3
theorem k0_off13_inb : ∀ (v29 : BitVec 32) (v32 : BitVec 32) (k0_hw2 : k0_chk2 v29 v32) (k0_t3 : Fin (k0_t3_loop v29 v32).trips), ∀ a, (k0_off13 v29 v32 k0_t3) a + S1024x128.size a ≤ S8192x128.size a := fun v29 v32 k0_hw2 k0_t3 => k0_hw2.2.2.2.2.1 k0_t3
theorem k0_t4_ok : ∀ (v29 : BitVec 32) (v32 : BitVec 32) (k0_hw2 : k0_chk2 v29 v32), (k0_t4_loop v29 v32).OK := fun v29 v32 k0_hw2 => k0_hw2.2.2.2.2.2.1
theorem k0_mult4_dvd : ∀ (v29 : BitVec 32) (v32 : BitVec 32) (k0_hw2 : k0_chk2 v29 v32) (k0_t4 : Fin (k0_t4_loop v29 v32).trips), 1024 ∣ (k0_mult4 v29 v32 k0_t4).toNat := fun v29 v32 k0_hw2 k0_t4 => k0_hw2.2.2.2.2.2.2.1 k0_t4
theorem k0_off14_inb : ∀ (v29 : BitVec 32) (v32 : BitVec 32) (k0_hw2 : k0_chk2 v29 v32) (k0_t4 : Fin (k0_t4_loop v29 v32).trips), ∀ a, (k0_off14 v29 v32 k0_t4) a + S1x1024.size a ≤ S1x8192.size a := fun v29 v32 k0_hw2 k0_t4 => k0_hw2.2.2.2.2.2.2.2.1 k0_t4
theorem k0_off15_inb : ∀ (v29 : BitVec 32) (v32 : BitVec 32) (k0_hw2 : k0_chk2 v29 v32) (k0_t4 : Fin (k0_t4_loop v29 v32).trips), ∀ a, (k0_off15 v29 v32 k0_t4) a + S128x1024.size a ≤ S128x8192.size a := fun v29 v32 k0_hw2 k0_t4 => k0_hw2.2.2.2.2.2.2.2.2.1 k0_t4
theorem k0_off16_inb : ∀ (v29 : BitVec 32) (v32 : BitVec 32) (k0_hw2 : k0_chk2 v29 v32) (k0_t4 : Fin (k0_t4_loop v29 v32).trips), ∀ a, (k0_off16 v29 v32 k0_t4) a + S1024x128.size a ≤ S8192x128.size a := fun v29 v32 k0_hw2 k0_t4 => k0_hw2.2.2.2.2.2.2.2.2.2 k0_t4

def k0_off17 (i : grid0.Coords) : Fin 1 → Nat :=
  let arg0 : BitVec 32 := BitVec.ofNat 32 (i 0).val
  let c8_i32_18 : BitVec 32 := 8#32
  let v45 : BitVec 32 := Scalar.muli arg0 c8_i32_18
  let c2_i32 : BitVec 32 := 2#32
  let v46 : BitVec 32 := Scalar.addi v45 c2_i32
  let v47 : Index := Scalar.indexCast v46
  ![v47.toNat]
def k0_off18 (i : grid0.Coords) : Fin 1 → Nat :=
  let arg0 : BitVec 32 := BitVec.ofNat 32 (i 0).val
  let c8_i32_18 : BitVec 32 := 8#32
  let v45 : BitVec 32 := Scalar.muli arg0 c8_i32_18
  let c2_i32 : BitVec 32 := 2#32
  let v46 : BitVec 32 := Scalar.addi v45 c2_i32
  let c1_i32_19 : BitVec 32 := 1#32
  let v49 : BitVec 32 := Scalar.addi v46 c1_i32_19
  let v50 : Index := Scalar.indexCast v49
  ![v50.toNat]
@[reducible] def k0_t5_loop (v48 : BitVec 32) (v51 : BitVec 32) : Scf.Loop 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_26 : BitVec 32 := 1#32
  ⟨v52, v61, c1_i32_26⟩

def k0_mult5 (v48 : BitVec 32) (v51 : BitVec 32) (k0_t5 : Fin (k0_t5_loop v48 v51).trips) : BitVec 32 :=
  let c10_i32_20 : BitVec 32 := 10#32
  let v52 : BitVec 32 := Scalar.shrsi v48 c10_i32_20
  let c1_i32_26 : BitVec 32 := 1#32
  let arg7 : BitVec 32 := Scf.iv v52 c1_i32_26 k0_t5
  let c1024_i32 : BitVec 32 := 1024#32
  let v705 : BitVec 32 := Scalar.muli arg7 c1024_i32
  v705
def k0_off19 (v48 : BitVec 32) (v51 : BitVec 32) (k0_t5 : Fin (k0_t5_loop v48 v51).trips) : Fin 2 → Nat :=
  let c0_344 : Index := 0#32
  let c10_i32_20 : BitVec 32 := 10#32
  let v52 : BitVec 32 := Scalar.shrsi v48 c10_i32_20
  let c1_i32_26 : BitVec 32 := 1#32
  let arg7 : BitVec 32 := Scf.iv v52 c1_i32_26 k0_t5
  let c1024_i32 : BitVec 32 := 1024#32
  let v705 : BitVec 32 := Scalar.muli arg7 c1024_i32
  let v706 : BitVec 32 := v705
  let v707 : Index := Scalar.indexCast v706
  ![0, v707.toNat]
def k0_off20 (v48 : BitVec 32) (v51 : BitVec 32) (k0_t5 : Fin (k0_t5_loop v48 v51).trips) : Fin 2 → Nat :=
  let c0_345 : Index := 0#32
  let c10_i32_20 : BitVec 32 := 10#32
  let v52 : BitVec 32 := Scalar.shrsi v48 c10_i32_20
  let c1_i32_26 : BitVec 32 := 1#32
  let arg7 : BitVec 32 := Scf.iv v52 c1_i32_26 k0_t5
  let c1024_i32 : BitVec 32 := 1024#32
  let v705 : BitVec 32 := Scalar.muli arg7 c1024_i32
  let v706 : BitVec 32 := v705
  let v709 : Index := Scalar.indexCast v706
  ![0, v709.toNat]
def k0_off21 (v48 : BitVec 32) (v51 : BitVec 32) (k0_t5 : Fin (k0_t5_loop v48 v51).trips) : Fin 2 → Nat :=
  let c10_i32_20 : BitVec 32 := 10#32
  let v52 : BitVec 32 := Scalar.shrsi v48 c10_i32_20
  let c1_i32_26 : BitVec 32 := 1#32
  let arg7 : BitVec 32 := Scf.iv v52 c1_i32_26 k0_t5
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t6_loop (v48 : BitVec 32) (v51 : BitVec 32) : Scf.Loop 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let v58 : BitVec 32 := Scalar.addi v52 v57
  let c1_i32_27 : BitVec 32 := 1#32
  ⟨v61, v58, c1_i32_27⟩
def k0_mult6 (v48 : BitVec 32) (v51 : BitVec 32) (k0_t6 : Fin (k0_t6_loop v48 v51).trips) : BitVec 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k0_t6
  let c1024_i32 : BitVec 32 := 1024#32
  let v705 : BitVec 32 := Scalar.muli arg7 c1024_i32
  v705
def k0_off22 (v48 : BitVec 32) (v51 : BitVec 32) (k0_t6 : Fin (k0_t6_loop v48 v51).trips) : Fin 2 → Nat :=
  let c0_344 : Index := 0#32
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k0_t6
  let c1024_i32 : BitVec 32 := 1024#32
  let v705 : BitVec 32 := Scalar.muli arg7 c1024_i32
  let v706 : BitVec 32 := v705
  let v707 : Index := Scalar.indexCast v706
  ![0, v707.toNat]
def k0_off23 (v48 : BitVec 32) (v51 : BitVec 32) (k0_t6 : Fin (k0_t6_loop v48 v51).trips) : Fin 2 → Nat :=
  let c0_345 : Index := 0#32
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k0_t6
  let c1024_i32 : BitVec 32 := 1024#32
  let v705 : BitVec 32 := Scalar.muli arg7 c1024_i32
  let v706 : BitVec 32 := v705
  let v709 : Index := Scalar.indexCast v706
  ![0, v709.toNat]
def k0_off24 (v48 : BitVec 32) (v51 : BitVec 32) (k0_t6 : Fin (k0_t6_loop v48 v51).trips) : Fin 2 → Nat :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k0_t6
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk3 (v48 : BitVec 32) (v51 : BitVec 32) : Prop :=
  ((k0_t5_loop v48 v51).OK) ∧
  (∀ k0_t5 : Fin (k0_t5_loop v48 v51).trips, 1024 ∣ (k0_mult5 v48 v51 k0_t5).toNat) ∧
  (∀ k0_t5 : Fin (k0_t5_loop v48 v51).trips, ∀ a, (k0_off19 v48 v51 k0_t5) a + S1x1024.size a ≤ S1x8192.size a) ∧
  (∀ k0_t5 : Fin (k0_t5_loop v48 v51).trips, ∀ a, (k0_off20 v48 v51 k0_t5) a + S128x1024.size a ≤ S128x8192.size a) ∧
  (∀ k0_t5 : Fin (k0_t5_loop v48 v51).trips, ∀ a, (k0_off21 v48 v51 k0_t5) a + S1024x128.size a ≤ S8192x128.size a) ∧
  ((k0_t6_loop v48 v51).OK) ∧
  (∀ k0_t6 : Fin (k0_t6_loop v48 v51).trips, 1024 ∣ (k0_mult6 v48 v51 k0_t6).toNat) ∧
  (∀ k0_t6 : Fin (k0_t6_loop v48 v51).trips, ∀ a, (k0_off22 v48 v51 k0_t6) a + S1x1024.size a ≤ S1x8192.size a) ∧
  (∀ k0_t6 : Fin (k0_t6_loop v48 v51).trips, ∀ a, (k0_off23 v48 v51 k0_t6) a + S128x1024.size a ≤ S128x8192.size a) ∧
  (∀ k0_t6 : Fin (k0_t6_loop v48 v51).trips, ∀ a, (k0_off24 v48 v51 k0_t6) a + S1024x128.size a ≤ S8192x128.size a)
theorem k0_t5_ok : ∀ (v48 : BitVec 32) (v51 : BitVec 32) (k0_hw3 : k0_chk3 v48 v51), (k0_t5_loop v48 v51).OK := fun v48 v51 k0_hw3 => k0_hw3.1
theorem k0_mult5_dvd : ∀ (v48 : BitVec 32) (v51 : BitVec 32) (k0_hw3 : k0_chk3 v48 v51) (k0_t5 : Fin (k0_t5_loop v48 v51).trips), 1024 ∣ (k0_mult5 v48 v51 k0_t5).toNat := fun v48 v51 k0_hw3 k0_t5 => k0_hw3.2.1 k0_t5
theorem k0_off19_inb : ∀ (v48 : BitVec 32) (v51 : BitVec 32) (k0_hw3 : k0_chk3 v48 v51) (k0_t5 : Fin (k0_t5_loop v48 v51).trips), ∀ a, (k0_off19 v48 v51 k0_t5) a + S1x1024.size a ≤ S1x8192.size a := fun v48 v51 k0_hw3 k0_t5 => k0_hw3.2.2.1 k0_t5
theorem k0_off20_inb : ∀ (v48 : BitVec 32) (v51 : BitVec 32) (k0_hw3 : k0_chk3 v48 v51) (k0_t5 : Fin (k0_t5_loop v48 v51).trips), ∀ a, (k0_off20 v48 v51 k0_t5) a + S128x1024.size a ≤ S128x8192.size a := fun v48 v51 k0_hw3 k0_t5 => k0_hw3.2.2.2.1 k0_t5
theorem k0_off21_inb : ∀ (v48 : BitVec 32) (v51 : BitVec 32) (k0_hw3 : k0_chk3 v48 v51) (k0_t5 : Fin (k0_t5_loop v48 v51).trips), ∀ a, (k0_off21 v48 v51 k0_t5) a + S1024x128.size a ≤ S8192x128.size a := fun v48 v51 k0_hw3 k0_t5 => k0_hw3.2.2.2.2.1 k0_t5
theorem k0_t6_ok : ∀ (v48 : BitVec 32) (v51 : BitVec 32) (k0_hw3 : k0_chk3 v48 v51), (k0_t6_loop v48 v51).OK := fun v48 v51 k0_hw3 => k0_hw3.2.2.2.2.2.1
theorem k0_mult6_dvd : ∀ (v48 : BitVec 32) (v51 : BitVec 32) (k0_hw3 : k0_chk3 v48 v51) (k0_t6 : Fin (k0_t6_loop v48 v51).trips), 1024 ∣ (k0_mult6 v48 v51 k0_t6).toNat := fun v48 v51 k0_hw3 k0_t6 => k0_hw3.2.2.2.2.2.2.1 k0_t6
theorem k0_off22_inb : ∀ (v48 : BitVec 32) (v51 : BitVec 32) (k0_hw3 : k0_chk3 v48 v51) (k0_t6 : Fin (k0_t6_loop v48 v51).trips), ∀ a, (k0_off22 v48 v51 k0_t6) a + S1x1024.size a ≤ S1x8192.size a := fun v48 v51 k0_hw3 k0_t6 => k0_hw3.2.2.2.2.2.2.2.1 k0_t6
theorem k0_off23_inb : ∀ (v48 : BitVec 32) (v51 : BitVec 32) (k0_hw3 : k0_chk3 v48 v51) (k0_t6 : Fin (k0_t6_loop v48 v51).trips), ∀ a, (k0_off23 v48 v51 k0_t6) a + S128x1024.size a ≤ S128x8192.size a := fun v48 v51 k0_hw3 k0_t6 => k0_hw3.2.2.2.2.2.2.2.2.1 k0_t6
theorem k0_off24_inb : ∀ (v48 : BitVec 32) (v51 : BitVec 32) (k0_hw3 : k0_chk3 v48 v51) (k0_t6 : Fin (k0_t6_loop v48 v51).trips), ∀ a, (k0_off24 v48 v51 k0_t6) a + S1024x128.size a ≤ S8192x128.size a := fun v48 v51 k0_hw3 k0_t6 => k0_hw3.2.2.2.2.2.2.2.2.2 k0_t6

def k0_off25 (i : grid0.Coords) : Fin 1 → Nat :=
  let arg0 : BitVec 32 := BitVec.ofNat 32 (i 0).val
  let c8_i32_28 : BitVec 32 := 8#32
  let v64 : BitVec 32 := Scalar.muli arg0 c8_i32_28
  let c3_i32 : BitVec 32 := 3#32
  let v65 : BitVec 32 := Scalar.addi v64 c3_i32
  let v66 : Index := Scalar.indexCast v65
  ![v66.toNat]
def k0_off26 (i : grid0.Coords) : Fin 1 → Nat :=
  let arg0 : BitVec 32 := BitVec.ofNat 32 (i 0).val
  let c8_i32_28 : BitVec 32 := 8#32
  let v64 : BitVec 32 := Scalar.muli arg0 c8_i32_28
  let c3_i32 : BitVec 32 := 3#32
  let v65 : BitVec 32 := Scalar.addi v64 c3_i32
  let c1_i32_29 : BitVec 32 := 1#32
  let v68 : BitVec 32 := Scalar.addi v65 c1_i32_29
  let v69 : Index := Scalar.indexCast v68
  ![v69.toNat]
@[reducible] def k0_t7_loop (v67 : BitVec 32) (v70 : BitVec 32) : Scf.Loop 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_36 : BitVec 32 := 1#32
  ⟨v71, v80, c1_i32_36⟩

def k0_mult7 (v67 : BitVec 32) (v70 : BitVec 32) (k0_t7 : Fin (k0_t7_loop v67 v70).trips) : BitVec 32 :=
  let c10_i32_30 : BitVec 32 := 10#32
  let v71 : BitVec 32 := Scalar.shrsi v67 c10_i32_30
  let c1_i32_36 : BitVec 32 := 1#32
  let arg7 : BitVec 32 := Scf.iv v71 c1_i32_36 k0_t7
  let c1024_i32 : BitVec 32 := 1024#32
  let v705 : BitVec 32 := Scalar.muli arg7 c1024_i32
  v705
def k0_off27 (v67 : BitVec 32) (v70 : BitVec 32) (k0_t7 : Fin (k0_t7_loop v67 v70).trips) : Fin 2 → Nat :=
  let c0_344 : Index := 0#32
  let c10_i32_30 : BitVec 32 := 10#32
  let v71 : BitVec 32 := Scalar.shrsi v67 c10_i32_30
  let c1_i32_36 : BitVec 32 := 1#32
  let arg7 : BitVec 32 := Scf.iv v71 c1_i32_36 k0_t7
  let c1024_i32 : BitVec 32 := 1024#32
  let v705 : BitVec 32 := Scalar.muli arg7 c1024_i32
  let v706 : BitVec 32 := v705
  let v707 : Index := Scalar.indexCast v706
  ![0, v707.toNat]
def k0_off28 (v67 : BitVec 32) (v70 : BitVec 32) (k0_t7 : Fin (k0_t7_loop v67 v70).trips) : Fin 2 → Nat :=
  let c0_345 : Index := 0#32
  let c10_i32_30 : BitVec 32 := 10#32
  let v71 : BitVec 32 := Scalar.shrsi v67 c10_i32_30
  let c1_i32_36 : BitVec 32 := 1#32
  let arg7 : BitVec 32 := Scf.iv v71 c1_i32_36 k0_t7
  let c1024_i32 : BitVec 32 := 1024#32
  let v705 : BitVec 32 := Scalar.muli arg7 c1024_i32
  let v706 : BitVec 32 := v705
  let v709 : Index := Scalar.indexCast v706
  ![0, v709.toNat]
def k0_off29 (v67 : BitVec 32) (v70 : BitVec 32) (k0_t7 : Fin (k0_t7_loop v67 v70).trips) : Fin 2 → Nat :=
  let c10_i32_30 : BitVec 32 := 10#32
  let v71 : BitVec 32 := Scalar.shrsi v67 c10_i32_30
  let c1_i32_36 : BitVec 32 := 1#32
  let arg7 : BitVec 32 := Scf.iv v71 c1_i32_36 k0_t7
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t8_loop (v67 : BitVec 32) (v70 : BitVec 32) : Scf.Loop 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let v77 : BitVec 32 := Scalar.addi v71 v76
  let c1_i32_37 : BitVec 32 := 1#32
  ⟨v80, v77, c1_i32_37⟩
def k0_mult8 (v67 : BitVec 32) (v70 : BitVec 32) (k0_t8 : Fin (k0_t8_loop v67 v70).trips) : BitVec 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k0_t8
  let c1024_i32 : BitVec 32 := 1024#32
  let v705 : BitVec 32 := Scalar.muli arg7 c1024_i32
  v705
def k0_off30 (v67 : BitVec 32) (v70 : BitVec 32) (k0_t8 : Fin (k0_t8_loop v67 v70).trips) : Fin 2 → Nat :=
  let c0_344 : Index := 0#32
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k0_t8
  let c1024_i32 : BitVec 32 := 1024#32
  let v705 : BitVec 32 := Scalar.muli arg7 c1024_i32
  let v706 : BitVec 32 := v705
  let v707 : Index := Scalar.indexCast v706
  ![0, v707.toNat]
def k0_off31 (v67 : BitVec 32) (v70 : BitVec 32) (k0_t8 : Fin (k0_t8_loop v67 v70).trips) : Fin 2 → Nat :=
  let c0_345 : Index := 0#32
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k0_t8
  let c1024_i32 : BitVec 32 := 1024#32
  let v705 : BitVec 32 := Scalar.muli arg7 c1024_i32
  let v706 : BitVec 32 := v705
  let v709 : Index := Scalar.indexCast v706
  ![0, v709.toNat]
def k0_off32 (v67 : BitVec 32) (v70 : BitVec 32) (k0_t8 : Fin (k0_t8_loop v67 v70).trips) : Fin 2 → Nat :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k0_t8
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk4 (v67 : BitVec 32) (v70 : BitVec 32) : Prop :=
  ((k0_t7_loop v67 v70).OK) ∧
  (∀ k0_t7 : Fin (k0_t7_loop v67 v70).trips, 1024 ∣ (k0_mult7 v67 v70 k0_t7).toNat) ∧
  (∀ k0_t7 : Fin (k0_t7_loop v67 v70).trips, ∀ a, (k0_off27 v67 v70 k0_t7) a + S1x1024.size a ≤ S1x8192.size a) ∧
  (∀ k0_t7 : Fin (k0_t7_loop v67 v70).trips, ∀ a, (k0_off28 v67 v70 k0_t7) a + S128x1024.size a ≤ S128x8192.size a) ∧
  (∀ k0_t7 : Fin (k0_t7_loop v67 v70).trips, ∀ a, (k0_off29 v67 v70 k0_t7) a + S1024x128.size a ≤ S8192x128.size a) ∧
  ((k0_t8_loop v67 v70).OK) ∧
  (∀ k0_t8 : Fin (k0_t8_loop v67 v70).trips, 1024 ∣ (k0_mult8 v67 v70 k0_t8).toNat) ∧
  (∀ k0_t8 : Fin (k0_t8_loop v67 v70).trips, ∀ a, (k0_off30 v67 v70 k0_t8) a + S1x1024.size a ≤ S1x8192.size a) ∧
  (∀ k0_t8 : Fin (k0_t8_loop v67 v70).trips, ∀ a, (k0_off31 v67 v70 k0_t8) a + S128x1024.size a ≤ S128x8192.size a) ∧
  (∀ k0_t8 : Fin (k0_t8_loop v67 v70).trips, ∀ a, (k0_off32 v67 v70 k0_t8) a + S1024x128.size a ≤ S8192x128.size a)
theorem k0_t7_ok : ∀ (v67 : BitVec 32) (v70 : BitVec 32) (k0_hw4 : k0_chk4 v67 v70), (k0_t7_loop v67 v70).OK := fun v67 v70 k0_hw4 => k0_hw4.1
theorem k0_mult7_dvd : ∀ (v67 : BitVec 32) (v70 : BitVec 32) (k0_hw4 : k0_chk4 v67 v70) (k0_t7 : Fin (k0_t7_loop v67 v70).trips), 1024 ∣ (k0_mult7 v67 v70 k0_t7).toNat := fun v67 v70 k0_hw4 k0_t7 => k0_hw4.2.1 k0_t7
theorem k0_off27_inb : ∀ (v67 : BitVec 32) (v70 : BitVec 32) (k0_hw4 : k0_chk4 v67 v70) (k0_t7 : Fin (k0_t7_loop v67 v70).trips), ∀ a, (k0_off27 v67 v70 k0_t7) a + S1x1024.size a ≤ S1x8192.size a := fun v67 v70 k0_hw4 k0_t7 => k0_hw4.2.2.1 k0_t7
theorem k0_off28_inb : ∀ (v67 : BitVec 32) (v70 : BitVec 32) (k0_hw4 : k0_chk4 v67 v70) (k0_t7 : Fin (k0_t7_loop v67 v70).trips), ∀ a, (k0_off28 v67 v70 k0_t7) a + S128x1024.size a ≤ S128x8192.size a := fun v67 v70 k0_hw4 k0_t7 => k0_hw4.2.2.2.1 k0_t7
theorem k0_off29_inb : ∀ (v67 : BitVec 32) (v70 : BitVec 32) (k0_hw4 : k0_chk4 v67 v70) (k0_t7 : Fin (k0_t7_loop v67 v70).trips), ∀ a, (k0_off29 v67 v70 k0_t7) a + S1024x128.size a ≤ S8192x128.size a := fun v67 v70 k0_hw4 k0_t7 => k0_hw4.2.2.2.2.1 k0_t7
theorem k0_t8_ok : ∀ (v67 : BitVec 32) (v70 : BitVec 32) (k0_hw4 : k0_chk4 v67 v70), (k0_t8_loop v67 v70).OK := fun v67 v70 k0_hw4 => k0_hw4.2.2.2.2.2.1
theorem k0_mult8_dvd : ∀ (v67 : BitVec 32) (v70 : BitVec 32) (k0_hw4 : k0_chk4 v67 v70) (k0_t8 : Fin (k0_t8_loop v67 v70).trips), 1024 ∣ (k0_mult8 v67 v70 k0_t8).toNat := fun v67 v70 k0_hw4 k0_t8 => k0_hw4.2.2.2.2.2.2.1 k0_t8
theorem k0_off30_inb : ∀ (v67 : BitVec 32) (v70 : BitVec 32) (k0_hw4 : k0_chk4 v67 v70) (k0_t8 : Fin (k0_t8_loop v67 v70).trips), ∀ a, (k0_off30 v67 v70 k0_t8) a + S1x1024.size a ≤ S1x8192.size a := fun v67 v70 k0_hw4 k0_t8 => k0_hw4.2.2.2.2.2.2.2.1 k0_t8
theorem k0_off31_inb : ∀ (v67 : BitVec 32) (v70 : BitVec 32) (k0_hw4 : k0_chk4 v67 v70) (k0_t8 : Fin (k0_t8_loop v67 v70).trips), ∀ a, (k0_off31 v67 v70 k0_t8) a + S128x1024.size a ≤ S128x8192.size a := fun v67 v70 k0_hw4 k0_t8 => k0_hw4.2.2.2.2.2.2.2.2.1 k0_t8
theorem k0_off32_inb : ∀ (v67 : BitVec 32) (v70 : BitVec 32) (k0_hw4 : k0_chk4 v67 v70) (k0_t8 : Fin (k0_t8_loop v67 v70).trips), ∀ a, (k0_off32 v67 v70 k0_t8) a + S1024x128.size a ≤ S8192x128.size a := fun v67 v70 k0_hw4 k0_t8 => k0_hw4.2.2.2.2.2.2.2.2.2 k0_t8

def k0_off33 (i : grid0.Coords) : Fin 1 → Nat :=
  let arg0 : BitVec 32 := BitVec.ofNat 32 (i 0).val
  let c8_i32_38 : BitVec 32 := 8#32
  let v83 : BitVec 32 := Scalar.muli arg0 c8_i32_38
  let c4_i32 : BitVec 32 := 4#32
  let v84 : BitVec 32 := Scalar.addi v83 c4_i32
  let v85 : Index := Scalar.indexCast v84
  ![v85.toNat]
def k0_off34 (i : grid0.Coords) : Fin 1 → Nat :=
  let arg0 : BitVec 32 := BitVec.ofNat 32 (i 0).val
  let c8_i32_38 : BitVec 32 := 8#32
  let v83 : BitVec 32 := Scalar.muli arg0 c8_i32_38
  let c4_i32 : BitVec 32 := 4#32
  let v84 : BitVec 32 := Scalar.addi v83 c4_i32
  let c1_i32_39 : BitVec 32 := 1#32
  let v87 : BitVec 32 := Scalar.addi v84 c1_i32_39
  let v88 : Index := Scalar.indexCast v87
  ![v88.toNat]
@[reducible] def k0_t9_loop (v86 : BitVec 32) (v89 : BitVec 32) : Scf.Loop 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_46 : BitVec 32 := 1#32
  ⟨v90, v99, c1_i32_46⟩

def k0_mult9 (v86 : BitVec 32) (v89 : BitVec 32) (k0_t9 : Fin (k0_t9_loop v86 v89).trips) : BitVec 32 :=
  let c10_i32_40 : BitVec 32 := 10#32
  let v90 : BitVec 32 := Scalar.shrsi v86 c10_i32_40
  let c1_i32_46 : BitVec 32 := 1#32
  let arg7 : BitVec 32 := Scf.iv v90 c1_i32_46 k0_t9
  let c1024_i32 : BitVec 32 := 1024#32
  let v705 : BitVec 32 := Scalar.muli arg7 c1024_i32
  v705
def k0_off35 (v86 : BitVec 32) (v89 : BitVec 32) (k0_t9 : Fin (k0_t9_loop v86 v89).trips) : Fin 2 → Nat :=
  let c0_344 : Index := 0#32
  let c10_i32_40 : BitVec 32 := 10#32
  let v90 : BitVec 32 := Scalar.shrsi v86 c10_i32_40
  let c1_i32_46 : BitVec 32 := 1#32
  let arg7 : BitVec 32 := Scf.iv v90 c1_i32_46 k0_t9
  let c1024_i32 : BitVec 32 := 1024#32
  let v705 : BitVec 32 := Scalar.muli arg7 c1024_i32
  let v706 : BitVec 32 := v705
  let v707 : Index := Scalar.indexCast v706
  ![0, v707.toNat]
def k0_off36 (v86 : BitVec 32) (v89 : BitVec 32) (k0_t9 : Fin (k0_t9_loop v86 v89).trips) : Fin 2 → Nat :=
  let c0_345 : Index := 0#32
  let c10_i32_40 : BitVec 32 := 10#32
  let v90 : BitVec 32 := Scalar.shrsi v86 c10_i32_40
  let c1_i32_46 : BitVec 32 := 1#32
  let arg7 : BitVec 32 := Scf.iv v90 c1_i32_46 k0_t9
  let c1024_i32 : BitVec 32 := 1024#32
  let v705 : BitVec 32 := Scalar.muli arg7 c1024_i32
  let v706 : BitVec 32 := v705
  let v709 : Index := Scalar.indexCast v706
  ![0, v709.toNat]
def k0_off37 (v86 : BitVec 32) (v89 : BitVec 32) (k0_t9 : Fin (k0_t9_loop v86 v89).trips) : Fin 2 → Nat :=
  let c10_i32_40 : BitVec 32 := 10#32
  let v90 : BitVec 32 := Scalar.shrsi v86 c10_i32_40
  let c1_i32_46 : BitVec 32 := 1#32
  let arg7 : BitVec 32 := Scf.iv v90 c1_i32_46 k0_t9
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t10_loop (v86 : BitVec 32) (v89 : BitVec 32) : Scf.Loop 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let v96 : BitVec 32 := Scalar.addi v90 v95
  let c1_i32_47 : BitVec 32 := 1#32
  ⟨v99, v96, c1_i32_47⟩
def k0_mult10 (v86 : BitVec 32) (v89 : BitVec 32) (k0_t10 : Fin (k0_t10_loop v86 v89).trips) : BitVec 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k0_t10
  let c1024_i32 : BitVec 32 := 1024#32
  let v705 : BitVec 32 := Scalar.muli arg7 c1024_i32
  v705
def k0_off38 (v86 : BitVec 32) (v89 : BitVec 32) (k0_t10 : Fin (k0_t10_loop v86 v89).trips) : Fin 2 → Nat :=
  let c0_344 : Index := 0#32
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k0_t10
  let c1024_i32 : BitVec 32 := 1024#32
  let v705 : BitVec 32 := Scalar.muli arg7 c1024_i32
  let v706 : BitVec 32 := v705
  let v707 : Index := Scalar.indexCast v706
  ![0, v707.toNat]
def k0_off39 (v86 : BitVec 32) (v89 : BitVec 32) (k0_t10 : Fin (k0_t10_loop v86 v89).trips) : Fin 2 → Nat :=
  let c0_345 : Index := 0#32
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k0_t10
  let c1024_i32 : BitVec 32 := 1024#32
  let v705 : BitVec 32 := Scalar.muli arg7 c1024_i32
  let v706 : BitVec 32 := v705
  let v709 : Index := Scalar.indexCast v706
  ![0, v709.toNat]
def k0_off40 (v86 : BitVec 32) (v89 : BitVec 32) (k0_t10 : Fin (k0_t10_loop v86 v89).trips) : Fin 2 → Nat :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k0_t10
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk5 (v86 : BitVec 32) (v89 : BitVec 32) : Prop :=
  ((k0_t9_loop v86 v89).OK) ∧
  (∀ k0_t9 : Fin (k0_t9_loop v86 v89).trips, 1024 ∣ (k0_mult9 v86 v89 k0_t9).toNat) ∧
  (∀ k0_t9 : Fin (k0_t9_loop v86 v89).trips, ∀ a, (k0_off35 v86 v89 k0_t9) a + S1x1024.size a ≤ S1x8192.size a) ∧
  (∀ k0_t9 : Fin (k0_t9_loop v86 v89).trips, ∀ a, (k0_off36 v86 v89 k0_t9) a + S128x1024.size a ≤ S128x8192.size a) ∧
  (∀ k0_t9 : Fin (k0_t9_loop v86 v89).trips, ∀ a, (k0_off37 v86 v89 k0_t9) a + S1024x128.size a ≤ S8192x128.size a) ∧
  ((k0_t10_loop v86 v89).OK) ∧
  (∀ k0_t10 : Fin (k0_t10_loop v86 v89).trips, 1024 ∣ (k0_mult10 v86 v89 k0_t10).toNat) ∧
  (∀ k0_t10 : Fin (k0_t10_loop v86 v89).trips, ∀ a, (k0_off38 v86 v89 k0_t10) a + S1x1024.size a ≤ S1x8192.size a) ∧
  (∀ k0_t10 : Fin (k0_t10_loop v86 v89).trips, ∀ a, (k0_off39 v86 v89 k0_t10) a + S128x1024.size a ≤ S128x8192.size a) ∧
  (∀ k0_t10 : Fin (k0_t10_loop v86 v89).trips, ∀ a, (k0_off40 v86 v89 k0_t10) a + S1024x128.size a ≤ S8192x128.size a)
theorem k0_t9_ok : ∀ (v86 : BitVec 32) (v89 : BitVec 32) (k0_hw5 : k0_chk5 v86 v89), (k0_t9_loop v86 v89).OK := fun v86 v89 k0_hw5 => k0_hw5.1
theorem k0_mult9_dvd : ∀ (v86 : BitVec 32) (v89 : BitVec 32) (k0_hw5 : k0_chk5 v86 v89) (k0_t9 : Fin (k0_t9_loop v86 v89).trips), 1024 ∣ (k0_mult9 v86 v89 k0_t9).toNat := fun v86 v89 k0_hw5 k0_t9 => k0_hw5.2.1 k0_t9
theorem k0_off35_inb : ∀ (v86 : BitVec 32) (v89 : BitVec 32) (k0_hw5 : k0_chk5 v86 v89) (k0_t9 : Fin (k0_t9_loop v86 v89).trips), ∀ a, (k0_off35 v86 v89 k0_t9) a + S1x1024.size a ≤ S1x8192.size a := fun v86 v89 k0_hw5 k0_t9 => k0_hw5.2.2.1 k0_t9
theorem k0_off36_inb : ∀ (v86 : BitVec 32) (v89 : BitVec 32) (k0_hw5 : k0_chk5 v86 v89) (k0_t9 : Fin (k0_t9_loop v86 v89).trips), ∀ a, (k0_off36 v86 v89 k0_t9) a + S128x1024.size a ≤ S128x8192.size a := fun v86 v89 k0_hw5 k0_t9 => k0_hw5.2.2.2.1 k0_t9
theorem k0_off37_inb : ∀ (v86 : BitVec 32) (v89 : BitVec 32) (k0_hw5 : k0_chk5 v86 v89) (k0_t9 : Fin (k0_t9_loop v86 v89).trips), ∀ a, (k0_off37 v86 v89 k0_t9) a + S1024x128.size a ≤ S8192x128.size a := fun v86 v89 k0_hw5 k0_t9 => k0_hw5.2.2.2.2.1 k0_t9
theorem k0_t10_ok : ∀ (v86 : BitVec 32) (v89 : BitVec 32) (k0_hw5 : k0_chk5 v86 v89), (k0_t10_loop v86 v89).OK := fun v86 v89 k0_hw5 => k0_hw5.2.2.2.2.2.1
theorem k0_mult10_dvd : ∀ (v86 : BitVec 32) (v89 : BitVec 32) (k0_hw5 : k0_chk5 v86 v89) (k0_t10 : Fin (k0_t10_loop v86 v89).trips), 1024 ∣ (k0_mult10 v86 v89 k0_t10).toNat := fun v86 v89 k0_hw5 k0_t10 => k0_hw5.2.2.2.2.2.2.1 k0_t10
theorem k0_off38_inb : ∀ (v86 : BitVec 32) (v89 : BitVec 32) (k0_hw5 : k0_chk5 v86 v89) (k0_t10 : Fin (k0_t10_loop v86 v89).trips), ∀ a, (k0_off38 v86 v89 k0_t10) a + S1x1024.size a ≤ S1x8192.size a := fun v86 v89 k0_hw5 k0_t10 => k0_hw5.2.2.2.2.2.2.2.1 k0_t10
theorem k0_off39_inb : ∀ (v86 : BitVec 32) (v89 : BitVec 32) (k0_hw5 : k0_chk5 v86 v89) (k0_t10 : Fin (k0_t10_loop v86 v89).trips), ∀ a, (k0_off39 v86 v89 k0_t10) a + S128x1024.size a ≤ S128x8192.size a := fun v86 v89 k0_hw5 k0_t10 => k0_hw5.2.2.2.2.2.2.2.2.1 k0_t10
theorem k0_off40_inb : ∀ (v86 : BitVec 32) (v89 : BitVec 32) (k0_hw5 : k0_chk5 v86 v89) (k0_t10 : Fin (k0_t10_loop v86 v89).trips), ∀ a, (k0_off40 v86 v89 k0_t10) a + S1024x128.size a ≤ S8192x128.size a := fun v86 v89 k0_hw5 k0_t10 => k0_hw5.2.2.2.2.2.2.2.2.2 k0_t10

def k0_off41 (i : grid0.Coords) : Fin 1 → Nat :=
  let arg0 : BitVec 32 := BitVec.ofNat 32 (i 0).val
  let c8_i32_48 : BitVec 32 := 8#32
  let v102 : BitVec 32 := Scalar.muli arg0 c8_i32_48
  let c5_i32 : BitVec 32 := 5#32
  let v103 : BitVec 32 := Scalar.addi v102 c5_i32
  let v104 : Index := Scalar.indexCast v103
  ![v104.toNat]
def k0_off42 (i : grid0.Coords) : Fin 1 → Nat :=
  let arg0 : BitVec 32 := BitVec.ofNat 32 (i 0).val
  let c8_i32_48 : BitVec 32 := 8#32
  let v102 : BitVec 32 := Scalar.muli arg0 c8_i32_48
  let c5_i32 : BitVec 32 := 5#32
  let v103 : BitVec 32 := Scalar.addi v102 c5_i32
  let c1_i32_49 : BitVec 32 := 1#32
  let v106 : BitVec 32 := Scalar.addi v103 c1_i32_49
  let v107 : Index := Scalar.indexCast v106
  ![v107.toNat]
@[reducible] def k0_t11_loop (v105 : BitVec 32) (v108 : BitVec 32) : Scf.Loop 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_56 : BitVec 32 := 1#32
  ⟨v109, v118, c1_i32_56⟩

def k0_mult11 (v105 : BitVec 32) (v108 : BitVec 32) (k0_t11 : Fin (k0_t11_loop v105 v108).trips) : BitVec 32 :=
  let c10_i32_50 : BitVec 32 := 10#32
  let v109 : BitVec 32 := Scalar.shrsi v105 c10_i32_50
  let c1_i32_56 : BitVec 32 := 1#32
  let arg7 : BitVec 32 := Scf.iv v109 c1_i32_56 k0_t11
  let c1024_i32 : BitVec 32 := 1024#32
  let v705 : BitVec 32 := Scalar.muli arg7 c1024_i32
  v705
def k0_off43 (v105 : BitVec 32) (v108 : BitVec 32) (k0_t11 : Fin (k0_t11_loop v105 v108).trips) : Fin 2 → Nat :=
  let c0_344 : Index := 0#32
  let c10_i32_50 : BitVec 32 := 10#32
  let v109 : BitVec 32 := Scalar.shrsi v105 c10_i32_50
  let c1_i32_56 : BitVec 32 := 1#32
  let arg7 : BitVec 32 := Scf.iv v109 c1_i32_56 k0_t11
  let c1024_i32 : BitVec 32 := 1024#32
  let v705 : BitVec 32 := Scalar.muli arg7 c1024_i32
  let v706 : BitVec 32 := v705
  let v707 : Index := Scalar.indexCast v706
  ![0, v707.toNat]
def k0_off44 (v105 : BitVec 32) (v108 : BitVec 32) (k0_t11 : Fin (k0_t11_loop v105 v108).trips) : Fin 2 → Nat :=
  let c0_345 : Index := 0#32
  let c10_i32_50 : BitVec 32 := 10#32
  let v109 : BitVec 32 := Scalar.shrsi v105 c10_i32_50
  let c1_i32_56 : BitVec 32 := 1#32
  let arg7 : BitVec 32 := Scf.iv v109 c1_i32_56 k0_t11
  let c1024_i32 : BitVec 32 := 1024#32
  let v705 : BitVec 32 := Scalar.muli arg7 c1024_i32
  let v706 : BitVec 32 := v705
  let v709 : Index := Scalar.indexCast v706
  ![0, v709.toNat]
def k0_off45 (v105 : BitVec 32) (v108 : BitVec 32) (k0_t11 : Fin (k0_t11_loop v105 v108).trips) : Fin 2 → Nat :=
  let c10_i32_50 : BitVec 32 := 10#32
  let v109 : BitVec 32 := Scalar.shrsi v105 c10_i32_50
  let c1_i32_56 : BitVec 32 := 1#32
  let arg7 : BitVec 32 := Scf.iv v109 c1_i32_56 k0_t11
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t12_loop (v105 : BitVec 32) (v108 : BitVec 32) : Scf.Loop 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let v115 : BitVec 32 := Scalar.addi v109 v114
  let c1_i32_57 : BitVec 32 := 1#32
  ⟨v118, v115, c1_i32_57⟩
def k0_mult12 (v105 : BitVec 32) (v108 : BitVec 32) (k0_t12 : Fin (k0_t12_loop v105 v108).trips) : BitVec 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k0_t12
  let c1024_i32 : BitVec 32 := 1024#32
  let v705 : BitVec 32 := Scalar.muli arg7 c1024_i32
  v705
def k0_off46 (v105 : BitVec 32) (v108 : BitVec 32) (k0_t12 : Fin (k0_t12_loop v105 v108).trips) : Fin 2 → Nat :=
  let c0_344 : Index := 0#32
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k0_t12
  let c1024_i32 : BitVec 32 := 1024#32
  let v705 : BitVec 32 := Scalar.muli arg7 c1024_i32
  let v706 : BitVec 32 := v705
  let v707 : Index := Scalar.indexCast v706
  ![0, v707.toNat]
def k0_off47 (v105 : BitVec 32) (v108 : BitVec 32) (k0_t12 : Fin (k0_t12_loop v105 v108).trips) : Fin 2 → Nat :=
  let c0_345 : Index := 0#32
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k0_t12
  let c1024_i32 : BitVec 32 := 1024#32
  let v705 : BitVec 32 := Scalar.muli arg7 c1024_i32
  let v706 : BitVec 32 := v705
  let v709 : Index := Scalar.indexCast v706
  ![0, v709.toNat]
def k0_off48 (v105 : BitVec 32) (v108 : BitVec 32) (k0_t12 : Fin (k0_t12_loop v105 v108).trips) : Fin 2 → Nat :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k0_t12
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk6 (v105 : BitVec 32) (v108 : BitVec 32) : Prop :=
  ((k0_t11_loop v105 v108).OK) ∧
  (∀ k0_t11 : Fin (k0_t11_loop v105 v108).trips, 1024 ∣ (k0_mult11 v105 v108 k0_t11).toNat) ∧
  (∀ k0_t11 : Fin (k0_t11_loop v105 v108).trips, ∀ a, (k0_off43 v105 v108 k0_t11) a + S1x1024.size a ≤ S1x8192.size a) ∧
  (∀ k0_t11 : Fin (k0_t11_loop v105 v108).trips, ∀ a, (k0_off44 v105 v108 k0_t11) a + S128x1024.size a ≤ S128x8192.size a) ∧
  (∀ k0_t11 : Fin (k0_t11_loop v105 v108).trips, ∀ a, (k0_off45 v105 v108 k0_t11) a + S1024x128.size a ≤ S8192x128.size a) ∧
  ((k0_t12_loop v105 v108).OK) ∧
  (∀ k0_t12 : Fin (k0_t12_loop v105 v108).trips, 1024 ∣ (k0_mult12 v105 v108 k0_t12).toNat) ∧
  (∀ k0_t12 : Fin (k0_t12_loop v105 v108).trips, ∀ a, (k0_off46 v105 v108 k0_t12) a + S1x1024.size a ≤ S1x8192.size a) ∧
  (∀ k0_t12 : Fin (k0_t12_loop v105 v108).trips, ∀ a, (k0_off47 v105 v108 k0_t12) a + S128x1024.size a ≤ S128x8192.size a) ∧
  (∀ k0_t12 : Fin (k0_t12_loop v105 v108).trips, ∀ a, (k0_off48 v105 v108 k0_t12) a + S1024x128.size a ≤ S8192x128.size a)
theorem k0_t11_ok : ∀ (v105 : BitVec 32) (v108 : BitVec 32) (k0_hw6 : k0_chk6 v105 v108), (k0_t11_loop v105 v108).OK := fun v105 v108 k0_hw6 => k0_hw6.1
theorem k0_mult11_dvd : ∀ (v105 : BitVec 32) (v108 : BitVec 32) (k0_hw6 : k0_chk6 v105 v108) (k0_t11 : Fin (k0_t11_loop v105 v108).trips), 1024 ∣ (k0_mult11 v105 v108 k0_t11).toNat := fun v105 v108 k0_hw6 k0_t11 => k0_hw6.2.1 k0_t11
theorem k0_off43_inb : ∀ (v105 : BitVec 32) (v108 : BitVec 32) (k0_hw6 : k0_chk6 v105 v108) (k0_t11 : Fin (k0_t11_loop v105 v108).trips), ∀ a, (k0_off43 v105 v108 k0_t11) a + S1x1024.size a ≤ S1x8192.size a := fun v105 v108 k0_hw6 k0_t11 => k0_hw6.2.2.1 k0_t11
theorem k0_off44_inb : ∀ (v105 : BitVec 32) (v108 : BitVec 32) (k0_hw6 : k0_chk6 v105 v108) (k0_t11 : Fin (k0_t11_loop v105 v108).trips), ∀ a, (k0_off44 v105 v108 k0_t11) a + S128x1024.size a ≤ S128x8192.size a := fun v105 v108 k0_hw6 k0_t11 => k0_hw6.2.2.2.1 k0_t11
theorem k0_off45_inb : ∀ (v105 : BitVec 32) (v108 : BitVec 32) (k0_hw6 : k0_chk6 v105 v108) (k0_t11 : Fin (k0_t11_loop v105 v108).trips), ∀ a, (k0_off45 v105 v108 k0_t11) a + S1024x128.size a ≤ S8192x128.size a := fun v105 v108 k0_hw6 k0_t11 => k0_hw6.2.2.2.2.1 k0_t11
theorem k0_t12_ok : ∀ (v105 : BitVec 32) (v108 : BitVec 32) (k0_hw6 : k0_chk6 v105 v108), (k0_t12_loop v105 v108).OK := fun v105 v108 k0_hw6 => k0_hw6.2.2.2.2.2.1
theorem k0_mult12_dvd : ∀ (v105 : BitVec 32) (v108 : BitVec 32) (k0_hw6 : k0_chk6 v105 v108) (k0_t12 : Fin (k0_t12_loop v105 v108).trips), 1024 ∣ (k0_mult12 v105 v108 k0_t12).toNat := fun v105 v108 k0_hw6 k0_t12 => k0_hw6.2.2.2.2.2.2.1 k0_t12
theorem k0_off46_inb : ∀ (v105 : BitVec 32) (v108 : BitVec 32) (k0_hw6 : k0_chk6 v105 v108) (k0_t12 : Fin (k0_t12_loop v105 v108).trips), ∀ a, (k0_off46 v105 v108 k0_t12) a + S1x1024.size a ≤ S1x8192.size a := fun v105 v108 k0_hw6 k0_t12 => k0_hw6.2.2.2.2.2.2.2.1 k0_t12
theorem k0_off47_inb : ∀ (v105 : BitVec 32) (v108 : BitVec 32) (k0_hw6 : k0_chk6 v105 v108) (k0_t12 : Fin (k0_t12_loop v105 v108).trips), ∀ a, (k0_off47 v105 v108 k0_t12) a + S128x1024.size a ≤ S128x8192.size a := fun v105 v108 k0_hw6 k0_t12 => k0_hw6.2.2.2.2.2.2.2.2.1 k0_t12
theorem k0_off48_inb : ∀ (v105 : BitVec 32) (v108 : BitVec 32) (k0_hw6 : k0_chk6 v105 v108) (k0_t12 : Fin (k0_t12_loop v105 v108).trips), ∀ a, (k0_off48 v105 v108 k0_t12) a + S1024x128.size a ≤ S8192x128.size a := fun v105 v108 k0_hw6 k0_t12 => k0_hw6.2.2.2.2.2.2.2.2.2 k0_t12

def k0_off49 (i : grid0.Coords) : Fin 1 → Nat :=
  let arg0 : BitVec 32 := BitVec.ofNat 32 (i 0).val
  let c8_i32_58 : BitVec 32 := 8#32
  let v121 : BitVec 32 := Scalar.muli arg0 c8_i32_58
  let c6_i32 : BitVec 32 := 6#32
  let v122 : BitVec 32 := Scalar.addi v121 c6_i32
  let v123 : Index := Scalar.indexCast v122
  ![v123.toNat]
def k0_off50 (i : grid0.Coords) : Fin 1 → Nat :=
  let arg0 : BitVec 32 := BitVec.ofNat 32 (i 0).val
  let c8_i32_58 : BitVec 32 := 8#32
  let v121 : BitVec 32 := Scalar.muli arg0 c8_i32_58
  let c6_i32 : BitVec 32 := 6#32
  let v122 : BitVec 32 := Scalar.addi v121 c6_i32
  let c1_i32_59 : BitVec 32 := 1#32
  let v125 : BitVec 32 := Scalar.addi v122 c1_i32_59
  let v126 : Index := Scalar.indexCast v125
  ![v126.toNat]
@[reducible] def k0_t13_loop (v124 : BitVec 32) (v127 : BitVec 32) : Scf.Loop 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_66 : BitVec 32 := 1#32
  ⟨v128, v137, c1_i32_66⟩

def k0_mult13 (v124 : BitVec 32) (v127 : BitVec 32) (k0_t13 : Fin (k0_t13_loop v124 v127).trips) : BitVec 32 :=
  let c10_i32_60 : BitVec 32 := 10#32
  let v128 : BitVec 32 := Scalar.shrsi v124 c10_i32_60
  let c1_i32_66 : BitVec 32 := 1#32
  let arg7 : BitVec 32 := Scf.iv v128 c1_i32_66 k0_t13
  let c1024_i32 : BitVec 32 := 1024#32
  let v705 : BitVec 32 := Scalar.muli arg7 c1024_i32
  v705
def k0_off51 (v124 : BitVec 32) (v127 : BitVec 32) (k0_t13 : Fin (k0_t13_loop v124 v127).trips) : Fin 2 → Nat :=
  let c0_344 : Index := 0#32
  let c10_i32_60 : BitVec 32 := 10#32
  let v128 : BitVec 32 := Scalar.shrsi v124 c10_i32_60
  let c1_i32_66 : BitVec 32 := 1#32
  let arg7 : BitVec 32 := Scf.iv v128 c1_i32_66 k0_t13
  let c1024_i32 : BitVec 32 := 1024#32
  let v705 : BitVec 32 := Scalar.muli arg7 c1024_i32
  let v706 : BitVec 32 := v705
  let v707 : Index := Scalar.indexCast v706
  ![0, v707.toNat]
def k0_off52 (v124 : BitVec 32) (v127 : BitVec 32) (k0_t13 : Fin (k0_t13_loop v124 v127).trips) : Fin 2 → Nat :=
  let c0_345 : Index := 0#32
  let c10_i32_60 : BitVec 32 := 10#32
  let v128 : BitVec 32 := Scalar.shrsi v124 c10_i32_60
  let c1_i32_66 : BitVec 32 := 1#32
  let arg7 : BitVec 32 := Scf.iv v128 c1_i32_66 k0_t13
  let c1024_i32 : BitVec 32 := 1024#32
  let v705 : BitVec 32 := Scalar.muli arg7 c1024_i32
  let v706 : BitVec 32 := v705
  let v709 : Index := Scalar.indexCast v706
  ![0, v709.toNat]
def k0_off53 (v124 : BitVec 32) (v127 : BitVec 32) (k0_t13 : Fin (k0_t13_loop v124 v127).trips) : Fin 2 → Nat :=
  let c10_i32_60 : BitVec 32 := 10#32
  let v128 : BitVec 32 := Scalar.shrsi v124 c10_i32_60
  let c1_i32_66 : BitVec 32 := 1#32
  let arg7 : BitVec 32 := Scf.iv v128 c1_i32_66 k0_t13
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t14_loop (v124 : BitVec 32) (v127 : BitVec 32) : Scf.Loop 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let v134 : BitVec 32 := Scalar.addi v128 v133
  let c1_i32_67 : BitVec 32 := 1#32
  ⟨v137, v134, c1_i32_67⟩
def k0_mult14 (v124 : BitVec 32) (v127 : BitVec 32) (k0_t14 : Fin (k0_t14_loop v124 v127).trips) : BitVec 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k0_t14
  let c1024_i32 : BitVec 32 := 1024#32
  let v705 : BitVec 32 := Scalar.muli arg7 c1024_i32
  v705
def k0_off54 (v124 : BitVec 32) (v127 : BitVec 32) (k0_t14 : Fin (k0_t14_loop v124 v127).trips) : Fin 2 → Nat :=
  let c0_344 : Index := 0#32
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k0_t14
  let c1024_i32 : BitVec 32 := 1024#32
  let v705 : BitVec 32 := Scalar.muli arg7 c1024_i32
  let v706 : BitVec 32 := v705
  let v707 : Index := Scalar.indexCast v706
  ![0, v707.toNat]
def k0_off55 (v124 : BitVec 32) (v127 : BitVec 32) (k0_t14 : Fin (k0_t14_loop v124 v127).trips) : Fin 2 → Nat :=
  let c0_345 : Index := 0#32
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k0_t14
  let c1024_i32 : BitVec 32 := 1024#32
  let v705 : BitVec 32 := Scalar.muli arg7 c1024_i32
  let v706 : BitVec 32 := v705
  let v709 : Index := Scalar.indexCast v706
  ![0, v709.toNat]
def k0_off56 (v124 : BitVec 32) (v127 : BitVec 32) (k0_t14 : Fin (k0_t14_loop v124 v127).trips) : Fin 2 → Nat :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k0_t14
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk7 (v124 : BitVec 32) (v127 : BitVec 32) : Prop :=
  ((k0_t13_loop v124 v127).OK) ∧
  (∀ k0_t13 : Fin (k0_t13_loop v124 v127).trips, 1024 ∣ (k0_mult13 v124 v127 k0_t13).toNat) ∧
  (∀ k0_t13 : Fin (k0_t13_loop v124 v127).trips, ∀ a, (k0_off51 v124 v127 k0_t13) a + S1x1024.size a ≤ S1x8192.size a) ∧
  (∀ k0_t13 : Fin (k0_t13_loop v124 v127).trips, ∀ a, (k0_off52 v124 v127 k0_t13) a + S128x1024.size a ≤ S128x8192.size a) ∧
  (∀ k0_t13 : Fin (k0_t13_loop v124 v127).trips, ∀ a, (k0_off53 v124 v127 k0_t13) a + S1024x128.size a ≤ S8192x128.size a) ∧
  ((k0_t14_loop v124 v127).OK) ∧
  (∀ k0_t14 : Fin (k0_t14_loop v124 v127).trips, 1024 ∣ (k0_mult14 v124 v127 k0_t14).toNat) ∧
  (∀ k0_t14 : Fin (k0_t14_loop v124 v127).trips, ∀ a, (k0_off54 v124 v127 k0_t14) a + S1x1024.size a ≤ S1x8192.size a) ∧
  (∀ k0_t14 : Fin (k0_t14_loop v124 v127).trips, ∀ a, (k0_off55 v124 v127 k0_t14) a + S128x1024.size a ≤ S128x8192.size a) ∧
  (∀ k0_t14 : Fin (k0_t14_loop v124 v127).trips, ∀ a, (k0_off56 v124 v127 k0_t14) a + S1024x128.size a ≤ S8192x128.size a)
theorem k0_t13_ok : ∀ (v124 : BitVec 32) (v127 : BitVec 32) (k0_hw7 : k0_chk7 v124 v127), (k0_t13_loop v124 v127).OK := fun v124 v127 k0_hw7 => k0_hw7.1
theorem k0_mult13_dvd : ∀ (v124 : BitVec 32) (v127 : BitVec 32) (k0_hw7 : k0_chk7 v124 v127) (k0_t13 : Fin (k0_t13_loop v124 v127).trips), 1024 ∣ (k0_mult13 v124 v127 k0_t13).toNat := fun v124 v127 k0_hw7 k0_t13 => k0_hw7.2.1 k0_t13
theorem k0_off51_inb : ∀ (v124 : BitVec 32) (v127 : BitVec 32) (k0_hw7 : k0_chk7 v124 v127) (k0_t13 : Fin (k0_t13_loop v124 v127).trips), ∀ a, (k0_off51 v124 v127 k0_t13) a + S1x1024.size a ≤ S1x8192.size a := fun v124 v127 k0_hw7 k0_t13 => k0_hw7.2.2.1 k0_t13
theorem k0_off52_inb : ∀ (v124 : BitVec 32) (v127 : BitVec 32) (k0_hw7 : k0_chk7 v124 v127) (k0_t13 : Fin (k0_t13_loop v124 v127).trips), ∀ a, (k0_off52 v124 v127 k0_t13) a + S128x1024.size a ≤ S128x8192.size a := fun v124 v127 k0_hw7 k0_t13 => k0_hw7.2.2.2.1 k0_t13
theorem k0_off53_inb : ∀ (v124 : BitVec 32) (v127 : BitVec 32) (k0_hw7 : k0_chk7 v124 v127) (k0_t13 : Fin (k0_t13_loop v124 v127).trips), ∀ a, (k0_off53 v124 v127 k0_t13) a + S1024x128.size a ≤ S8192x128.size a := fun v124 v127 k0_hw7 k0_t13 => k0_hw7.2.2.2.2.1 k0_t13
theorem k0_t14_ok : ∀ (v124 : BitVec 32) (v127 : BitVec 32) (k0_hw7 : k0_chk7 v124 v127), (k0_t14_loop v124 v127).OK := fun v124 v127 k0_hw7 => k0_hw7.2.2.2.2.2.1
theorem k0_mult14_dvd : ∀ (v124 : BitVec 32) (v127 : BitVec 32) (k0_hw7 : k0_chk7 v124 v127) (k0_t14 : Fin (k0_t14_loop v124 v127).trips), 1024 ∣ (k0_mult14 v124 v127 k0_t14).toNat := fun v124 v127 k0_hw7 k0_t14 => k0_hw7.2.2.2.2.2.2.1 k0_t14
theorem k0_off54_inb : ∀ (v124 : BitVec 32) (v127 : BitVec 32) (k0_hw7 : k0_chk7 v124 v127) (k0_t14 : Fin (k0_t14_loop v124 v127).trips), ∀ a, (k0_off54 v124 v127 k0_t14) a + S1x1024.size a ≤ S1x8192.size a := fun v124 v127 k0_hw7 k0_t14 => k0_hw7.2.2.2.2.2.2.2.1 k0_t14
theorem k0_off55_inb : ∀ (v124 : BitVec 32) (v127 : BitVec 32) (k0_hw7 : k0_chk7 v124 v127) (k0_t14 : Fin (k0_t14_loop v124 v127).trips), ∀ a, (k0_off55 v124 v127 k0_t14) a + S128x1024.size a ≤ S128x8192.size a := fun v124 v127 k0_hw7 k0_t14 => k0_hw7.2.2.2.2.2.2.2.2.1 k0_t14
theorem k0_off56_inb : ∀ (v124 : BitVec 32) (v127 : BitVec 32) (k0_hw7 : k0_chk7 v124 v127) (k0_t14 : Fin (k0_t14_loop v124 v127).trips), ∀ a, (k0_off56 v124 v127 k0_t14) a + S1024x128.size a ≤ S8192x128.size a := fun v124 v127 k0_hw7 k0_t14 => k0_hw7.2.2.2.2.2.2.2.2.2 k0_t14

def k0_off57 (i : grid0.Coords) : Fin 1 → Nat :=
  let arg0 : BitVec 32 := BitVec.ofNat 32 (i 0).val
  let c8_i32_68 : BitVec 32 := 8#32
  let v140 : BitVec 32 := Scalar.muli arg0 c8_i32_68
  let c7_i32 : BitVec 32 := 7#32
  let v141 : BitVec 32 := Scalar.addi v140 c7_i32
  let v142 : Index := Scalar.indexCast v141
  ![v142.toNat]
def k0_off58 (i : grid0.Coords) : Fin 1 → Nat :=
  let arg0 : BitVec 32 := BitVec.ofNat 32 (i 0).val
  let c8_i32_68 : BitVec 32 := 8#32
  let v140 : BitVec 32 := Scalar.muli arg0 c8_i32_68
  let c7_i32 : BitVec 32 := 7#32
  let v141 : BitVec 32 := Scalar.addi v140 c7_i32
  let c1_i32_69 : BitVec 32 := 1#32
  let v144 : BitVec 32 := Scalar.addi v141 c1_i32_69
  let v145 : Index := Scalar.indexCast v144
  ![v145.toNat]
@[reducible] def k0_t15_loop (v143 : BitVec 32) (v146 : BitVec 32) : Scf.Loop 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_76 : BitVec 32 := 1#32
  ⟨v147, v156, c1_i32_76⟩

def k0_mult15 (v143 : BitVec 32) (v146 : BitVec 32) (k0_t15 : Fin (k0_t15_loop v143 v146).trips) : BitVec 32 :=
  let c10_i32_70 : BitVec 32 := 10#32
  let v147 : BitVec 32 := Scalar.shrsi v143 c10_i32_70
  let c1_i32_76 : BitVec 32 := 1#32
  let arg7 : BitVec 32 := Scf.iv v147 c1_i32_76 k0_t15
  let c1024_i32 : BitVec 32 := 1024#32
  let v705 : BitVec 32 := Scalar.muli arg7 c1024_i32
  v705
def k0_off59 (v143 : BitVec 32) (v146 : BitVec 32) (k0_t15 : Fin (k0_t15_loop v143 v146).trips) : Fin 2 → Nat :=
  let c0_344 : Index := 0#32
  let c10_i32_70 : BitVec 32 := 10#32
  let v147 : BitVec 32 := Scalar.shrsi v143 c10_i32_70
  let c1_i32_76 : BitVec 32 := 1#32
  let arg7 : BitVec 32 := Scf.iv v147 c1_i32_76 k0_t15
  let c1024_i32 : BitVec 32 := 1024#32
  let v705 : BitVec 32 := Scalar.muli arg7 c1024_i32
  let v706 : BitVec 32 := v705
  let v707 : Index := Scalar.indexCast v706
  ![0, v707.toNat]
def k0_off60 (v143 : BitVec 32) (v146 : BitVec 32) (k0_t15 : Fin (k0_t15_loop v143 v146).trips) : Fin 2 → Nat :=
  let c0_345 : Index := 0#32
  let c10_i32_70 : BitVec 32 := 10#32
  let v147 : BitVec 32 := Scalar.shrsi v143 c10_i32_70
  let c1_i32_76 : BitVec 32 := 1#32
  let arg7 : BitVec 32 := Scf.iv v147 c1_i32_76 k0_t15
  let c1024_i32 : BitVec 32 := 1024#32
  let v705 : BitVec 32 := Scalar.muli arg7 c1024_i32
  let v706 : BitVec 32 := v705
  let v709 : Index := Scalar.indexCast v706
  ![0, v709.toNat]
def k0_off61 (v143 : BitVec 32) (v146 : BitVec 32) (k0_t15 : Fin (k0_t15_loop v143 v146).trips) : Fin 2 → Nat :=
  let c10_i32_70 : BitVec 32 := 10#32
  let v147 : BitVec 32 := Scalar.shrsi v143 c10_i32_70
  let c1_i32_76 : BitVec 32 := 1#32
  let arg7 : BitVec 32 := Scf.iv v147 c1_i32_76 k0_t15
  let c1024_i32 : BitVec 32 := 1024#32
  let v705 : BitVec 32 := Scalar.muli arg7 c1024_i32
  let v706 : BitVec 32 := v705
  let v711 : Index := Scalar.indexCast v706
  let c0_346 : Index := 0#32
  ![v711.toNat, 0]
@[reducible] def k0_t16_loop (v143 : BitVec 32) (v146 : BitVec 32) : Scf.Loop 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let v153 : BitVec 32 := Scalar.addi v147 v152
  let c1_i32_77 : BitVec 32 := 1#32
  ⟨v156, v153, c1_i32_77⟩
def k0_mult16 (v143 : BitVec 32) (v146 : BitVec 32) (k0_t16 : Fin (k0_t16_loop v143 v146).trips) : BitVec 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k0_t16
  let c1024_i32 : BitVec 32 := 1024#32
  let v705 : BitVec 32 := Scalar.muli arg7 c1024_i32
  v705
def k0_off62 (v143 : BitVec 32) (v146 : BitVec 32) (k0_t16 : Fin (k0_t16_loop v143 v146).trips) : Fin 2 → Nat :=
  let c0_344 : Index := 0#32
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k0_t16
  let c1024_i32 : BitVec 32 := 1024#32
  let v705 : BitVec 32 := Scalar.muli arg7 c1024_i32
  let v706 : BitVec 32 := v705
  let v707 : Index := Scalar.indexCast v706
  ![0, v707.toNat]
def k0_off63 (v143 : BitVec 32) (v146 : BitVec 32) (k0_t16 : Fin (k0_t16_loop v143 v146).trips) : Fin 2 → Nat :=
  let c0_345 : Index := 0#32
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k0_t16
  let c1024_i32 : BitVec 32 := 1024#32
  let v705 : BitVec 32 := Scalar.muli arg7 c1024_i32
  let v706 : BitVec 32 := v705
  let v709 : Index := Scalar.indexCast v706
  ![0, v709.toNat]
def k0_off64 (v143 : BitVec 32) (v146 : BitVec 32) (k0_t16 : Fin (k0_t16_loop v143 v146).trips) : Fin 2 → Nat :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k0_t16
  let c1024_i32 : BitVec 32 := 1024#32
  let v705 : BitVec 32 := Scalar.muli arg7 c1024_i32
  let v706 : BitVec 32 := v705
  let v711 : Index := Scalar.indexCast v706
  let c0_346 : Index := 0#32
  ![v711.toNat, 0]

def k0_chk8 (v143 : BitVec 32) (v146 : BitVec 32) : Prop :=
  ((k0_t15_loop v143 v146).OK) ∧
  (∀ k0_t15 : Fin (k0_t15_loop v143 v146).trips, 1024 ∣ (k0_mult15 v143 v146 k0_t15).toNat) ∧
  (∀ k0_t15 : Fin (k0_t15_loop v143 v146).trips, ∀ a, (k0_off59 v143 v146 k0_t15) a + S1x1024.size a ≤ S1x8192.size a) ∧
  (∀ k0_t15 : Fin (k0_t15_loop v143 v146).trips, ∀ a, (k0_off60 v143 v146 k0_t15) a + S128x1024.size a ≤ S128x8192.size a) ∧
  (∀ k0_t15 : Fin (k0_t15_loop v143 v146).trips, ∀ a, (k0_off61 v143 v146 k0_t15) a + S1024x128.size a ≤ S8192x128.size a) ∧
  ((k0_t16_loop v143 v146).OK) ∧
  (∀ k0_t16 : Fin (k0_t16_loop v143 v146).trips, 1024 ∣ (k0_mult16 v143 v146 k0_t16).toNat) ∧
  (∀ k0_t16 : Fin (k0_t16_loop v143 v146).trips, ∀ a, (k0_off62 v143 v146 k0_t16) a + S1x1024.size a ≤ S1x8192.size a) ∧
  (∀ k0_t16 : Fin (k0_t16_loop v143 v146).trips, ∀ a, (k0_off63 v143 v146 k0_t16) a + S128x1024.size a ≤ S128x8192.size a) ∧
  (∀ k0_t16 : Fin (k0_t16_loop v143 v146).trips, ∀ a, (k0_off64 v143 v146 k0_t16) a + S1024x128.size a ≤ S8192x128.size a)
theorem k0_t15_ok : ∀ (v143 : BitVec 32) (v146 : BitVec 32) (k0_hw8 : k0_chk8 v143 v146), (k0_t15_loop v143 v146).OK := fun v143 v146 k0_hw8 => k0_hw8.1
theorem k0_mult15_dvd : ∀ (v143 : BitVec 32) (v146 : BitVec 32) (k0_hw8 : k0_chk8 v143 v146) (k0_t15 : Fin (k0_t15_loop v143 v146).trips), 1024 ∣ (k0_mult15 v143 v146 k0_t15).toNat := fun v143 v146 k0_hw8 k0_t15 => k0_hw8.2.1 k0_t15
theorem k0_off59_inb : ∀ (v143 : BitVec 32) (v146 : BitVec 32) (k0_hw8 : k0_chk8 v143 v146) (k0_t15 : Fin (k0_t15_loop v143 v146).trips), ∀ a, (k0_off59 v143 v146 k0_t15) a + S1x1024.size a ≤ S1x8192.size a := fun v143 v146 k0_hw8 k0_t15 => k0_hw8.2.2.1 k0_t15
theorem k0_off60_inb : ∀ (v143 : BitVec 32) (v146 : BitVec 32) (k0_hw8 : k0_chk8 v143 v146) (k0_t15 : Fin (k0_t15_loop v143 v146).trips), ∀ a, (k0_off60 v143 v146 k0_t15) a + S128x1024.size a ≤ S128x8192.size a := fun v143 v146 k0_hw8 k0_t15 => k0_hw8.2.2.2.1 k0_t15
theorem k0_off61_inb : ∀ (v143 : BitVec 32) (v146 : BitVec 32) (k0_hw8 : k0_chk8 v143 v146) (k0_t15 : Fin (k0_t15_loop v143 v146).trips), ∀ a, (k0_off61 v143 v146 k0_t15) a + S1024x128.size a ≤ S8192x128.size a := fun v143 v146 k0_hw8 k0_t15 => k0_hw8.2.2.2.2.1 k0_t15
theorem k0_t16_ok : ∀ (v143 : BitVec 32) (v146 : BitVec 32) (k0_hw8 : k0_chk8 v143 v146), (k0_t16_loop v143 v146).OK := fun v143 v146 k0_hw8 => k0_hw8.2.2.2.2.2.1
theorem k0_mult16_dvd : ∀ (v143 : BitVec 32) (v146 : BitVec 32) (k0_hw8 : k0_chk8 v143 v146) (k0_t16 : Fin (k0_t16_loop v143 v146).trips), 1024 ∣ (k0_mult16 v143 v146 k0_t16).toNat := fun v143 v146 k0_hw8 k0_t16 => k0_hw8.2.2.2.2.2.2.1 k0_t16
theorem k0_off62_inb : ∀ (v143 : BitVec 32) (v146 : BitVec 32) (k0_hw8 : k0_chk8 v143 v146) (k0_t16 : Fin (k0_t16_loop v143 v146).trips), ∀ a, (k0_off62 v143 v146 k0_t16) a + S1x1024.size a ≤ S1x8192.size a := fun v143 v146 k0_hw8 k0_t16 => k0_hw8.2.2.2.2.2.2.2.1 k0_t16
theorem k0_off63_inb : ∀ (v143 : BitVec 32) (v146 : BitVec 32) (k0_hw8 : k0_chk8 v143 v146) (k0_t16 : Fin (k0_t16_loop v143 v146).trips), ∀ a, (k0_off63 v143 v146 k0_t16) a + S128x1024.size a ≤ S128x8192.size a := fun v143 v146 k0_hw8 k0_t16 => k0_hw8.2.2.2.2.2.2.2.2.1 k0_t16
theorem k0_off64_inb : ∀ (v143 : BitVec 32) (v146 : BitVec 32) (k0_hw8 : k0_chk8 v143 v146) (k0_t16 : Fin (k0_t16_loop v143 v146).trips), ∀ a, (k0_off64 v143 v146 k0_t16) a + S1024x128.size a ≤ S8192x128.size a := fun v143 v146 k0_hw8 k0_t16 => k0_hw8.2.2.2.2.2.2.2.2.2 k0_t16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65 : Shape := ⟨1, ![65]⟩
abbrev S128x8192 : Shape := ⟨2, ![128, 8192]⟩
abbrev S8192x128 : Shape := ⟨2, ![8192, 128]⟩
abbrev S1x8192 : Shape := ⟨2, ![1, 8192]⟩
abbrev S1x64 : Shape := ⟨2, ![1, 64]⟩
abbrev S8192 : Shape := ⟨1, ![8192]⟩
abbrev S128x128 : Shape := ⟨2, ![128, 128]⟩
abbrev S_ : Shape := ⟨0, ![]⟩
abbrev S64 : Shape := ⟨1, ![64]⟩
abbrev S8192x1 : Shape := ⟨2, ![8192, 1]⟩
abbrev S8192x128x1 : Shape := ⟨3, ![8192, 128, 1]⟩
abbrev S8192x1x128 : Shape := ⟨3, ![8192, 1, 128]⟩
abbrev S8192x128x128 : Shape := ⟨3, ![8192, 128, 128]⟩
abbrev S64x128x128 : Shape := ⟨3, ![64, 128, 128]⟩
abbrev S1x128x128 : Shape := ⟨3, ![1, 128, 128]⟩
abbrev S64x1x1 : Shape := ⟨3, ![64, 1, 1]⟩
abbrev S16384 : Shape := ⟨1, ![16384]⟩
abbrev S8256 : Shape := ⟨1, ![8256]⟩
abbrev S16384x1 : Shape := ⟨2, ![16384, 1]⟩
abbrev S1 : Shape := ⟨1, ![1]⟩
abbrev S8256x1 : Shape := ⟨2, ![8256, 1]⟩
abbrev S8256x2 : Shape := ⟨2, ![8256, 2]⟩
abbrev S64x8256 : Shape := ⟨2, ![64, 8256]⟩

abbrev nBuf : Space → Nat
  | .hbm => 269
  | .vmem => 0
  | .smem => 0
  | _ => 0

abbrev hbmTy0_0 (i : Nat) : BufTy := match i % 128 with
  | 0 => ⟨S65, .i32⟩
  | 1 => ⟨S128x8192, .f32⟩
  | 2 => ⟨S8192x128, .f32⟩
  | 3 => ⟨S1x8192, .i32⟩
  | 4 => ⟨S1x64, .f32⟩
  | 5 => ⟨S8192, .i32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x128, .f32⟩
  | 13 => ⟨S8192x128, .f32⟩
  | 14 => ⟨S64, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192, .f32⟩
  | 24 => ⟨S8192x1, .f32⟩
  | 25 => ⟨S8192x128, .f32⟩
  | 26 => ⟨S8192x128, .f32⟩
  | 27 => ⟨S8192x128x1, .f32⟩
  | 28 => ⟨S8192x1x128, .f32⟩
  | 29 => ⟨S8192x128x128, .f32⟩
  | 30 => ⟨S8192x128x128, .f32⟩
  | 31 => ⟨S8192x128x128, .f32⟩
  | 32 => ⟨S_, .f32⟩
  | 33 => ⟨S64x128x128, .f32⟩
  | 34 => ⟨S8192x1, .i32⟩
  | 35 => ⟨S64x128x128, .f32⟩
  | 36 => ⟨S_, .f32⟩
  | 37 => ⟨S128x128, .f32⟩
  | 38 => ⟨S128x128, .f32⟩
  | 39 => ⟨S1x128x128, .f32⟩
  | 40 => ⟨S64x128x128, .f32⟩
  | 41 => ⟨S64x128x128, .f32⟩
  | 42 => ⟨S128x128, .i32⟩
  | 43 => ⟨S128x128, .i32⟩
  | 44 => ⟨S_, .i32⟩
  | 45 => ⟨S128x128, .i32⟩
  | 46 => ⟨S128x128, .i32⟩
  | 47 => ⟨S128x128, .i1⟩
  | 48 => ⟨S_, .f32⟩
  | 49 => ⟨S64x128x128, .f32⟩
  | 50 => ⟨S64x128x128, .i1⟩
  | 51 => ⟨S64x128x128, .f32⟩
  | 52 => ⟨S_, .f32⟩
  | 53 => ⟨S64, .f32⟩
  | 54 => ⟨S64x1x1, .f32⟩
  | 55 => ⟨S64x128x128, .f32⟩
  | 56 => ⟨S64x128x128, .f32⟩
  | 57 => ⟨S64x128x128, .f32⟩
  | 58 => ⟨S_, .f32⟩
  | 59 => ⟨S128x128, .f32⟩
  | 60 => ⟨S128x128, .f32⟩
  | 61 => ⟨S64x128x128, .f32⟩
  | 62 => ⟨S1x128x128, .f32⟩
  | 63 => ⟨S64x128x128, .f32⟩
  | 64 => ⟨S64x128x128, .f32⟩
  | 65 => ⟨S_, .f32⟩
  | 66 => ⟨S64x128x128, .f32⟩
  | 67 => ⟨S64x128x128, .f32⟩
  | 68 => ⟨S64x128x128, .f32⟩
  | 69 => ⟨S64x128x128, .f32⟩
  | 70 => ⟨S_, .f32⟩
  | 71 => ⟨S128x128, .f32⟩
  | 72 => ⟨S128x128, .f32⟩
  | 73 => ⟨S64x128x128, .f32⟩
  | 74 => ⟨S1x128x128, .f32⟩
  | 75 => ⟨S64x128x128, .f32⟩
  | 76 => ⟨S64x128x128, .f32⟩
  | 77 => ⟨S_, .f32⟩
  | 78 => ⟨S64x128x128, .f32⟩
  | 79 => ⟨S64x128x128, .f32⟩
  | 80 => ⟨S64x128x128, .f32⟩
  | 81 => ⟨S64x128x128, .f32⟩
  | 82 => ⟨S_, .f32⟩
  | 83 => ⟨S128x128, .f32⟩
  | 84 => ⟨S128x128, .f32⟩
  | 85 => ⟨S64x128x128, .f32⟩
  | 86 => ⟨S1x128x128, .f32⟩
  | 87 => ⟨S64x128x128, .f32⟩
  | 88 => ⟨S64x128x128, .f32⟩
  | 89 => ⟨S_, .f32⟩
  | 90 => ⟨S64x128x128, .f32⟩
  | 91 => ⟨S64x128x128, .f32⟩
  | 92 => ⟨S64x128x128, .f32⟩
  | 93 => ⟨S64x128x128, .f32⟩
  | 94 => ⟨S_, .f32⟩
  | 95 => ⟨S128x128, .f32⟩
  | 96 => ⟨S128x128, .f32⟩
  | 97 => ⟨S64x128x128, .f32⟩
  | 98 => ⟨S1x128x128, .f32⟩
  | 99 => ⟨S64x128x128, .f32⟩
  | 100 => ⟨S64x128x128, .f32⟩
  | 101 => ⟨S_, .f32⟩
  | 102 => ⟨S64x128x128, .f32⟩
  | 103 => ⟨S64x128x128, .f32⟩
  | 104 => ⟨S64x128x128, .f32⟩
  | 105 => ⟨S64x128x128, .f32⟩
  | 106 => ⟨S_, .f32⟩
  | 107 => ⟨S128x128, .f32⟩
  | 108 => ⟨S128x128, .f32⟩
  | 109 => ⟨S64x128x128, .f32⟩
  | 110 => ⟨S1x128x128, .f32⟩
  | 111 => ⟨S64x128x128, .f32⟩
  | 112 => ⟨S64x128x128, .f32⟩
  | 113 => ⟨S_, .f32⟩
  | 114 => ⟨S64x128x128, .f32⟩
  | 115 => ⟨S64x128x128, .f32⟩
  | 116 => ⟨S64x128x128, .f32⟩
  | 117 => ⟨S64x128x128, .f32⟩
  | 118 => ⟨S_, .f32⟩
  | 119 => ⟨S128x128, .f32⟩
  | 120 => ⟨S128x128, .i32⟩
  | 121 => ⟨S_, .i32⟩
  | 122 => ⟨S128x128, .i32⟩
  | 123 => ⟨S128x128, .i32⟩
  | 124 => ⟨S128x128, .i32⟩
  | 125 => ⟨S128x128, .i1⟩
  | 126 => ⟨S_, .f32⟩
  | 127 => ⟨S128x128, .f32⟩
  | _ => ⟨S65, .i32⟩

abbrev hbmTy0_1 (i : Nat) : BufTy := match i % 128 with
  | 0 => ⟨S128x128, .f32⟩
  | 1 => ⟨S16384, .f32⟩
  | 2 => ⟨S_, .f32⟩
  | 3 => ⟨S16384, .f32⟩
  | 4 => ⟨S16384, .i1⟩
  | 5 => ⟨S16384, .i32⟩
  | 6 => ⟨S_, .i32⟩
  | 7 => ⟨S_, .i32⟩
  | 8 => ⟨S16384, .i32⟩
  | 9 => ⟨S_, .i32⟩
  | 10 => ⟨S8256, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S_, .i32⟩
  | 20 => ⟨S16384, .i32⟩
  | 21 => ⟨S8256, .i32⟩
  | 22 => ⟨S_, .i32⟩
  | 23 => ⟨S_, .i32⟩
  | 24 => ⟨S8256, .i32⟩
  | 25 => ⟨S_, .i32⟩
  | 26 => ⟨S_, .i32⟩
  | 27 => ⟨S8256, .i32⟩
  | 28 => ⟨S8256, .i32⟩
  | 29 => ⟨S8256, .i32⟩
  | 30 => ⟨S_, .i32⟩
  | 31 => ⟨S8256, .i32⟩
  | 32 => ⟨S8256, .i1⟩
  | 33 => ⟨S8256, .i32⟩
  | 34 => ⟨S8256, .i32⟩
  | 35 => ⟨S_, .i32⟩
  | 36 => ⟨S8256, .i32⟩
  | 37 => ⟨S8256, .i1⟩
  | 38 => ⟨S8256, .i1⟩
  | 39 => ⟨S_, .i32⟩
  | 40 => ⟨S8256, .i32⟩
  | 41 => ⟨S8256, .i32⟩
  | 42 => ⟨S8256, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S8256, .i32⟩
  | 50 => ⟨S8256, .i32⟩
  | 51 => ⟨S_, .i32⟩
  | 52 => ⟨S8256, .i32⟩
  | 53 => ⟨S8256, .i1⟩
  | 54 => ⟨S_, .i32⟩
  | 55 => ⟨S8256, .i32⟩
  | 56 => ⟨S8256, .i1⟩
  | 57 => ⟨S_, .i32⟩
  | 58 => ⟨S_, .i1⟩
  | 59 => ⟨S8256, .i1⟩
  | 60 => ⟨S8256, .i1⟩
  | 61 => ⟨S8256, .i1⟩
  | 62 => ⟨S8256, .i32⟩
  | 63 => ⟨S8256, .i32⟩
  | 64 => ⟨S8256, .i32⟩
  | 65 => ⟨S_, .i32⟩
  | 66 => ⟨S_, .i32⟩
  | 67 => ⟨S8256, .i32⟩
  | 68 => ⟨S8256, .i32⟩
  | 69 => ⟨S8256, .i32⟩
  | 70 => ⟨S_, .i32⟩
  | 71 => ⟨S8256, .i32⟩
  | 72 => ⟨S8256, .i1⟩
  | 73 => ⟨S8256, .i32⟩
  | 74 => ⟨S8256, .i32⟩
  | 75 => ⟨S_, .i32⟩
  | 76 => ⟨S8256, .i32⟩
  | 77 => ⟨S8256, .i1⟩
  | 78 => ⟨S8256, .i1⟩
  | 79 => ⟨S_, .i32⟩
  | 80 => ⟨S8256, .i32⟩
  | 81 => ⟨S8256, .i32⟩
  | 82 => ⟨S8256, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S8256, .i32⟩
  | 90 => ⟨S8256, .i32⟩
  | 91 => ⟨S_, .i32⟩
  | 92 => ⟨S8256, .i32⟩
  | 93 => ⟨S8256, .i1⟩
  | 94 => ⟨S_, .i32⟩
  | 95 => ⟨S8256, .i32⟩
  | 96 => ⟨S8256, .i1⟩
  | 97 => ⟨S_, .i32⟩
  | 98 => ⟨S_, .i1⟩
  | 99 => ⟨S8256, .i1⟩
  | 100 => ⟨S8256, .i1⟩
  | 101 => ⟨S8256, .i1⟩
  | 102 => ⟨S8256, .i32⟩
  | 103 => ⟨S8256, .i32⟩
  | 104 => ⟨S8256, .i32⟩
  | 105 => ⟨S16384, .i32⟩
  | 106 => ⟨S_, .i32⟩
  | 107 => ⟨S_, .i32⟩
  | 108 => ⟨S1, .i32⟩
  | 109 => ⟨S8256, .i32⟩
  | 110 => ⟨S8256, .i32⟩
  | 111 => ⟨S8256, .i1⟩
  | 112 => ⟨S_, .i32⟩
  | 113 => ⟨S_, .i32⟩
  | 114 => ⟨S8256, .i32⟩
  | 115 => ⟨S8256, .i32⟩
  | 116 => ⟨S_, .i32⟩
  | 117 => ⟨S_, .i32⟩
  | 118 => ⟨S8256, .i32⟩
  | 119 => ⟨S8256, .i32⟩
  | 120 => ⟨S64x1x1, .f32⟩
  | 121 => ⟨S64x128x128, .f32⟩
  | 122 => ⟨S64x128x128, .f32⟩
  | 123 => ⟨S_, .i32⟩
  | 124 => ⟨S8256, .i32⟩
  | 125 => ⟨S8256, .i1⟩
  | 126 => ⟨S_, .i32⟩
  | 127 => ⟨S8256, .i32⟩
  | _ => ⟨S65, .i32⟩

abbrev hbmTy0_2 (i : Nat) : BufTy := match i % 128 with
  | 0 => ⟨S8256, .i32⟩
  | 1 => ⟨S8256, .i32⟩
  | 2 => ⟨S_, .i32⟩
  | 3 => ⟨S8256, .i32⟩
  | 4 => ⟨S8256, .i1⟩
  | 5 => ⟨S_, .i32⟩
  | 6 => ⟨S8256, .i32⟩
  | 7 => ⟨S8256, .i32⟩
  | 8 => ⟨S8256, .i32⟩
  | 9 => ⟨S8256x1, .i32⟩
  | 10 => ⟨S8256x1, .i32⟩
  | 11 => ⟨S8256x2, .i32⟩
  | 12 => ⟨S64x8256, .f32⟩
  | _ => ⟨S65, .i32⟩

abbrev hbmTy (i : Nat) : BufTy := match i / 128 with
  | 0 => hbmTy0_0 i
  | 1 => hbmTy0_1 i
  | 2 => hbmTy0_2 i
  | _ => ⟨S65, .i32⟩

abbrev bufTy : (tb : Table) → Fin (tcTables nBuf tb) → BufTy
  | .hbm, ⟨i, _⟩ => hbmTy i
  | _, _ => ⟨S65, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_c : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_call0_call0_v0 : Ref sig .tc := ⟨.hbm, 50, rfl⟩
abbrev main_call0_v6 : Ref sig .tc := ⟨.hbm, 51, rfl⟩
abbrev main_call0_cst_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_call1_v0 : Ref sig .tc := ⟨.hbm, 120, rfl⟩
abbrev main_call1_c : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_cst : Ref sig .tc := ⟨.hbm, 126, rfl⟩
abbrev main_call1_v5 : Ref sig .tc := ⟨.hbm, 127, rfl⟩
abbrev main_v88 : Ref sig .tc := ⟨.hbm, 128, rfl⟩
abbrev main_v89 : Ref sig .tc := ⟨.hbm, 129, rfl⟩
abbrev main_cst_14 : Ref sig .tc := ⟨.hbm, 130, rfl⟩
abbrev main_v90 : Ref sig .tc := ⟨.hbm, 131, rfl⟩
abbrev main_v91 : Ref sig .tc := ⟨.hbm, 132, rfl⟩
abbrev main_call2_v0 : Ref sig .tc := ⟨.hbm, 133, rfl⟩
abbrev main_call2_call0_c : Ref sig .tc := ⟨.hbm, 134, rfl⟩
abbrev main_call2_call0_v0 : Ref sig .tc := ⟨.hbm, 135, rfl⟩
abbrev main_v92 : Ref sig .tc := ⟨.hbm, 136, rfl⟩
abbrev main_c_15 : Ref sig .tc := ⟨.hbm, 137, rfl⟩
abbrev main_v93 : Ref sig .tc := ⟨.hbm, 138, rfl⟩
abbrev main_c_16 : Ref sig .tc := ⟨.hbm, 139, rfl⟩
abbrev main_v94 : Ref sig .tc := ⟨.hbm, 140, rfl⟩
abbrev main_v95 : Ref sig .tc := ⟨.hbm, 141, rfl⟩
abbrev main_c_17 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_18 : Ref sig .tc := ⟨.hbm, 147, rfl⟩
abbrev main_v100 : Ref sig .tc := ⟨.hbm, 148, rfl⟩
abbrev main_v101 : Ref sig .tc := ⟨.hbm, 149, rfl⟩
abbrev main_call3_call0_c : Ref sig .tc := ⟨.hbm, 150, rfl⟩
abbrev main_call3_call0_v0 : Ref sig .tc := ⟨.hbm, 151, rfl⟩
abbrev main_v102 : Ref sig .tc := ⟨.hbm, 152, rfl⟩
abbrev main_c_19 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_c : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_call4_c_0 : Ref sig .tc := ⟨.hbm, 167, rfl⟩
abbrev main_call4_v12 : Ref sig .tc := ⟨.hbm, 168, rfl⟩
abbrev main_call4_v13 : Ref sig .tc := ⟨.hbm, 169, rfl⟩
abbrev main_v103 : Ref sig .tc := ⟨.hbm, 170, rfl⟩
abbrev main_c_20 : Ref sig .tc := ⟨.hbm, 171, rfl⟩
abbrev main_call5_v0 : Ref sig .tc := ⟨.hbm, 172, rfl⟩
abbrev main_call5_c : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_c_1 : Ref sig .tc := ⟨.hbm, 179, rfl⟩
abbrev main_call5_v5 : Ref sig .tc := ⟨.hbm, 180, rfl⟩
abbrev main_call5_v6 : Ref sig .tc := ⟨.hbm, 181, rfl⟩
abbrev main_call5_c_2 : Ref sig .tc := ⟨.hbm, 182, rfl⟩
abbrev main_call5_v7 : Ref sig .tc := ⟨.hbm, 183, rfl⟩
abbrev main_call5_v8 : Ref sig .tc := ⟨.hbm, 184, rfl⟩
abbrev main_call5_c_3 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_v12 : Ref sig .tc := ⟨.hbm, 189, rfl⟩
abbrev main_call5_v13 : Ref sig .tc := ⟨.hbm, 190, rfl⟩
abbrev main_call5_v14 : Ref sig .tc := ⟨.hbm, 191, rfl⟩
abbrev main_v104 : Ref sig .tc := ⟨.hbm, 192, rfl⟩
abbrev main_c_21 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_v5 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_call6_c : Ref sig .tc := ⟨.hbm, 203, rfl⟩
abbrev main_call6_v9 : Ref sig .tc := ⟨.hbm, 204, rfl⟩
abbrev main_call6_v10 : Ref sig .tc := ⟨.hbm, 205, rfl⟩
abbrev main_call6_v11 : Ref sig .tc := ⟨.hbm, 206, rfl⟩
abbrev main_call6_c_0 : Ref sig .tc := ⟨.hbm, 207, rfl⟩
abbrev main_call6_v12 : Ref sig .tc := ⟨.hbm, 208, rfl⟩
abbrev main_call6_v13 : Ref sig .tc := ⟨.hbm, 209, rfl⟩
abbrev main_v105 : Ref sig .tc := ⟨.hbm, 210, rfl⟩
abbrev main_c_22 : Ref sig .tc := ⟨.hbm, 211, rfl⟩
abbrev main_call7_v0 : Ref sig .tc := ⟨.hbm, 212, rfl⟩
abbrev main_call7_c : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_c_1 : Ref sig .tc := ⟨.hbm, 219, rfl⟩
abbrev main_call7_v5 : Ref sig .tc := ⟨.hbm, 220, rfl⟩
abbrev main_call7_v6 : Ref sig .tc := ⟨.hbm, 221, rfl⟩
abbrev main_call7_c_2 : Ref sig .tc := ⟨.hbm, 222, rfl⟩
abbrev main_call7_v7 : Ref sig .tc := ⟨.hbm, 223, rfl⟩
abbrev main_call7_v8 : Ref sig .tc := ⟨.hbm, 224, rfl⟩
abbrev main_call7_c_3 : Ref sig .tc := ⟨.hbm, 225, rfl⟩
abbrev main_call7_v9 : Ref sig .tc := ⟨.hbm, 226, rfl⟩
abbrev main_call7_v10 : Ref sig .tc := ⟨.hbm, 227, rfl⟩
abbrev main_call7_v11 : Ref sig .tc := ⟨.hbm, 228, rfl⟩
abbrev main_call7_v12 : Ref sig .tc := ⟨.hbm, 229, rfl⟩
abbrev main_call7_v13 : Ref sig .tc := ⟨.hbm, 230, rfl⟩
abbrev main_call7_v14 : Ref sig .tc := ⟨.hbm, 231, rfl⟩
abbrev main_v106 : Ref sig .tc := ⟨.hbm, 232, rfl⟩
abbrev main_v107 : Ref sig .tc := ⟨.hbm, 233, rfl⟩
abbrev main_c_23 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_c_24 : Ref sig .tc := ⟨.hbm, 240, rfl⟩
abbrev main_call8_v0 : Ref sig .tc := ⟨.hbm, 241, rfl⟩
abbrev main_call8_v1 : Ref sig .tc := ⟨.hbm, 242, rfl⟩
abbrev main_v113 : Ref sig .tc := ⟨.hbm, 243, rfl⟩
abbrev main_c_25 : Ref sig .tc := ⟨.hbm, 244, rfl⟩
abbrev main_call9_v0 : Ref sig .tc := ⟨.hbm, 245, rfl⟩
abbrev main_call9_v1 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_c_26 : Ref sig .tc := ⟨.hbm, 251, rfl⟩
abbrev main_v118 : Ref sig .tc := ⟨.hbm, 252, rfl⟩
abbrev main_v119 : Ref sig .tc := ⟨.hbm, 253, rfl⟩
abbrev main_c_27 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_c_28 : Ref sig .tc := ⟨.hbm, 258, rfl⟩
abbrev main_v123 : Ref sig .tc := ⟨.hbm, 259, rfl⟩
abbrev main_v124 : Ref sig .tc := ⟨.hbm, 260, rfl⟩
abbrev main_c_29 : Ref sig .tc := ⟨.hbm, 261, rfl⟩
abbrev main_v125 : Ref sig .tc := ⟨.hbm, 262, rfl⟩
abbrev main_v126 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩

abbrev nD : Nat := 1
abbrev τ : Topo := Topo.v7x

variable {F : FTy → Type} [FloatOps F]
-- ==== Weights.lean ====
abbrev S8192x128 : Shape := ⟨2, ![8192, 128]⟩
abbrev S1x8256 : Shape := ⟨2, ![1, 8256]⟩
abbrev S1x8192 : Shape := ⟨2, ![1, 8192]⟩
abbrev S128x8192 : Shape := ⟨2, ![128, 8192]⟩
abbrev S1x128 : Shape := ⟨2, ![1, 128]⟩
abbrev S1x64 : Shape := ⟨2, ![1, 64]⟩
abbrev S128x128 : Shape := ⟨2, ![128, 128]⟩
abbrev S8192 : Shape := ⟨1, ![8192]⟩
abbrev S1 : Shape := ⟨1, ![1]⟩
abbrev S1x1 : Shape := ⟨2, ![1, 1]⟩
abbrev S64x1 : Shape := ⟨2, ![64, 1]⟩
abbrev S64x8192 : Shape := ⟨2, ![64, 8192]⟩
abbrev S64 : Shape := ⟨1, ![64]⟩
abbrev S64x128 : Shape := ⟨2, ![64, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S1x8256, .f32⟩
  | .hbm, ⟨2, _⟩ => ⟨S1x8192, .i32⟩
  | .hbm, ⟨3, _⟩ => ⟨S128x8192, .f32⟩
  | .hbm, ⟨4, _⟩ => ⟨S1x128, .i32⟩
  | .hbm, ⟨5, _⟩ => ⟨S1x64, .f32⟩
  | .local _ .vmem, ⟨0, _⟩ => ⟨S8192x128, .f32⟩
  | .local _ .vmem, ⟨1, _⟩ => ⟨S1x8256, .f32⟩
  | .local _ .vmem, ⟨2, _⟩ => ⟨S1x8192, .i32⟩
  | .local _ .vmem, ⟨3, _⟩ => ⟨S128x8192, .f32⟩
  | .local _ .vmem, ⟨4, _⟩ => ⟨S1x128, .i32⟩
  | .local _ .vmem, ⟨5, _⟩ => ⟨S1x64, .f32⟩
  | .local _ .vmem, ⟨6, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== WeightsReferenceIdeal.lean ====
abbrev S8192x128 : Shape := ⟨2, ![8192, 128]⟩
abbrev S1x8256 : Shape := ⟨2, ![1, 8256]⟩
abbrev S1x8192 : Shape := ⟨2, ![1, 8192]⟩
abbrev S8192 : Shape := ⟨1, ![8192]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S8256 : Shape := ⟨1, ![8256]⟩
abbrev S128x128x1 : Shape := ⟨3, ![128, 128, 1]⟩
abbrev S8192x128x1 : Shape := ⟨3, ![8192, 128, 1]⟩
abbrev S8192x1x128 : Shape := ⟨3, ![8192, 1, 128]⟩
abbrev S8192x128x128 : Shape := ⟨3, ![8192, 128, 128]⟩
abbrev S1x128x128 : Shape := ⟨3, ![1, 128, 128]⟩
abbrev S64 : Shape := ⟨1, ![64]⟩
abbrev S64x1 : Shape := ⟨2, ![64, 1]⟩
abbrev S64x8192 : Shape := ⟨2, ![64, 8192]⟩
abbrev S64x128 : Shape := ⟨2, ![64, 128]⟩
abbrev S8192x1 : Shape := ⟨2, ![8192, 1]⟩
abbrev S128x8192 : Shape := ⟨2, ![128, 8192]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x8256, .f32⟩
  | .hbm, ⟨2, _⟩ => ⟨S1x8192, .i32⟩
  | .hbm, ⟨3, _⟩ => ⟨S8192, .i32⟩
  | .hbm, ⟨4, _⟩ => ⟨S128, .i32⟩
  | .hbm, ⟨5, _⟩ => ⟨S128x1, .i32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x1, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S128x1, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S8256, .f32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S_, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i1⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S128x128, .f32⟩
  | .hbm, ⟨44, _⟩ => ⟨S_, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S8192x128x1, .f32⟩
  | .hbm, ⟨49, _⟩ => ⟨S8192x1x128, .f32⟩
  | .hbm, ⟨50, _⟩ => ⟨S8192x128x128, .f32⟩
  | .hbm, ⟨51, _⟩ => ⟨S8192x128x128, .f32⟩
  | .hbm, ⟨52, _⟩ => ⟨S8192x128x128, .f32⟩
  | .hbm, ⟨53, _⟩ => ⟨S1x128x128, .f32⟩
  | .hbm, ⟨54, _⟩ => ⟨S8192x128x128, .f32⟩
  | .hbm, ⟨55, _⟩ => ⟨S8192x128x128, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S1x8192, .i32⟩
  | .hbm, ⟨64, _⟩ => ⟨S64, .i32⟩
  | .hbm, ⟨65, _⟩ => ⟨S64x1, .i32⟩
  | .hbm, ⟨66, _⟩ => ⟨S64x8192, .i32⟩
  | .hbm, ⟨67, _⟩ => ⟨S64x8192, .i32⟩
  | .hbm, ⟨68, _⟩ => ⟨S64x8192, .i1⟩
  | .hbm, ⟨69, _⟩ => ⟨S1x8192, .f32⟩
  | .hbm, ⟨70, _⟩ => ⟨S_, .f32⟩
  | .hbm, ⟨71, _⟩ => ⟨S_, .f32⟩
  | .hbm, ⟨72, _⟩ => ⟨S64x8192, .f32⟩
  | .hbm, ⟨73, _⟩ => ⟨S64x8192, .f32⟩
  | .hbm, ⟨74, _⟩ => ⟨S64x8192, .f32⟩
  | .hbm, ⟨75, _⟩ => ⟨S_, .f32⟩
  | .hbm, ⟨76, _⟩ => ⟨S64, .f32⟩
  | .hbm, ⟨77, _⟩ => ⟨S64x8192, .i32⟩
  | .hbm, ⟨78, _⟩ => ⟨S_, .i32⟩
  | .hbm, ⟨79, _⟩ => ⟨S64, .i32⟩
  | .hbm, ⟨80, _⟩ => ⟨S64, .i32⟩
  | .hbm, ⟨81, _⟩ => ⟨S64x1, .i32⟩
  | .hbm, ⟨82, _⟩ => ⟨S128, .i32⟩
  | .hbm, ⟨83, _⟩ => ⟨S1x128, .i32⟩
  | .hbm, ⟨84, _⟩ => ⟨S64x128, .i32⟩
  | .hbm, ⟨85, _⟩ => ⟨S64x128, .i32⟩
  | .hbm, ⟨86, _⟩ => ⟨S64x128, .i1⟩
  | .hbm, ⟨87, _⟩ => ⟨S64x1, .i32⟩
  | .hbm, ⟨88, _⟩ => ⟨S_, .i32⟩
  | .hbm, ⟨89, _⟩ => ⟨S_, .i32⟩
  | .hbm, ⟨90, _⟩ => ⟨S64x128, .i32⟩
  | .hbm, ⟨91, _⟩ => ⟨S64x128, .i32⟩
  | .hbm, ⟨92, _⟩ => ⟨S64x128, .i32⟩
  | .hbm, ⟨93, _⟩ => ⟨S_, .i32⟩
  | .hbm, ⟨94, _⟩ => ⟨S128, .i32⟩
  | .hbm, ⟨95, _⟩ => ⟨S8192x1, .f32⟩
  | .hbm, ⟨96, _⟩ => ⟨S8192x128, .f32⟩
  | .hbm, ⟨97, _⟩ => ⟨S8192x128, .f32⟩
  | .hbm, ⟨98, _⟩ => ⟨S128x8192, .f32⟩
  | .hbm, ⟨99, _⟩ => ⟨S1x128, .i32⟩
  | .hbm, ⟨100, _⟩ => ⟨S1x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_10 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== WholeIdeal.lean ====
abbrev S8192x128 : Shape := ⟨2, ![8192, 128]⟩
abbrev S8256x1 : Shape := ⟨2, ![8256, 1]⟩
abbrev S1 : Shape := ⟨1, ![1]⟩
abbrev S8192 : Shape := ⟨1, ![8192]⟩
abbrev S2x131072 : Shape := ⟨2, ![2, 131072]⟩
abbrev S1x8256 : Shape := ⟨2, ![1, 8256]⟩
abbrev S1x8192 : Shape := ⟨2, ![1, 8192]⟩
abbrev S128x8192 : Shape := ⟨2, ![128, 8192]⟩
abbrev S1x128 : Shape := ⟨2, ![1, 128]⟩
abbrev S1x64 : Shape := ⟨2, ![1, 64]⟩
abbrev S128x128 : Shape := ⟨2, ![128, 128]⟩
abbrev S1x1 : Shape := ⟨2, ![1, 1]⟩
abbrev S64x1 : Shape := ⟨2, ![64, 1]⟩
abbrev S64x8192 : Shape := ⟨2, ![64, 8192]⟩
abbrev S64 : Shape := ⟨1, ![64]⟩
abbrev S64x128 : Shape := ⟨2, ![64, 128]⟩
abbrev S128 : Shape := ⟨1, ![128]⟩
abbrev S65 : Shape := ⟨1, ![65]⟩
abbrev S64x128x128 : Shape := ⟨3, ![64, 128, 128]⟩
abbrev S8x128x128 : Shape := ⟨3, ![8, 128, 128]⟩
abbrev S1x1024 : Shape := ⟨2, ![1, 1024]⟩
abbrev S128x1024 : Shape := ⟨2, ![128, 1024]⟩
abbrev S1024x128 : Shape := ⟨2, ![1024, 128]⟩
abbrev S1x128x128 : Shape := ⟨3, ![1, 128, 128]⟩
abbrev S1x1x1 : Shape := ⟨3, ![1, 1, 1]⟩
abbrev S_ : Shape := ⟨0, ![]⟩
abbrev S16384 : Shape := ⟨1, ![16384]⟩
abbrev S8256 : Shape := ⟨1, ![8256]⟩
abbrev S16384x1 : Shape := ⟨2, ![16384, 1]⟩
abbrev S64x16384 : Shape := ⟨2, ![64, 16384]⟩
abbrev S64x8256 : Shape := ⟨2, ![64, 8256]⟩

abbrev nBuf : Space → Nat
  | .hbm => 156
  | .vmem => 13
  | .smem => 1
  | _ => 0

abbrev hbmTy0_0 (i : Nat) : BufTy := match i % 128 with
  | 0 => ⟨S8192x128, .f32⟩
  | 1 => ⟨S8256x1, .f32⟩
  | 2 => ⟨S1, .f32⟩
  | 3 => ⟨S8192, .i32⟩
  | 4 => ⟨S2x131072, .i32⟩
  | 5 => ⟨S1x8256, .f32⟩
  | 6 => ⟨S1x8192, .i32⟩
  | 7 => ⟨S128x8192, .f32⟩
  | 8 => ⟨S1x128, .i32⟩
  | 9 => ⟨S1x64, .f32⟩
  | 10 => ⟨S128, .i32⟩
  | 11 => ⟨S64x128x128, .f32⟩
  | 12 => ⟨S_, .f32⟩
  | 13 => ⟨S128x128, .f32⟩
  | 14 => ⟨S128x128, .i32⟩
  | 15 => ⟨S_, .i32⟩
  | 16 => ⟨S128x128, .i32⟩
  | 17 => ⟨S128x128, .i32⟩
  | 18 => ⟨S128x128, .i32⟩
  | 19 => ⟨S128x128, .i1⟩
  | 20 => ⟨S_, .f32⟩
  | 21 => ⟨S128x128, .f32⟩
  | 22 => ⟨S128x128, .f32⟩
  | 23 => ⟨S16384, .f32⟩
  | 24 => ⟨S_, .f32⟩
  | 25 => ⟨S16384, .f32⟩
  | 26 => ⟨S16384, .i1⟩
  | 27 => ⟨S16384, .i32⟩
  | 28 => ⟨S_, .i32⟩
  | 29 => ⟨S_, .i32⟩
  | 30 => ⟨S16384, .i32⟩
  | 31 => ⟨S_, .i32⟩
  | 32 => ⟨S8256, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S_, .i32⟩
  | 42 => ⟨S16384, .i32⟩
  | 43 => ⟨S8256, .i32⟩
  | 44 => ⟨S_, .i32⟩
  | 45 => ⟨S_, .i32⟩
  | 46 => ⟨S8256, .i32⟩
  | 47 => ⟨S_, .i32⟩
  | 48 => ⟨S_, .i32⟩
  | 49 => ⟨S8256, .i32⟩
  | 50 => ⟨S8256, .i32⟩
  | 51 => ⟨S8256, .i32⟩
  | 52 => ⟨S_, .i32⟩
  | 53 => ⟨S8256, .i32⟩
  | 54 => ⟨S8256, .i1⟩
  | 55 => ⟨S8256, .i32⟩
  | 56 => ⟨S8256, .i32⟩
  | 57 => ⟨S_, .i32⟩
  | 58 => ⟨S8256, .i32⟩
  | 59 => ⟨S8256, .i1⟩
  | 60 => ⟨S8256, .i1⟩
  | 61 => ⟨S_, .i32⟩
  | 62 => ⟨S8256, .i32⟩
  | 63 => ⟨S8256, .i32⟩
  | 64 => ⟨S8256, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S8256, .i32⟩
  | 72 => ⟨S8256, .i32⟩
  | 73 => ⟨S_, .i32⟩
  | 74 => ⟨S8256, .i32⟩
  | 75 => ⟨S8256, .i1⟩
  | 76 => ⟨S_, .i32⟩
  | 77 => ⟨S8256, .i32⟩
  | 78 => ⟨S8256, .i1⟩
  | 79 => ⟨S_, .i32⟩
  | 80 => ⟨S_, .i1⟩
  | 81 => ⟨S8256, .i1⟩
  | 82 => ⟨S8256, .i1⟩
  | 83 => ⟨S8256, .i1⟩
  | 84 => ⟨S8256, .i32⟩
  | 85 => ⟨S8256, .i32⟩
  | 86 => ⟨S8256, .i32⟩
  | 87 => ⟨S_, .i32⟩
  | 88 => ⟨S_, .i32⟩
  | 89 => ⟨S8256, .i32⟩
  | 90 => ⟨S8256, .i32⟩
  | 91 => ⟨S8256, .i32⟩
  | 92 => ⟨S_, .i32⟩
  | 93 => ⟨S8256, .i32⟩
  | 94 => ⟨S8256, .i1⟩
  | 95 => ⟨S8256, .i32⟩
  | 96 => ⟨S8256, .i32⟩
  | 97 => ⟨S_, .i32⟩
  | 98 => ⟨S8256, .i32⟩
  | 99 => ⟨S8256, .i1⟩
  | 100 => ⟨S8256, .i1⟩
  | 101 => ⟨S_, .i32⟩
  | 102 => ⟨S8256, .i32⟩
  | 103 => ⟨S8256, .i32⟩
  | 104 => ⟨S8256, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8256, .i32⟩
  | 112 => ⟨S8256, .i32⟩
  | 113 => ⟨S_, .i32⟩
  | 114 => ⟨S8256, .i32⟩
  | 115 => ⟨S8256, .i1⟩
  | 116 => ⟨S_, .i32⟩
  | 117 => ⟨S8256, .i32⟩
  | 118 => ⟨S8256, .i1⟩
  | 119 => ⟨S_, .i32⟩
  | 120 => ⟨S_, .i1⟩
  | 121 => ⟨S8256, .i1⟩
  | 122 => ⟨S8256, .i1⟩
  | 123 => ⟨S8256, .i1⟩
  | 124 => ⟨S8256, .i32⟩
  | 125 => ⟨S8256, .i32⟩
  | 126 => ⟨S8256, .i32⟩
  | 127 => ⟨S16384, .i32⟩
  | _ => ⟨S8192x128, .f32⟩

abbrev hbmTy0_1 (i : Nat) : BufTy := match i % 128 with
  | 0 => ⟨S_, .i32⟩
  | 1 => ⟨S_, .i32⟩
  | 2 => ⟨S1, .i32⟩
  | 3 => ⟨S8256, .i32⟩
  | 4 => ⟨S8256, .i32⟩
  | 5 => ⟨S8256, .i1⟩
  | 6 => ⟨S_, .i32⟩
  | 7 => ⟨S_, .i32⟩
  | 8 => ⟨S8256, .i32⟩
  | 9 => ⟨S8256, .i32⟩
  | 10 => ⟨S_, .i32⟩
  | 11 => ⟨S_, .i32⟩
  | 12 => ⟨S8256, .i32⟩
  | 13 => ⟨S8256, .i32⟩
  | 14 => ⟨S64x16384, .f32⟩
  | 15 => ⟨S_, .i32⟩
  | 16 => ⟨S8256, .i32⟩
  | 17 => ⟨S8256, .i32⟩
  | 18 => ⟨S8256, .i32⟩
  | 19 => ⟨S_, .i32⟩
  | 20 => ⟨S8256, .i32⟩
  | 21 => ⟨S8256, .i1⟩
  | 22 => ⟨S_, .i32⟩
  | 23 => ⟨S8256, .i32⟩
  | 24 => ⟨S8256, .i32⟩
  | 25 => ⟨S8256, .i32⟩
  | 26 => ⟨S8256x1, .i32⟩
  | 27 => ⟨S64x8256, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S1x8256, .f32⟩
  | .local _ .vmem, ⟨2, _⟩ => ⟨S1x8192, .i32⟩
  | .local _ .vmem, ⟨3, _⟩ => ⟨S128x8192, .f32⟩
  | .local _ .vmem, ⟨4, _⟩ => ⟨S1x128, .i32⟩
  | .local _ .vmem, ⟨5, _⟩ => ⟨S1x64, .f32⟩
  | .local _ .vmem, ⟨6, _⟩ => ⟨S128x128, .f32⟩
  | .local _ .vmem, ⟨7, _⟩ => ⟨S128x8192, .f32⟩
  | .local _ .vmem, ⟨8, _⟩ => ⟨S8192x128, .f32⟩
  | .local _ .vmem, ⟨9, _⟩ => ⟨S1x8192, .i32⟩
  | .local _ .vmem, ⟨10, _⟩ => ⟨S1x64, .f32⟩
  | .local _ .vmem, ⟨11, _⟩ => ⟨S8x128x128, .f32⟩
  | .local _ .vmem, ⟨12, _⟩ => ⟨S8x128x128, .f32⟩
  | .local _ .smem, ⟨0, _⟩ => ⟨S65, .i32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_call0_c : Ref sig .tc := ⟨.hbm, 28, rfl⟩
abbrev main_call1_call0_v0 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_call2_call0_c : Ref sig .tc := ⟨.hbm, 44, rfl⟩
abbrev main_call2_call0_v0 : Ref sig .tc := ⟨.hbm, 45, rfl⟩
abbrev main_v21 : Ref sig .tc := ⟨.hbm, 46, rfl⟩
abbrev main_c_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v22 : Ref sig .tc := ⟨.hbm, 64, rfl⟩
abbrev main_c_5 : Ref sig .tc := ⟨.hbm, 65, rfl⟩
abbrev main_call4_v0 : Ref sig .tc := ⟨.hbm, 66, rfl⟩
abbrev main_call4_c : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_c_1 : Ref sig .tc := ⟨.hbm, 73, rfl⟩
abbrev main_call4_v5 : Ref sig .tc := ⟨.hbm, 74, rfl⟩
abbrev main_call4_v6 : Ref sig .tc := ⟨.hbm, 75, rfl⟩
abbrev main_call4_c_2 : Ref sig .tc := ⟨.hbm, 76, rfl⟩
abbrev main_call4_v7 : Ref sig .tc := ⟨.hbm, 77, rfl⟩
abbrev main_call4_v8 : Ref sig .tc := ⟨.hbm, 78, rfl⟩
abbrev main_call4_c_3 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_v23 : Ref sig .tc := ⟨.hbm, 86, rfl⟩
abbrev main_c_6 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v24 : Ref sig .tc := ⟨.hbm, 104, rfl⟩
abbrev main_c_7 : Ref sig .tc := ⟨.hbm, 105, rfl⟩
abbrev main_call6_v0 : Ref sig .tc := ⟨.hbm, 106, rfl⟩
abbrev main_call6_c : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_c_1 : Ref sig .tc := ⟨.hbm, 113, rfl⟩
abbrev main_call6_v5 : Ref sig .tc := ⟨.hbm, 114, rfl⟩
abbrev main_call6_v6 : Ref sig .tc := ⟨.hbm, 115, rfl⟩
abbrev main_call6_c_2 : Ref sig .tc := ⟨.hbm, 116, rfl⟩
abbrev main_call6_v7 : Ref sig .tc := ⟨.hbm, 117, rfl⟩
abbrev main_call6_v8 : Ref sig .tc := ⟨.hbm, 118, rfl⟩
abbrev main_call6_c_3 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_v12 : Ref sig .tc := ⟨.hbm, 123, rfl⟩
abbrev main_call6_v13 : Ref sig .tc := ⟨.hbm, 124, rfl⟩
abbrev main_call6_v14 : Ref sig .tc := ⟨.hbm, 125, rfl⟩
abbrev main_v25 : Ref sig .tc := ⟨.hbm, 126, rfl⟩
abbrev main_v26 : Ref sig .tc := ⟨.hbm, 127, rfl⟩
abbrev main_c_8 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_c_9 : Ref sig .tc := ⟨.hbm, 134, rfl⟩
abbrev main_call7_v0 : Ref sig .tc := ⟨.hbm, 135, rfl⟩
abbrev main_call7_v1 : Ref sig .tc := ⟨.hbm, 136, rfl⟩
abbrev main_v32 : Ref sig .tc := ⟨.hbm, 137, rfl⟩
abbrev main_c_10 : Ref sig .tc := ⟨.hbm, 138, rfl⟩
abbrev main_call8_v0 : Ref sig .tc := ⟨.hbm, 139, rfl⟩
abbrev main_call8_v1 : Ref sig .tc := ⟨.hbm, 140, rfl⟩
abbrev main_v33 : Ref sig .tc := ⟨.hbm, 141, rfl⟩
abbrev main_v34 : Ref sig .tc := ⟨.hbm, 142, rfl⟩
abbrev main_c_11 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_c_12 : Ref sig .tc := ⟨.hbm, 147, rfl⟩
abbrev main_v38 : Ref sig .tc := ⟨.hbm, 148, rfl⟩
abbrev main_v39 : Ref sig .tc := ⟨.hbm, 149, rfl⟩
abbrev main_c_13 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![8], ![false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v7 : BitVec 32 := Scalar.muli arg0 c8_i32
  let c0_i32_0 : BitVec 32 := 0#32
  let v8 : BitVec 32 := Scalar.addi v7 c0_i32_0
  let v9 : Index := Scalar.indexCast v8
  ![v9.toNat]
def k1_off2 (i : grid1.Coords) : Fin 1 → Nat :=
  let arg0 : BitVec 32 := BitVec.ofNat 32 (i 0).val
  let c8_i32 : BitVec 32 := 8#32
  let v7 : BitVec 32 := Scalar.muli arg0 c8_i32
  let c0_i32_0 : BitVec 32 := 0#32
  let v8 : BitVec 32 := Scalar.addi v7 c0_i32_0
  let c1_i32 : BitVec 32 := 1#32
  let v11 : BitVec 32 := Scalar.addi v8 c1_i32
  let v12 : Index := Scalar.indexCast v11
  ![v12.toNat]
@[reducible] def k1_t1_loop (v10 : BitVec 32) (v13 : BitVec 32) : Scf.Loop 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_5 : BitVec 32 := 1#32
  ⟨v14, v23, c1_i32_5⟩

def k1_mult1 (v10 : BitVec 32) (v13 : BitVec 32) (k1_t1 : Fin (k1_t1_loop v10 v13).trips) : BitVec 32 :=
  let c10_i32 : BitVec 32 := 10#32
  let v14 : BitVec 32 := Scalar.shrsi v10 c10_i32
  let c1_i32_5 : BitVec 32 := 1#32
  let arg7 : BitVec 32 := Scf.iv v14 c1_i32_5 k1_t1
  let c1024_i32 : BitVec 32 := 1024#32
  let v706 : BitVec 32 := Scalar.muli arg7 c1024_i32
  v706
def k1_off3 (v10 : BitVec 32) (v13 : BitVec 32) (k1_t1 : Fin (k1_t1_loop v10 v13).trips) : Fin 2 → Nat :=
  let c0_344 : Index := 0#32
  let c10_i32 : BitVec 32 := 10#32
  let v14 : BitVec 32 := Scalar.shrsi v10 c10_i32
  let c1_i32_5 : BitVec 32 := 1#32
  let arg7 : BitVec 32 := Scf.iv v14 c1_i32_5 k1_t1
  let c1024_i32 : BitVec 32 := 1024#32
  let v706 : BitVec 32 := Scalar.muli arg7 c1024_i32
  let v707 : BitVec 32 := v706
  let v708 : Index := Scalar.indexCast v707
  ![0, v708.toNat]
def k1_off4 (v10 : BitVec 32) (v13 : BitVec 32) (k1_t1 : Fin (k1_t1_loop v10 v13).trips) : Fin 2 → Nat :=
  let c0_345 : Index := 0#32
  let c10_i32 : BitVec 32 := 10#32
  let v14 : BitVec 32 := Scalar.shrsi v10 c10_i32
  let c1_i32_5 : BitVec 32 := 1#32
  let arg7 : BitVec 32 := Scf.iv v14 c1_i32_5 k1_t1
  let c1024_i32 : BitVec 32 := 1024#32
  let v706 : BitVec 32 := Scalar.muli arg7 c1024_i32
  let v707 : BitVec 32 := v706
  let v711 : Index := Scalar.indexCast v707
  ![0, v711.toNat]
def k1_off5 (v10 : BitVec 32) (v13 : BitVec 32) (k1_t1 : Fin (k1_t1_loop v10 v13).trips) : Fin 2 → Nat :=
  let c10_i32 : BitVec 32 := 10#32
  let v14 : BitVec 32 := Scalar.shrsi v10 c10_i32
  let c1_i32_5 : BitVec 32 := 1#32
  let arg7 : BitVec 32 := Scf.iv v14 c1_i32_5 k1_t1
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t2_loop (v10 : BitVec 32) (v13 : BitVec 32) : Scf.Loop 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let v20 : BitVec 32 := Scalar.addi v14 v19
  let c1_i32_6 : BitVec 32 := 1#32
  ⟨v23, v20, c1_i32_6⟩
def k1_mult2 (v10 : BitVec 32) (v13 : BitVec 32) (k1_t2 : Fin (k1_t2_loop v10 v13).trips) : BitVec 32 :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k1_t2
  let c1024_i32 : BitVec 32 := 1024#32
  let v706 : BitVec 32 := Scalar.muli arg7 c1024_i32
  v706
def k1_off6 (v10 : BitVec 32) (v13 : BitVec 32) (k1_t2 : Fin (k1_t2_loop v10 v13).trips) : Fin 2 → Nat :=
  let c0_344 : Index := 0#32
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k1_t2
  let c1024_i32 : BitVec 32 := 1024#32
  let v706 : BitVec 32 := Scalar.muli arg7 c1024_i32
  let v707 : BitVec 32 := v706
  let v708 : Index := Scalar.indexCast v707
  ![0, v708.toNat]
def k1_off7 (v10 : BitVec 32) (v13 : BitVec 32) (k1_t2 : Fin (k1_t2_loop v10 v13).trips) : Fin 2 → Nat :=
  let c0_345 : Index := 0#32
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k1_t2
  let c1024_i32 : BitVec 32 := 1024#32
  let v706 : BitVec 32 := Scalar.muli arg7 c1024_i32
  let v707 : BitVec 32 := v706
  let v711 : Index := Scalar.indexCast v707
  ![0, v711.toNat]
def k1_off8 (v10 : BitVec 32) (v13 : BitVec 32) (k1_t2 : Fin (k1_t2_loop v10 v13).trips) : Fin 2 → Nat :=
  let c10_i32 : BitVec 32 := 10#32
  let v14 : BitVec 32 := Scalar.shrsi v10 c10_i32
  let c1_i32_1 : BitVec 32 := 1#32
  let v15 : BitVec 32 := Scalar.subi v13 c1_i32_1
  let c10_i32_2 : BitVec 32 := 10#32
  let v16 : BitVec 32 := Scalar.shrsi v15 c10_i32_2
  let c1_i32_3 : BitVec 32 := 1#32
  let v17 : BitVec 32 := Scalar.addi v16 c1_i32_3
  let v19 : BitVec 32 := Scalar.subi v17 v14
  let c1_i32_4 : BitVec 32 := 1#32
  let v21 : BitVec 32 := Scalar.divsi v19 c1_i32_4
  let v22 : BitVec 32 := Scalar.muli v21 c1_i32_4
  let v23 : BitVec 32 := Scalar.addi v14 v22
  let c1_i32_6 : BitVec 32 := 1#32
  let arg7 : BitVec 32 := Scf.iv v23 c1_i32_6 k1_t2
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk1 (v10 : BitVec 32) (v13 : BitVec 32) : Prop :=
  ((k1_t1_loop v10 v13).OK) ∧
  (∀ k1_t1 : Fin (k1_t1_loop v10 v13).trips, 1024 ∣ (k1_mult1 v10 v13 k1_t1).toNat) ∧
  (∀ k1_t1 : Fin (k1_t1_loop v10 v13).trips, ∀ a, (k1_off3 v10 v13 k1_t1) a + S1x1024.size a ≤ S1x8192.size a) ∧
  (∀ k1_t1 : Fin (k1_t1_loop v10 v13).trips, ∀ a, (k1_off4 v10 v13 k1_t1) a + S128x1024.size a ≤ S128x8192.size a) ∧
  (∀ k1_t1 : Fin (k1_t1_loop v10 v13).trips, ∀ a, (k1_off5 v10 v13 k1_t1) a + S1024x128.size a ≤ S8192x128.size a) ∧
  ((k1_t2_loop v10 v13).OK) ∧
  (∀ k1_t2 : Fin (k1_t2_loop v10 v13).trips, 1024 ∣ (k1_mult2 v10 v13 k1_t2).toNat) ∧
  (∀ k1_t2 : Fin (k1_t2_loop v10 v13).trips, ∀ a, (k1_off6 v10 v13 k1_t2) a + S1x1024.size a ≤ S1x8192.size a) ∧
  (∀ k1_t2 : Fin (k1_t2_loop v10 v13).trips, ∀ a, (k1_off7 v10 v13 k1_t2) a + S128x1024.size a ≤ S128x8192.size a) ∧
  (∀ k1_t2 : Fin (k1_t2_loop v10 v13).trips, ∀ a, (k1_off8 v10 v13 k1_t2) a + S1024x128.size a ≤ S8192x128.size a)
theorem k1_t1_ok : ∀ (v10 : BitVec 32) (v13 : BitVec 32) (k1_hw1 : k1_chk1 v10 v13), (k1_t1_loop v10 v13).OK := fun v10 v13 k1_hw1 => k1_hw1.1
theorem k1_mult1_dvd : ∀ (v10 : BitVec 32) (v13 : BitVec 32) (k1_hw1 : k1_chk1 v10 v13) (k1_t1 : Fin (k1_t1_loop v10 v13).trips), 1024 ∣ (k1_mult1 v10 v13 k1_t1).toNat := fun v10 v13 k1_hw1 k1_t1 => k1_hw1.2.1 k1_t1
theorem k1_off3_inb : ∀ (v10 : BitVec 32) (v13 : BitVec 32) (k1_hw1 : k1_chk1 v10 v13) (k1_t1 : Fin (k1_t1_loop v10 v13).trips), ∀ a, (k1_off3 v10 v13 k1_t1) a + S1x1024.size a ≤ S1x8192.size a := fun v10 v13 k1_hw1 k1_t1 => k1_hw1.2.2.1 k1_t1
theorem k1_off4_inb : ∀ (v10 : BitVec 32) (v13 : BitVec 32) (k1_hw1 : k1_chk1 v10 v13) (k1_t1 : Fin (k1_t1_loop v10 v13).trips), ∀ a, (k1_off4 v10 v13 k1_t1) a + S128x1024.size a ≤ S128x8192.size a := fun v10 v13 k1_hw1 k1_t1 => k1_hw1.2.2.2.1 k1_t1
theorem k1_off5_inb : ∀ (v10 : BitVec 32) (v13 : BitVec 32) (k1_hw1 : k1_chk1 v10 v13) (k1_t1 : Fin (k1_t1_loop v10 v13).trips), ∀ a, (k1_off5 v10 v13 k1_t1) a + S1024x128.size a ≤ S8192x128.size a := fun v10 v13 k1_hw1 k1_t1 => k1_hw1.2.2.2.2.1 k1_t1
theorem k1_t2_ok : ∀ (v10 : BitVec 32) (v13 : BitVec 32) (k1_hw1 : k1_chk1 v10 v13), (k1_t2_loop v10 v13).OK := fun v10 v13 k1_hw1 => k1_hw1.2.2.2.2.2.1
theorem k1_mult2_dvd : ∀ (v10 : BitVec 32) (v13 : BitVec 32) (k1_hw1 : k1_chk1 v10 v13) (k1_t2 : Fin (k1_t2_loop v10 v13).trips), 1024 ∣ (k1_mult2 v10 v13 k1_t2).toNat := fun v10 v13 k1_hw1 k1_t2 => k1_hw1.2.2.2.2.2.2.1 k1_t2
theorem k1_off6_inb : ∀ (v10 : BitVec 32) (v13 : BitVec 32) (k1_hw1 : k1_chk1 v10 v13) (k1_t2 : Fin (k1_t2_loop v10 v13).trips), ∀ a, (k1_off6 v10 v13 k1_t2) a + S1x1024.size a ≤ S1x8192.size a := fun v10 v13 k1_hw1 k1_t2 => k1_hw1.2.2.2.2.2.2.2.1 k1_t2
theorem k1_off7_inb : ∀ (v10 : BitVec 32) (v13 : BitVec 32) (k1_hw1 : k1_chk1 v10 v13) (k1_t2 : Fin (k1_t2_loop v10 v13).trips), ∀ a, (k1_off7 v10 v13 k1_t2) a + S128x1024.size a ≤ S128x8192.size a := fun v10 v13 k1_hw1 k1_t2 => k1_hw1.2.2.2.2.2.2.2.2.1 k1_t2
theorem k1_off8_inb : ∀ (v10 : BitVec 32) (v13 : BitVec 32) (k1_hw1 : k1_chk1 v10 v13) (k1_t2 : Fin (k1_t2_loop v10 v13).trips), ∀ a, (k1_off8 v10 v13 k1_t2) a + S1024x128.size a ≤ S8192x128.size a := fun v10 v13 k1_hw1 k1_t2 => k1_hw1.2.2.2.2.2.2.2.2.2 k1_t2

def k1_off9 (i : grid1.Coords) : Fin 1 → Nat :=
  let arg0 : BitVec 32 := BitVec.ofNat 32 (i 0).val
  let c8_i32_7 : BitVec 32 := 8#32
  let v26 : BitVec 32 := Scalar.muli arg0 c8_i32_7
  let c1_i32_8 : BitVec 32 := 1#32
  let v27 : BitVec 32 := Scalar.addi v26 c1_i32_8
  let v28 : Index := Scalar.indexCast v27
  ![v28.toNat]
def k1_off10 (i : grid1.Coords) : Fin 1 → Nat :=
  let arg0 : BitVec 32 := BitVec.ofNat 32 (i 0).val
  let c8_i32_7 : BitVec 32 := 8#32
  let v26 : BitVec 32 := Scalar.muli arg0 c8_i32_7
  let c1_i32_8 : BitVec 32 := 1#32
  let v27 : BitVec 32 := Scalar.addi v26 c1_i32_8
  let c1_i32_9 : BitVec 32 := 1#32
  let v30 : BitVec 32 := Scalar.addi v27 c1_i32_9
  let v31 : Index := Scalar.indexCast v30
  ![v31.toNat]
@[reducible] def k1_t3_loop (v29 : BitVec 32) (v32 : BitVec 32) : Scf.Loop 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_16 : BitVec 32 := 1#32
  ⟨v33, v42, c1_i32_16⟩

def k1_mult3 (v29 : BitVec 32) (v32 : BitVec 32) (k1_t3 : Fin (k1_t3_loop v29 v32).trips) : BitVec 32 :=
  let c10_i32_10 : BitVec 32 := 10#32
  let v33 : BitVec 32 := Scalar.shrsi v29 c10_i32_10
  let c1_i32_16 : BitVec 32 := 1#32
  let arg7 : BitVec 32 := Scf.iv v33 c1_i32_16 k1_t3
  let c1024_i32 : BitVec 32 := 1024#32
  let v706 : BitVec 32 := Scalar.muli arg7 c1024_i32
  v706
def k1_off11 (v29 : BitVec 32) (v32 : BitVec 32) (k1_t3 : Fin (k1_t3_loop v29 v32).trips) : Fin 2 → Nat :=
  let c0_344 : Index := 0#32
  let c10_i32_10 : BitVec 32 := 10#32
  let v33 : BitVec 32 := Scalar.shrsi v29 c10_i32_10
  let c1_i32_16 : BitVec 32 := 1#32
  let arg7 : BitVec 32 := Scf.iv v33 c1_i32_16 k1_t3
  let c1024_i32 : BitVec 32 := 1024#32
  let v706 : BitVec 32 := Scalar.muli arg7 c1024_i32
  let v707 : BitVec 32 := v706
  let v708 : Index := Scalar.indexCast v707
  ![0, v708.toNat]
def k1_off12 (v29 : BitVec 32) (v32 : BitVec 32) (k1_t3 : Fin (k1_t3_loop v29 v32).trips) : Fin 2 → Nat :=
  let c0_345 : Index := 0#32
  let c10_i32_10 : BitVec 32 := 10#32
  let v33 : BitVec 32 := Scalar.shrsi v29 c10_i32_10
  let c1_i32_16 : BitVec 32 := 1#32
  let arg7 : BitVec 32 := Scf.iv v33 c1_i32_16 k1_t3
  let c1024_i32 : BitVec 32 := 1024#32
  let v706 : BitVec 32 := Scalar.muli arg7 c1024_i32
  let v707 : BitVec 32 := v706
  let v711 : Index := Scalar.indexCast v707
  ![0, v711.toNat]
def k1_off13 (v29 : BitVec 32) (v32 : BitVec 32) (k1_t3 : Fin (k1_t3_loop v29 v32).trips) : Fin 2 → Nat :=
  let c10_i32_10 : BitVec 32 := 10#32
  let v33 : BitVec 32 := Scalar.shrsi v29 c10_i32_10
  let c1_i32_16 : BitVec 32 := 1#32
  let arg7 : BitVec 32 := Scf.iv v33 c1_i32_16 k1_t3
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t4_loop (v29 : BitVec 32) (v32 : BitVec 32) : Scf.Loop 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let v39 : BitVec 32 := Scalar.addi v33 v38
  let c1_i32_17 : BitVec 32 := 1#32
  ⟨v42, v39, c1_i32_17⟩
def k1_mult4 (v29 : BitVec 32) (v32 : BitVec 32) (k1_t4 : Fin (k1_t4_loop v29 v32).trips) : BitVec 32 :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k1_t4
  let c1024_i32 : BitVec 32 := 1024#32
  let v706 : BitVec 32 := Scalar.muli arg7 c1024_i32
  v706
def k1_off14 (v29 : BitVec 32) (v32 : BitVec 32) (k1_t4 : Fin (k1_t4_loop v29 v32).trips) : Fin 2 → Nat :=
  let c0_344 : Index := 0#32
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k1_t4
  let c1024_i32 : BitVec 32 := 1024#32
  let v706 : BitVec 32 := Scalar.muli arg7 c1024_i32
  let v707 : BitVec 32 := v706
  let v708 : Index := Scalar.indexCast v707
  ![0, v708.toNat]
def k1_off15 (v29 : BitVec 32) (v32 : BitVec 32) (k1_t4 : Fin (k1_t4_loop v29 v32).trips) : Fin 2 → Nat :=
  let c0_345 : Index := 0#32
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k1_t4
  let c1024_i32 : BitVec 32 := 1024#32
  let v706 : BitVec 32 := Scalar.muli arg7 c1024_i32
  let v707 : BitVec 32 := v706
  let v711 : Index := Scalar.indexCast v707
  ![0, v711.toNat]
def k1_off16 (v29 : BitVec 32) (v32 : BitVec 32) (k1_t4 : Fin (k1_t4_loop v29 v32).trips) : Fin 2 → Nat :=
  let c10_i32_10 : BitVec 32 := 10#32
  let v33 : BitVec 32 := Scalar.shrsi v29 c10_i32_10
  let c1_i32_11 : BitVec 32 := 1#32
  let v34 : BitVec 32 := Scalar.subi v32 c1_i32_11
  let c10_i32_12 : BitVec 32 := 10#32
  let v35 : BitVec 32 := Scalar.shrsi v34 c10_i32_12
  let c1_i32_13 : BitVec 32 := 1#32
  let v36 : BitVec 32 := Scalar.addi v35 c1_i32_13
  let v38 : BitVec 32 := Scalar.subi v36 v33
  let c1_i32_15 : BitVec 32 := 1#32
  let v40 : BitVec 32 := Scalar.divsi v38 c1_i32_15
  let v41 : BitVec 32 := Scalar.muli v40 c1_i32_15
  let v42 : BitVec 32 := Scalar.addi v33 v41
  let c1_i32_17 : BitVec 32 := 1#32
  let arg7 : BitVec 32 := Scf.iv v42 c1_i32_17 k1_t4
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk2 (v29 : BitVec 32) (v32 : BitVec 32) : Prop :=
  ((k1_t3_loop v29 v32).OK) ∧
  (∀ k1_t3 : Fin (k1_t3_loop v29 v32).trips, 1024 ∣ (k1_mult3 v29 v32 k1_t3).toNat) ∧
  (∀ k1_t3 : Fin (k1_t3_loop v29 v32).trips, ∀ a, (k1_off11 v29 v32 k1_t3) a + S1x1024.size a ≤ S1x8192.size a) ∧
  (∀ k1_t3 : Fin (k1_t3_loop v29 v32).trips, ∀ a, (k1_off12 v29 v32 k1_t3) a + S128x1024.size a ≤ S128x8192.size a) ∧
  (∀ k1_t3 : Fin (k1_t3_loop v29 v32).trips, ∀ a, (k1_off13 v29 v32 k1_t3) a + S1024x128.size a ≤ S8192x128.size a) ∧
  ((k1_t4_loop v29 v32).OK) ∧
  (∀ k1_t4 : Fin (k1_t4_loop v29 v32).trips, 1024 ∣ (k1_mult4 v29 v32 k1_t4).toNat) ∧
  (∀ k1_t4 : Fin (k1_t4_loop v29 v32).trips, ∀ a, (k1_off14 v29 v32 k1_t4) a + S1x1024.size a ≤ S1x8192.size a) ∧
  (∀ k1_t4 : Fin (k1_t4_loop v29 v32).trips, ∀ a, (k1_off15 v29 v32 k1_t4) a + S128x1024.size a ≤ S128x8192.size a) ∧
  (∀ k1_t4 : Fin (k1_t4_loop v29 v32).trips, ∀ a, (k1_off16 v29 v32 k1_t4) a + S1024x128.size a ≤ S8192x128.size a)
theorem k1_t3_ok : ∀ (v29 : BitVec 32) (v32 : BitVec 32) (k1_hw2 : k1_chk2 v29 v32), (k1_t3_loop v29 v32).OK := fun v29 v32 k1_hw2 => k1_hw2.1
theorem k1_mult3_dvd : ∀ (v29 : BitVec 32) (v32 : BitVec 32) (k1_hw2 : k1_chk2 v29 v32) (k1_t3 : Fin (k1_t3_loop v29 v32).trips), 1024 ∣ (k1_mult3 v29 v32 k1_t3).toNat := fun v29 v32 k1_hw2 k1_t3 => k1_hw2.2.1 k1_t3
theorem k1_off11_inb : ∀ (v29 : BitVec 32) (v32 : BitVec 32) (k1_hw2 : k1_chk2 v29 v32) (k1_t3 : Fin (k1_t3_loop v29 v32).trips), ∀ a, (k1_off11 v29 v32 k1_t3) a + S1x1024.size a ≤ S1x8192.size a := fun v29 v32 k1_hw2 k1_t3 => k1_hw2.2.2.1 k1_t3
theorem k1_off12_inb : ∀ (v29 : BitVec 32) (v32 : BitVec 32) (k1_hw2 : k1_chk2 v29 v32) (k1_t3 : Fin (k1_t3_loop v29 v32).trips), ∀ a, (k1_off12 v29 v32 k1_t3) a + S128x1024.size a ≤ S128x8192.size a := fun v29 v32 k1_hw2 k1_t3 => k1_hw2.2.2.2.1 k1_t3
theorem k1_off13_inb : ∀ (v29 : BitVec 32) (v32 : BitVec 32) (k1_hw2 : k1_chk2 v29 v32) (k1_t3 : Fin (k1_t3_loop v29 v32).trips), ∀ a, (k1_off13 v29 v32 k1_t3) a + S1024x128.size a ≤ S8192x128.size a := fun v29 v32 k1_hw2 k1_t3 => k1_hw2.2.2.2.2.1 k1_t3
theorem k1_t4_ok : ∀ (v29 : BitVec 32) (v32 : BitVec 32) (k1_hw2 : k1_chk2 v29 v32), (k1_t4_loop v29 v32).OK := fun v29 v32 k1_hw2 => k1_hw2.2.2.2.2.2.1
theorem k1_mult4_dvd : ∀ (v29 : BitVec 32) (v32 : BitVec 32) (k1_hw2 : k1_chk2 v29 v32) (k1_t4 : Fin (k1_t4_loop v29 v32).trips), 1024 ∣ (k1_mult4 v29 v32 k1_t4).toNat := fun v29 v32 k1_hw2 k1_t4 => k1_hw2.2.2.2.2.2.2.1 k1_t4
theorem k1_off14_inb : ∀ (v29 : BitVec 32) (v32 : BitVec 32) (k1_hw2 : k1_chk2 v29 v32) (k1_t4 : Fin (k1_t4_loop v29 v32).trips), ∀ a, (k1_off14 v29 v32 k1_t4) a + S1x1024.size a ≤ S1x8192.size a := fun v29 v32 k1_hw2 k1_t4 => k1_hw2.2.2.2.2.2.2.2.1 k1_t4
theorem k1_off15_inb : ∀ (v29 : BitVec 32) (v32 : BitVec 32) (k1_hw2 : k1_chk2 v29 v32) (k1_t4 : Fin (k1_t4_loop v29 v32).trips), ∀ a, (k1_off15 v29 v32 k1_t4) a + S128x1024.size a ≤ S128x8192.size a := fun v29 v32 k1_hw2 k1_t4 => k1_hw2.2.2.2.2.2.2.2.2.1 k1_t4
theorem k1_off16_inb : ∀ (v29 : BitVec 32) (v32 : BitVec 32) (k1_hw2 : k1_chk2 v29 v32) (k1_t4 : Fin (k1_t4_loop v29 v32).trips), ∀ a, (k1_off16 v29 v32 k1_t4) a + S1024x128.size a ≤ S8192x128.size a := fun v29 v32 k1_hw2 k1_t4 => k1_hw2.2.2.2.2.2.2.2.2.2 k1_t4

def k1_off17 (i : grid1.Coords) : Fin 1 → Nat :=
  let arg0 : BitVec 32 := BitVec.ofNat 32 (i 0).val
  let c8_i32_18 : BitVec 32 := 8#32
  let v45 : BitVec 32 := Scalar.muli arg0 c8_i32_18
  let c2_i32 : BitVec 32 := 2#32
  let v46 : BitVec 32 := Scalar.addi v45 c2_i32
  let v47 : Index := Scalar.indexCast v46
  ![v47.toNat]
def k1_off18 (i : grid1.Coords) : Fin 1 → Nat :=
  let arg0 : BitVec 32 := BitVec.ofNat 32 (i 0).val
  let c8_i32_18 : BitVec 32 := 8#32
  let v45 : BitVec 32 := Scalar.muli arg0 c8_i32_18
  let c2_i32 : BitVec 32 := 2#32
  let v46 : BitVec 32 := Scalar.addi v45 c2_i32
  let c1_i32_19 : BitVec 32 := 1#32
  let v49 : BitVec 32 := Scalar.addi v46 c1_i32_19
  let v50 : Index := Scalar.indexCast v49
  ![v50.toNat]
@[reducible] def k1_t5_loop (v48 : BitVec 32) (v51 : BitVec 32) : Scf.Loop 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_26 : BitVec 32 := 1#32
  ⟨v52, v61, c1_i32_26⟩

def k1_mult5 (v48 : BitVec 32) (v51 : BitVec 32) (k1_t5 : Fin (k1_t5_loop v48 v51).trips) : BitVec 32 :=
  let c10_i32_20 : BitVec 32 := 10#32
  let v52 : BitVec 32 := Scalar.shrsi v48 c10_i32_20
  let c1_i32_26 : BitVec 32 := 1#32
  let arg7 : BitVec 32 := Scf.iv v52 c1_i32_26 k1_t5
  let c1024_i32 : BitVec 32 := 1024#32
  let v706 : BitVec 32 := Scalar.muli arg7 c1024_i32
  v706
def k1_off19 (v48 : BitVec 32) (v51 : BitVec 32) (k1_t5 : Fin (k1_t5_loop v48 v51).trips) : Fin 2 → Nat :=
  let c0_344 : Index := 0#32
  let c10_i32_20 : BitVec 32 := 10#32
  let v52 : BitVec 32 := Scalar.shrsi v48 c10_i32_20
  let c1_i32_26 : BitVec 32 := 1#32
  let arg7 : BitVec 32 := Scf.iv v52 c1_i32_26 k1_t5
  let c1024_i32 : BitVec 32 := 1024#32
  let v706 : BitVec 32 := Scalar.muli arg7 c1024_i32
  let v707 : BitVec 32 := v706
  let v708 : Index := Scalar.indexCast v707
  ![0, v708.toNat]
def k1_off20 (v48 : BitVec 32) (v51 : BitVec 32) (k1_t5 : Fin (k1_t5_loop v48 v51).trips) : Fin 2 → Nat :=
  let c0_345 : Index := 0#32
  let c10_i32_20 : BitVec 32 := 10#32
  let v52 : BitVec 32 := Scalar.shrsi v48 c10_i32_20
  let c1_i32_26 : BitVec 32 := 1#32
  let arg7 : BitVec 32 := Scf.iv v52 c1_i32_26 k1_t5
  let c1024_i32 : BitVec 32 := 1024#32
  let v706 : BitVec 32 := Scalar.muli arg7 c1024_i32
  let v707 : BitVec 32 := v706
  let v711 : Index := Scalar.indexCast v707
  ![0, v711.toNat]
def k1_off21 (v48 : BitVec 32) (v51 : BitVec 32) (k1_t5 : Fin (k1_t5_loop v48 v51).trips) : Fin 2 → Nat :=
  let c10_i32_20 : BitVec 32 := 10#32
  let v52 : BitVec 32 := Scalar.shrsi v48 c10_i32_20
  let c1_i32_26 : BitVec 32 := 1#32
  let arg7 : BitVec 32 := Scf.iv v52 c1_i32_26 k1_t5
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t6_loop (v48 : BitVec 32) (v51 : BitVec 32) : Scf.Loop 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let v58 : BitVec 32 := Scalar.addi v52 v57
  let c1_i32_27 : BitVec 32 := 1#32
  ⟨v61, v58, c1_i32_27⟩
def k1_mult6 (v48 : BitVec 32) (v51 : BitVec 32) (k1_t6 : Fin (k1_t6_loop v48 v51).trips) : BitVec 32 :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k1_t6
  let c1024_i32 : BitVec 32 := 1024#32
  let v706 : BitVec 32 := Scalar.muli arg7 c1024_i32
  v706
def k1_off22 (v48 : BitVec 32) (v51 : BitVec 32) (k1_t6 : Fin (k1_t6_loop v48 v51).trips) : Fin 2 → Nat :=
  let c0_344 : Index := 0#32
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k1_t6
  let c1024_i32 : BitVec 32 := 1024#32
  let v706 : BitVec 32 := Scalar.muli arg7 c1024_i32
  let v707 : BitVec 32 := v706
  let v708 : Index := Scalar.indexCast v707
  ![0, v708.toNat]
def k1_off23 (v48 : BitVec 32) (v51 : BitVec 32) (k1_t6 : Fin (k1_t6_loop v48 v51).trips) : Fin 2 → Nat :=
  let c0_345 : Index := 0#32
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k1_t6
  let c1024_i32 : BitVec 32 := 1024#32
  let v706 : BitVec 32 := Scalar.muli arg7 c1024_i32
  let v707 : BitVec 32 := v706
  let v711 : Index := Scalar.indexCast v707
  ![0, v711.toNat]
def k1_off24 (v48 : BitVec 32) (v51 : BitVec 32) (k1_t6 : Fin (k1_t6_loop v48 v51).trips) : Fin 2 → Nat :=
  let c10_i32_20 : BitVec 32 := 10#32
  let v52 : BitVec 32 := Scalar.shrsi v48 c10_i32_20
  let c1_i32_21 : BitVec 32 := 1#32
  let v53 : BitVec 32 := Scalar.subi v51 c1_i32_21
  let c10_i32_22 : BitVec 32 := 10#32
  let v54 : BitVec 32 := Scalar.shrsi v53 c10_i32_22
  let c1_i32_23 : BitVec 32 := 1#32
  let v55 : BitVec 32 := Scalar.addi v54 c1_i32_23
  let v57 : BitVec 32 := Scalar.subi v55 v52
  let c1_i32_25 : BitVec 32 := 1#32
  let v59 : BitVec 32 := Scalar.divsi v57 c1_i32_25
  let v60 : BitVec 32 := Scalar.muli v59 c1_i32_25
  let v61 : BitVec 32 := Scalar.addi v52 v60
  let c1_i32_27 : BitVec 32 := 1#32
  let arg7 : BitVec 32 := Scf.iv v61 c1_i32_27 k1_t6
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk3 (v48 : BitVec 32) (v51 : BitVec 32) : Prop :=
  ((k1_t5_loop v48 v51).OK) ∧
  (∀ k1_t5 : Fin (k1_t5_loop v48 v51).trips, 1024 ∣ (k1_mult5 v48 v51 k1_t5).toNat) ∧
  (∀ k1_t5 : Fin (k1_t5_loop v48 v51).trips, ∀ a, (k1_off19 v48 v51 k1_t5) a + S1x1024.size a ≤ S1x8192.size a) ∧
  (∀ k1_t5 : Fin (k1_t5_loop v48 v51).trips, ∀ a, (k1_off20 v48 v51 k1_t5) a + S128x1024.size a ≤ S128x8192.size a) ∧
  (∀ k1_t5 : Fin (k1_t5_loop v48 v51).trips, ∀ a, (k1_off21 v48 v51 k1_t5) a + S1024x128.size a ≤ S8192x128.size a) ∧
  ((k1_t6_loop v48 v51).OK) ∧
  (∀ k1_t6 : Fin (k1_t6_loop v48 v51).trips, 1024 ∣ (k1_mult6 v48 v51 k1_t6).toNat) ∧
  (∀ k1_t6 : Fin (k1_t6_loop v48 v51).trips, ∀ a, (k1_off22 v48 v51 k1_t6) a + S1x1024.size a ≤ S1x8192.size a) ∧
  (∀ k1_t6 : Fin (k1_t6_loop v48 v51).trips, ∀ a, (k1_off23 v48 v51 k1_t6) a + S128x1024.size a ≤ S128x8192.size a) ∧
  (∀ k1_t6 : Fin (k1_t6_loop v48 v51).trips, ∀ a, (k1_off24 v48 v51 k1_t6) a + S1024x128.size a ≤ S8192x128.size a)
theorem k1_t5_ok : ∀ (v48 : BitVec 32) (v51 : BitVec 32) (k1_hw3 : k1_chk3 v48 v51), (k1_t5_loop v48 v51).OK := fun v48 v51 k1_hw3 => k1_hw3.1
theorem k1_mult5_dvd : ∀ (v48 : BitVec 32) (v51 : BitVec 32) (k1_hw3 : k1_chk3 v48 v51) (k1_t5 : Fin (k1_t5_loop v48 v51).trips), 1024 ∣ (k1_mult5 v48 v51 k1_t5).toNat := fun v48 v51 k1_hw3 k1_t5 => k1_hw3.2.1 k1_t5
theorem k1_off19_inb : ∀ (v48 : BitVec 32) (v51 : BitVec 32) (k1_hw3 : k1_chk3 v48 v51) (k1_t5 : Fin (k1_t5_loop v48 v51).trips), ∀ a, (k1_off19 v48 v51 k1_t5) a + S1x1024.size a ≤ S1x8192.size a := fun v48 v51 k1_hw3 k1_t5 => k1_hw3.2.2.1 k1_t5
theorem k1_off20_inb : ∀ (v48 : BitVec 32) (v51 : BitVec 32) (k1_hw3 : k1_chk3 v48 v51) (k1_t5 : Fin (k1_t5_loop v48 v51).trips), ∀ a, (k1_off20 v48 v51 k1_t5) a + S128x1024.size a ≤ S128x8192.size a := fun v48 v51 k1_hw3 k1_t5 => k1_hw3.2.2.2.1 k1_t5
theorem k1_off21_inb : ∀ (v48 : BitVec 32) (v51 : BitVec 32) (k1_hw3 : k1_chk3 v48 v51) (k1_t5 : Fin (k1_t5_loop v48 v51).trips), ∀ a, (k1_off21 v48 v51 k1_t5) a + S1024x128.size a ≤ S8192x128.size a := fun v48 v51 k1_hw3 k1_t5 => k1_hw3.2.2.2.2.1 k1_t5
theorem k1_t6_ok : ∀ (v48 : BitVec 32) (v51 : BitVec 32) (k1_hw3 : k1_chk3 v48 v51), (k1_t6_loop v48 v51).OK := fun v48 v51 k1_hw3 => k1_hw3.2.2.2.2.2.1
theorem k1_mult6_dvd : ∀ (v48 : BitVec 32) (v51 : BitVec 32) (k1_hw3 : k1_chk3 v48 v51) (k1_t6 : Fin (k1_t6_loop v48 v51).trips), 1024 ∣ (k1_mult6 v48 v51 k1_t6).toNat := fun v48 v51 k1_hw3 k1_t6 => k1_hw3.2.2.2.2.2.2.1 k1_t6
theorem k1_off22_inb : ∀ (v48 : BitVec 32) (v51 : BitVec 32) (k1_hw3 : k1_chk3 v48 v51) (k1_t6 : Fin (k1_t6_loop v48 v51).trips), ∀ a, (k1_off22 v48 v51 k1_t6) a + S1x1024.size a ≤ S1x8192.size a := fun v48 v51 k1_hw3 k1_t6 => k1_hw3.2.2.2.2.2.2.2.1 k1_t6
theorem k1_off23_inb : ∀ (v48 : BitVec 32) (v51 : BitVec 32) (k1_hw3 : k1_chk3 v48 v51) (k1_t6 : Fin (k1_t6_loop v48 v51).trips), ∀ a, (k1_off23 v48 v51 k1_t6) a + S128x1024.size a ≤ S128x8192.size a := fun v48 v51 k1_hw3 k1_t6 => k1_hw3.2.2.2.2.2.2.2.2.1 k1_t6
theorem k1_off24_inb : ∀ (v48 : BitVec 32) (v51 : BitVec 32) (k1_hw3 : k1_chk3 v48 v51) (k1_t6 : Fin (k1_t6_loop v48 v51).trips), ∀ a, (k1_off24 v48 v51 k1_t6) a + S1024x128.size a ≤ S8192x128.size a := fun v48 v51 k1_hw3 k1_t6 => k1_hw3.2.2.2.2.2.2.2.2.2 k1_t6

def k1_off25 (i : grid1.Coords) : Fin 1 → Nat :=
  let arg0 : BitVec 32 := BitVec.ofNat 32 (i 0).val
  let c8_i32_28 : BitVec 32 := 8#32
  let v64 : BitVec 32 := Scalar.muli arg0 c8_i32_28
  let c3_i32 : BitVec 32 := 3#32
  let v65 : BitVec 32 := Scalar.addi v64 c3_i32
  let v66 : Index := Scalar.indexCast v65
  ![v66.toNat]
def k1_off26 (i : grid1.Coords) : Fin 1 → Nat :=
  let arg0 : BitVec 32 := BitVec.ofNat 32 (i 0).val
  let c8_i32_28 : BitVec 32 := 8#32
  let v64 : BitVec 32 := Scalar.muli arg0 c8_i32_28
  let c3_i32 : BitVec 32 := 3#32
  let v65 : BitVec 32 := Scalar.addi v64 c3_i32
  let c1_i32_29 : BitVec 32 := 1#32
  let v68 : BitVec 32 := Scalar.addi v65 c1_i32_29
  let v69 : Index := Scalar.indexCast v68
  ![v69.toNat]
@[reducible] def k1_t7_loop (v67 : BitVec 32) (v70 : BitVec 32) : Scf.Loop 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_36 : BitVec 32 := 1#32
  ⟨v71, v80, c1_i32_36⟩

def k1_mult7 (v67 : BitVec 32) (v70 : BitVec 32) (k1_t7 : Fin (k1_t7_loop v67 v70).trips) : BitVec 32 :=
  let c10_i32_30 : BitVec 32 := 10#32
  let v71 : BitVec 32 := Scalar.shrsi v67 c10_i32_30
  let c1_i32_36 : BitVec 32 := 1#32
  let arg7 : BitVec 32 := Scf.iv v71 c1_i32_36 k1_t7
  let c1024_i32 : BitVec 32 := 1024#32
  let v706 : BitVec 32 := Scalar.muli arg7 c1024_i32
  v706
def k1_off27 (v67 : BitVec 32) (v70 : BitVec 32) (k1_t7 : Fin (k1_t7_loop v67 v70).trips) : Fin 2 → Nat :=
  let c0_344 : Index := 0#32
  let c10_i32_30 : BitVec 32 := 10#32
  let v71 : BitVec 32 := Scalar.shrsi v67 c10_i32_30
  let c1_i32_36 : BitVec 32 := 1#32
  let arg7 : BitVec 32 := Scf.iv v71 c1_i32_36 k1_t7
  let c1024_i32 : BitVec 32 := 1024#32
  let v706 : BitVec 32 := Scalar.muli arg7 c1024_i32
  let v707 : BitVec 32 := v706
  let v708 : Index := Scalar.indexCast v707
  ![0, v708.toNat]
def k1_off28 (v67 : BitVec 32) (v70 : BitVec 32) (k1_t7 : Fin (k1_t7_loop v67 v70).trips) : Fin 2 → Nat :=
  let c0_345 : Index := 0#32
  let c10_i32_30 : BitVec 32 := 10#32
  let v71 : BitVec 32 := Scalar.shrsi v67 c10_i32_30
  let c1_i32_36 : BitVec 32 := 1#32
  let arg7 : BitVec 32 := Scf.iv v71 c1_i32_36 k1_t7
  let c1024_i32 : BitVec 32 := 1024#32
  let v706 : BitVec 32 := Scalar.muli arg7 c1024_i32
  let v707 : BitVec 32 := v706
  let v711 : Index := Scalar.indexCast v707
  ![0, v711.toNat]
def k1_off29 (v67 : BitVec 32) (v70 : BitVec 32) (k1_t7 : Fin (k1_t7_loop v67 v70).trips) : Fin 2 → Nat :=
  let c10_i32_30 : BitVec 32 := 10#32
  let v71 : BitVec 32 := Scalar.shrsi v67 c10_i32_30
  let c1_i32_36 : BitVec 32 := 1#32
  let arg7 : BitVec 32 := Scf.iv v71 c1_i32_36 k1_t7
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t8_loop (v67 : BitVec 32) (v70 : BitVec 32) : Scf.Loop 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let v77 : BitVec 32 := Scalar.addi v71 v76
  let c1_i32_37 : BitVec 32 := 1#32
  ⟨v80, v77, c1_i32_37⟩
def k1_mult8 (v67 : BitVec 32) (v70 : BitVec 32) (k1_t8 : Fin (k1_t8_loop v67 v70).trips) : BitVec 32 :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k1_t8
  let c1024_i32 : BitVec 32 := 1024#32
  let v706 : BitVec 32 := Scalar.muli arg7 c1024_i32
  v706
def k1_off30 (v67 : BitVec 32) (v70 : BitVec 32) (k1_t8 : Fin (k1_t8_loop v67 v70).trips) : Fin 2 → Nat :=
  let c0_344 : Index := 0#32
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k1_t8
  let c1024_i32 : BitVec 32 := 1024#32
  let v706 : BitVec 32 := Scalar.muli arg7 c1024_i32
  let v707 : BitVec 32 := v706
  let v708 : Index := Scalar.indexCast v707
  ![0, v708.toNat]
def k1_off31 (v67 : BitVec 32) (v70 : BitVec 32) (k1_t8 : Fin (k1_t8_loop v67 v70).trips) : Fin 2 → Nat :=
  let c0_345 : Index := 0#32
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k1_t8
  let c1024_i32 : BitVec 32 := 1024#32
  let v706 : BitVec 32 := Scalar.muli arg7 c1024_i32
  let v707 : BitVec 32 := v706
  let v711 : Index := Scalar.indexCast v707
  ![0, v711.toNat]
def k1_off32 (v67 : BitVec 32) (v70 : BitVec 32) (k1_t8 : Fin (k1_t8_loop v67 v70).trips) : Fin 2 → Nat :=
  let c10_i32_30 : BitVec 32 := 10#32
  let v71 : BitVec 32 := Scalar.shrsi v67 c10_i32_30
  let c1_i32_31 : BitVec 32 := 1#32
  let v72 : BitVec 32 := Scalar.subi v70 c1_i32_31
  let c10_i32_32 : BitVec 32 := 10#32
  let v73 : BitVec 32 := Scalar.shrsi v72 c10_i32_32
  let c1_i32_33 : BitVec 32 := 1#32
  let v74 : BitVec 32 := Scalar.addi v73 c1_i32_33
  let v76 : BitVec 32 := Scalar.subi v74 v71
  let c1_i32_35 : BitVec 32 := 1#32
  let v78 : BitVec 32 := Scalar.divsi v76 c1_i32_35
  let v79 : BitVec 32 := Scalar.muli v78 c1_i32_35
  let v80 : BitVec 32 := Scalar.addi v71 v79
  let c1_i32_37 : BitVec 32 := 1#32
  let arg7 : BitVec 32 := Scf.iv v80 c1_i32_37 k1_t8
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk4 (v67 : BitVec 32) (v70 : BitVec 32) : Prop :=
  ((k1_t7_loop v67 v70).OK) ∧
  (∀ k1_t7 : Fin (k1_t7_loop v67 v70).trips, 1024 ∣ (k1_mult7 v67 v70 k1_t7).toNat) ∧
  (∀ k1_t7 : Fin (k1_t7_loop v67 v70).trips, ∀ a, (k1_off27 v67 v70 k1_t7) a + S1x1024.size a ≤ S1x8192.size a) ∧
  (∀ k1_t7 : Fin (k1_t7_loop v67 v70).trips, ∀ a, (k1_off28 v67 v70 k1_t7) a + S128x1024.size a ≤ S128x8192.size a) ∧
  (∀ k1_t7 : Fin (k1_t7_loop v67 v70).trips, ∀ a, (k1_off29 v67 v70 k1_t7) a + S1024x128.size a ≤ S8192x128.size a) ∧
  ((k1_t8_loop v67 v70).OK) ∧
  (∀ k1_t8 : Fin (k1_t8_loop v67 v70).trips, 1024 ∣ (k1_mult8 v67 v70 k1_t8).toNat) ∧
  (∀ k1_t8 : Fin (k1_t8_loop v67 v70).trips, ∀ a, (k1_off30 v67 v70 k1_t8) a + S1x1024.size a ≤ S1x8192.size a) ∧
  (∀ k1_t8 : Fin (k1_t8_loop v67 v70).trips, ∀ a, (k1_off31 v67 v70 k1_t8) a + S128x1024.size a ≤ S128x8192.size a) ∧
  (∀ k1_t8 : Fin (k1_t8_loop v67 v70).trips, ∀ a, (k1_off32 v67 v70 k1_t8) a + S1024x128.size a ≤ S8192x128.size a)
theorem k1_t7_ok : ∀ (v67 : BitVec 32) (v70 : BitVec 32) (k1_hw4 : k1_chk4 v67 v70), (k1_t7_loop v67 v70).OK := fun v67 v70 k1_hw4 => k1_hw4.1
theorem k1_mult7_dvd : ∀ (v67 : BitVec 32) (v70 : BitVec 32) (k1_hw4 : k1_chk4 v67 v70) (k1_t7 : Fin (k1_t7_loop v67 v70).trips), 1024 ∣ (k1_mult7 v67 v70 k1_t7).toNat := fun v67 v70 k1_hw4 k1_t7 => k1_hw4.2.1 k1_t7
theorem k1_off27_inb : ∀ (v67 : BitVec 32) (v70 : BitVec 32) (k1_hw4 : k1_chk4 v67 v70) (k1_t7 : Fin (k1_t7_loop v67 v70).trips), ∀ a, (k1_off27 v67 v70 k1_t7) a + S1x1024.size a ≤ S1x8192.size a := fun v67 v70 k1_hw4 k1_t7 => k1_hw4.2.2.1 k1_t7
theorem k1_off28_inb : ∀ (v67 : BitVec 32) (v70 : BitVec 32) (k1_hw4 : k1_chk4 v67 v70) (k1_t7 : Fin (k1_t7_loop v67 v70).trips), ∀ a, (k1_off28 v67 v70 k1_t7) a + S128x1024.size a ≤ S128x8192.size a := fun v67 v70 k1_hw4 k1_t7 => k1_hw4.2.2.2.1 k1_t7
theorem k1_off29_inb : ∀ (v67 : BitVec 32) (v70 : BitVec 32) (k1_hw4 : k1_chk4 v67 v70) (k1_t7 : Fin (k1_t7_loop v67 v70).trips), ∀ a, (k1_off29 v67 v70 k1_t7) a + S1024x128.size a ≤ S8192x128.size a := fun v67 v70 k1_hw4 k1_t7 => k1_hw4.2.2.2.2.1 k1_t7
theorem k1_t8_ok : ∀ (v67 : BitVec 32) (v70 : BitVec 32) (k1_hw4 : k1_chk4 v67 v70), (k1_t8_loop v67 v70).OK := fun v67 v70 k1_hw4 => k1_hw4.2.2.2.2.2.1
theorem k1_mult8_dvd : ∀ (v67 : BitVec 32) (v70 : BitVec 32) (k1_hw4 : k1_chk4 v67 v70) (k1_t8 : Fin (k1_t8_loop v67 v70).trips), 1024 ∣ (k1_mult8 v67 v70 k1_t8).toNat := fun v67 v70 k1_hw4 k1_t8 => k1_hw4.2.2.2.2.2.2.1 k1_t8
theorem k1_off30_inb : ∀ (v67 : BitVec 32) (v70 : BitVec 32) (k1_hw4 : k1_chk4 v67 v70) (k1_t8 : Fin (k1_t8_loop v67 v70).trips), ∀ a, (k1_off30 v67 v70 k1_t8) a + S1x1024.size a ≤ S1x8192.size a := fun v67 v70 k1_hw4 k1_t8 => k1_hw4.2.2.2.2.2.2.2.1 k1_t8
theorem k1_off31_inb : ∀ (v67 : BitVec 32) (v70 : BitVec 32) (k1_hw4 : k1_chk4 v67 v70) (k1_t8 : Fin (k1_t8_loop v67 v70).trips), ∀ a, (k1_off31 v67 v70 k1_t8) a + S128x1024.size a ≤ S128x8192.size a := fun v67 v70 k1_hw4 k1_t8 => k1_hw4.2.2.2.2.2.2.2.2.1 k1_t8
theorem k1_off32_inb : ∀ (v67 : BitVec 32) (v70 : BitVec 32) (k1_hw4 : k1_chk4 v67 v70) (k1_t8 : Fin (k1_t8_loop v67 v70).trips), ∀ a, (k1_off32 v67 v70 k1_t8) a + S1024x128.size a ≤ S8192x128.size a := fun v67 v70 k1_hw4 k1_t8 => k1_hw4.2.2.2.2.2.2.2.2.2 k1_t8

def k1_off33 (i : grid1.Coords) : Fin 1 → Nat :=
  let arg0 : BitVec 32 := BitVec.ofNat 32 (i 0).val
  let c8_i32_38 : BitVec 32 := 8#32
  let v83 : BitVec 32 := Scalar.muli arg0 c8_i32_38
  let c4_i32 : BitVec 32 := 4#32
  let v84 : BitVec 32 := Scalar.addi v83 c4_i32
  let v85 : Index := Scalar.indexCast v84
  ![v85.toNat]
def k1_off34 (i : grid1.Coords) : Fin 1 → Nat :=
  let arg0 : BitVec 32 := BitVec.ofNat 32 (i 0).val
  let c8_i32_38 : BitVec 32 := 8#32
  let v83 : BitVec 32 := Scalar.muli arg0 c8_i32_38
  let c4_i32 : BitVec 32 := 4#32
  let v84 : BitVec 32 := Scalar.addi v83 c4_i32
  let c1_i32_39 : BitVec 32 := 1#32
  let v87 : BitVec 32 := Scalar.addi v84 c1_i32_39
  let v88 : Index := Scalar.indexCast v87
  ![v88.toNat]
@[reducible] def k1_t9_loop (v86 : BitVec 32) (v89 : BitVec 32) : Scf.Loop 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_46 : BitVec 32 := 1#32
  ⟨v90, v99, c1_i32_46⟩

def k1_mult9 (v86 : BitVec 32) (v89 : BitVec 32) (k1_t9 : Fin (k1_t9_loop v86 v89).trips) : BitVec 32 :=
  let c10_i32_40 : BitVec 32 := 10#32
  let v90 : BitVec 32 := Scalar.shrsi v86 c10_i32_40
  let c1_i32_46 : BitVec 32 := 1#32
  let arg7 : BitVec 32 := Scf.iv v90 c1_i32_46 k1_t9
  let c1024_i32 : BitVec 32 := 1024#32
  let v706 : BitVec 32 := Scalar.muli arg7 c1024_i32
  v706
def k1_off35 (v86 : BitVec 32) (v89 : BitVec 32) (k1_t9 : Fin (k1_t9_loop v86 v89).trips) : Fin 2 → Nat :=
  let c0_344 : Index := 0#32
  let c10_i32_40 : BitVec 32 := 10#32
  let v90 : BitVec 32 := Scalar.shrsi v86 c10_i32_40
  let c1_i32_46 : BitVec 32 := 1#32
  let arg7 : BitVec 32 := Scf.iv v90 c1_i32_46 k1_t9
  let c1024_i32 : BitVec 32 := 1024#32
  let v706 : BitVec 32 := Scalar.muli arg7 c1024_i32
  let v707 : BitVec 32 := v706
  let v708 : Index := Scalar.indexCast v707
  ![0, v708.toNat]
def k1_off36 (v86 : BitVec 32) (v89 : BitVec 32) (k1_t9 : Fin (k1_t9_loop v86 v89).trips) : Fin 2 → Nat :=
  let c0_345 : Index := 0#32
  let c10_i32_40 : BitVec 32 := 10#32
  let v90 : BitVec 32 := Scalar.shrsi v86 c10_i32_40
  let c1_i32_46 : BitVec 32 := 1#32
  let arg7 : BitVec 32 := Scf.iv v90 c1_i32_46 k1_t9
  let c1024_i32 : BitVec 32 := 1024#32
  let v706 : BitVec 32 := Scalar.muli arg7 c1024_i32
  let v707 : BitVec 32 := v706
  let v711 : Index := Scalar.indexCast v707
  ![0, v711.toNat]
def k1_off37 (v86 : BitVec 32) (v89 : BitVec 32) (k1_t9 : Fin (k1_t9_loop v86 v89).trips) : Fin 2 → Nat :=
  let c10_i32_40 : BitVec 32 := 10#32
  let v90 : BitVec 32 := Scalar.shrsi v86 c10_i32_40
  let c1_i32_46 : BitVec 32 := 1#32
  let arg7 : BitVec 32 := Scf.iv v90 c1_i32_46 k1_t9
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t10_loop (v86 : BitVec 32) (v89 : BitVec 32) : Scf.Loop 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let v96 : BitVec 32 := Scalar.addi v90 v95
  let c1_i32_47 : BitVec 32 := 1#32
  ⟨v99, v96, c1_i32_47⟩
def k1_mult10 (v86 : BitVec 32) (v89 : BitVec 32) (k1_t10 : Fin (k1_t10_loop v86 v89).trips) : BitVec 32 :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k1_t10
  let c1024_i32 : BitVec 32 := 1024#32
  let v706 : BitVec 32 := Scalar.muli arg7 c1024_i32
  v706
def k1_off38 (v86 : BitVec 32) (v89 : BitVec 32) (k1_t10 : Fin (k1_t10_loop v86 v89).trips) : Fin 2 → Nat :=
  let c0_344 : Index := 0#32
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k1_t10
  let c1024_i32 : BitVec 32 := 1024#32
  let v706 : BitVec 32 := Scalar.muli arg7 c1024_i32
  let v707 : BitVec 32 := v706
  let v708 : Index := Scalar.indexCast v707
  ![0, v708.toNat]
def k1_off39 (v86 : BitVec 32) (v89 : BitVec 32) (k1_t10 : Fin (k1_t10_loop v86 v89).trips) : Fin 2 → Nat :=
  let c0_345 : Index := 0#32
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k1_t10
  let c1024_i32 : BitVec 32 := 1024#32
  let v706 : BitVec 32 := Scalar.muli arg7 c1024_i32
  let v707 : BitVec 32 := v706
  let v711 : Index := Scalar.indexCast v707
  ![0, v711.toNat]
def k1_off40 (v86 : BitVec 32) (v89 : BitVec 32) (k1_t10 : Fin (k1_t10_loop v86 v89).trips) : Fin 2 → Nat :=
  let c10_i32_40 : BitVec 32 := 10#32
  let v90 : BitVec 32 := Scalar.shrsi v86 c10_i32_40
  let c1_i32_41 : BitVec 32 := 1#32
  let v91 : BitVec 32 := Scalar.subi v89 c1_i32_41
  let c10_i32_42 : BitVec 32 := 10#32
  let v92 : BitVec 32 := Scalar.shrsi v91 c10_i32_42
  let c1_i32_43 : BitVec 32 := 1#32
  let v93 : BitVec 32 := Scalar.addi v92 c1_i32_43
  let v95 : BitVec 32 := Scalar.subi v93 v90
  let c1_i32_45 : BitVec 32 := 1#32
  let v97 : BitVec 32 := Scalar.divsi v95 c1_i32_45
  let v98 : BitVec 32 := Scalar.muli v97 c1_i32_45
  let v99 : BitVec 32 := Scalar.addi v90 v98
  let c1_i32_47 : BitVec 32 := 1#32
  let arg7 : BitVec 32 := Scf.iv v99 c1_i32_47 k1_t10
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk5 (v86 : BitVec 32) (v89 : BitVec 32) : Prop :=
  ((k1_t9_loop v86 v89).OK) ∧
  (∀ k1_t9 : Fin (k1_t9_loop v86 v89).trips, 1024 ∣ (k1_mult9 v86 v89 k1_t9).toNat) ∧
  (∀ k1_t9 : Fin (k1_t9_loop v86 v89).trips, ∀ a, (k1_off35 v86 v89 k1_t9) a + S1x1024.size a ≤ S1x8192.size a) ∧
  (∀ k1_t9 : Fin (k1_t9_loop v86 v89).trips, ∀ a, (k1_off36 v86 v89 k1_t9) a + S128x1024.size a ≤ S128x8192.size a) ∧
  (∀ k1_t9 : Fin (k1_t9_loop v86 v89).trips, ∀ a, (k1_off37 v86 v89 k1_t9) a + S1024x128.size a ≤ S8192x128.size a) ∧
  ((k1_t10_loop v86 v89).OK) ∧
  (∀ k1_t10 : Fin (k1_t10_loop v86 v89).trips, 1024 ∣ (k1_mult10 v86 v89 k1_t10).toNat) ∧
  (∀ k1_t10 : Fin (k1_t10_loop v86 v89).trips, ∀ a, (k1_off38 v86 v89 k1_t10) a + S1x1024.size a ≤ S1x8192.size a) ∧
  (∀ k1_t10 : Fin (k1_t10_loop v86 v89).trips, ∀ a, (k1_off39 v86 v89 k1_t10) a + S128x1024.size a ≤ S128x8192.size a) ∧
  (∀ k1_t10 : Fin (k1_t10_loop v86 v89).trips, ∀ a, (k1_off40 v86 v89 k1_t10) a + S1024x128.size a ≤ S8192x128.size a)
theorem k1_t9_ok : ∀ (v86 : BitVec 32) (v89 : BitVec 32) (k1_hw5 : k1_chk5 v86 v89), (k1_t9_loop v86 v89).OK := fun v86 v89 k1_hw5 => k1_hw5.1
theorem k1_mult9_dvd : ∀ (v86 : BitVec 32) (v89 : BitVec 32) (k1_hw5 : k1_chk5 v86 v89) (k1_t9 : Fin (k1_t9_loop v86 v89).trips), 1024 ∣ (k1_mult9 v86 v89 k1_t9).toNat := fun v86 v89 k1_hw5 k1_t9 => k1_hw5.2.1 k1_t9
theorem k1_off35_inb : ∀ (v86 : BitVec 32) (v89 : BitVec 32) (k1_hw5 : k1_chk5 v86 v89) (k1_t9 : Fin (k1_t9_loop v86 v89).trips), ∀ a, (k1_off35 v86 v89 k1_t9) a + S1x1024.size a ≤ S1x8192.size a := fun v86 v89 k1_hw5 k1_t9 => k1_hw5.2.2.1 k1_t9
theorem k1_off36_inb : ∀ (v86 : BitVec 32) (v89 : BitVec 32) (k1_hw5 : k1_chk5 v86 v89) (k1_t9 : Fin (k1_t9_loop v86 v89).trips), ∀ a, (k1_off36 v86 v89 k1_t9) a + S128x1024.size a ≤ S128x8192.size a := fun v86 v89 k1_hw5 k1_t9 => k1_hw5.2.2.2.1 k1_t9
theorem k1_off37_inb : ∀ (v86 : BitVec 32) (v89 : BitVec 32) (k1_hw5 : k1_chk5 v86 v89) (k1_t9 : Fin (k1_t9_loop v86 v89).trips), ∀ a, (k1_off37 v86 v89 k1_t9) a + S1024x128.size a ≤ S8192x128.size a := fun v86 v89 k1_hw5 k1_t9 => k1_hw5.2.2.2.2.1 k1_t9
theorem k1_t10_ok : ∀ (v86 : BitVec 32) (v89 : BitVec 32) (k1_hw5 : k1_chk5 v86 v89), (k1_t10_loop v86 v89).OK := fun v86 v89 k1_hw5 => k1_hw5.2.2.2.2.2.1
theorem k1_mult10_dvd : ∀ (v86 : BitVec 32) (v89 : BitVec 32) (k1_hw5 : k1_chk5 v86 v89) (k1_t10 : Fin (k1_t10_loop v86 v89).trips), 1024 ∣ (k1_mult10 v86 v89 k1_t10).toNat := fun v86 v89 k1_hw5 k1_t10 => k1_hw5.2.2.2.2.2.2.1 k1_t10
theorem k1_off38_inb : ∀ (v86 : BitVec 32) (v89 : BitVec 32) (k1_hw5 : k1_chk5 v86 v89) (k1_t10 : Fin (k1_t10_loop v86 v89).trips), ∀ a, (k1_off38 v86 v89 k1_t10) a + S1x1024.size a ≤ S1x8192.size a := fun v86 v89 k1_hw5 k1_t10 => k1_hw5.2.2.2.2.2.2.2.1 k1_t10
theorem k1_off39_inb : ∀ (v86 : BitVec 32) (v89 : BitVec 32) (k1_hw5 : k1_chk5 v86 v89) (k1_t10 : Fin (k1_t10_loop v86 v89).trips), ∀ a, (k1_off39 v86 v89 k1_t10) a + S128x1024.size a ≤ S128x8192.size a := fun v86 v89 k1_hw5 k1_t10 => k1_hw5.2.2.2.2.2.2.2.2.1 k1_t10
theorem k1_off40_inb : ∀ (v86 : BitVec 32) (v89 : BitVec 32) (k1_hw5 : k1_chk5 v86 v89) (k1_t10 : Fin (k1_t10_loop v86 v89).trips), ∀ a, (k1_off40 v86 v89 k1_t10) a + S1024x128.size a ≤ S8192x128.size a := fun v86 v89 k1_hw5 k1_t10 => k1_hw5.2.2.2.2.2.2.2.2.2 k1_t10

def k1_off41 (i : grid1.Coords) : Fin 1 → Nat :=
  let arg0 : BitVec 32 := BitVec.ofNat 32 (i 0).val
  let c8_i32_48 : BitVec 32 := 8#32
  let v102 : BitVec 32 := Scalar.muli arg0 c8_i32_48
  let c5_i32 : BitVec 32 := 5#32
  let v103 : BitVec 32 := Scalar.addi v102 c5_i32
  let v104 : Index := Scalar.indexCast v103
  ![v104.toNat]
def k1_off42 (i : grid1.Coords) : Fin 1 → Nat :=
  let arg0 : BitVec 32 := BitVec.ofNat 32 (i 0).val
  let c8_i32_48 : BitVec 32 := 8#32
  let v102 : BitVec 32 := Scalar.muli arg0 c8_i32_48
  let c5_i32 : BitVec 32 := 5#32
  let v103 : BitVec 32 := Scalar.addi v102 c5_i32
  let c1_i32_49 : BitVec 32 := 1#32
  let v106 : BitVec 32 := Scalar.addi v103 c1_i32_49
  let v107 : Index := Scalar.indexCast v106
  ![v107.toNat]
@[reducible] def k1_t11_loop (v105 : BitVec 32) (v108 : BitVec 32) : Scf.Loop 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_56 : BitVec 32 := 1#32
  ⟨v109, v118, c1_i32_56⟩

def k1_mult11 (v105 : BitVec 32) (v108 : BitVec 32) (k1_t11 : Fin (k1_t11_loop v105 v108).trips) : BitVec 32 :=
  let c10_i32_50 : BitVec 32 := 10#32
  let v109 : BitVec 32 := Scalar.shrsi v105 c10_i32_50
  let c1_i32_56 : BitVec 32 := 1#32
  let arg7 : BitVec 32 := Scf.iv v109 c1_i32_56 k1_t11
  let c1024_i32 : BitVec 32 := 1024#32
  let v706 : BitVec 32 := Scalar.muli arg7 c1024_i32
  v706
def k1_off43 (v105 : BitVec 32) (v108 : BitVec 32) (k1_t11 : Fin (k1_t11_loop v105 v108).trips) : Fin 2 → Nat :=
  let c0_344 : Index := 0#32
  let c10_i32_50 : BitVec 32 := 10#32
  let v109 : BitVec 32 := Scalar.shrsi v105 c10_i32_50
  let c1_i32_56 : BitVec 32 := 1#32
  let arg7 : BitVec 32 := Scf.iv v109 c1_i32_56 k1_t11
  let c1024_i32 : BitVec 32 := 1024#32
  let v706 : BitVec 32 := Scalar.muli arg7 c1024_i32
  let v707 : BitVec 32 := v706
  let v708 : Index := Scalar.indexCast v707
  ![0, v708.toNat]
def k1_off44 (v105 : BitVec 32) (v108 : BitVec 32) (k1_t11 : Fin (k1_t11_loop v105 v108).trips) : Fin 2 → Nat :=
  let c0_345 : Index := 0#32
  let c10_i32_50 : BitVec 32 := 10#32
  let v109 : BitVec 32 := Scalar.shrsi v105 c10_i32_50
  let c1_i32_56 : BitVec 32 := 1#32
  let arg7 : BitVec 32 := Scf.iv v109 c1_i32_56 k1_t11
  let c1024_i32 : BitVec 32 := 1024#32
  let v706 : BitVec 32 := Scalar.muli arg7 c1024_i32
  let v707 : BitVec 32 := v706
  let v711 : Index := Scalar.indexCast v707
  ![0, v711.toNat]
def k1_off45 (v105 : BitVec 32) (v108 : BitVec 32) (k1_t11 : Fin (k1_t11_loop v105 v108).trips) : Fin 2 → Nat :=
  let c10_i32_50 : BitVec 32 := 10#32
  let v109 : BitVec 32 := Scalar.shrsi v105 c10_i32_50
  let c1_i32_56 : BitVec 32 := 1#32
  let arg7 : BitVec 32 := Scf.iv v109 c1_i32_56 k1_t11
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t12_loop (v105 : BitVec 32) (v108 : BitVec 32) : Scf.Loop 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let v115 : BitVec 32 := Scalar.addi v109 v114
  let c1_i32_57 : BitVec 32 := 1#32
  ⟨v118, v115, c1_i32_57⟩
def k1_mult12 (v105 : BitVec 32) (v108 : BitVec 32) (k1_t12 : Fin (k1_t12_loop v105 v108).trips) : BitVec 32 :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k1_t12
  let c1024_i32 : BitVec 32 := 1024#32
  let v706 : BitVec 32 := Scalar.muli arg7 c1024_i32
  v706
def k1_off46 (v105 : BitVec 32) (v108 : BitVec 32) (k1_t12 : Fin (k1_t12_loop v105 v108).trips) : Fin 2 → Nat :=
  let c0_344 : Index := 0#32
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k1_t12
  let c1024_i32 : BitVec 32 := 1024#32
  let v706 : BitVec 32 := Scalar.muli arg7 c1024_i32
  let v707 : BitVec 32 := v706
  let v708 : Index := Scalar.indexCast v707
  ![0, v708.toNat]
def k1_off47 (v105 : BitVec 32) (v108 : BitVec 32) (k1_t12 : Fin (k1_t12_loop v105 v108).trips) : Fin 2 → Nat :=
  let c0_345 : Index := 0#32
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k1_t12
  let c1024_i32 : BitVec 32 := 1024#32
  let v706 : BitVec 32 := Scalar.muli arg7 c1024_i32
  let v707 : BitVec 32 := v706
  let v711 : Index := Scalar.indexCast v707
  ![0, v711.toNat]
def k1_off48 (v105 : BitVec 32) (v108 : BitVec 32) (k1_t12 : Fin (k1_t12_loop v105 v108).trips) : Fin 2 → Nat :=
  let c10_i32_50 : BitVec 32 := 10#32
  let v109 : BitVec 32 := Scalar.shrsi v105 c10_i32_50
  let c1_i32_51 : BitVec 32 := 1#32
  let v110 : BitVec 32 := Scalar.subi v108 c1_i32_51
  let c10_i32_52 : BitVec 32 := 10#32
  let v111 : BitVec 32 := Scalar.shrsi v110 c10_i32_52
  let c1_i32_53 : BitVec 32 := 1#32
  let v112 : BitVec 32 := Scalar.addi v111 c1_i32_53
  let v114 : BitVec 32 := Scalar.subi v112 v109
  let c1_i32_55 : BitVec 32 := 1#32
  let v116 : BitVec 32 := Scalar.divsi v114 c1_i32_55
  let v117 : BitVec 32 := Scalar.muli v116 c1_i32_55
  let v118 : BitVec 32 := Scalar.addi v109 v117
  let c1_i32_57 : BitVec 32 := 1#32
  let arg7 : BitVec 32 := Scf.iv v118 c1_i32_57 k1_t12
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk6 (v105 : BitVec 32) (v108 : BitVec 32) : Prop :=
  ((k1_t11_loop v105 v108).OK) ∧
  (∀ k1_t11 : Fin (k1_t11_loop v105 v108).trips, 1024 ∣ (k1_mult11 v105 v108 k1_t11).toNat) ∧
  (∀ k1_t11 : Fin (k1_t11_loop v105 v108).trips, ∀ a, (k1_off43 v105 v108 k1_t11) a + S1x1024.size a ≤ S1x8192.size a) ∧
  (∀ k1_t11 : Fin (k1_t11_loop v105 v108).trips, ∀ a, (k1_off44 v105 v108 k1_t11) a + S128x1024.size a ≤ S128x8192.size a) ∧
  (∀ k1_t11 : Fin (k1_t11_loop v105 v108).trips, ∀ a, (k1_off45 v105 v108 k1_t11) a + S1024x128.size a ≤ S8192x128.size a) ∧
  ((k1_t12_loop v105 v108).OK) ∧
  (∀ k1_t12 : Fin (k1_t12_loop v105 v108).trips, 1024 ∣ (k1_mult12 v105 v108 k1_t12).toNat) ∧
  (∀ k1_t12 : Fin (k1_t12_loop v105 v108).trips, ∀ a, (k1_off46 v105 v108 k1_t12) a + S1x1024.size a ≤ S1x8192.size a) ∧
  (∀ k1_t12 : Fin (k1_t12_loop v105 v108).trips, ∀ a, (k1_off47 v105 v108 k1_t12) a + S128x1024.size a ≤ S128x8192.size a) ∧
  (∀ k1_t12 : Fin (k1_t12_loop v105 v108).trips, ∀ a, (k1_off48 v105 v108 k1_t12) a + S1024x128.size a ≤ S8192x128.size a)
theorem k1_t11_ok : ∀ (v105 : BitVec 32) (v108 : BitVec 32) (k1_hw6 : k1_chk6 v105 v108), (k1_t11_loop v105 v108).OK := fun v105 v108 k1_hw6 => k1_hw6.1
theorem k1_mult11_dvd : ∀ (v105 : BitVec 32) (v108 : BitVec 32) (k1_hw6 : k1_chk6 v105 v108) (k1_t11 : Fin (k1_t11_loop v105 v108).trips), 1024 ∣ (k1_mult11 v105 v108 k1_t11).toNat := fun v105 v108 k1_hw6 k1_t11 => k1_hw6.2.1 k1_t11
theorem k1_off43_inb : ∀ (v105 : BitVec 32) (v108 : BitVec 32) (k1_hw6 : k1_chk6 v105 v108) (k1_t11 : Fin (k1_t11_loop v105 v108).trips), ∀ a, (k1_off43 v105 v108 k1_t11) a + S1x1024.size a ≤ S1x8192.size a := fun v105 v108 k1_hw6 k1_t11 => k1_hw6.2.2.1 k1_t11
theorem k1_off44_inb : ∀ (v105 : BitVec 32) (v108 : BitVec 32) (k1_hw6 : k1_chk6 v105 v108) (k1_t11 : Fin (k1_t11_loop v105 v108).trips), ∀ a, (k1_off44 v105 v108 k1_t11) a + S128x1024.size a ≤ S128x8192.size a := fun v105 v108 k1_hw6 k1_t11 => k1_hw6.2.2.2.1 k1_t11
theorem k1_off45_inb : ∀ (v105 : BitVec 32) (v108 : BitVec 32) (k1_hw6 : k1_chk6 v105 v108) (k1_t11 : Fin (k1_t11_loop v105 v108).trips), ∀ a, (k1_off45 v105 v108 k1_t11) a + S1024x128.size a ≤ S8192x128.size a := fun v105 v108 k1_hw6 k1_t11 => k1_hw6.2.2.2.2.1 k1_t11
theorem k1_t12_ok : ∀ (v105 : BitVec 32) (v108 : BitVec 32) (k1_hw6 : k1_chk6 v105 v108), (k1_t12_loop v105 v108).OK := fun v105 v108 k1_hw6 => k1_hw6.2.2.2.2.2.1
theorem k1_mult12_dvd : ∀ (v105 : BitVec 32) (v108 : BitVec 32) (k1_hw6 : k1_chk6 v105 v108) (k1_t12 : Fin (k1_t12_loop v105 v108).trips), 1024 ∣ (k1_mult12 v105 v108 k1_t12).toNat := fun v105 v108 k1_hw6 k1_t12 => k1_hw6.2.2.2.2.2.2.1 k1_t12
theorem k1_off46_inb : ∀ (v105 : BitVec 32) (v108 : BitVec 32) (k1_hw6 : k1_chk6 v105 v108) (k1_t12 : Fin (k1_t12_loop v105 v108).trips), ∀ a, (k1_off46 v105 v108 k1_t12) a + S1x1024.size a ≤ S1x8192.size a := fun v105 v108 k1_hw6 k1_t12 => k1_hw6.2.2.2.2.2.2.2.1 k1_t12
theorem k1_off47_inb : ∀ (v105 : BitVec 32) (v108 : BitVec 32) (k1_hw6 : k1_chk6 v105 v108) (k1_t12 : Fin (k1_t12_loop v105 v108).trips), ∀ a, (k1_off47 v105 v108 k1_t12) a + S128x1024.size a ≤ S128x8192.size a := fun v105 v108 k1_hw6 k1_t12 => k1_hw6.2.2.2.2.2.2.2.2.1 k1_t12
theorem k1_off48_inb : ∀ (v105 : BitVec 32) (v108 : BitVec 32) (k1_hw6 : k1_chk6 v105 v108) (k1_t12 : Fin (k1_t12_loop v105 v108).trips), ∀ a, (k1_off48 v105 v108 k1_t12) a + S1024x128.size a ≤ S8192x128.size a := fun v105 v108 k1_hw6 k1_t12 => k1_hw6.2.2.2.2.2.2.2.2.2 k1_t12

def k1_off49 (i : grid1.Coords) : Fin 1 → Nat :=
  let arg0 : BitVec 32 := BitVec.ofNat 32 (i 0).val
  let c8_i32_58 : BitVec 32 := 8#32
  let v121 : BitVec 32 := Scalar.muli arg0 c8_i32_58
  let c6_i32 : BitVec 32 := 6#32
  let v122 : BitVec 32 := Scalar.addi v121 c6_i32
  let v123 : Index := Scalar.indexCast v122
  ![v123.toNat]
def k1_off50 (i : grid1.Coords) : Fin 1 → Nat :=
  let arg0 : BitVec 32 := BitVec.ofNat 32 (i 0).val
  let c8_i32_58 : BitVec 32 := 8#32
  let v121 : BitVec 32 := Scalar.muli arg0 c8_i32_58
  let c6_i32 : BitVec 32 := 6#32
  let v122 : BitVec 32 := Scalar.addi v121 c6_i32
  let c1_i32_59 : BitVec 32 := 1#32
  let v125 : BitVec 32 := Scalar.addi v122 c1_i32_59
  let v126 : Index := Scalar.indexCast v125
  ![v126.toNat]
@[reducible] def k1_t13_loop (v124 : BitVec 32) (v127 : BitVec 32) : Scf.Loop 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_66 : BitVec 32 := 1#32
  ⟨v128, v137, c1_i32_66⟩

def k1_mult13 (v124 : BitVec 32) (v127 : BitVec 32) (k1_t13 : Fin (k1_t13_loop v124 v127).trips) : BitVec 32 :=
  let c10_i32_60 : BitVec 32 := 10#32
  let v128 : BitVec 32 := Scalar.shrsi v124 c10_i32_60
  let c1_i32_66 : BitVec 32 := 1#32
  let arg7 : BitVec 32 := Scf.iv v128 c1_i32_66 k1_t13
  let c1024_i32 : BitVec 32 := 1024#32
  let v706 : BitVec 32 := Scalar.muli arg7 c1024_i32
  v706
def k1_off51 (v124 : BitVec 32) (v127 : BitVec 32) (k1_t13 : Fin (k1_t13_loop v124 v127).trips) : Fin 2 → Nat :=
  let c0_344 : Index := 0#32
  let c10_i32_60 : BitVec 32 := 10#32
  let v128 : BitVec 32 := Scalar.shrsi v124 c10_i32_60
  let c1_i32_66 : BitVec 32 := 1#32
  let arg7 : BitVec 32 := Scf.iv v128 c1_i32_66 k1_t13
  let c1024_i32 : BitVec 32 := 1024#32
  let v706 : BitVec 32 := Scalar.muli arg7 c1024_i32
  let v707 : BitVec 32 := v706
  let v708 : Index := Scalar.indexCast v707
  ![0, v708.toNat]
def k1_off52 (v124 : BitVec 32) (v127 : BitVec 32) (k1_t13 : Fin (k1_t13_loop v124 v127).trips) : Fin 2 → Nat :=
  let c0_345 : Index := 0#32
  let c10_i32_60 : BitVec 32 := 10#32
  let v128 : BitVec 32 := Scalar.shrsi v124 c10_i32_60
  let c1_i32_66 : BitVec 32 := 1#32
  let arg7 : BitVec 32 := Scf.iv v128 c1_i32_66 k1_t13
  let c1024_i32 : BitVec 32 := 1024#32
  let v706 : BitVec 32 := Scalar.muli arg7 c1024_i32
  let v707 : BitVec 32 := v706
  let v711 : Index := Scalar.indexCast v707
  ![0, v711.toNat]
def k1_off53 (v124 : BitVec 32) (v127 : BitVec 32) (k1_t13 : Fin (k1_t13_loop v124 v127).trips) : Fin 2 → Nat :=
  let c10_i32_60 : BitVec 32 := 10#32
  let v128 : BitVec 32 := Scalar.shrsi v124 c10_i32_60
  let c1_i32_66 : BitVec 32 := 1#32
  let arg7 : BitVec 32 := Scf.iv v128 c1_i32_66 k1_t13
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t14_loop (v124 : BitVec 32) (v127 : BitVec 32) : Scf.Loop 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let v134 : BitVec 32 := Scalar.addi v128 v133
  let c1_i32_67 : BitVec 32 := 1#32
  ⟨v137, v134, c1_i32_67⟩
def k1_mult14 (v124 : BitVec 32) (v127 : BitVec 32) (k1_t14 : Fin (k1_t14_loop v124 v127).trips) : BitVec 32 :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k1_t14
  let c1024_i32 : BitVec 32 := 1024#32
  let v706 : BitVec 32 := Scalar.muli arg7 c1024_i32
  v706
def k1_off54 (v124 : BitVec 32) (v127 : BitVec 32) (k1_t14 : Fin (k1_t14_loop v124 v127).trips) : Fin 2 → Nat :=
  let c0_344 : Index := 0#32
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k1_t14
  let c1024_i32 : BitVec 32 := 1024#32
  let v706 : BitVec 32 := Scalar.muli arg7 c1024_i32
  let v707 : BitVec 32 := v706
  let v708 : Index := Scalar.indexCast v707
  ![0, v708.toNat]
def k1_off55 (v124 : BitVec 32) (v127 : BitVec 32) (k1_t14 : Fin (k1_t14_loop v124 v127).trips) : Fin 2 → Nat :=
  let c0_345 : Index := 0#32
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k1_t14
  let c1024_i32 : BitVec 32 := 1024#32
  let v706 : BitVec 32 := Scalar.muli arg7 c1024_i32
  let v707 : BitVec 32 := v706
  let v711 : Index := Scalar.indexCast v707
  ![0, v711.toNat]
def k1_off56 (v124 : BitVec 32) (v127 : BitVec 32) (k1_t14 : Fin (k1_t14_loop v124 v127).trips) : Fin 2 → Nat :=
  let c10_i32_60 : BitVec 32 := 10#32
  let v128 : BitVec 32 := Scalar.shrsi v124 c10_i32_60
  let c1_i32_61 : BitVec 32 := 1#32
  let v129 : BitVec 32 := Scalar.subi v127 c1_i32_61
  let c10_i32_62 : BitVec 32 := 10#32
  let v130 : BitVec 32 := Scalar.shrsi v129 c10_i32_62
  let c1_i32_63 : BitVec 32 := 1#32
  let v131 : BitVec 32 := Scalar.addi v130 c1_i32_63
  let v133 : BitVec 32 := Scalar.subi v131 v128
  let c1_i32_65 : BitVec 32 := 1#32
  let v135 : BitVec 32 := Scalar.divsi v133 c1_i32_65
  let v136 : BitVec 32 := Scalar.muli v135 c1_i32_65
  let v137 : BitVec 32 := Scalar.addi v128 v136
  let c1_i32_67 : BitVec 32 := 1#32
  let arg7 : BitVec 32 := Scf.iv v137 c1_i32_67 k1_t14
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk7 (v124 : BitVec 32) (v127 : BitVec 32) : Prop :=
  ((k1_t13_loop v124 v127).OK) ∧
  (∀ k1_t13 : Fin (k1_t13_loop v124 v127).trips, 1024 ∣ (k1_mult13 v124 v127 k1_t13).toNat) ∧
  (∀ k1_t13 : Fin (k1_t13_loop v124 v127).trips, ∀ a, (k1_off51 v124 v127 k1_t13) a + S1x1024.size a ≤ S1x8192.size a) ∧
  (∀ k1_t13 : Fin (k1_t13_loop v124 v127).trips, ∀ a, (k1_off52 v124 v127 k1_t13) a + S128x1024.size a ≤ S128x8192.size a) ∧
  (∀ k1_t13 : Fin (k1_t13_loop v124 v127).trips, ∀ a, (k1_off53 v124 v127 k1_t13) a + S1024x128.size a ≤ S8192x128.size a) ∧
  ((k1_t14_loop v124 v127).OK) ∧
  (∀ k1_t14 : Fin (k1_t14_loop v124 v127).trips, 1024 ∣ (k1_mult14 v124 v127 k1_t14).toNat) ∧
  (∀ k1_t14 : Fin (k1_t14_loop v124 v127).trips, ∀ a, (k1_off54 v124 v127 k1_t14) a + S1x1024.size a ≤ S1x8192.size a) ∧
  (∀ k1_t14 : Fin (k1_t14_loop v124 v127).trips, ∀ a, (k1_off55 v124 v127 k1_t14) a + S128x1024.size a ≤ S128x8192.size a) ∧
  (∀ k1_t14 : Fin (k1_t14_loop v124 v127).trips, ∀ a, (k1_off56 v124 v127 k1_t14) a + S1024x128.size a ≤ S8192x128.size a)
theorem k1_t13_ok : ∀ (v124 : BitVec 32) (v127 : BitVec 32) (k1_hw7 : k1_chk7 v124 v127), (k1_t13_loop v124 v127).OK := fun v124 v127 k1_hw7 => k1_hw7.1
theorem k1_mult13_dvd : ∀ (v124 : BitVec 32) (v127 : BitVec 32) (k1_hw7 : k1_chk7 v124 v127) (k1_t13 : Fin (k1_t13_loop v124 v127).trips), 1024 ∣ (k1_mult13 v124 v127 k1_t13).toNat := fun v124 v127 k1_hw7 k1_t13 => k1_hw7.2.1 k1_t13
theorem k1_off51_inb : ∀ (v124 : BitVec 32) (v127 : BitVec 32) (k1_hw7 : k1_chk7 v124 v127) (k1_t13 : Fin (k1_t13_loop v124 v127).trips), ∀ a, (k1_off51 v124 v127 k1_t13) a + S1x1024.size a ≤ S1x8192.size a := fun v124 v127 k1_hw7 k1_t13 => k1_hw7.2.2.1 k1_t13
theorem k1_off52_inb : ∀ (v124 : BitVec 32) (v127 : BitVec 32) (k1_hw7 : k1_chk7 v124 v127) (k1_t13 : Fin (k1_t13_loop v124 v127).trips), ∀ a, (k1_off52 v124 v127 k1_t13) a + S128x1024.size a ≤ S128x8192.size a := fun v124 v127 k1_hw7 k1_t13 => k1_hw7.2.2.2.1 k1_t13
theorem k1_off53_inb : ∀ (v124 : BitVec 32) (v127 : BitVec 32) (k1_hw7 : k1_chk7 v124 v127) (k1_t13 : Fin (k1_t13_loop v124 v127).trips), ∀ a, (k1_off53 v124 v127 k1_t13) a + S1024x128.size a ≤ S8192x128.size a := fun v124 v127 k1_hw7 k1_t13 => k1_hw7.2.2.2.2.1 k1_t13
theorem k1_t14_ok : ∀ (v124 : BitVec 32) (v127 : BitVec 32) (k1_hw7 : k1_chk7 v124 v127), (k1_t14_loop v124 v127).OK := fun v124 v127 k1_hw7 => k1_hw7.2.2.2.2.2.1
theorem k1_mult14_dvd : ∀ (v124 : BitVec 32) (v127 : BitVec 32) (k1_hw7 : k1_chk7 v124 v127) (k1_t14 : Fin (k1_t14_loop v124 v127).trips), 1024 ∣ (k1_mult14 v124 v127 k1_t14).toNat := fun v124 v127 k1_hw7 k1_t14 => k1_hw7.2.2.2.2.2.2.1 k1_t14
theorem k1_off54_inb : ∀ (v124 : BitVec 32) (v127 : BitVec 32) (k1_hw7 : k1_chk7 v124 v127) (k1_t14 : Fin (k1_t14_loop v124 v127).trips), ∀ a, (k1_off54 v124 v127 k1_t14) a + S1x1024.size a ≤ S1x8192.size a := fun v124 v127 k1_hw7 k1_t14 => k1_hw7.2.2.2.2.2.2.2.1 k1_t14
theorem k1_off55_inb : ∀ (v124 : BitVec 32) (v127 : BitVec 32) (k1_hw7 : k1_chk7 v124 v127) (k1_t14 : Fin (k1_t14_loop v124 v127).trips), ∀ a, (k1_off55 v124 v127 k1_t14) a + S128x1024.size a ≤ S128x8192.size a := fun v124 v127 k1_hw7 k1_t14 => k1_hw7.2.2.2.2.2.2.2.2.1 k1_t14
theorem k1_off56_inb : ∀ (v124 : BitVec 32) (v127 : BitVec 32) (k1_hw7 : k1_chk7 v124 v127) (k1_t14 : Fin (k1_t14_loop v124 v127).trips), ∀ a, (k1_off56 v124 v127 k1_t14) a + S1024x128.size a ≤ S8192x128.size a := fun v124 v127 k1_hw7 k1_t14 => k1_hw7.2.2.2.2.2.2.2.2.2 k1_t14

def k1_off57 (i : grid1.Coords) : Fin 1 → Nat :=
  let arg0 : BitVec 32 := BitVec.ofNat 32 (i 0).val
  let c8_i32_68 : BitVec 32 := 8#32
  let v140 : BitVec 32 := Scalar.muli arg0 c8_i32_68
  let c7_i32 : BitVec 32 := 7#32
  let v141 : BitVec 32 := Scalar.addi v140 c7_i32
  let v142 : Index := Scalar.indexCast v141
  ![v142.toNat]
def k1_off58 (i : grid1.Coords) : Fin 1 → Nat :=
  let arg0 : BitVec 32 := BitVec.ofNat 32 (i 0).val
  let c8_i32_68 : BitVec 32 := 8#32
  let v140 : BitVec 32 := Scalar.muli arg0 c8_i32_68
  let c7_i32 : BitVec 32 := 7#32
  let v141 : BitVec 32 := Scalar.addi v140 c7_i32
  let c1_i32_69 : BitVec 32 := 1#32
  let v144 : BitVec 32 := Scalar.addi v141 c1_i32_69
  let v145 : Index := Scalar.indexCast v144
  ![v145.toNat]
@[reducible] def k1_t15_loop (v143 : BitVec 32) (v146 : BitVec 32) : Scf.Loop 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_76 : BitVec 32 := 1#32
  ⟨v147, v156, c1_i32_76⟩

def k1_mult15 (v143 : BitVec 32) (v146 : BitVec 32) (k1_t15 : Fin (k1_t15_loop v143 v146).trips) : BitVec 32 :=
  let c10_i32_70 : BitVec 32 := 10#32
  let v147 : BitVec 32 := Scalar.shrsi v143 c10_i32_70
  let c1_i32_76 : BitVec 32 := 1#32
  let arg7 : BitVec 32 := Scf.iv v147 c1_i32_76 k1_t15
  let c1024_i32 : BitVec 32 := 1024#32
  let v706 : BitVec 32 := Scalar.muli arg7 c1024_i32
  v706
def k1_off59 (v143 : BitVec 32) (v146 : BitVec 32) (k1_t15 : Fin (k1_t15_loop v143 v146).trips) : Fin 2 → Nat :=
  let c0_344 : Index := 0#32
  let c10_i32_70 : BitVec 32 := 10#32
  let v147 : BitVec 32 := Scalar.shrsi v143 c10_i32_70
  let c1_i32_76 : BitVec 32 := 1#32
  let arg7 : BitVec 32 := Scf.iv v147 c1_i32_76 k1_t15
  let c1024_i32 : BitVec 32 := 1024#32
  let v706 : BitVec 32 := Scalar.muli arg7 c1024_i32
  let v707 : BitVec 32 := v706
  let v708 : Index := Scalar.indexCast v707
  ![0, v708.toNat]
def k1_off60 (v143 : BitVec 32) (v146 : BitVec 32) (k1_t15 : Fin (k1_t15_loop v143 v146).trips) : Fin 2 → Nat :=
  let c0_345 : Index := 0#32
  let c10_i32_70 : BitVec 32 := 10#32
  let v147 : BitVec 32 := Scalar.shrsi v143 c10_i32_70
  let c1_i32_76 : BitVec 32 := 1#32
  let arg7 : BitVec 32 := Scf.iv v147 c1_i32_76 k1_t15
  let c1024_i32 : BitVec 32 := 1024#32
  let v706 : BitVec 32 := Scalar.muli arg7 c1024_i32
  let v707 : BitVec 32 := v706
  let v711 : Index := Scalar.indexCast v707
  ![0, v711.toNat]
def k1_off61 (v143 : BitVec 32) (v146 : BitVec 32) (k1_t15 : Fin (k1_t15_loop v143 v146).trips) : Fin 2 → Nat :=
  let c10_i32_70 : BitVec 32 := 10#32
  let v147 : BitVec 32 := Scalar.shrsi v143 c10_i32_70
  let c1_i32_76 : BitVec 32 := 1#32
  let arg7 : BitVec 32 := Scf.iv v147 c1_i32_76 k1_t15
  let c1024_i32 : BitVec 32 := 1024#32
  let v706 : BitVec 32 := Scalar.muli arg7 c1024_i32
  let v707 : BitVec 32 := v706
  let v714 : Index := Scalar.indexCast v707
  let c0_346 : Index := 0#32
  ![v714.toNat, 0]
@[reducible] def k1_t16_loop (v143 : BitVec 32) (v146 : BitVec 32) : Scf.Loop 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let v153 : BitVec 32 := Scalar.addi v147 v152
  let c1_i32_77 : BitVec 32 := 1#32
  ⟨v156, v153, c1_i32_77⟩
def k1_mult16 (v143 : BitVec 32) (v146 : BitVec 32) (k1_t16 : Fin (k1_t16_loop v143 v146).trips) : BitVec 32 :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k1_t16
  let c1024_i32 : BitVec 32 := 1024#32
  let v706 : BitVec 32 := Scalar.muli arg7 c1024_i32
  v706
def k1_off62 (v143 : BitVec 32) (v146 : BitVec 32) (k1_t16 : Fin (k1_t16_loop v143 v146).trips) : Fin 2 → Nat :=
  let c0_344 : Index := 0#32
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k1_t16
  let c1024_i32 : BitVec 32 := 1024#32
  let v706 : BitVec 32 := Scalar.muli arg7 c1024_i32
  let v707 : BitVec 32 := v706
  let v708 : Index := Scalar.indexCast v707
  ![0, v708.toNat]
def k1_off63 (v143 : BitVec 32) (v146 : BitVec 32) (k1_t16 : Fin (k1_t16_loop v143 v146).trips) : Fin 2 → Nat :=
  let c0_345 : Index := 0#32
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k1_t16
  let c1024_i32 : BitVec 32 := 1024#32
  let v706 : BitVec 32 := Scalar.muli arg7 c1024_i32
  let v707 : BitVec 32 := v706
  let v711 : Index := Scalar.indexCast v707
  ![0, v711.toNat]
def k1_off64 (v143 : BitVec 32) (v146 : BitVec 32) (k1_t16 : Fin (k1_t16_loop v143 v146).trips) : Fin 2 → Nat :=
  let c10_i32_70 : BitVec 32 := 10#32
  let v147 : BitVec 32 := Scalar.shrsi v143 c10_i32_70
  let c1_i32_71 : BitVec 32 := 1#32
  let v148 : BitVec 32 := Scalar.subi v146 c1_i32_71
  let c10_i32_72 : BitVec 32 := 10#32
  let v149 : BitVec 32 := Scalar.shrsi v148 c10_i32_72
  let c1_i32_73 : BitVec 32 := 1#32
  let v150 : BitVec 32 := Scalar.addi v149 c1_i32_73
  let v152 : BitVec 32 := Scalar.subi v150 v147
  let c1_i32_75 : BitVec 32 := 1#32
  let v154 : BitVec 32 := Scalar.divsi v152 c1_i32_75
  let v155 : BitVec 32 := Scalar.muli v154 c1_i32_75
  let v156 : BitVec 32 := Scalar.addi v147 v155
  let c1_i32_77 : BitVec 32 := 1#32
  let arg7 : BitVec 32 := Scf.iv v156 c1_i32_77 k1_t16
  let c1024_i32 : BitVec 32 := 1024#32
  let v706 : BitVec 32 := Scalar.muli arg7 c1024_i32
  let v707 : BitVec 32 := v706
  let v714 : Index := Scalar.indexCast v707
  let c0_346 : Index := 0#32
  ![v714.toNat, 0]

def k1_chk8 (v143 : BitVec 32) (v146 : BitVec 32) : Prop :=
  ((k1_t15_loop v143 v146).OK) ∧
  (∀ k1_t15 : Fin (k1_t15_loop v143 v146).trips, 1024 ∣ (k1_mult15 v143 v146 k1_t15).toNat) ∧
  (∀ k1_t15 : Fin (k1_t15_loop v143 v146).trips, ∀ a, (k1_off59 v143 v146 k1_t15) a + S1x1024.size a ≤ S1x8192.size a) ∧
  (∀ k1_t15 : Fin (k1_t15_loop v143 v146).trips, ∀ a, (k1_off60 v143 v146 k1_t15) a + S128x1024.size a ≤ S128x8192.size a) ∧
  (∀ k1_t15 : Fin (k1_t15_loop v143 v146).trips, ∀ a, (k1_off61 v143 v146 k1_t15) a + S1024x128.size a ≤ S8192x128.size a) ∧
  ((k1_t16_loop v143 v146).OK) ∧
  (∀ k1_t16 : Fin (k1_t16_loop v143 v146).trips, 1024 ∣ (k1_mult16 v143 v146 k1_t16).toNat) ∧
  (∀ k1_t16 : Fin (k1_t16_loop v143 v146).trips, ∀ a, (k1_off62 v143 v146 k1_t16) a + S1x1024.size a ≤ S1x8192.size a) ∧
  (∀ k1_t16 : Fin (k1_t16_loop v143 v146).trips, ∀ a, (k1_off63 v143 v146 k1_t16) a + S128x1024.size a ≤ S128x8192.size a) ∧
  (∀ k1_t16 : Fin (k1_t16_loop v143 v146).trips, ∀ a, (k1_off64 v143 v146 k1_t16) a + S1024x128.size a ≤ S8192x128.size a)
theorem k1_t15_ok : ∀ (v143 : BitVec 32) (v146 : BitVec 32) (k1_hw8 : k1_chk8 v143 v146), (k1_t15_loop v143 v146).OK := fun v143 v146 k1_hw8 => k1_hw8.1
theorem k1_mult15_dvd : ∀ (v143 : BitVec 32) (v146 : BitVec 32) (k1_hw8 : k1_chk8 v143 v146) (k1_t15 : Fin (k1_t15_loop v143 v146).trips), 1024 ∣ (k1_mult15 v143 v146 k1_t15).toNat := fun v143 v146 k1_hw8 k1_t15 => k1_hw8.2.1 k1_t15
theorem k1_off59_inb : ∀ (v143 : BitVec 32) (v146 : BitVec 32) (k1_hw8 : k1_chk8 v143 v146) (k1_t15 : Fin (k1_t15_loop v143 v146).trips), ∀ a, (k1_off59 v143 v146 k1_t15) a + S1x1024.size a ≤ S1x8192.size a := fun v143 v146 k1_hw8 k1_t15 => k1_hw8.2.2.1 k1_t15
theorem k1_off60_inb : ∀ (v143 : BitVec 32) (v146 : BitVec 32) (k1_hw8 : k1_chk8 v143 v146) (k1_t15 : Fin (k1_t15_loop v143 v146).trips), ∀ a, (k1_off60 v143 v146 k1_t15) a + S128x1024.size a ≤ S128x8192.size a := fun v143 v146 k1_hw8 k1_t15 => k1_hw8.2.2.2.1 k1_t15
theorem k1_off61_inb : ∀ (v143 : BitVec 32) (v146 : BitVec 32) (k1_hw8 : k1_chk8 v143 v146) (k1_t15 : Fin (k1_t15_loop v143 v146).trips), ∀ a, (k1_off61 v143 v146 k1_t15) a + S1024x128.size a ≤ S8192x128.size a := fun v143 v146 k1_hw8 k1_t15 => k1_hw8.2.2.2.2.1 k1_t15
theorem k1_t16_ok : ∀ (v143 : BitVec 32) (v146 : BitVec 32) (k1_hw8 : k1_chk8 v143 v146), (k1_t16_loop v143 v146).OK := fun v143 v146 k1_hw8 => k1_hw8.2.2.2.2.2.1
theorem k1_mult16_dvd : ∀ (v143 : BitVec 32) (v146 : BitVec 32) (k1_hw8 : k1_chk8 v143 v146) (k1_t16 : Fin (k1_t16_loop v143 v146).trips), 1024 ∣ (k1_mult16 v143 v146 k1_t16).toNat := fun v143 v146 k1_hw8 k1_t16 => k1_hw8.2.2.2.2.2.2.1 k1_t16
theorem k1_off62_inb : ∀ (v143 : BitVec 32) (v146 : BitVec 32) (k1_hw8 : k1_chk8 v143 v146) (k1_t16 : Fin (k1_t16_loop v143 v146).trips), ∀ a, (k1_off62 v143 v146 k1_t16) a + S1x1024.size a ≤ S1x8192.size a := fun v143 v146 k1_hw8 k1_t16 => k1_hw8.2.2.2.2.2.2.2.1 k1_t16
theorem k1_off63_inb : ∀ (v143 : BitVec 32) (v146 : BitVec 32) (k1_hw8 : k1_chk8 v143 v146) (k1_t16 : Fin (k1_t16_loop v143 v146).trips), ∀ a, (k1_off63 v143 v146 k1_t16) a + S128x1024.size a ≤ S128x8192.size a := fun v143 v146 k1_hw8 k1_t16 => k1_hw8.2.2.2.2.2.2.2.2.1 k1_t16
theorem k1_off64_inb : ∀ (v143 : BitVec 32) (v146 : BitVec 32) (k1_hw8 : k1_chk8 v143 v146) (k1_t16 : Fin (k1_t16_loop v143 v146).trips), ∀ a, (k1_off64 v143 v146 k1_t16) a + S1024x128.size a ≤ S8192x128.size a := fun v143 v146 k1_hw8 k1_t16 => k1_hw8.2.2.2.2.2.2.2.2.2 k1_t16

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== WholeReferenceIdeal.lean ====
abbrev S8192x128 : Shape := ⟨2, ![8192, 128]⟩
abbrev S8256x1 : Shape := ⟨2, ![8256, 1]⟩
abbrev S1 : Shape := ⟨1, ![1]⟩
abbrev S8192 : Shape := ⟨1, ![8192]⟩
abbrev S2x131072 : Shape := ⟨2, ![2, 131072]⟩
abbrev S1x8256 : Shape := ⟨2, ![1, 8256]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S8256 : Shape := ⟨1, ![8256]⟩
abbrev S128x128x1 : Shape := ⟨3, ![128, 128, 1]⟩
abbrev S8192x128x1 : Shape := ⟨3, ![8192, 128, 1]⟩
abbrev S8192x1x128 : Shape := ⟨3, ![8192, 1, 128]⟩
abbrev S8192x128x128 : Shape := ⟨3, ![8192, 128, 128]⟩
abbrev S1x128x128 : Shape := ⟨3, ![1, 128, 128]⟩
abbrev S1x8192 : Shape := ⟨2, ![1, 8192]⟩
abbrev S64 : Shape := ⟨1, ![64]⟩
abbrev S64x1 : Shape := ⟨2, ![64, 1]⟩
abbrev S64x8192 : Shape := ⟨2, ![64, 8192]⟩
abbrev S8192x1 : Shape := ⟨2, ![8192, 1]⟩
abbrev S128x8192 : Shape := ⟨2, ![128, 8192]⟩
abbrev S1x64 : Shape := ⟨2, ![1, 64]⟩
abbrev S64x128x128 : Shape := ⟨3, ![64, 128, 128]⟩
abbrev S64x1x1 : Shape := ⟨3, ![64, 1, 1]⟩
abbrev S16384 : Shape := ⟨1, ![16384]⟩
abbrev S16384x1 : Shape := ⟨2, ![16384, 1]⟩
abbrev S8256x2 : Shape := ⟨2, ![8256, 2]⟩
abbrev S64x8256 : Shape := ⟨2, ![64, 8256]⟩

abbrev nBuf : Space → Nat
  | .hbm => 365
  | .vmem => 0
  | .smem => 0
  | _ => 0

abbrev hbmTy0_0 (i : Nat) : BufTy := match i % 128 with
  | 0 => ⟨S8192x128, .f32⟩
  | 1 => ⟨S8256x1, .f32⟩
  | 2 => ⟨S1, .f32⟩
  | 3 => ⟨S8192, .i32⟩
  | 4 => ⟨S2x131072, .i32⟩
  | 5 => ⟨S1x8256, .f32⟩
  | 6 => ⟨S128, .i32⟩
  | 7 => ⟨S128x1, .i32⟩
  | 8 => ⟨S128, .i32⟩
  | 9 => ⟨S1x128, .i32⟩
  | 10 => ⟨S_, .i32⟩
  | 11 => ⟨S128x1, .i32⟩
  | 12 => ⟨S128x1, .i32⟩
  | 13 => ⟨S_, .i32⟩
  | 14 => ⟨S128x1, .i32⟩
  | 15 => ⟨S128x1, .i32⟩
  | 16 => ⟨S128x1, .i32⟩
  | 17 => ⟨S_, .i32⟩
  | 18 => ⟨S128x1, .i32⟩
  | 19 => ⟨S128x1, .i32⟩
  | 20 => ⟨S128x1, .i32⟩
  | 21 => ⟨S128x128, .i32⟩
  | 22 => ⟨S128x128, .i32⟩
  | 23 => ⟨S128x128, .i32⟩
  | 24 => ⟨S128x128, .i32⟩
  | 25 => ⟨S128x128, .i32⟩
  | 26 => ⟨S128x128, .i32⟩
  | 27 => ⟨S128x128, .i32⟩
  | 28 => ⟨S128x128, .i1⟩
  | 29 => ⟨S8256, .f32⟩
  | 30 => ⟨S128x128, .i32⟩
  | 31 => ⟨S128x128, .i32⟩
  | 32 => ⟨S128x128, .i1⟩
  | 33 => ⟨S_, .i32⟩
  | 34 => ⟨S_, .i32⟩
  | 35 => ⟨S128x128, .i32⟩
  | 36 => ⟨S128x128, .i32⟩
  | 37 => ⟨S_, .i32⟩
  | 38 => ⟨S128x128, .i32⟩
  | 39 => ⟨S128x128, .i1⟩
  | 40 => ⟨S_, .i32⟩
  | 41 => ⟨S128x128, .i32⟩
  | 42 => ⟨S128x128, .i32⟩
  | 43 => ⟨S128x128, .i32⟩
  | 44 => ⟨S128x128x1, .i32⟩
  | 45 => ⟨S128x128, .f32⟩
  | 46 => ⟨S_, .f32⟩
  | 47 => ⟨S_, .f32⟩
  | 48 => ⟨S128x128, .f32⟩
  | 49 => ⟨S128x128, .f32⟩
  | 50 => ⟨S8192x128x1, .f32⟩
  | 51 => ⟨S8192x1x128, .f32⟩
  | 52 => ⟨S8192x128x128, .f32⟩
  | 53 => ⟨S8192x128x128, .f32⟩
  | 54 => ⟨S8192x128x128, .f32⟩
  | 55 => ⟨S1x128x128, .f32⟩
  | 56 => ⟨S8192x128x128, .f32⟩
  | 57 => ⟨S8192x128x128, .f32⟩
  | 58 => ⟨S_, .f32⟩
  | 59 => ⟨S8192, .f32⟩
  | 60 => ⟨S8192, .f32⟩
  | 61 => ⟨S8192, .f32⟩
  | 62 => ⟨S1x8192, .i32⟩
  | 63 => ⟨S64, .i32⟩
  | 64 => ⟨S64x1, .i32⟩
  | 65 => ⟨S64x8192, .i32⟩
  | 66 => ⟨S64x8192, .i32⟩
  | 67 => ⟨S64x8192, .i1⟩
  | 68 => ⟨S1x8192, .f32⟩
  | 69 => ⟨S_, .f32⟩
  | 70 => ⟨S_, .f32⟩
  | 71 => ⟨S64x8192, .f32⟩
  | 72 => ⟨S64x8192, .f32⟩
  | 73 => ⟨S64x8192, .f32⟩
  | 74 => ⟨S_, .f32⟩
  | 75 => ⟨S64, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192, .f32⟩
  | 85 => ⟨S8192, .f32⟩
  | 86 => ⟨S8192, .f32⟩
  | 87 => ⟨S1x8192, .f32⟩
  | 88 => ⟨S_, .f32⟩
  | 89 => ⟨S_, .f32⟩
  | 90 => ⟨S64x8192, .f32⟩
  | 91 => ⟨S64x8192, .f32⟩
  | 92 => ⟨S64x8192, .f32⟩
  | 93 => ⟨S_, .f32⟩
  | 94 => ⟨S64, .f32⟩
  | 95 => ⟨S8192x1, .f32⟩
  | 96 => ⟨S8192x128, .f32⟩
  | 97 => ⟨S8192x128, .f32⟩
  | 98 => ⟨S128x8192, .f32⟩
  | 99 => ⟨S1x8192, .i32⟩
  | 100 => ⟨S1x64, .f32⟩
  | 101 => ⟨S8192, .i32⟩
  | 102 => ⟨S128x128, .i32⟩
  | 103 => ⟨S128x128, .i32⟩
  | 104 => ⟨S_, .i32⟩
  | 105 => ⟨S128x128, .i32⟩
  | 106 => ⟨S128x128, .i32⟩
  | 107 => ⟨S128x128, .i1⟩
  | 108 => ⟨S128x128, .f32⟩
  | 109 => ⟨S8192x128, .f32⟩
  | 110 => ⟨S64, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192, .f32⟩
  | 120 => ⟨S8192x1, .f32⟩
  | 121 => ⟨S8192x128, .f32⟩
  | 122 => ⟨S8192x128, .f32⟩
  | 123 => ⟨S8192x128x1, .f32⟩
  | 124 => ⟨S8192x1x128, .f32⟩
  | 125 => ⟨S8192x128x128, .f32⟩
  | 126 => ⟨S8192x128x128, .f32⟩
  | 127 => ⟨S8192x128x128, .f32⟩
  | _ => ⟨S8192x128, .f32⟩

abbrev hbmTy0_1 (i : Nat) : BufTy := match i % 128 with
  | 0 => ⟨S_, .f32⟩
  | 1 => ⟨S64x128x128, .f32⟩
  | 2 => ⟨S8192x1, .i32⟩
  | 3 => ⟨S64x128x128, .f32⟩
  | 4 => ⟨S_, .f32⟩
  | 5 => ⟨S128x128, .f32⟩
  | 6 => ⟨S128x128, .f32⟩
  | 7 => ⟨S1x128x128, .f32⟩
  | 8 => ⟨S64x128x128, .f32⟩
  | 9 => ⟨S64x128x128, .f32⟩
  | 10 => ⟨S128x128, .i32⟩
  | 11 => ⟨S128x128, .i32⟩
  | 12 => ⟨S_, .i32⟩
  | 13 => ⟨S128x128, .i32⟩
  | 14 => ⟨S128x128, .i32⟩
  | 15 => ⟨S128x128, .i1⟩
  | 16 => ⟨S_, .f32⟩
  | 17 => ⟨S64x128x128, .f32⟩
  | 18 => ⟨S64x128x128, .i1⟩
  | 19 => ⟨S64x128x128, .f32⟩
  | 20 => ⟨S_, .f32⟩
  | 21 => ⟨S64, .f32⟩
  | 22 => ⟨S64x1x1, .f32⟩
  | 23 => ⟨S64x128x128, .f32⟩
  | 24 => ⟨S64x128x128, .f32⟩
  | 25 => ⟨S64x128x128, .f32⟩
  | 26 => ⟨S_, .f32⟩
  | 27 => ⟨S128x128, .f32⟩
  | 28 => ⟨S128x128, .f32⟩
  | 29 => ⟨S64x128x128, .f32⟩
  | 30 => ⟨S1x128x128, .f32⟩
  | 31 => ⟨S64x128x128, .f32⟩
  | 32 => ⟨S64x128x128, .f32⟩
  | 33 => ⟨S_, .f32⟩
  | 34 => ⟨S64x128x128, .f32⟩
  | 35 => ⟨S64x128x128, .f32⟩
  | 36 => ⟨S64x128x128, .f32⟩
  | 37 => ⟨S64x128x128, .f32⟩
  | 38 => ⟨S_, .f32⟩
  | 39 => ⟨S128x128, .f32⟩
  | 40 => ⟨S128x128, .f32⟩
  | 41 => ⟨S64x128x128, .f32⟩
  | 42 => ⟨S1x128x128, .f32⟩
  | 43 => ⟨S64x128x128, .f32⟩
  | 44 => ⟨S64x128x128, .f32⟩
  | 45 => ⟨S_, .f32⟩
  | 46 => ⟨S64x128x128, .f32⟩
  | 47 => ⟨S64x128x128, .f32⟩
  | 48 => ⟨S64x128x128, .f32⟩
  | 49 => ⟨S64x128x128, .f32⟩
  | 50 => ⟨S_, .f32⟩
  | 51 => ⟨S128x128, .f32⟩
  | 52 => ⟨S128x128, .f32⟩
  | 53 => ⟨S64x128x128, .f32⟩
  | 54 => ⟨S1x128x128, .f32⟩
  | 55 => ⟨S64x128x128, .f32⟩
  | 56 => ⟨S64x128x128, .f32⟩
  | 57 => ⟨S_, .f32⟩
  | 58 => ⟨S64x128x128, .f32⟩
  | 59 => ⟨S64x128x128, .f32⟩
  | 60 => ⟨S64x128x128, .f32⟩
  | 61 => ⟨S64x128x128, .f32⟩
  | 62 => ⟨S_, .f32⟩
  | 63 => ⟨S128x128, .f32⟩
  | 64 => ⟨S128x128, .f32⟩
  | 65 => ⟨S64x128x128, .f32⟩
  | 66 => ⟨S1x128x128, .f32⟩
  | 67 => ⟨S64x128x128, .f32⟩
  | 68 => ⟨S64x128x128, .f32⟩
  | 69 => ⟨S_, .f32⟩
  | 70 => ⟨S64x128x128, .f32⟩
  | 71 => ⟨S64x128x128, .f32⟩
  | 72 => ⟨S64x128x128, .f32⟩
  | 73 => ⟨S64x128x128, .f32⟩
  | 74 => ⟨S_, .f32⟩
  | 75 => ⟨S128x128, .f32⟩
  | 76 => ⟨S128x128, .f32⟩
  | 77 => ⟨S64x128x128, .f32⟩
  | 78 => ⟨S1x128x128, .f32⟩
  | 79 => ⟨S64x128x128, .f32⟩
  | 80 => ⟨S64x128x128, .f32⟩
  | 81 => ⟨S_, .f32⟩
  | 82 => ⟨S64x128x128, .f32⟩
  | 83 => ⟨S64x128x128, .f32⟩
  | 84 => ⟨S64x128x128, .f32⟩
  | 85 => ⟨S64x128x128, .f32⟩
  | 86 => ⟨S_, .f32⟩
  | 87 => ⟨S128x128, .f32⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .f32⟩
  | 95 => ⟨S128x128, .f32⟩
  | 96 => ⟨S128x128, .f32⟩
  | 97 => ⟨S16384, .f32⟩
  | 98 => ⟨S_, .f32⟩
  | 99 => ⟨S16384, .f32⟩
  | 100 => ⟨S16384, .i1⟩
  | 101 => ⟨S16384, .i32⟩
  | 102 => ⟨S_, .i32⟩
  | 103 => ⟨S_, .i32⟩
  | 104 => ⟨S16384, .i32⟩
  | 105 => ⟨S_, .i32⟩
  | 106 => ⟨S8256, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S_, .i32⟩
  | 116 => ⟨S16384, .i32⟩
  | 117 => ⟨S8256, .i32⟩
  | 118 => ⟨S_, .i32⟩
  | 119 => ⟨S_, .i32⟩
  | 120 => ⟨S8256, .i32⟩
  | 121 => ⟨S_, .i32⟩
  | 122 => ⟨S_, .i32⟩
  | 123 => ⟨S8256, .i32⟩
  | 124 => ⟨S8256, .i32⟩
  | 125 => ⟨S8256, .i32⟩
  | 126 => ⟨S_, .i32⟩
  | 127 => ⟨S8256, .i32⟩
  | _ => ⟨S8192x128, .f32⟩

abbrev hbmTy0_2 (i : Nat) : BufTy := match i % 128 with
  | 0 => ⟨S8256, .i1⟩
  | 1 => ⟨S8256, .i32⟩
  | 2 => ⟨S8256, .i32⟩
  | 3 => ⟨S_, .i32⟩
  | 4 => ⟨S8256, .i32⟩
  | 5 => ⟨S8256, .i1⟩
  | 6 => ⟨S8256, .i1⟩
  | 7 => ⟨S_, .i32⟩
  | 8 => ⟨S8256, .i32⟩
  | 9 => ⟨S8256, .i32⟩
  | 10 => ⟨S8256, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S8256, .i32⟩
  | 18 => ⟨S8256, .i32⟩
  | 19 => ⟨S_, .i32⟩
  | 20 => ⟨S8256, .i32⟩
  | 21 => ⟨S8256, .i1⟩
  | 22 => ⟨S_, .i32⟩
  | 23 => ⟨S8256, .i32⟩
  | 24 => ⟨S8256, .i1⟩
  | 25 => ⟨S_, .i32⟩
  | 26 => ⟨S_, .i1⟩
  | 27 => ⟨S8256, .i1⟩
  | 28 => ⟨S8256, .i1⟩
  | 29 => ⟨S8256, .i1⟩
  | 30 => ⟨S8256, .i32⟩
  | 31 => ⟨S8256, .i32⟩
  | 32 => ⟨S8256, .i32⟩
  | 33 => ⟨S_, .i32⟩
  | 34 => ⟨S_, .i32⟩
  | 35 => ⟨S8256, .i32⟩
  | 36 => ⟨S8256, .i32⟩
  | 37 => ⟨S8256, .i32⟩
  | 38 => ⟨S_, .i32⟩
  | 39 => ⟨S8256, .i32⟩
  | 40 => ⟨S8256, .i1⟩
  | 41 => ⟨S8256, .i32⟩
  | 42 => ⟨S8256, .i32⟩
  | 43 => ⟨S_, .i32⟩
  | 44 => ⟨S8256, .i32⟩
  | 45 => ⟨S8256, .i1⟩
  | 46 => ⟨S8256, .i1⟩
  | 47 => ⟨S_, .i32⟩
  | 48 => ⟨S8256, .i32⟩
  | 49 => ⟨S8256, .i32⟩
  | 50 => ⟨S8256, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S8256, .i32⟩
  | 58 => ⟨S8256, .i32⟩
  | 59 => ⟨S_, .i32⟩
  | 60 => ⟨S8256, .i32⟩
  | 61 => ⟨S8256, .i1⟩
  | 62 => ⟨S_, .i32⟩
  | 63 => ⟨S8256, .i32⟩
  | 64 => ⟨S8256, .i1⟩
  | 65 => ⟨S_, .i32⟩
  | 66 => ⟨S_, .i1⟩
  | 67 => ⟨S8256, .i1⟩
  | 68 => ⟨S8256, .i1⟩
  | 69 => ⟨S8256, .i1⟩
  | 70 => ⟨S8256, .i32⟩
  | 71 => ⟨S8256, .i32⟩
  | 72 => ⟨S8256, .i32⟩
  | 73 => ⟨S16384, .i32⟩
  | 74 => ⟨S_, .i32⟩
  | 75 => ⟨S_, .i32⟩
  | 76 => ⟨S1, .i32⟩
  | 77 => ⟨S8256, .i32⟩
  | 78 => ⟨S8256, .i32⟩
  | 79 => ⟨S8256, .i1⟩
  | 80 => ⟨S_, .i32⟩
  | 81 => ⟨S_, .i32⟩
  | 82 => ⟨S8256, .i32⟩
  | 83 => ⟨S8256, .i32⟩
  | 84 => ⟨S_, .i32⟩
  | 85 => ⟨S_, .i32⟩
  | 86 => ⟨S8256, .i32⟩
  | 87 => ⟨S8256, .i32⟩
  | 88 => ⟨S64x1x1, .f32⟩
  | 89 => ⟨S64x128x128, .f32⟩
  | 90 => ⟨S64x128x128, .f32⟩
  | 91 => ⟨S_, .i32⟩
  | 92 => ⟨S8256, .i32⟩
  | 93 => ⟨S8256, .i1⟩
  | 94 => ⟨S_, .i32⟩
  | 95 => ⟨S8256, .i32⟩
  | 96 => ⟨S8256, .i32⟩
  | 97 => ⟨S8256, .i32⟩
  | 98 => ⟨S_, .i32⟩
  | 99 => ⟨S8256, .i32⟩
  | 100 => ⟨S8256, .i1⟩
  | 101 => ⟨S_, .i32⟩
  | 102 => ⟨S8256, .i32⟩
  | 103 => ⟨S8256, .i32⟩
  | 104 => ⟨S8256, .i32⟩
  | 105 => ⟨S8256x1, .i32⟩
  | 106 => ⟨S8256x1, .i32⟩
  | 107 => ⟨S8256x2, .i32⟩
  | 108 => ⟨S64x8256, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call4_v0 : Ref sig .tc := ⟨.hbm, 138, rfl⟩
abbrev main_call4_v1 : Ref sig .tc := ⟨.hbm, 139, rfl⟩
abbrev main_call4_c : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_cst : Ref sig .tc := ⟨.hbm, 144, rfl⟩
abbrev main_call4_v5 : Ref sig .tc := ⟨.hbm, 145, rfl⟩
abbrev main_call4_call0_v0 : Ref sig .tc := ⟨.hbm, 146, rfl⟩
abbrev main_call4_v6 : Ref sig .tc := ⟨.hbm, 147, rfl⟩
abbrev main_call4_cst_0 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_17 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_18 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_19 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_20 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_21 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_22 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_23 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_24 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_25 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_26 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_27 : Ref sig .tc := ⟨.hbm, 214, rfl⟩
abbrev main_v159 : Ref sig .tc := ⟨.hbm, 215, rfl⟩
abbrev main_call5_v0 : Ref sig .tc := ⟨.hbm, 216, rfl⟩
abbrev main_call5_c : Ref sig .tc := ⟨.hbm, 217, rfl⟩
abbrev main_call5_v1 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_cst : Ref sig .tc := ⟨.hbm, 222, rfl⟩
abbrev main_call5_v5 : Ref sig .tc := ⟨.hbm, 223, rfl⟩
abbrev main_v160 : Ref sig .tc := ⟨.hbm, 224, rfl⟩
abbrev main_v161 : Ref sig .tc := ⟨.hbm, 225, rfl⟩
abbrev main_cst_28 : Ref sig .tc := ⟨.hbm, 226, rfl⟩
abbrev main_v162 : Ref sig .tc := ⟨.hbm, 227, rfl⟩
abbrev main_v163 : Ref sig .tc := ⟨.hbm, 228, rfl⟩
abbrev main_call6_v0 : Ref sig .tc := ⟨.hbm, 229, rfl⟩
abbrev main_call6_call0_c : Ref sig .tc := ⟨.hbm, 230, rfl⟩
abbrev main_call6_call0_v0 : Ref sig .tc := ⟨.hbm, 231, rfl⟩
abbrev main_v164 : Ref sig .tc := ⟨.hbm, 232, rfl⟩
abbrev main_c_29 : Ref sig .tc := ⟨.hbm, 233, rfl⟩
abbrev main_v165 : Ref sig .tc := ⟨.hbm, 234, rfl⟩
abbrev main_c_30 : Ref sig .tc := ⟨.hbm, 235, rfl⟩
abbrev main_v166 : Ref sig .tc := ⟨.hbm, 236, rfl⟩
abbrev main_v167 : Ref sig .tc := ⟨.hbm, 237, rfl⟩
abbrev main_c_31 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_32 : Ref sig .tc := ⟨.hbm, 243, rfl⟩
abbrev main_v172 : Ref sig .tc := ⟨.hbm, 244, rfl⟩
abbrev main_v173 : Ref sig .tc := ⟨.hbm, 245, rfl⟩
abbrev main_call7_call0_c : Ref sig .tc := ⟨.hbm, 246, rfl⟩
abbrev main_call7_call0_v0 : Ref sig .tc := ⟨.hbm, 247, rfl⟩
abbrev main_v174 : Ref sig .tc := ⟨.hbm, 248, rfl⟩
abbrev main_c_33 : Ref sig .tc := ⟨.hbm, 249, rfl⟩
abbrev main_call8_v0 : Ref sig .tc := ⟨.hbm, 250, rfl⟩
abbrev main_call8_v1 : Ref sig .tc := ⟨.hbm, 251, rfl⟩
abbrev main_call8_v2 : Ref sig .tc := ⟨.hbm, 252, rfl⟩
abbrev main_call8_v3 : Ref sig .tc := ⟨.hbm, 253, rfl⟩
abbrev main_call8_v4 : Ref sig .tc := ⟨.hbm, 254, rfl⟩
abbrev main_call8_v5 : Ref sig .tc := ⟨.hbm, 255, rfl⟩
abbrev main_call8_v6 : Ref sig .tc := ⟨.hbm, 256, rfl⟩
abbrev main_call8_v7 : Ref sig .tc := ⟨.hbm, 257, rfl⟩
abbrev main_call8_v8 : Ref sig .tc := ⟨.hbm, 258, rfl⟩
abbrev main_call8_c : Ref sig .tc := ⟨.hbm, 259, rfl⟩
abbrev main_call8_v9 : Ref sig .tc := ⟨.hbm, 260, rfl⟩
abbrev main_call8_v10 : Ref sig .tc := ⟨.hbm, 261, rfl⟩
abbrev main_call8_v11 : Ref sig .tc := ⟨.hbm, 262, rfl⟩
abbrev main_call8_c_0 : Ref sig .tc := ⟨.hbm, 263, rfl⟩
abbrev main_call8_v12 : Ref sig .tc := ⟨.hbm, 264, rfl⟩
abbrev main_call8_v13 : Ref sig .tc := ⟨.hbm, 265, rfl⟩
abbrev main_v175 : Ref sig .tc := ⟨.hbm, 266, rfl⟩
abbrev main_c_34 : Ref sig .tc := ⟨.hbm, 267, rfl⟩
abbrev main_call9_v0 : Ref sig .tc := ⟨.hbm, 268, rfl⟩
abbrev main_call9_c : Ref sig .tc := ⟨.hbm, 269, rfl⟩
abbrev main_call9_v1 : Ref sig .tc := ⟨.hbm, 270, rfl⟩
abbrev main_call9_c_0 : Ref sig .tc := ⟨.hbm, 271, rfl⟩
abbrev main_call9_v2 : Ref sig .tc := ⟨.hbm, 272, rfl⟩
abbrev main_call9_v3 : Ref sig .tc := ⟨.hbm, 273, rfl⟩
abbrev main_call9_v4 : Ref sig .tc := ⟨.hbm, 274, rfl⟩
abbrev main_call9_c_1 : Ref sig .tc := ⟨.hbm, 275, rfl⟩
abbrev main_call9_v5 : Ref sig .tc := ⟨.hbm, 276, rfl⟩
abbrev main_call9_v6 : Ref sig .tc := ⟨.hbm, 277, rfl⟩
abbrev main_call9_c_2 : Ref sig .tc := ⟨.hbm, 278, rfl⟩
abbrev main_call9_v7 : Ref sig .tc := ⟨.hbm, 279, rfl⟩
abbrev main_call9_v8 : Ref sig .tc := ⟨.hbm, 280, rfl⟩
abbrev main_call9_c_3 : Ref sig .tc := ⟨.hbm, 281, rfl⟩
abbrev main_call9_v9 : Ref sig .tc := ⟨.hbm, 282, rfl⟩
abbrev main_call9_v10 : Ref sig .tc := ⟨.hbm, 283, rfl⟩
abbrev main_call9_v11 : Ref sig .tc := ⟨.hbm, 284, rfl⟩
abbrev main_call9_v12 : Ref sig .tc := ⟨.hbm, 285, rfl⟩
abbrev main_call9_v13 : Ref sig .tc := ⟨.hbm, 286, rfl⟩
abbrev main_call9_v14 : Ref sig .tc := ⟨.hbm, 287, rfl⟩
abbrev main_v176 : Ref sig .tc := ⟨.hbm, 288, rfl⟩
abbrev main_c_35 : Ref sig .tc := ⟨.hbm, 289, rfl⟩
abbrev main_call10_v0 : Ref sig .tc := ⟨.hbm, 290, rfl⟩
abbrev main_call10_v1 : Ref sig .tc := ⟨.hbm, 291, rfl⟩
abbrev main_call10_v2 : Ref sig .tc := ⟨.hbm, 292, rfl⟩
abbrev main_call10_v3 : Ref sig .tc := ⟨.hbm, 293, rfl⟩
abbrev main_call10_v4 : Ref sig .tc := ⟨.hbm, 294, rfl⟩
abbrev main_call10_v5 : Ref sig .tc := ⟨.hbm, 295, rfl⟩
abbrev main_call10_v6 : Ref sig .tc := ⟨.hbm, 296, rfl⟩
abbrev main_call10_v7 : Ref sig .tc := ⟨.hbm, 297, rfl⟩
abbrev main_call10_v8 : Ref sig .tc := ⟨.hbm, 298, rfl⟩
abbrev main_call10_c : Ref sig .tc := ⟨.hbm, 299, rfl⟩
abbrev main_call10_v9 : Ref sig .tc := ⟨.hbm, 300, rfl⟩
abbrev main_call10_v10 : Ref sig .tc := ⟨.hbm, 301, rfl⟩
abbrev main_call10_v11 : Ref sig .tc := ⟨.hbm, 302, rfl⟩
abbrev main_call10_c_0 : Ref sig .tc := ⟨.hbm, 303, rfl⟩
abbrev main_call10_v12 : Ref sig .tc := ⟨.hbm, 304, rfl⟩
abbrev main_call10_v13 : Ref sig .tc := ⟨.hbm, 305, rfl⟩
abbrev main_v177 : Ref sig .tc := ⟨.hbm, 306, rfl⟩
abbrev main_c_36 : Ref sig .tc := ⟨.hbm, 307, rfl⟩
abbrev main_call11_v0 : Ref sig .tc := ⟨.hbm, 308, rfl⟩
abbrev main_call11_c : Ref sig .tc := ⟨.hbm, 309, rfl⟩
abbrev main_call11_v1 : Ref sig .tc := ⟨.hbm, 310, rfl⟩
abbrev main_call11_c_0 : Ref sig .tc := ⟨.hbm, 311, rfl⟩
abbrev main_call11_v2 : Ref sig .tc := ⟨.hbm, 312, rfl⟩
abbrev main_call11_v3 : Ref sig .tc := ⟨.hbm, 313, rfl⟩
abbrev main_call11_v4 : Ref sig .tc := ⟨.hbm, 314, rfl⟩
abbrev main_call11_c_1 : Ref sig .tc := ⟨.hbm, 315, rfl⟩
abbrev main_call11_v5 : Ref sig .tc := ⟨.hbm, 316, rfl⟩
abbrev main_call11_v6 : Ref sig .tc := ⟨.hbm, 317, rfl⟩
abbrev main_call11_c_2 : Ref sig .tc := ⟨.hbm, 318, rfl⟩
abbrev main_call11_v7 : Ref sig .tc := ⟨.hbm, 319, rfl⟩
abbrev main_call11_v8 : Ref sig .tc := ⟨.hbm, 320, rfl⟩
abbrev main_call11_c_3 : Ref sig .tc := ⟨.hbm, 321, rfl⟩
abbrev main_call11_v9 : Ref sig .tc := ⟨.hbm, 322, rfl⟩
abbrev main_call11_v10 : Ref sig .tc := ⟨.hbm, 323, rfl⟩
abbrev main_call11_v11 : Ref sig .tc := ⟨.hbm, 324, rfl⟩
abbrev main_call11_v12 : Ref sig .tc := ⟨.hbm, 325, rfl⟩
abbrev main_call11_v13 : Ref sig .tc := ⟨.hbm, 326, rfl⟩
abbrev main_call11_v14 : Ref sig .tc := ⟨.hbm, 327, rfl⟩
abbrev main_v178 : Ref sig .tc := ⟨.hbm, 328, rfl⟩
abbrev main_v179 : Ref sig .tc := ⟨.hbm, 329, rfl⟩
abbrev main_c_37 : Ref sig .tc := ⟨.hbm, 330, rfl⟩
abbrev main_v180 : Ref sig .tc := ⟨.hbm, 331, rfl⟩
abbrev main_v181 : Ref sig .tc := ⟨.hbm, 332, rfl⟩
abbrev main_v182 : Ref sig .tc := ⟨.hbm, 333, rfl⟩
abbrev main_v183 : Ref sig .tc := ⟨.hbm, 334, rfl⟩
abbrev main_v184 : Ref sig .tc := ⟨.hbm, 335, rfl⟩
abbrev main_c_38 : Ref sig .tc := ⟨.hbm, 336, rfl⟩
abbrev main_call12_v0 : Ref sig .tc := ⟨.hbm, 337, rfl⟩
abbrev main_call12_v1 : Ref sig .tc := ⟨.hbm, 338, rfl⟩
abbrev main_v185 : Ref sig .tc := ⟨.hbm, 339, rfl⟩
abbrev main_c_39 : Ref sig .tc := ⟨.hbm, 340, rfl⟩
abbrev main_call13_v0 : Ref sig .tc := ⟨.hbm, 341, rfl⟩
abbrev main_call13_v1 : Ref sig .tc := ⟨.hbm, 342, rfl⟩
abbrev main_v186 : Ref sig .tc := ⟨.hbm, 343, rfl⟩
abbrev main_v187 : Ref sig .tc := ⟨.hbm, 344, rfl⟩
abbrev main_v188 : Ref sig .tc := ⟨.hbm, 345, rfl⟩
abbrev main_v189 : Ref sig .tc := ⟨.hbm, 346, rfl⟩
abbrev main_c_40 : Ref sig .tc := ⟨.hbm, 347, rfl⟩
abbrev main_v190 : Ref sig .tc := ⟨.hbm, 348, rfl⟩
abbrev main_v191 : Ref sig .tc := ⟨.hbm, 349, rfl⟩
abbrev main_c_41 : Ref sig .tc := ⟨.hbm, 350, rfl⟩
abbrev main_v192 : Ref sig .tc := ⟨.hbm, 351, rfl⟩
abbrev main_v193 : Ref sig .tc := ⟨.hbm, 352, rfl⟩
abbrev main_v194 : Ref sig .tc := ⟨.hbm, 353, rfl⟩
abbrev main_c_42 : Ref sig .tc := ⟨.hbm, 354, rfl⟩
abbrev main_v195 : Ref sig .tc := ⟨.hbm, 355, rfl⟩
abbrev main_v196 : Ref sig .tc := ⟨.hbm, 356, rfl⟩
abbrev main_c_43 : Ref sig .tc := ⟨.hbm, 357, rfl⟩
abbrev main_v197 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩

abbrev nD : Nat := 1
abbrev τ : Topo := Topo.v7x

variable {F : FTy → Type} [FloatOps F]
-- ==== Proof.Words.lean ====
/- The integer side of the pooling kernel: what the preconditions say of each graph's first and last node, and what the
   loop over the node chunks that hold a graph's nodes makes of the two words. -/
module

public import proofs.«01_k».proof.Defs
public import Idealize.ShloMosaic.Lib.Affine
public import Idealize.ShloMosaic.Lib.WordArith
public import Idealize.ShloMosaic.Lib.ValueIdx
public import Idealize.ShloMosaic.Lib.ValueLayoutCasts
public import Idealize.ShloMosaic.Lib.LoopRemainder

@[expose] public section

set_option maxRecDepth 16384

namespace Cert.Words

open Idealize.ShloMosaic Idealize.ShloMosaic.ValueIdx Idealize.ShloMosaic.WordArith

/-- The first node and the node past the last one of a graph, as words: both lie in `[0, 8192]` and are in order. -/
def Bounds (r0 r1 : BitVec 32) : Prop := 0 ≤ r0.toInt ∧ r0.toInt ≤ r1.toInt ∧ r1.toInt ≤ 8192

/-- The number of the first chunk of 1024 nodes that holds a node of the graph. -/
theorem lo_word {r0 r1 : BitVec 32} (h : Bounds r0 r1) : (Scalar.shrsi r0 10#32).toInt = r0.toInt / 1024 := by
  have := Affine.shrsi (Affine.word r0) (Affine.ofNat (e := 10) 10 ⟨rfl, by decide⟩) 10 1024 (by decide)
    (e := r0.toInt / 1024) ⟨rfl, rfl, by decide⟩
  unfold Affine.IsInt at this
  exact this

/-- The number of the chunk after the last one that holds a node of the graph. -/
theorem hi_word {r0 r1 : BitVec 32} (h : Bounds r0 r1) :
    (Scalar.addi (Scalar.shrsi (Scalar.subi r1 1#32) 10#32) 1#32).toInt = (r1.toInt + 1023) / 1024 := by
  obtain ⟨h0, h1, h2⟩ := h
  have a := Affine.subi (Affine.word r1) (Affine.ofNat (e := 1) 1 ⟨rfl, by decide⟩) (e := r1.toInt - 1) ⟨rfl, by omega, by omega⟩
  have b := Affine.shrsi a (Affine.ofNat (e := 10) 10 ⟨rfl, by decide⟩) 10 1024 (by decide)
    (e := (r1.toInt - 1) / 1024) ⟨rfl, rfl, by decide⟩
  have c := Affine.addi b (Affine.ofNat (e := 1) 1 ⟨rfl, by decide⟩) (e := (r1.toInt + 1023) / 1024)
    ⟨by omega, by omega, by omega⟩
  unfold Affine.IsInt at c
  exact c

/-- The main loop's upper bound, as the kernel computes it, is that chunk number. -/
theorem ub_word (r0 r1 : BitVec 32) :
    (KernelIdeal.k0_t1_loop r0 r1).ub = Scalar.addi (Scalar.shrsi (Scalar.subi r1 1#32) 10#32) 1#32 := by
  show Scalar.addi _ (Scalar.muli (Scalar.divsi (Scalar.subi _ _) 1#32) 1#32) = _
  rw [Scalar.muli_divsi_one]
  simp only [Scalar.addi, Scalar.subi, IntOp.addi, IntOp.subi]
  bv_omega

/-- The main loop runs through the chunks in between … -/
theorem trips_main {r0 r1 : BitVec 32} (h : Bounds r0 r1) :
    (KernelIdeal.k0_t1_loop r0 r1).trips = ((r1.toInt + 1023) / 1024 - r0.toInt / 1024).toNat := by
  have e1 : (1#32 : BitVec 32).toInt = 1 := by decide
  unfold Scf.Loop.trips Scf.trips
  rw [ub_word, hi_word h]
  show ((_ - (Scalar.shrsi r0 10#32).toInt + (1#32 : BitVec 32).toInt - 1) / (1#32 : BitVec 32).toInt).toNat = _
  rw [lo_word h, e1]
  congr 1
  omega

/-- … and is well formed. -/
theorem main_ok {r0 r1 : BitVec 32} (h : Bounds r0 r1) : (KernelIdeal.k0_t1_loop r0 r1).OK := by
  have e1 : (1#32 : BitVec 32).toInt = 1 := by decide
  have ht := trips_main h
  have hl := lo_word h
  obtain ⟨h0, h1, h2⟩ := h
  refine ⟨by show 0 < (1#32 : BitVec 32).toInt; decide, ?_⟩
  show (Scalar.shrsi r0 10#32).toInt + ((KernelIdeal.k0_t1_loop r0 r1).trips : Int) * (1#32 : BitVec 32).toInt < _
  rw [ht, hl, e1]
  omega

/-- The remainder loop makes no trip. -/
theorem trips_rest (r0 r1 : BitVec 32) : (KernelIdeal.k0_t2_loop r0 r1).trips = 0 := Scf.rem_trips _ _

/-- At trip `k` the loop is at chunk `r0 / 1024 + k`: the node the chunk begins at. -/
theorem chunk_word {r0 r1 : BitVec 32} (h : Bounds r0 r1) (k : ℕ) (hk : k < (KernelIdeal.k0_t1_loop r0 r1).trips) :
    (Scalar.indexCast (Scalar.muli (Scf.iv (Scalar.shrsi r0 10#32) 1#32 k) 1024#32)).toNat
      = (r0.toInt.toNat / 1024 + k) * 1024 ∧ r0.toInt.toNat / 1024 + k < 8 := by
  have e1 : (1#32 : BitVec 32).toInt = 1 := by decide
  have iv := Scf.toInt_iv (main_ok h) (Nat.le_of_lt hk)
  have iv' : (Scf.iv (Scalar.shrsi r0 10#32) 1#32 k).toInt = r0.toInt / 1024 + k := by
    have : (Scf.iv (Scalar.shrsi r0 10#32) 1#32 k).toInt
        = (Scalar.shrsi r0 10#32).toInt + (k : Int) * (1#32 : BitVec 32).toInt := iv
    rw [this, lo_word h, e1, mul_one]
  rw [trips_main h] at hk
  obtain ⟨h0, h1, h2⟩ := h
  have hb : r0.toInt.toNat / 1024 + k < 8 := by omega
  refine ⟨?_, hb⟩
  have m := Affine.muli (Affine.word (Scf.iv (Scalar.shrsi r0 10#32) 1#32 k)) (Affine.ofNat (e := 1024) 1024 ⟨rfl, by decide⟩)
    (e := ((r0.toInt.toNat / 1024 + k) * 1024 : ℕ)) ⟨by rw [iv']; push_cast; omega, by omega, by omega⟩
  unfold Affine.IsInt at m
  show (Scalar.muli (Scf.iv (Scalar.shrsi r0 10#32) 1#32 k) 1024#32).toNat = _
  rw [BitVec.toInt_eq_toNat_cond] at m
  have := (Scalar.muli (Scf.iv (Scalar.shrsi r0 10#32) 1#32 k) 1024#32).isLt
  split at m <;> omega

/-- So all that the body assumes of the two words of its first graph holds … -/
theorem chk_ideal {r0 r1 : BitVec 32} (h : Bounds r0 r1) : KernelIdeal.k0_chk1 r0 r1 := by
  have no (k : Fin (KernelIdeal.k0_t2_loop r0 r1).trips) : False := Nat.not_lt_zero k.val (lt_of_lt_of_eq k.isLt (trips_rest r0 r1))
  refine ⟨main_ok h, fun k => ?_, fun k a => ?_, fun k a => ?_, fun k a => ?_, Scf.rem_ok _ _,
    fun k => (no k).elim, fun k => (no k).elim, fun k => (no k).elim, fun k => (no k).elim⟩
  · obtain ⟨e, -⟩ := chunk_word h k.val k.isLt
    exact ⟨_, e.trans (Nat.mul_comm _ _)⟩
  · obtain ⟨e, hb⟩ := chunk_word h k.val k.isLt
    match a with
    | ⟨0, _⟩ => show 0 + 1 ≤ 1; omega
    | ⟨1, _⟩ => exact (congrArg (· + 1024) e).trans_le (by show _ ≤ 8192; omega)
  · obtain ⟨e, hb⟩ := chunk_word h k.val k.isLt
    match a with
    | ⟨0, _⟩ => show 0 + 128 ≤ 128; omega
    | ⟨1, _⟩ => exact (congrArg (· + 1024) e).trans_le (by show _ ≤ 8192; omega)
  · obtain ⟨e, hb⟩ := chunk_word h k.val k.isLt
    match a with
    | ⟨0, _⟩ => exact (congrArg (· + 1024) e).trans_le (by show _ ≤ 8192; omega)
    | ⟨1, _⟩ => show 0 + 128 ≤ 128; omega

/-- … and the same of the same kernel on machine words. -/
theorem chk_bits {r0 r1 : BitVec 32} (h : Bounds r0 r1) : Kernel.k0_chk1 r0 r1 := chk_ideal h

/-- What the precondition says of node ranges: graph `b`'s two words are in order, and node `n` belongs to the graph
    exactly when it lies between them. -/
def Segs (s : IVec ⟨1, ![65]⟩ 32) (bt : IVec ⟨2, ![1, 8192]⟩ 32) : Prop :=
  ∀ b : Fin 64, Bounds (s (ix1 b.castSucc)) (s (ix1 b.succ)) ∧
    ∀ n : Fin 8192, bt (ix2 0 n) = BitVec.ofNat 32 b ↔
      (s (ix1 b.castSucc)).toInt ≤ n ∧ (n : Int) < (s (ix1 b.succ)).toInt

/-- The shape relations the precondition states. -/
theorem preFacts : Pre_segments_and_sums.Facts := by
  constructor <;> decide

/-- The same of the precondition on the boundaries alone. -/
theorem orderFacts : Pre_in_order.Facts := by
  constructor <;> decide

section Decode
open Pre_segments_and_sums

theorem cmp_ofBool (p q : BitVec 1) : (IntOp.cmpi .eq p q = 1#1) ↔ p = q := by revert p q; decide
theorem andi_one (p q : BitVec 1) : (IntOp.andi p q = 1#1) ↔ (p = 1#1 ∧ q = 1#1) := by revert p q; decide
theorem cmp_eq_andi (p q r : BitVec 1) : (p = IntOp.andi q r) ↔ (p = 1#1 ↔ q = 1#1 ∧ r = 1#1) := by revert p q r; decide
theorem ori_noti_one (p q : BitVec 1) : (IntOp.ori (~~~p) q = 1#1) ↔ (p = 1#1 → q = 1#1) := by revert p q; decide

variable {F : FTy → Type} [FloatOps F] [Pre_segments_and_sums.Facts]

/-- A column stretched along its rows, and a row stretched down its columns, read at an entry. -/
theorem stretch_col {α : Type} (x : S64x1.Idx → α) (h) (b : Fin 64) (n : Fin 8192) :
    broadcastInDim S64x8192 (![0, 1] : Fin 2 → Fin S64x8192.rank) h x (ix2 b n) = x (ix2 b 0) :=
  congrArg x (funext fun a => by match a with | ⟨0, _⟩ => rfl | ⟨1, _⟩ => rfl)
theorem stretch_row {α : Type} (x : S1x8192.Idx → α) (h) (b : Fin 64) (n : Fin 8192) :
    broadcastInDim S64x8192 (![0, 1] : Fin 2 → Fin S64x8192.rank) h x (ix2 b n) = x (ix2 0 n) :=
  congrArg x (funext fun a => by match a with | ⟨0, _⟩ => rfl | ⟨1, _⟩ => rfl)

/-- The precondition read off at one graph and one node. -/
theorem decode {s : IVec S65 32} {a : FVec F S128x8192 .f32} {x : FVec F S8192x128 .f32}
    {bt : IVec S1x8192 32} {e : FVec F S1x64 .f32}
    (h : ∀ y, Pre_segments_and_sums.fn s a x bt e y = 1#1) :
    Segs s bt ∧ ∀ (b : Fin 64) (n : Fin 8192), bt (ix2 0 n) = BitVec.ofNat 32 b →
      FloatOps.cmpf .oge (e (ix2 0 b)) (constant (F := F) S_ .f32 0x0DA24260#32 ix0) = 1#1 := by
  have lo (g) (b : Fin 64) : shapeCast (α := BitVec 32) S64x1 (extractStridedSlice S64 ![0] s g)
      Pre_segments_and_sums.Facts.shapeCasts_S64_S64x1 (ix2 b 0) = s (ix1 b.castSucc) := by
    rw [shapeCast_a_a1_apply]
    exact congrArg s (funext fun a => by match a with | ⟨0, _⟩ => exact Fin.ext (Nat.zero_add _))
  have hi (g) (b : Fin 64) : shapeCast (α := BitVec 32) S64x1 (extractStridedSlice S64 ![1] s g)
      Pre_segments_and_sums.Facts.shapeCasts_S64_S64x1 (ix2 b 0) = s (ix1 b.succ) := by
    rw [shapeCast_a_a1_apply]
    exact congrArg s (funext fun a => by match a with | ⟨0, _⟩ => exact Fin.ext (Nat.add_comm _ _))
  have es (b : Fin 64) : shapeCast S64x1 e Pre_segments_and_sums.Facts.shapeCasts_S1x64_S64x1 (ix2 b 0) = e (ix2 0 b) := by
    refine shapeCast_apply _ _ _ _ ?_
    rw [Shape.rowMajor_val_two, Shape.rowMajor_val_two]
    show 0 * 64 + b.val = b.val * 1 + 0
    omega
  have key' (b : Fin 64) (n : Fin 8192) :
      (((IntOp.cmpi .eq (bt (ix2 0 n)) (BitVec.ofNat 32 b) =
          IntOp.andi (IntOp.cmpi .sle (s (ix1 b.castSucc)) (BitVec.ofNat 32 n)) (IntOp.cmpi .slt (BitVec.ofNat 32 n) (s (ix1 b.succ)))
        ∧ IntOp.cmpi .sge (s (ix1 b.castSucc)) 0#32 = 1#1) ∧ IntOp.cmpi .sle (s (ix1 b.castSucc)) (s (ix1 b.succ)) = 1#1)
        ∧ IntOp.cmpi .sle (s (ix1 b.succ)) 8192#32 = 1#1)
        ∧ (IntOp.cmpi .eq (bt (ix2 0 n)) (BitVec.ofNat 32 b) = 1#1 →
            FloatOps.cmpf .oge (shapeCast S64x1 e Facts.shapeCasts_S1x64_S64x1 (ix2 b 0)) (constant (F := F) S_ .f32 0x0DA24260#32 ix0) = 1#1) := by
    have key := h (ix2 b n)
    simp only [Pre_segments_and_sums.fn, Pre_segments_and_sums.fn_part1, andi, ori, noti, cmpi, andi_one, ori_noti_one,
      cmp_ofBool] at key
    repeat rw [stretch_col] at key
    repeat rw [stretch_row] at key
    rw [← lo, ← hi]
    exact key
  have cn (n : Fin 8192) : (BitVec.ofNat 32 n.val).toInt = n.val := toInt_ofNat_small _ (by omega)
  simp only [es, cmp_eq_andi, IntOp.cmpi, ofBool_eq_one_iff, BitVec.sle_iff_toInt_le, BitVec.slt_iff_toInt_lt,
    beq_iff_eq, cn] at key'
  refine ⟨fun b => ⟨?_, fun n => (key' b n).1.1.1.1⟩, fun b n hb => (key' b n).2 hb⟩
  obtain ⟨⟨⟨⟨-, h1⟩, h2⟩, h3⟩, -⟩ := key' b 0
  exact ⟨h1, h2, h3⟩

end Decode

/-- The precondition on the boundaries alone, read off at one graph. -/
theorem decode_order {F : FTy → Type} [FloatOps F] [Pre_in_order.Facts] {s : IVec ⟨1, ![65]⟩ 32} {a : FVec F ⟨2, ![128, 8192]⟩ .f32}
    {x : FVec F ⟨2, ![8192, 128]⟩ .f32} {bt : IVec ⟨2, ![1, 8192]⟩ 32} {e : FVec F ⟨2, ![1, 64]⟩ .f32}
    (h : ∀ y, Pre_in_order.fn s a x bt e y = 1#1) (b : Fin 64) : Bounds (s (ix1 b.castSucc)) (s (ix1 b.succ)) := by
  have lo (g) : extractStridedSlice (α := BitVec 32) Pre_in_order.S64 ![0] s g (ix1 b) = s (ix1 b.castSucc) :=
    congrArg s (funext fun a => by match a with | ⟨0, _⟩ => exact Fin.ext (Nat.zero_add _))
  have hi (g) : extractStridedSlice (α := BitVec 32) Pre_in_order.S64 ![1] s g (ix1 b) = s (ix1 b.succ) :=
    congrArg s (funext fun a => by match a with | ⟨0, _⟩ => exact Fin.ext (Nat.add_comm _ _))
  have key := h (ix1 b)
  simp only [Pre_in_order.fn, andi, cmpi, andi_one, lo, hi] at key
  have key' : (IntOp.cmpi .sge (s (ix1 b.castSucc)) 0#32 = 1#1 ∧ IntOp.cmpi .sle (s (ix1 b.castSucc)) (s (ix1 b.succ)) = 1#1)
      ∧ IntOp.cmpi .sle (s (ix1 b.succ)) 8192#32 = 1#1 := key
  simp only [IntOp.cmpi, ofBool_eq_one_iff, BitVec.sle_iff_toInt_le] at key'
  exact ⟨key'.1.1, key'.1.2, key'.2⟩

end Cert.Words

end
-- ==== Proof.IdealHyps.lean ====
/- The pooling kernel read on the extended reals: the words of `starts` its body reads, and why they satisfy what the body
   assumes of them. -/
module

public import proofs.«01_k».proof.Proof.Words
public import proofs.«01_k».proof.Proof.Gen.KernelIdeal.Frame

@[expose] public section

set_option maxRecDepth 16384

namespace Cert.IdealHyps

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- Graph `8 i + g`, the `g`-th of grid point `i`. -/
def graph (i : grid0.Coords) (g : Fin 8) : Fin 64 := ⟨8 * (i 0).val + g.val, by
  have h : (i 0).val < 8 := (i 0).isLt
  omega⟩

/-- A word read off `starts` at offset `v` is the array's word `v`. -/
theorem word_at (c : Dev nD) (x : TbBuf0 (F := F) c tbM0_0) (off : Fin 1 → ℕ) (v : Fin 65) (h : off = ![v.val]) (inb) (j) :
    tbM0_0.view.readAt (Elt F) (Rect.unit (s := S65) off S1.size inb).toLoadRect x j = x (ix1 v) := by
  subst h
  refine congrArg x (funext fun a => ?_)
  match a with
  | ⟨0, _⟩ => exact Fin.ext (by
      have : (j 0).val < 1 := (j 0).isLt
      show v.val + 1 * (j 0).val = v.val
      omega)

/-- The two words of a graph satisfy what the body assumes of them. -/
theorem chk_at {s : IVec S65 32} (h : ∀ b : Fin 64, Words.Bounds (s (ix1 b.castSucc)) (s (ix1 b.succ))) (c : Dev nD) (x : TbBuf0 (F := F) c tbM0_0)
    (hx : ∀ v, x (ix1 v) = s (ix1 v)) (i : grid0.Coords) (g : Fin 8) (o1 o2 : Fin 1 → ℕ)
    (e1 : o1 = ![8 * (i 0).val + g.val]) (e2 : o2 = ![8 * (i 0).val + g.val + 1]) (i1) (i2) (j1) (j2) :
    k0_chk1 (tbM0_0.view.readAt (Elt F) (Rect.unit (s := S65) o1 S1.size i1).toLoadRect x j1)
      (tbM0_0.view.readAt (Elt F) (Rect.unit (s := S65) o2 S1.size i2).toLoadRect x j2) := by
  rw [word_at c x o1 (graph i g).castSucc e1, word_at c x o2 (graph i g).succ e2, hx, hx]
  exact Words.chk_ideal (h (graph i g))

theorem hyps (hO : Ok m) (h : ∀ b : Fin 64, Words.Bounds ((m (((0 : Dev nD) : Thread nD τ).loc main_arg0) : IVec S65 32) (ix1 b.castSucc))
    ((m (((0 : Dev nD) : Thread nD τ).loc main_arg0) : IVec S65 32) (ix1 b.succ))) :
    Hyps m hO := by
  refine Hyps.of (m := m) ?_ ?_ ?_ ?_ ?_ ?_ ?_ ?_ <;> intro c t
  · exact chk_at h 0 (tbl m 0) (fun _ => rfl) _ 0 _ _ (k0_off1_eq _) (k0_off2_eq _) _ _ _ _
  · exact chk_at h 0 (tbl m 0) (fun _ => rfl) _ 1 _ _ (k0_off9_eq _) (k0_off10_eq _) _ _ _ _
  · exact chk_at h 0 (tbl m 0) (fun _ => rfl) _ 2 _ _ (k0_off17_eq _) (k0_off18_eq _) _ _ _ _
  · exact chk_at h 0 (tbl m 0) (fun _ => rfl) _ 3 _ _ (k0_off25_eq _) (k0_off26_eq _) _ _ _ _
  · exact chk_at h 0 (tbl m 0) (fun _ => rfl) _ 4 _ _ (k0_off33_eq _) (k0_off34_eq _) _ _ _ _
  · exact chk_at h 0 (tbl m 0) (fun _ => rfl) _ 5 _ _ (k0_off41_eq _) (k0_off42_eq _) _ _ _ _
  · exact chk_at h 0 (tbl m 0) (fun _ => rfl) _ 6 _ _ (k0_off49_eq _) (k0_off50_eq _) _ _ _ _
  · exact chk_at h 0 (tbl m 0) (fun _ => rfl) _ 7 _ _ (k0_off57_eq _) (k0_off58_eq _) _ _ _ _

end Cert.IdealHyps
-- ==== Proof.Acc.lean ====
/- The accumulators of the pooling kernel. For each of the eight graphs of a grid point the body runs a loop over the chunks of
   1024 nodes that hold nodes of the graph, and a remainder loop that never runs. Here: one loop stands for all eight. -/
module

public import proofs.«01_k».proof.Proof.IdealHyps

@[expose] public section

set_option maxRecDepth 16384

noncomputable section

namespace Cert.Acc

open Cert.KernelIdeal Cert.KernelIdeal.Gen
open Idealize.ShloMosaic Idealize.ShloMosaic.TcCoe Idealize.ShloMosaic.ValueIdx
open Idealize.ShloMosaic.Tactic

variable {F : FTy → Type} [FloatOps F]

/-- `n` trips of a loop from `z`. -/
def iter {α : Type} (n : ℕ) (t : Fin n → α → α) (z : α) : ℕ → α
  | 0 => z
  | k + 1 => if h : k < n then t ⟨k, h⟩ (iter n t z k) else iter n t z k

theorem iter_succ {α : Type} (n : ℕ) (t : Fin n → α → α) (z : α) (k : Fin n) : iter n t z (k.val + 1) = t k (iter n t z k.val) := by
  rw [iter.eq_2]; exact dif_pos k.isLt

/-- A sequence that starts at `z` and takes the trips one by one is the loop's. -/
theorem iter_of {α : Type} (n : ℕ) (t : Fin n → α → α) (z : α) (s : ℕ → α) (s0 : s 0 = z)
    (hs : ∀ k : Fin n, s (k.val + 1) = t k (s k.val)) : ∀ k, k ≤ n → s k = iter n t z k
  | 0, _ => s0
  | k + 1, hk => by
    rw [iter_succ n t z ⟨k, hk⟩, hs ⟨k, hk⟩, iter_of n t z s s0 hs k (Nat.le_of_succ_le hk)]

/-- One trip: the chunk's nodes of graph `b`, their weighted rows times their rows, added to the accumulator. -/
def trip (b : BitVec 32) (x0 : Vec F S128x8192 .f32) (x1 : Vec F S8192x128 .f32) (x2 : Vec F S1x8192 .i32) (r0 r1 : BitVec 32)
    (h : k0_chk1 r0 r1) (k : Fin (k0_t1_loop r0 r1).trips) (acc : FVec F S128x128 .f32) : FVec F S128x128 .f32 :=
  k0_pay7 b acc (View.ld (Val := Elt F) (e' := .i32) x2 (Rect.unit (s := S1x8192) (k0_off3 r0 r1 k) S1x1024.size (k0_off3_inb r0 r1 h k)))
    (View.ld (Val := Elt F) (e' := .f32) x0 (Rect.unit (s := S128x8192) (k0_off4 r0 r1 k) S128x1024.size (k0_off4_inb r0 r1 h k)))
    (View.ld (Val := Elt F) (e' := .f32) x1 (Rect.unit (s := S8192x128) (k0_off5 r0 r1 k) S1024x128.size (k0_off5_inb r0 r1 h k)))

/-- The accumulator of graph `b` after its loop. -/
def acc (b : BitVec 32) (x0 : Vec F S128x8192 .f32) (x1 : Vec F S8192x128 .f32) (x2 : Vec F S1x8192 .i32) (r0 r1 : BitVec 32)
    (h : k0_chk1 r0 r1) : FVec F S128x128 .f32 :=
  iter _ (trip b x0 x1 x2 r0 r1 h) k0_pay3 (k0_t1_loop r0 r1).trips

/-- Two loops, the second of which makes no trip, from zero: what they leave is the accumulator. -/
theorem of_loops {b : BitVec 32} {x0 : Vec F S128x8192 .f32} {x1 : Vec F S8192x128 .f32} {x2 : Vec F S1x8192 .i32} {r0 r1 : BitVec 32}
    (h : k0_chk1 r0 r1) {n N : ℕ} {s rest : ℕ → FVec F S128x128 .f32} (hn : n = 0) (hr : rest 0 = s N) (hN : N = (k0_t1_loop r0 r1).trips)
    (s0 : s 0 = k0_pay3) (hs : ∀ k : Fin (k0_t1_loop r0 r1).trips, s (k.val + 1) = trip b x0 x1 x2 r0 r1 h k (s k.val)) :
    rest n = acc b x0 x1 x2 r0 r1 h := by
  subst hn hN
  exact hr.trans (iter_of _ _ _ s s0 hs _ (le_refl _))

/-- A trip whose three chunks are loaded from buffers that hold the arrays. -/
theorem trip_read {b : BitVec 32} {x0 : Vec F S128x8192 .f32} {x1 : Vec F S8192x128 .f32} {x2 : Vec F S1x8192 .i32} {r0 r1 : BitVec 32}
    {h : k0_chk1 r0 r1} {k : Fin (k0_t1_loop r0 r1).trips} {a : FVec F S128x128 .f32}
    {arg2 : Memref sig .tc .vmem S128x8192 .f32} (harg2 : arg2.IsWhole) {arg3 : Memref sig .tc .vmem S8192x128 .f32} (harg3 : arg3.IsWhole)
    {arg4 : Memref sig .tc .vmem S1x8192 .i32} (harg4 : arg4.IsWhole) :
    k0_pay7 b a (View.readAt (Elt F) arg4.view (Rect.unit (s := S1x8192) (k0_off3 r0 r1 k) S1x1024.size (k0_off3_inb r0 r1 h k)).toLoadRect (harg4.unread x2))
        (View.readAt (Elt F) arg2.view (Rect.unit (s := S128x8192) (k0_off4 r0 r1 k) S128x1024.size (k0_off4_inb r0 r1 h k)).toLoadRect (harg2.unread x0))
        (View.readAt (Elt F) arg3.view (Rect.unit (s := S8192x128) (k0_off5 r0 r1 k) S1024x128.size (k0_off5_inb r0 r1 h k)).toLoadRect (harg3.unread x1))
      = trip b x0 x1 x2 r0 r1 h k a := by
  unfold trip
  simp only [View.readAt_eq_ld, harg2.read_unread, harg3.read_unread, harg4.read_unread]

section Loops

variable {𝒱 : Variants} {c : Dev nD} {bd : Option 𝒱.V} {i : grid0.Coords} {arg1 : Memref sig .tc .smem S65 .i32} {harg1 : arg1.IsWhole} {arg2 : Memref sig .tc .vmem S128x8192 .f32} {harg2 : arg2.IsWhole} {arg3 : Memref sig .tc .vmem S8192x128 .f32} {harg3 : arg3.IsWhole} {arg4 : Memref sig .tc .vmem S1x8192 .i32} {harg4 : arg4.IsWhole} {arg5 : Memref sig .tc .vmem S1x64 .f32} {harg5 : arg5.IsWhole} {arg6 : Memref sig .tc .vmem S8x128x128 .f32} {harg6 : arg6.IsWhole}
variable {x0 : Vec F S128x8192 .f32} {x1 : Vec F S8192x128 .f32} {x2 : Vec F S1x8192 .i32}
variable {v10 : Elt F .i32} {v13 : Elt F .i32} {arg0 : BitVec 32} {v27 : BitVec 32} {v29 : Elt F .i32} {v32 : Elt F .i32} {v33 : BitVec 32} {v36 : BitVec 32} {cst_14 : F .f32} {v48 : Elt F .i32} {v51 : Elt F .i32} {v65 : BitVec 32} {v67 : Elt F .i32} {v70 : Elt F .i32} {v71 : BitVec 32} {v73 : BitVec 32} {c1_i32_33 : BitVec 32} {v86 : Elt F .i32} {v89 : Elt F .i32} {v103 : BitVec 32} {v105 : Elt F .i32} {v108 : Elt F .i32} {v109 : BitVec 32} {v110 : BitVec 32} {c10_i32_52 : BitVec 32} {v124 : Elt F .i32} {v127 : Elt F .i32} {v6 : FVec F S128x128 .f32} {v25 : FVec F S128x128 .f32} {v141 : BitVec 32} {v143 : Elt F .i32} {v146 : Elt F .i32} {v147 : BitVec 32} {c1_i32_71 : BitVec 32}
variable {k0_hw1 : k0_chk1 v10 v13} {k0_hw2 : k0_chk2 v29 v32} {k0_hw3 : k0_chk3 v48 v51} {k0_hw4 : k0_chk4 v67 v70} {k0_hw5 : k0_chk5 v86 v89} {k0_hw6 : k0_chk6 v105 v108} {k0_hw7 : k0_chk7 v124 v127} {k0_hw8 : k0_chk8 v143 v146}

/-- The accumulator of the grid point's graph 0. -/
theorem acc_0 :
    st_k0_t2 (F := F) 𝒱 c bd i arg1 harg1 arg2 harg2 arg3 harg3 arg4 harg4 arg5 harg5 arg6 harg6 v10 v13 k0_hw1 (harg2.unread x0) (harg3.unread x1) (harg4.unread x2)
      (st_k0_t1 (F := F) 𝒱 c bd i arg1 harg1 arg2 harg2 arg3 harg3 arg4 harg4 arg5 harg5 arg6 harg6 v10 v13 k0_hw1 (harg2.unread x0) (harg3.unread x1) (harg4.unread x2) k0_pay3
        (k0_t1_loop v10 v13).trips) (k0_t2_loop v10 v13).trips
      = acc (Scalar.addi (Scalar.muli (BitVec.ofNat 32 (i 0).val) 8#32) 0#32) x0 x1 x2 v10 v13 k0_hw1 :=
  of_loops _ (Words.trips_rest _ _) (st_k0_t2_zero ..) rfl (st_k0_t1_zero ..)
    fun k => (st_k0_t1_succ ..).trans (by unfold tripR_k0_t1 trip_k0_t1; exact trip_read harg2 harg3 harg4)

/-- The accumulator of the grid point's graph 1. -/
theorem acc_1 :
    st_k0_t4 (F := F) 𝒱 c bd i arg1 harg1 arg2 harg2 arg3 harg3 arg4 harg4 arg5 harg5 arg6 harg6 arg0 v27 v29 v32 k0_hw2 v33 v36 cst_14 (harg2.unread x0) (harg3.unread x1) (harg4.unread x2)
      (st_k0_t3 (F := F) 𝒱 c bd i arg1 harg1 arg2 harg2 arg3 harg3 arg4 harg4 arg5 harg5 arg6 harg6 arg0 v27 v29 v32 k0_hw2 v33 v36 cst_14 (harg2.unread x0) (harg3.unread x1) (harg4.unread x2) k0_pay3
        (k0_t3_loop v29 v32).trips) (k0_t4_loop v29 v32).trips
      = acc v27 x0 x1 x2 v29 v32 k0_hw2 :=
  of_loops _ (Words.trips_rest _ _) (st_k0_t4_zero ..) rfl (st_k0_t3_zero ..)
    fun k => (st_k0_t3_succ ..).trans (by unfold tripR_k0_t3 trip_k0_t3; exact trip_read harg2 harg3 harg4)

/-- The accumulator of the grid point's graph 2. -/
theorem acc_2 :
    st_k0_t6 (F := F) 𝒱 c bd i arg1 harg1 arg2 harg2 arg3 harg3 arg4 harg4 arg5 harg5 arg6 harg6 arg0 v27 v29 v32 k0_hw2 v33 v36 cst_14 v48 v51 k0_hw3 (harg2.unread x0) (harg3.unread x1) (harg4.unread x2)
      (st_k0_t5 (F := F) 𝒱 c bd i arg1 harg1 arg2 harg2 arg3 harg3 arg4 harg4 arg5 harg5 arg6 harg6 arg0 v27 v29 v32 k0_hw2 v33 v36 cst_14 v48 v51 k0_hw3 (harg2.unread x0) (harg3.unread x1) (harg4.unread x2) k0_pay3
        (k0_t5_loop v48 v51).trips) (k0_t6_loop v48 v51).trips
      = acc (Scalar.addi (Scalar.muli arg0 8#32) 2#32) x0 x1 x2 v48 v51 k0_hw3 :=
  of_loops _ (Words.trips_rest _ _) (st_k0_t6_zero ..) rfl (st_k0_t5_zero ..)
    fun k => (st_k0_t5_succ ..).trans (by unfold tripR_k0_t5 trip_k0_t5; exact trip_read harg2 harg3 harg4)

/-- The accumulator of the grid point's graph 3. -/
theorem acc_3 :
    st_k0_t8 (F := F) 𝒱 c bd i arg1 harg1 arg2 harg2 arg3 harg3 arg4 harg4 arg5 harg5 arg6 harg6 arg0 v65 v67 v70 k0_hw4 v71 v73 c1_i32_33 (harg2.unread x0) (harg3.unread x1) (harg4.unread x2)
      (st_k0_t7 (F := F) 𝒱 c bd i arg1 harg1 arg2 harg2 arg3 harg3 arg4 harg4 arg5 harg5 arg6 harg6 arg0 v65 v67 v70 k0_hw4 v71 v73 c1_i32_33 (harg2.unread x0) (harg3.unread x1) (harg4.unread x2) k0_pay3
        (k0_t7_loop v67 v70).trips) (k0_t8_loop v67 v70).trips
      = acc v65 x0 x1 x2 v67 v70 k0_hw4 :=
  of_loops _ (Words.trips_rest _ _) (st_k0_t8_zero ..) rfl (st_k0_t7_zero ..)
    fun k => (st_k0_t7_succ ..).trans (by unfold tripR_k0_t7 trip_k0_t7; exact trip_read harg2 harg3 harg4)

/-- The accumulator of the grid point's graph 4. -/
theorem acc_4 :
    st_k0_t10 (F := F) 𝒱 c bd i arg1 harg1 arg2 harg2 arg3 harg3 arg4 harg4 arg5 harg5 arg6 harg6 arg0 v65 v67 v70 k0_hw4 v71 v73 c1_i32_33 v86 v89 k0_hw5 (harg2.unread x0) (harg3.unread x1) (harg4.unread x2)
      (st_k0_t9 (F := F) 𝒱 c bd i arg1 harg1 arg2 harg2 arg3 harg3 arg4 harg4 arg5 harg5 arg6 harg6 arg0 v65 v67 v70 k0_hw4 v71 v73 c1_i32_33 v86 v89 k0_hw5 (harg2.unread x0) (harg3.unread x1) (harg4.unread x2) k0_pay3
        (k0_t9_loop v86 v89).trips) (k0_t10_loop v86 v89).trips
      = acc (Scalar.addi (Scalar.muli arg0 8#32) 4#32) x0 x1 x2 v86 v89 k0_hw5 :=
  of_loops _ (Words.trips_rest _ _) (st_k0_t10_zero ..) rfl (st_k0_t9_zero ..)
    fun k => (st_k0_t9_succ ..).trans (by unfold tripR_k0_t9 trip_k0_t9; exact trip_read harg2 harg3 harg4)

/-- The accumulator of the grid point's graph 5. -/
theorem acc_5 :
    st_k0_t12 (F := F) 𝒱 c bd i arg1 harg1 arg2 harg2 arg3 harg3 arg4 harg4 arg5 harg5 arg6 harg6 arg0 v103 v105 v108 k0_hw6 v109 v110 c10_i32_52 (harg2.unread x0) (harg3.unread x1) (harg4.unread x2)
      (st_k0_t11 (F := F) 𝒱 c bd i arg1 harg1 arg2 harg2 arg3 harg3 arg4 harg4 arg5 harg5 arg6 harg6 arg0 v103 v105 v108 k0_hw6 v109 v110 c10_i32_52 (harg2.unread x0) (harg3.unread x1) (harg4.unread x2) k0_pay3
        (k0_t11_loop v105 v108).trips) (k0_t12_loop v105 v108).trips
      = acc v103 x0 x1 x2 v105 v108 k0_hw6 :=
  of_loops _ (Words.trips_rest _ _) (st_k0_t12_zero ..) rfl (st_k0_t11_zero ..)
    fun k => (st_k0_t11_succ ..).trans (by unfold tripR_k0_t11 trip_k0_t11; exact trip_read harg2 harg3 harg4)

/-- The accumulator of the grid point's graph 6. -/
theorem acc_6 :
    st_k0_t14 (F := F) 𝒱 c bd i arg1 harg1 arg2 harg2 arg3 harg3 arg4 harg4 arg5 harg5 arg6 harg6 arg0 v103 v105 v108 k0_hw6 v109 v110 c10_i32_52 v124 v127 k0_hw7 (harg2.unread x0) (harg3.unread x1) (harg4.unread x2)
      (st_k0_t13 (F := F) 𝒱 c bd i arg1 harg1 arg2 harg2 arg3 harg3 arg4 harg4 arg5 harg5 arg6 harg6 arg0 v103 v105 v108 k0_hw6 v109 v110 c10_i32_52 v124 v127 k0_hw7 (harg2.unread x0) (harg3.unread x1) (harg4.unread x2) k0_pay3
        (k0_t13_loop v124 v127).trips) (k0_t14_loop v124 v127).trips
      = acc (Scalar.addi (Scalar.muli arg0 8#32) 6#32) x0 x1 x2 v124 v127 k0_hw7 :=
  of_loops _ (Words.trips_rest _ _) (st_k0_t14_zero ..) rfl (st_k0_t13_zero ..)
    fun k => (st_k0_t13_succ ..).trans (by unfold tripR_k0_t13 trip_k0_t13; exact trip_read harg2 harg3 harg4)

/-- The accumulator of the grid point's graph 7. -/
theorem acc_7 :
    st_k0_t16 (F := F) 𝒱 c bd i arg1 harg1 arg2 harg2 arg3 harg3 arg4 harg4 arg5 harg5 arg6 harg6 arg0 v6 v25 v141 v143 v146 k0_hw8 v147 c1_i32_71 (harg2.unread x0) (harg3.unread x1) (harg4.unread x2)
      (st_k0_t15 (F := F) 𝒱 c bd i arg1 harg1 arg2 harg2 arg3 harg3 arg4 harg4 arg5 harg5 arg6 harg6 arg0 v6 v25 v141 v143 v146 k0_hw8 v147 c1_i32_71 (harg2.unread x0) (harg3.unread x1) (harg4.unread x2) k0_pay3
        (k0_t15_loop v143 v146).trips) (k0_t16_loop v143 v146).trips
      = acc v141 x0 x1 x2 v143 v146 k0_hw8 :=
  of_loops _ (Words.trips_rest _ _) (st_k0_t16_zero ..) rfl (st_k0_t15_zero ..)
    fun k => (st_k0_t15_succ ..).trans (by unfold tripR_k0_t15 trip_k0_t15; exact trip_read harg2 harg3 harg4)

end Loops

end Cert.Acc
-- ==== Proof.AccSum.lean ====
/- The accumulator of a graph on the extended reals: the sum over the graph's nodes. -/
module

public import proofs.«01_k».proof.Proof.Acc
public import Idealize.ShloMosaic.Lib.Pointwise
public import Idealize.ShloMosaic.Lib.Pipeline.ValueKit.Tiles

@[expose] public section

set_option maxRecDepth 16384

noncomputable section

namespace Cert.AccSum

open Cert.KernelIdeal Cert.KernelIdeal.Gen
open Idealize.ShloMosaic Idealize.ShloMosaic.TcCoe

/-- One chunk's product, at an entry. -/
theorem pay_apply (b : BitVec 32) (a : FVec Ideal S128x128 .f32) (v : IVec S1x1024 32) (u : FVec Ideal S128x1024 .f32)
    (w : FVec Ideal S1024x128 .f32) (p q : Fin 128) :
    k0_pay7 (F := Ideal) b a v u w (ix2 p q)
      = (a (ix2 p q) + ∑ t : Fin 1024, (if v (ix2 0 t) = b then u (ix2 p t) else 0) * w (ix2 t q) : EReal) := by
  unfold k0_pay7
  pointwise
  refine congrArg (a (ix2 p q) + ·) (Finset.sum_congr rfl fun t _ => ?_)
  by_cases h : v (ix2 0 t) = b
  · simp [h, IntOp.cmpi, Scalar.select]
  · simp [h, IntOp.cmpi, Scalar.select, beq_eq_false_iff_ne.mpr h]

/-- Node `n`'s share of the entry, zero for a node of another graph and past the last node. -/
def term (b : BitVec 32) (x0 : FVec Ideal S128x8192 .f32) (x1 : FVec Ideal S8192x128 .f32) (x2 : IVec S1x8192 32) (p q : Fin 128) (n : ℕ) : EReal :=
  if h : n < 8192 then (if x2 (ix2 0 ⟨n, h⟩) = b then x0 (ix2 p ⟨n, h⟩) else 0) * x1 (ix2 ⟨n, h⟩ q) else 0

variable (b : BitVec 32) (x0 : FVec Ideal S128x8192 .f32) (x1 : FVec Ideal S8192x128 .f32) (x2 : IVec S1x8192 32) (p q : Fin 128)

theorem trip_apply {r0 r1 : BitVec 32} (hb : Words.Bounds r0 r1) (h : k0_chk1 r0 r1) (k : Fin (k0_t1_loop r0 r1).trips)
    (a : FVec Ideal S128x128 .f32) :
    Acc.trip (F := Ideal) b x0 x1 x2 r0 r1 h k a (ix2 p q)
      = (a (ix2 p q) + ∑ n ∈ Finset.Ico ((r0.toInt.toNat / 1024 + k.val) * 1024) ((r0.toInt.toNat / 1024 + (k.val + 1)) * 1024), term b x0 x1 x2 p q n : EReal) := by
  obtain ⟨hw, hlt⟩ := Words.chunk_word hb k.val k.isLt
  unfold Acc.trip
  rw [pay_apply, show (r0.toInt.toNat / 1024 + (k.val + 1)) * 1024 = (r0.toInt.toNat / 1024 + k.val) * 1024 + 1024 by omega,
    Finset.sum_Ico_eq_sum_range, Nat.add_sub_cancel_left, Finset.sum_range]
  refine congrArg (a (ix2 p q) + ·) (Finset.sum_congr rfl fun t _ => ?_)
  have ht : (r0.toInt.toNat / 1024 + k.val) * 1024 + t.val < 8192 := by have := t.isLt; omega
  unfold term
  rw [dif_pos ht]
  have e2 : View.ld (Val := Elt Ideal) (e' := .i32) x2 (Rect.unit (s := S1x8192) (k0_off3 r0 r1 k) S1x1024.size (k0_off3_inb r0 r1 h k)) (ix2 0 t)
      = x2 (ix2 0 ⟨_, ht⟩) := View.ld_unit_apply_of _ _ _ _ _ _ fun ax => match ax with
    | ⟨0, _⟩ => rfl
    | ⟨1, _⟩ => congrArg (· + t.val) hw.symm
  have e0 : View.ld (Val := Elt Ideal) (e' := .f32) x0 (Rect.unit (s := S128x8192) (k0_off4 r0 r1 k) S128x1024.size (k0_off4_inb r0 r1 h k)) (ix2 p t)
      = x0 (ix2 p ⟨_, ht⟩) := View.ld_unit_apply_of _ _ _ _ _ _ fun ax => match ax with
    | ⟨0, _⟩ => (Nat.zero_add _).symm
    | ⟨1, _⟩ => congrArg (· + t.val) hw.symm
  have e1 : View.ld (Val := Elt Ideal) (e' := .f32) x1 (Rect.unit (s := S8192x128) (k0_off5 r0 r1 k) S1024x128.size (k0_off5_inb r0 r1 h k)) (ix2 t q)
      = x1 (ix2 ⟨_, ht⟩ q) := View.ld_unit_apply_of _ _ _ _ _ _ fun ax => match ax with
    | ⟨0, _⟩ => congrArg (· + t.val) hw.symm
    | ⟨1, _⟩ => (Nat.zero_add _).symm
  rw [e0, e1, e2]

/-- The accumulator of graph `b` is the sum over its nodes. -/
theorem acc_apply {r0 r1 : BitVec 32} (hb : Words.Bounds r0 r1) (h : k0_chk1 r0 r1)
    (hs : ∀ n : Fin 8192, x2 (ix2 0 n) = b ↔ r0.toInt ≤ n.val ∧ (n.val : Int) < r1.toInt) :
    Acc.acc (F := Ideal) b x0 x1 x2 r0 r1 h (ix2 p q)
      = (∑ n : Fin 8192, (if x2 (ix2 0 n) = b then x0 (ix2 p n) else 0) * x1 (ix2 n q) : EReal) := by
  have step : ∀ k, k ≤ (k0_t1_loop r0 r1).trips →
      Acc.iter _ (Acc.trip (F := Ideal) b x0 x1 x2 r0 r1 h) k0_pay3 k (ix2 p q)
        = (∑ n ∈ Finset.Ico (r0.toInt.toNat / 1024 * 1024) ((r0.toInt.toNat / 1024 + k) * 1024), term b x0 x1 x2 p q n : EReal) := by
    intro k
    induction k with
    | zero =>
      intro _
      rw [Nat.add_zero, Finset.Ico_self, Finset.sum_empty]
      exact Ideal.ofBits_zero_f32
    | succ k ih =>
      intro hk
      have hk' : k < (k0_t1_loop r0 r1).trips := hk
      rw [Acc.iter_succ _ _ _ ⟨k, hk'⟩, trip_apply b x0 x1 x2 p q hb h ⟨k, hk'⟩, ih (Nat.le_of_succ_le hk)]
      exact Finset.sum_Ico_consecutive _ (Nat.mul_le_mul_right _ (Nat.le_add_right _ _)) (Nat.mul_le_mul_right _ (Nat.le_succ _))
  unfold Acc.acc
  rw [step _ (le_refl _), Words.trips_main hb]
  obtain ⟨h0, h1, h2⟩ := hb
  have tail : (∑ n : Fin 8192, (if x2 (ix2 0 n) = b then x0 (ix2 p n) else 0) * x1 (ix2 n q) : EReal) = ∑ n ∈ Finset.range 8192, term b x0 x1 x2 p q n := by
    rw [Finset.sum_range]
    refine Finset.sum_congr rfl fun n _ => ?_
    unfold term
    rw [dif_pos n.isLt]
  rw [tail]
  refine Finset.sum_subset (fun n hn => ?_) (fun n hn hn' => ?_)
  · rw [Finset.mem_Ico] at hn
    rw [Finset.mem_range]
    omega
  · rw [Finset.mem_range] at hn
    unfold term
    rw [dif_pos hn, if_neg, zero_mul]
    intro hc
    have := (hs ⟨n, hn⟩).mp hc
    apply hn'
    rw [Finset.mem_Ico]
    simp only at this
    omega

end Cert.AccSum
-- ==== Proof.Point.lean ====
/- What one grid point of the pooling kernel leaves: eight matrix square roots, one per graph. -/
module

public import proofs.«01_k».proof.Proof.Acc
public import Idealize.ShloMosaic.Lib.Pipeline.ValueKit.Stack

@[expose] public section

set_option maxRecDepth 16384

noncomputable section

namespace Cert.Point

open Cert.KernelIdeal Cert.KernelIdeal.Gen
open Idealize.ShloMosaic Idealize.ShloMosaic.TcCoe Idealize.ShloMosaic.ValueIdx
open Idealize.ShloMosaic.Tactic

variable {F : FTy → Type} [FloatOps F]

/-- The attention sum of graph `b`, bounded below. -/
def sumOf (b : BitVec 32) (e : Vec F S1x64 .f32) : FVec F S1x1 .f32 :=
  maximumf (shapeCast S1x1 (multiReduction .add [1] S1 (select (cmpi .eq (iota .tc S1x64 32 [1] iota_S1x64_d1_w32) (broadcast S1x64 b)) e
      (broadcast S1x64 (Scalar.ofBits .f32 0x00000000#32))) 0x00000000#32 reduces_S1x64_S1 (.inl rfl) rfl) shapeCasts_S1_S1x1)
    (broadcast S1x1 (Scalar.ofBits .f32 0x0DA24260#32))

/-- The matrix whose square root is taken: the accumulator over the attention sum, plus a thousandth of the unit matrix. -/
def mean (b : BitVec 32) (a : FVec F S128x128 .f32) (e : Vec F S1x64 .f32) : FVec F S128x128 .f32 :=
  addf (divf a (broadcastTo S128x128 (sumOf b e) broadcasts_S1x1_S128x128))
    (mulf (broadcast S128x128 (Scalar.ofBits .f32 0x3A83126F#32)) k0_pay2)

/-- The trace. -/
def trace (A : FVec F S128x128 .f32) : FVec F S1x1 .f32 :=
  broadcast S1x1 (extractAt ![0, 0, 0] (shapeCast S1x1x1 (multiReduction .add [1, 2] S1
    (shapeCast S1x128x128 (mulf A k0_pay2) shapeCasts_S128x128_S1x128x128) 0x00000000#32 reduces_S1x128x128_S1 (.inl rfl) rfl)
    shapeCasts_S1_S1x1x1) inpos_S1x1x1_p0_0_0)

/-- The Newton–Schulz pair after `n` steps. -/
def pair (A : FVec F S128x128 .f32) : ℕ → FVec F S128x128 .f32 × FVec F S128x128 .f32
  | 0 => (divf A (broadcastTo S128x128 (trace A) broadcasts_S1x1_S128x128), k0_pay2)
  | n + 1 => (k0_pay89 k0_pay2 (pair A n).1 (pair A n).2, k0_pay90 k0_pay2 (pair A n).1 (pair A n).2)

/-- The square root: five steps, scaled back by the root of the trace. -/
def root (A : FVec F S128x128 .f32) : FVec F S128x128 .f32 :=
  k0_pay173 (sqrt (trace A)) (pair A 5).1

/-- The word that numbers the `g`-th graph of the grid point. -/
def num (i : grid0.Coords) (g : BitVec 32) : BitVec 32 := Scalar.addi (Scalar.muli (BitVec.ofNat 32 (i 0).val) 8#32) g

/-- A load of the whole row of attention sums. -/
theorem row_full {arg5 : Memref sig .tc .vmem S1x64 .f32} (harg5 : arg5.IsWhole) (x3 : Vec F S1x64 .f32) :
    View.readAt (Elt F) arg5.view (Rect.unit (s := S1x64) ![0, 0] S1x64.size inb_S1x64_S1x64_0_0).toLoadRect (harg5.unread x3) = x3 := by
  rw [View.readAt_eq_ld, harg5.read_unread]
  exact View.ld_unit_zero (by funext a; match a with | ⟨0, _⟩ => rfl | ⟨1, _⟩ => rfl) _ _

/-- One of the eight stores, at an index it covers. -/
theorem fill {P : FVec F S1x128x128 .f32} {a : FVec F S128x128 .f32} {e' : Vec F S1x64 .f32} (i : grid0.Coords) (g : Fin 8)
    (S : Fin 8 → FVec F S128x128 .f32) (e : Vec F S1x64 .f32) (x : S1x128x128.Idx) (y : S8x128x128.Idx)
    (h0 : (y 0 : ℕ) = g.val + (x 0 : ℕ)) (h1 : (y 1 : ℕ) = (x 1 : ℕ)) (h2 : (y 2 : ℕ) = (x 2 : ℕ))
    (hP : P = shapeCast S1x128x128 (root (mean (num i (BitVec.ofNat 32 g.val)) a e')) shapeCasts_S128x128_S1x128x128)
    (ha : a = S g) (he : e' = e) :
    P x = stackAlong0 (d := ![128, 128]) (fun g : Fin 8 => root (mean (num i (BitVec.ofNat 32 g.val)) (S g) e)) y := by
  subst ha he hP
  exact stack_piece (d := ![128, 128]) (fun g : Fin 8 => root (mean (num i (BitVec.ofNat 32 g.val)) (S g) e')) g
    shapeCasts_S128x128_S1x128x128 x y h0 (fun a => match a with | ⟨0, _⟩ => h1 | ⟨1, _⟩ => h2)

set_option maxHeartbeats 2000000 in
theorem out_stack (c : Dev nD) (i : grid0.Coords) (arg2 : Memref sig .tc .vmem S128x8192 .f32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S1x64 .f32) (harg5 : arg5.IsWhole) (arg6 : Memref sig .tc .vmem S8x128x128 .f32) (harg6 : arg6.IsWhole)
    (x0 : Vec F S128x8192 .f32) (x1 : Vec F S8192x128 .f32) (x2 : Vec F S1x8192 .i32) (x3 : Vec F S1x64 .f32) (xt0 : TbBuf0 (F := F) c tbM0_0) (k0_hw1 : k0_chk1 (tbM0_0.view.readAt (Elt F) (Rect.unit (s := S65) (k0_off1 i) S1.size (k0_off1_inb i)).toLoadRect xt0 (Shape.Idx.first (numel1_S1.symm ▸ Nat.one_pos))) (tbM0_0.view.readAt (Elt F) (Rect.unit (s := S65) (k0_off2 i) S1.size (k0_off2_inb i)).toLoadRect xt0 (Shape.Idx.first (numel1_S1.symm ▸ Nat.one_pos)))) (k0_hw2 : k0_chk2 (tbM0_0.view.readAt (Elt F) (Rect.unit (s := S65) (k0_off9 i) S1.size (k0_off9_inb i)).toLoadRect xt0 (Shape.Idx.first (numel1_S1.symm ▸ Nat.one_pos))) (tbM0_0.view.readAt (Elt F) (Rect.unit (s := S65) (k0_off10 i) S1.size (k0_off10_inb i)).toLoadRect xt0 (Shape.Idx.first (numel1_S1.symm ▸ Nat.one_pos)))) (k0_hw3 : k0_chk3 (tbM0_0.view.readAt (Elt F) (Rect.unit (s := S65) (k0_off17 i) S1.size (k0_off17_inb i)).toLoadRect xt0 (Shape.Idx.first (numel1_S1.symm ▸ Nat.one_pos))) (tbM0_0.view.readAt (Elt F) (Rect.unit (s := S65) (k0_off18 i) S1.size (k0_off18_inb i)).toLoadRect xt0 (Shape.Idx.first (numel1_S1.symm ▸ Nat.one_pos)))) (k0_hw4 : k0_chk4 (tbM0_0.view.readAt (Elt F) (Rect.unit (s := S65) (k0_off25 i) S1.size (k0_off25_inb i)).toLoadRect xt0 (Shape.Idx.first (numel1_S1.symm ▸ Nat.one_pos))) (tbM0_0.view.readAt (Elt F) (Rect.unit (s := S65) (k0_off26 i) S1.size (k0_off26_inb i)).toLoadRect xt0 (Shape.Idx.first (numel1_S1.symm ▸ Nat.one_pos)))) (k0_hw5 : k0_chk5 (tbM0_0.view.readAt (Elt F) (Rect.unit (s := S65) (k0_off33 i) S1.size (k0_off33_inb i)).toLoadRect xt0 (Shape.Idx.first (numel1_S1.symm ▸ Nat.one_pos))) (tbM0_0.view.readAt (Elt F) (Rect.unit (s := S65) (k0_off34 i) S1.size (k0_off34_inb i)).toLoadRect xt0 (Shape.Idx.first (numel1_S1.symm ▸ Nat.one_pos)))) (k0_hw6 : k0_chk6 (tbM0_0.view.readAt (Elt F) (Rect.unit (s := S65) (k0_off41 i) S1.size (k0_off41_inb i)).toLoadRect xt0 (Shape.Idx.first (numel1_S1.symm ▸ Nat.one_pos))) (tbM0_0.view.readAt (Elt F) (Rect.unit (s := S65) (k0_off42 i) S1.size (k0_off42_inb i)).toLoadRect xt0 (Shape.Idx.first (numel1_S1.symm ▸ Nat.one_pos)))) (k0_hw7 : k0_chk7 (tbM0_0.view.readAt (Elt F) (Rect.unit (s := S65) (k0_off49 i) S1.size (k0_off49_inb i)).toLoadRect xt0 (Shape.Idx.first (numel1_S1.symm ▸ Nat.one_pos))) (tbM0_0.view.readAt (Elt F) (Rect.unit (s := S65) (k0_off50 i) S1.size (k0_off50_inb i)).toLoadRect xt0 (Shape.Idx.first (numel1_S1.symm ▸ Nat.one_pos)))) (k0_hw8 : k0_chk8 (tbM0_0.view.readAt (Elt F) (Rect.unit (s := S65) (k0_off57 i) S1.size (k0_off57_inb i)).toLoadRect xt0 (Shape.Idx.first (numel1_S1.symm ▸ Nat.one_pos))) (tbM0_0.view.readAt (Elt F) (Rect.unit (s := S65) (k0_off58 i) S1.size (k0_off58_inb i)).toLoadRect xt0 (Shape.Idx.first (numel1_S1.symm ▸ Nat.one_pos))))  (S : Fin 8 → FVec F S128x128 .f32)
    (hS : ∀ g : Fin 8, ∀ r0 r1 (h : k0_chk1 r0 r1), r0 = xt0 (ix1 (IdealHyps.graph i g).castSucc) → r1 = xt0 (ix1 (IdealHyps.graph i g).succ) →
      Acc.acc (num i (BitVec.ofNat 32 g.val)) x0 x1 x2 r0 r1 h = S g) :
    out0_A_4 c i arg2 harg2 arg3 harg3 arg4 harg4 arg5 harg5 arg6 harg6 x0 x1 x2 x3 xt0 k0_hw1 k0_hw2 k0_hw3 k0_hw4 k0_hw5 k0_hw6 k0_hw7 k0_hw8
      = stackAlong0 (d := ![128, 128]) fun g : Fin 8 => root (mean (num i (BitVec.ofNat 32 g.val)) (S g) x3) := by
  unfold out0_A_4
  rw [View.read_writes_eq_canon _ _ _ (cover0_A_4 c i arg2 harg2 arg3 harg3 arg4 harg4 arg5 harg5 arg6 harg6 x0 x1 x2 x3 xt0 k0_hw1 k0_hw2 k0_hw3 k0_hw4 k0_hw5 k0_hw6 k0_hw7 k0_hw8)]
  unfold kernelRun0_A
  dsimp only
  funext y
  canon_tiles x h
  · exact fill i 7 S x3 x y (by omega) h1 h2 rfl ((Acc.acc_7 ..).trans (hS 7 _ _ _ (IdealHyps.word_at c xt0 _ _ (k0_off57_eq i) _ _) (IdealHyps.word_at c xt0 _ _ (k0_off58_eq i) _ _)))
      (row_full harg5 x3)
  · exact fill i 6 S x3 x y (by omega) h1 h2 rfl ((Acc.acc_6 ..).trans (hS 6 _ _ _ (IdealHyps.word_at c xt0 _ _ (k0_off49_eq i) _ _) (IdealHyps.word_at c xt0 _ _ (k0_off50_eq i) _ _)))
      (row_full harg5 x3)
  · exact fill i 5 S x3 x y (by omega) h1 h2 rfl ((Acc.acc_5 ..).trans (hS 5 _ _ _ (IdealHyps.word_at c xt0 _ _ (k0_off41_eq i) _ _) (IdealHyps.word_at c xt0 _ _ (k0_off42_eq i) _ _)))
      (row_full harg5 x3)
  · exact fill i 4 S x3 x y (by omega) h1 h2 rfl ((Acc.acc_4 ..).trans (hS 4 _ _ _ (IdealHyps.word_at c xt0 _ _ (k0_off33_eq i) _ _) (IdealHyps.word_at c xt0 _ _ (k0_off34_eq i) _ _)))
      (row_full harg5 x3)
  · exact fill i 3 S x3 x y (by omega) h1 h2 rfl ((Acc.acc_3 ..).trans (hS 3 _ _ _ (IdealHyps.word_at c xt0 _ _ (k0_off25_eq i) _ _) (IdealHyps.word_at c xt0 _ _ (k0_off26_eq i) _ _)))
      (row_full harg5 x3)
  · exact fill i 2 S x3 x y (by omega) h1 h2 rfl ((Acc.acc_2 ..).trans (hS 2 _ _ _ (IdealHyps.word_at c xt0 _ _ (k0_off17_eq i) _ _) (IdealHyps.word_at c xt0 _ _ (k0_off18_eq i) _ _)))
      (row_full harg5 x3)
  · exact fill i 1 S x3 x y (by omega) h1 h2 rfl ((Acc.acc_1 ..).trans (hS 1 _ _ _ (IdealHyps.word_at c xt0 _ _ (k0_off9_eq i) _ _) (IdealHyps.word_at c xt0 _ _ (k0_off10_eq i) _ _)))
      (row_full harg5 x3)
  · exact fill i 0 S x3 x y (by omega) h1 h2 rfl ((Acc.acc_0 ..).trans (hS 0 _ _ _ (IdealHyps.word_at c xt0 _ _ (k0_off1_eq i) _ _) (IdealHyps.word_at c xt0 _ _ (k0_off2_eq i) _ _)))
      (row_full harg5 x3)

end Cert.Point
-- ==== Proof.Pooled.lean ====
/- The array the pooling call leaves: graph `b`'s matrix is the square root of the mean of the graph's accumulated sum. -/
module

public import proofs.«01_k».proof.Proof.AccSum
public import proofs.«01_k».proof.Proof.Point
public import Idealize.ShloMosaic.Lib.Pipeline.ValueKit

@[expose] public section

set_option maxRecDepth 16384

noncomputable section

namespace Cert.Pooled

open Cert.KernelIdeal Cert.KernelIdeal.Gen
open Idealize.ShloMosaic Idealize.ShloMosaic.TcCoe Idealize.SL.Sem

/-- The sum of a graph's outer products, over all nodes, a node of another graph contributing zero. -/
def accSum (b : BitVec 32) (x0 : Vec Ideal S128x8192 .f32) (x1 : Vec Ideal S8192x128 .f32) (x2 : Vec Ideal S1x8192 .i32) :
    FVec Ideal S128x128 .f32 :=
  fun j => (∑ n : Fin 8192, (if x2 (ix2 0 n) = b then x0 (ix2 (j 0) n) else 0) * x1 (ix2 n (j 1)) : EReal)

/-- Graph `b`'s matrix. -/
def matrix (b : BitVec 32) (x0 : Vec Ideal S128x8192 .f32) (x1 : Vec Ideal S8192x128 .f32) (x2 : Vec Ideal S1x8192 .i32)
    (x3 : Vec Ideal S1x64 .f32) : FVec Ideal S128x128 .f32 :=
  Point.root (Point.mean b (accSum b x0 x1 x2) x3)

variable (m : (ℓ : Loc nD τ sig) → Buf (Elt Ideal) ℓ)

/-- All 64 matrices. -/
def pooled (c : Dev nD) : FVec Ideal S64x128x128 .f32 := fun i =>
  matrix (BitVec.ofNat 32 (i 0).val) (m ((c : Thread nD τ).loc main_arg1)) (m ((c : Thread nD τ).loc main_arg2))
    (m ((c : Thread nD τ).loc main_arg3)) (m ((c : Thread nD τ).loc main_arg4)) (ix2 (i 1) (i 2))

variable (hO : Ok m) (hH : Hyps m hO) (c : Dev nD)

theorem iblk_0 (t : Fin (cfgM m hO).N) : iblk m hO c 0 t = m ((c : Thread nD τ).loc main_arg1) := by
  refine funext fun (x : S128x8192.Idx) => ?_
  refine congrArg (m ((c : Thread nD τ).loc main_arg1)) (funext fun a => ?_)
  match a with
  | ⟨0, _⟩ => exact Fin.ext (by show 0 * 128 + 1 * (x 0).val = (x 0).val; omega)
  | ⟨1, _⟩ => exact Fin.ext (by show 0 * 8192 + 1 * (x 1).val = (x 1).val; omega)

theorem iblk_1 (t : Fin (cfgM m hO).N) : iblk m hO c 1 t = m ((c : Thread nD τ).loc main_arg2) := by
  refine funext fun (x : S8192x128.Idx) => ?_
  refine congrArg (m ((c : Thread nD τ).loc main_arg2)) (funext fun a => ?_)
  match a with
  | ⟨0, _⟩ => exact Fin.ext (by show 0 * 8192 + 1 * (x 0).val = (x 0).val; omega)
  | ⟨1, _⟩ => exact Fin.ext (by show 0 * 128 + 1 * (x 1).val = (x 1).val; omega)

theorem iblk_2 (t : Fin (cfgM m hO).N) : iblk m hO c 2 t = m ((c : Thread nD τ).loc main_arg3) := by
  refine funext fun (x : S1x8192.Idx) => ?_
  refine congrArg (m ((c : Thread nD τ).loc main_arg3)) (funext fun a => ?_)
  match a with
  | ⟨0, _⟩ => exact Fin.ext (by show 0 * 1 + 1 * (x 0).val = (x 0).val; omega)
  | ⟨1, _⟩ => exact Fin.ext (by show 0 * 8192 + 1 * (x 1).val = (x 1).val; omega)

theorem iblk_3 (t : Fin (cfgM m hO).N) : iblk m hO c 3 t = m ((c : Thread nD τ).loc main_arg4) := by
  refine funext fun (x : S1x64.Idx) => ?_
  refine congrArg (m ((c : Thread nD τ).loc main_arg4)) (funext fun a => ?_)
  match a with
  | ⟨0, _⟩ => exact Fin.ext (by show 0 * 1 + 1 * (x 0).val = (x 0).val; omega)
  | ⟨1, _⟩ => exact Fin.ext (by show 0 * 64 + 1 * (x 1).val = (x 1).val; omega)

/-- The word the body numbers a graph by is the graph's number. -/
theorem num_eq (i : grid0.Coords) (g : Fin 8) : Point.num i (BitVec.ofNat 32 g.val) = BitVec.ofNat 32 (8 * (i 0).val + g.val) := by
  unfold Point.num
  have h : (i 0).val < 8 := (i 0).isLt
  apply BitVec.eq_of_toNat_eq
  show (BitVec.ofNat 32 (i 0).val * 8#32 + BitVec.ofNat 32 g.val).toNat = _
  simp only [BitVec.toNat_add, BitVec.toNat_mul, BitVec.toNat_ofNat]
  omega

variable (hS : Words.Segs (m (((0 : Dev nD) : Thread nD τ).loc main_arg0)) (m ((c : Thread nD τ).loc main_arg3)))

include hS in
theorem outs_eq (t : Fin (cfgM m hO).N) :
    outsAt0 m hO hH c t = stackAlong0 (d := ![128, 128]) fun g : Fin 8 =>
      matrix (BitVec.ofNat 32 (8 * (grid0.coords t 0).val + g.val)) (m ((c : Thread nD τ).loc main_arg1)) (m ((c : Thread nD τ).loc main_arg2))
        (m ((c : Thread nD τ).loc main_arg3)) (m ((c : Thread nD τ).loc main_arg4)) := by
  unfold outsAt0
  refine (Point.out_stack c (grid0.coords t) _ _ _ _ _ _ _ _ _ _ (iblk m hO c 0 t) (iblk m hO c 1 t) (iblk m hO c 2 t) (iblk m hO c 3 t) (tbl m 0) _ _ _ _ _ _ _ _
    (fun g => accSum (BitVec.ofNat 32 (8 * (grid0.coords t 0).val + g.val)) (m ((c : Thread nD τ).loc main_arg1)) (m ((c : Thread nD τ).loc main_arg2))
        (m ((c : Thread nD τ).loc main_arg3))) ?_).trans ?_
  · intro g r0 r1 h e0 e1
    have hg := hS (IdealHyps.graph (grid0.coords t) g)
    funext j
    rw [num_eq, iblk_0, iblk_1, iblk_2]
    idx_vars j
    refine AccSum.acc_apply _ _ _ _ _ _ ?_ h ?_
    · rw [e0, e1]; exact hg.1
    · intro n
      rw [e0, e1]
      exact hg.2 n
  · refine congrArg (stackAlong0 (d := ![128, 128])) (funext fun g => ?_)
    rw [num_eq, iblk_3]
    rfl

/-- The eight blocks of the result cover it. -/
theorem covers : ((cfgM m hO).win 4).Covers := by
  refine ⟨fun a => ?_, fun β => ?_⟩
  · have h : ∀ a : Fin 3, 0 < (![8, 128, 128] : Fin 3 → ℕ) a := by decide
    exact h a
  · have hc : ∀ n : Fin 8, cc0_transform_4 (grid0.coords (n.cast (by decide) : Fin grid0.N)) 0 = n.val := by decide
    have h0 : (β (0 : Fin 3)).val < 8 := Nat.lt_of_lt_of_eq (β (0 : Fin 3)).isLt (show (64 + 8 - 1) / 8 = 8 by decide)
    have h1 : (β (1 : Fin 3)).val < 1 := Nat.lt_of_lt_of_eq (β (1 : Fin 3)).isLt (show (128 + 128 - 1) / 128 = 1 by decide)
    have h2 : (β (2 : Fin 3)).val < 1 := Nat.lt_of_lt_of_eq (β (2 : Fin 3)).isLt (show (128 + 128 - 1) / 128 = 1 by decide)
    refine ⟨((⟨(β (0 : Fin 3)).val, h0⟩ : Fin 8).cast (by decide) : Fin grid0.N), flush0_4 _ _, fun (a : Fin 3) => ?_⟩
    match a with
    | ⟨0, _⟩ => exact ⟨hc ⟨_, h0⟩, Or.inl rfl⟩
    | ⟨1, _⟩ => exact ⟨(Nat.lt_one_iff.1 h1).symm, Or.inl rfl⟩
    | ⟨2, _⟩ => exact ⟨(Nat.lt_one_iff.1 h2).symm, Or.inl rfl⟩

include hS in
theorem final : (dats m hO hH 0 c).arrAt 4 (cfgM m hO).N = pooled m c := by
  refine (dats m hO hH 0 c).arrAt_eq_of_covers 4 _ (covers m hO) fun t hf => ?_
  rw [after0_4, outs_eq m hO hH c hS t]
  refine fun (y : S8x128x128.Idx) => ?_
  have key : ∀ z : S64x128x128.Idx, (z 0).val = (grid0.coords t 0).val * 8 + 1 * (y 0).val → z 1 = y 1 → z 2 = y 2 →
      stackAlong0 (d := ![128, 128]) (fun g : Fin 8 =>
        matrix (BitVec.ofNat 32 (8 * (grid0.coords t 0).val + g.val)) (m ((c : Thread nD τ).loc main_arg1)) (m ((c : Thread nD τ).loc main_arg2))
          (m ((c : Thread nD τ).loc main_arg3)) (m ((c : Thread nD τ).loc main_arg4))) y = pooled m c z := by
    intro z e0 e1 e2
    unfold pooled stackAlong0
    rw [e0, e1, e2, show (grid0.coords t 0).val * 8 + 1 * (y 0).val = 8 * (grid0.coords t 0).val + (y 0).val by omega]
    refine congrArg (matrix _ _ _ _ _) (funext fun a => ?_)
    match a with
    | ⟨0, _⟩ => rfl
    | ⟨1, _⟩ => rfl
  have hc : ∀ t : Fin grid0.N, cc0_transform_4 (grid0.coords t) 0 = (grid0.coords t 0).val := by decide
  exact key _ (by rw [← hc t]; rfl) (Fin.ext (by show 0 * 128 + 1 * (y 1).val = (y 1).val; omega)) (Fin.ext (by show 0 * 128 + 1 * (y 2).val = (y 2).val; omega))

end Cert.Pooled
-- ==== Proof.Newton.lean ====
/- The Newton–Schulz steps of one graph: the stacked products of the reference, read at the graph, are the products of the kernel. -/
module

public import proofs.«01_k».proof.Proof.Point
public import proofs.«01_k».proof.Proof.Gen.ReferenceIdeal.Read
public import Idealize.ShloMosaic.Lib.Pointwise

@[expose] public section

set_option maxRecDepth 16384

noncomputable section

namespace Cert.Newton

open Idealize.ShloMosaic Idealize.ShloMosaic.TcCoe
open Cert.KernelIdeal.Gen
open Cert.ReferenceIdeal (S128x8192 S8192x128 S1x8192 S1x64 S64x128x128 S128x128)
open Cert.ReferenceIdeal.Read

abbrev stackDot := Cert.ReferenceIdeal.dot_S64x128x128_S64x128x128_S64x128x128_2_1_1_2_0_0

/-- Half of three times the unit matrix less the product. -/
def corr (Y Z : FVec Ideal S64x128x128 .f32) : FVec Ideal S64x128x128 .f32 :=
  mulf (val_main_v43 (F := Ideal)) (subf (val_main_v41 (F := Ideal)) (Host.dotGeneral stackDot none Z Y))

/-- The stacked pair after `n` steps. -/
def pair (Y : FVec Ideal S64x128x128 .f32) : ℕ → FVec Ideal S64x128x128 .f32 × FVec Ideal S64x128x128 .f32
  | 0 => (Y, val_main_v36 (F := Ideal))
  | n + 1 => (Host.dotGeneral stackDot none (pair Y n).1 (corr (pair Y n).1 (pair Y n).2),
      Host.dotGeneral stackDot none (corr (pair Y n).1 (pair Y n).2) (pair Y n).2)

section
variable (x1 : FVec Ideal S128x8192 .f32) (x2 : FVec Ideal S8192x128 .f32) (x3 : IVec S1x8192 32) (x4 : FVec Ideal S1x64 .f32)

theorem after1 : pair (val_main_v35 (F := Ideal) x1 x2 x3 x4) 1 = (val_main_v45 (F := Ideal) x1 x2 x3 x4, val_main_v46 (F := Ideal) x1 x2 x3 x4) := rfl

theorem after2 : pair (val_main_v35 (F := Ideal) x1 x2 x3 x4) 2 = (val_main_v55 (F := Ideal) x1 x2 x3 x4, val_main_v56 (F := Ideal) x1 x2 x3 x4) := by
  rw [pair, after1]; rfl

theorem after3 : pair (val_main_v35 (F := Ideal) x1 x2 x3 x4) 3 = (val_main_v65 (F := Ideal) x1 x2 x3 x4, val_main_v66 (F := Ideal) x1 x2 x3 x4) := by
  rw [pair, after2]; rfl

theorem after4 : pair (val_main_v35 (F := Ideal) x1 x2 x3 x4) 4 = (val_main_v75 (F := Ideal) x1 x2 x3 x4, val_main_v76 (F := Ideal) x1 x2 x3 x4) := by
  rw [pair, after3]; rfl

theorem after5 : pair (val_main_v35 (F := Ideal) x1 x2 x3 x4) 5 = (val_main_v85 (F := Ideal) x1 x2 x3 x4, val_main_v86 (F := Ideal) x1 x2 x3 x4) := by
  rw [pair, after4]; rfl
end

/-- Two row numbers agree as words only if they agree. -/
theorem word_eq (p q : Fin 128) : IntOp.cmpi .eq (IntOp.addi (BitVec.ofNat 32 p.val) 0#32) (BitVec.ofNat 32 q.val) = if p = q then 1#1 else 0#1 := by
  rw [show IntOp.addi (BitVec.ofNat 32 p.val) 0#32 = BitVec.ofNat 32 p.val from BitVec.add_zero _]
  by_cases h : p = q
  · subst h; simp [IntOp.cmpi]
  · have hne : ¬ (BitVec.ofNat 32 p.val = BitVec.ofNat 32 q.val) := fun e => h (Fin.ext (by
      have := congrArg BitVec.toNat e
      simp only [BitVec.toNat_ofNat] at this
      omega))
    rw [IntOp.cmpi, beq_eq_false_iff_ne.mpr hne, if_neg h]; rfl

/-- The unit matrix of the kernel. -/
theorem eye_kernel (p q : Fin 128) : k0_pay2 (F := Ideal) (ix2 p q) = (if p = q then 1 else 0 : EReal) := by
  unfold k0_pay2
  pointwise
  rw [word_eq]
  split
  · exact (by simp : ((((1 : ℤ) : ℝ)) : EReal) = 1)
  · exact (by simp : ((((0 : ℤ) : ℝ)) : EReal) = 0)

/-- The unit matrix of the reference. -/
theorem eye_reference (p q : Fin 128) : val_main_v6 (F := Ideal) (ix2 p q) = (if p = q then 1 else 0 : EReal) := by
  rw [val_main_v6_apply, show val_main_v5 (F := Ideal) (ix2 p q) = (if p = q then 1#1 else 0#1) from word_eq p q]
  split
  · exact (by simp : ((((1 : ℤ) : ℝ)) : EReal) = 1)
  · exact (by simp : ((((0 : ℤ) : ℝ)) : EReal) = 0)

theorem eye_eq (p q : Fin 128) : val_main_v6 (F := Ideal) (ix2 p q) = k0_pay2 (F := Ideal) (ix2 p q) := by
  rw [eye_reference, eye_kernel]

section
variable (Y Z : FVec Ideal S64x128x128 .f32) (y z : FVec Ideal S128x128 .f32) (b : Fin 64)

/-- The stacked product at a graph. -/
theorem dot_apply (p q : Fin 128) : Host.dotGeneral stackDot none Y Z (ix3 b p q) = (∑ k : Fin 128, Y (ix3 b p k) * Z (ix3 b k q) : EReal) := by
  pointwise

/-- The product of the kernel. -/
theorem matmul_apply (p q : Fin 128) : matmul Cert.KernelIdeal.dot_S128x128_S128x128_S128x128_1_0_0_1_n_n none y z (constant Cert.KernelIdeal.S128x128 .f32 0x00000000#32) (ix2 p q)
    = (∑ k : Fin 128, y (ix2 p k) * z (ix2 k q) : EReal) := by
  pointwise

theorem corr_eq (hY : ∀ p q, Y (ix3 b p q) = y (ix2 p q)) (hZ : ∀ p q, Z (ix3 b p q) = z (ix2 p q)) (p q : Fin 128) :
    corr Y Z (ix3 b p q) = k0_pay88 (F := Ideal) k0_pay2 y z (ix2 p q) := by
  have h3 : val_main_v41 (F := Ideal) (ix3 b p q) = mulf (broadcast S128x128 (Scalar.ofBits (F := Ideal) .f32 0x40400000#32)) k0_pay2 (ix2 p q) := by
    show FloatOps.mulf (F := Ideal) (φ := .f32) _ (val_main_v6 (F := Ideal) (ix2 p q)) = _
    rw [eye_eq]; rfl
  unfold corr k0_pay88
  show FloatOps.mulf (F := Ideal) (φ := .f32) _ (FloatOps.subf (F := Ideal) (φ := .f32) (val_main_v41 (F := Ideal) (ix3 b p q)) _) = FloatOps.mulf _ (FloatOps.subf _ _)
  rw [h3, dot_apply, matmul_apply]
  simp only [hY, hZ]
  rfl

/-- One step. -/
theorem step_eq (hY : ∀ p q, Y (ix3 b p q) = y (ix2 p q)) (hZ : ∀ p q, Z (ix3 b p q) = z (ix2 p q)) (p q : Fin 128) :
    Host.dotGeneral stackDot none Y (corr Y Z) (ix3 b p q) = k0_pay89 (F := Ideal) k0_pay2 y z (ix2 p q)
      ∧ Host.dotGeneral stackDot none (corr Y Z) Z (ix3 b p q) = k0_pay90 (F := Ideal) k0_pay2 y z (ix2 p q) := by
  unfold k0_pay89 k0_pay90
  rw [dot_apply, dot_apply, matmul_apply, matmul_apply]
  simp only [hY, hZ, corr_eq Y Z y z b hY hZ, and_self]

/-- The pairs agree after every number of steps. -/
theorem pair_eq (A : FVec Ideal S128x128 .f32)
    (h : ∀ p q, Y (ix3 b p q) = divf A (broadcastTo S128x128 (Point.trace A) Cert.KernelIdeal.Gen.broadcasts_S1x1_S128x128) (ix2 p q)) (n : ℕ) :
    (∀ p q, (pair Y n).1 (ix3 b p q) = (Point.pair A n).1 (ix2 p q)) ∧ ∀ p q, (pair Y n).2 (ix3 b p q) = (Point.pair A n).2 (ix2 p q) := by
  induction n with
  | zero => exact ⟨h, fun p q => eye_eq p q⟩
  | succ n ih => exact ⟨fun p q => (step_eq _ _ _ _ b ih.1 ih.2 p q).1, fun p q => (step_eq _ _ _ _ b ih.1 ih.2 p q).2⟩
end

end Cert.Newton
-- ==== Proof.Tail.lean ====
/- The host operations after the pooling call: they build the row and column numbers of the upper triangle, the same way
   the reference does, and read the pooled matrices there. -/
module

public import proofs.«01_k».proof.Proof.Gen.KernelIdeal.Frame
public import proofs.«01_k».proof.Proof.Gen.ReferenceIdeal.Read

@[expose] public section

set_option maxRecDepth 8192

noncomputable section

namespace Cert.Tail

open Cert.KernelIdeal Cert.KernelIdeal.Gen
open Idealize.ShloMosaic Idealize.ShloMosaic.TcCoe Idealize.ShloMosaic.StableHlo Idealize.SL.Sem
open Cert.ReferenceIdeal.Read

variable {F : FTy → Type} [FloatOps F]
variable (V : Valuation τ sig (Elt F))

theorem at_v1  :
    after (hostOps1 (F := F)) V (no_index (Proc.devRef .tc main_v1)) = val_main_v87 (F := F) := by
  simp only [hostOps1, TRef.binary, TRef.nullary, TRef.ternary, TRef.unary, TRef.toBuf, TRef.ofBuf, cast_eq]
  after_results_simp
  rfl

theorem at_v2 (h0 : V (Proc.devRef .tc main_v1) = val_main_v87 (F := F)) :
    after (hostOps1_1 (F := F)) V (no_index (Proc.devRef .tc main_v2)) = val_main_v88 (F := F) := by
  simp only [hostOps1_1, TRef.binary, TRef.nullary, TRef.ternary, TRef.unary, TRef.toBuf, TRef.ofBuf, cast_eq]
  after_results_simp
  simp only [h0] <;> rfl

theorem at_v5 (h0 : V (Proc.devRef .tc main_v2) = val_main_v88 (F := F)) :
    after (hostOps1_2 (F := F)) V (no_index (Proc.devRef .tc main_v5)) = val_main_v91 (F := F) := by
  simp only [hostOps1_2, TRef.binary, TRef.nullary, TRef.ternary, TRef.unary, TRef.toBuf, TRef.ofBuf, cast_eq]
  after_results_simp
  simp only [h0] <;> rfl

theorem at_v6 (h0 : V (Proc.devRef .tc main_v5) = val_main_v91 (F := F)) :
    after (hostOps1_3 (F := F)) V (no_index (Proc.devRef .tc main_v6)) = val_main_v92 (F := F) := by
  simp only [hostOps1_3, TRef.binary, TRef.nullary, TRef.ternary, TRef.unary, TRef.toBuf, TRef.ofBuf, cast_eq]
  after_results_simp
  simp only [h0] <;> rfl

theorem at_v15 (h0 : V (Proc.devRef .tc main_v6) = val_main_v92 (F := F)) :
    after (hostOps1_4 (F := F)) V (no_index (Proc.devRef .tc main_v15)) = val_main_v101 (F := F) := by
  simp only [hostOps1_4, TRef.binary, TRef.nullary, TRef.ternary, TRef.unary, TRef.toBuf, TRef.ofBuf, cast_eq]
  after_results_simp
  simp only [h0] <;> rfl

theorem at_v16 (h0 : V (Proc.devRef .tc main_v15) = val_main_v101 (F := F)) :
    after (hostOps1_5 (F := F)) V (no_index (Proc.devRef .tc main_v16)) = val_main_v102 (F := F) := by
  simp only [hostOps1_5, TRef.binary, TRef.nullary, TRef.ternary, TRef.unary, TRef.toBuf, TRef.ofBuf, cast_eq]
  after_results_simp
  simp only [h0] <;> rfl

theorem at_c_4  :
    after (hostOps1_6 (F := F)) V (no_index (Proc.devRef .tc main_c_4)) = val_main_c_19 (F := F) := by
  simp only [hostOps1_6, TRef.binary, TRef.nullary, TRef.ternary, TRef.unary, TRef.toBuf, TRef.ofBuf, cast_eq]
  after_results_simp
  rfl

theorem at_v17 (h0 : V (Proc.devRef .tc main_v16) = val_main_v102 (F := F)) (h1 : V (Proc.devRef .tc main_c_4) = val_main_c_19 (F := F)) :
    after (hostOps1_7 (F := F)) V (no_index (Proc.devRef .tc main_v17)) = val_main_v103 (F := F) := by
  simp only [hostOps1_7, TRef.binary, TRef.nullary, TRef.ternary, TRef.unary, TRef.toBuf, TRef.ofBuf, cast_eq]
  after_results_simp
  simp only [h0, h1] <;> rfl

theorem at_c_5  :
    after (hostOps1_8 (F := F)) V (no_index (Proc.devRef .tc main_c_5)) = val_main_c_20 (F := F) := by
  simp only [hostOps1_8, TRef.binary, TRef.nullary, TRef.ternary, TRef.unary, TRef.toBuf, TRef.ofBuf, cast_eq]
  after_results_simp
  rfl

theorem at_v18 (h0 : V (Proc.devRef .tc main_v17) = val_main_v103 (F := F)) (h1 : V (Proc.devRef .tc main_c_5) = val_main_c_20 (F := F)) :
    after (hostOps1_9 (F := F)) V (no_index (Proc.devRef .tc main_v18)) = val_main_v104 (F := F) := by
  simp only [hostOps1_9, TRef.binary, TRef.nullary, TRef.ternary, TRef.unary, TRef.toBuf, TRef.ofBuf, cast_eq]
  after_results_simp
  simp only [h0, h1] <;> rfl

theorem at_c_6  :
    after (hostOps1_10 (F := F)) V (no_index (Proc.devRef .tc main_c_6)) = val_main_c_21 (F := F) := by
  simp only [hostOps1_10, TRef.binary, TRef.nullary, TRef.ternary, TRef.unary, TRef.toBuf, TRef.ofBuf, cast_eq]
  after_results_simp
  rfl

theorem at_v19 (h0 : V (Proc.devRef .tc main_v16) = val_main_v102 (F := F)) (h1 : V (Proc.devRef .tc main_c_6) = val_main_c_21 (F := F)) :
    after (hostOps1_11 (F := F)) V (no_index (Proc.devRef .tc main_v19)) = val_main_v105 (F := F) := by
  simp only [hostOps1_11, TRef.binary, TRef.nullary, TRef.ternary, TRef.unary, TRef.toBuf, TRef.ofBuf, cast_eq]
  after_results_simp
  simp only [h0, h1] <;> rfl

theorem at_c_7  :
    after (hostOps1_12 (F := F)) V (no_index (Proc.devRef .tc main_c_7)) = val_main_c_22 (F := F) := by
  simp only [hostOps1_12, TRef.binary, TRef.nullary, TRef.ternary, TRef.unary, TRef.toBuf, TRef.ofBuf, cast_eq]
  after_results_simp
  rfl

theorem at_v20 (h0 : V (Proc.devRef .tc main_v19) = val_main_v105 (F := F)) (h1 : V (Proc.devRef .tc main_c_7) = val_main_c_22 (F := F)) :
    after (hostOps1_13 (F := F)) V (no_index (Proc.devRef .tc main_v20)) = val_main_v106 (F := F) := by
  simp only [hostOps1_13, TRef.binary, TRef.nullary, TRef.ternary, TRef.unary, TRef.toBuf, TRef.ofBuf, cast_eq]
  after_results_simp
  simp only [h0, h1] <;> rfl

theorem at_v26 (h0 : V (Proc.devRef .tc main_v5) = val_main_v91 (F := F)) :
    after (hostOps1_14 (F := F)) V (no_index (Proc.devRef .tc main_v26)) = val_main_v112 (F := F) := by
  simp only [hostOps1_14, TRef.binary, TRef.nullary, TRef.ternary, TRef.unary, TRef.toBuf, TRef.ofBuf, cast_eq]
  after_results_simp
  simp only [h0] <;> rfl

theorem at_c_9  :
    after (hostOps1_14 (F := F)) V (no_index (Proc.devRef .tc main_c_9)) = val_main_c_24 (F := F) := by
  simp only [hostOps1_14, TRef.binary, TRef.nullary, TRef.ternary, TRef.unary, TRef.toBuf, TRef.ofBuf, cast_eq]
  after_results_simp
  rfl

theorem at_v27 (h0 : V (Proc.devRef .tc main_v26) = val_main_v112 (F := F)) (h1 : V (Proc.devRef .tc main_c_9) = val_main_c_24 (F := F)) (h2 : V (Proc.devRef .tc main_v18) = val_main_v104 (F := F)) :
    after (hostOps1_15 (F := F)) V (no_index (Proc.devRef .tc main_v27)) = val_main_v113 (F := F) := by
  simp only [hostOps1_15, TRef.binary, TRef.nullary, TRef.ternary, TRef.unary, TRef.toBuf, TRef.ofBuf, cast_eq]
  after_results_simp
  simp only [h0, h1, h2] <;> rfl

theorem at_c_10  :
    after (hostOps1_16 (F := F)) V (no_index (Proc.devRef .tc main_c_10)) = val_main_c_25 (F := F) := by
  simp only [hostOps1_16, TRef.binary, TRef.nullary, TRef.ternary, TRef.unary, TRef.toBuf, TRef.ofBuf, cast_eq]
  after_results_simp
  rfl

theorem at_v28 (h0 : V (Proc.devRef .tc main_v26) = val_main_v112 (F := F)) (h1 : V (Proc.devRef .tc main_c_10) = val_main_c_25 (F := F)) (h2 : V (Proc.devRef .tc main_v20) = val_main_v106 (F := F)) :
    after (hostOps1_17 (F := F)) V (no_index (Proc.devRef .tc main_v28)) = val_main_v114 (F := F) := by
  simp only [hostOps1_17, TRef.binary, TRef.nullary, TRef.ternary, TRef.unary, TRef.toBuf, TRef.ofBuf, cast_eq]
  after_results_simp
  simp only [h0, h1, h2] <;> rfl

/-- The pooled matrices, flattened and read at the flat positions `128 * row + column`. -/
def picked (x : FVec F S64x128x128 .f32) : FVec F S64x8256 .f32 :=
  Host.gather gather_S64x16384_S8256x1_S64x8256_0_1_n_n_1_1_641 (shapeCast S64x16384 x shapeCasts_S64x128x128_S64x16384)
    (broadcastInDim S8256x1 ![0] bcast_S8256_S8256x1_0
      (select (cmpi .slt (addi (muli (val_main_v113 (F := F)) (broadcastInDim S8256 ![] bcast_S_S8256 (constantI S_ 32 128#32))) (val_main_v114 (F := F)))
          (broadcastInDim S8256 ![] bcast_S_S8256 (constantI S_ 32 0#32)))
        (addi (addi (muli (val_main_v113 (F := F)) (broadcastInDim S8256 ![] bcast_S_S8256 (constantI S_ 32 128#32))) (val_main_v114 (F := F)))
          (broadcastInDim S8256 ![] bcast_S_S8256 (constantI S_ 32 16384#32)))
        (addi (muli (val_main_v113 (F := F)) (broadcastInDim S8256 ![] bcast_S_S8256 (constantI S_ 32 128#32))) (val_main_v114 (F := F)))))

theorem at_v39 (h0 : V (Proc.devRef .tc main_v27) = val_main_v113 (F := F)) (h1 : V (Proc.devRef .tc main_v28) = val_main_v114 (F := F)) :
    after (hostOps1_18 (F := F)) V (no_index (Proc.devRef .tc main_v39)) = picked (F := F) (V (Proc.devRef .tc main_v0)) := by
  simp only [hostOps1_18]
  after_results_simp
  simp only [h0, h1] <;> rfl

/-- All of them: the result is read off the pooled matrices. -/
theorem tail : after ([hostOps1 (F := F), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (List (HloOp τ sig (Elt F)))).flatten V (Proc.devRef .tc main_v39)
    = picked (F := F) (V (Proc.devRef .tc main_v0)) := by
  simp only [List.flatten_cons, List.flatten_nil, List.append_nil, after_append]
  obtain ⟨X, z_v0⟩ : ∃ X, V (Proc.devRef .tc main_v0) = X := ⟨_, rfl⟩
  rw [z_v0]
  have y_v1 := at_v1 V
  have y_v0 := (after_of_writes_sub (hostOps1 (F := F)) _ hostOps1_writes (r := main_v0) (by decide)).trans z_v0
  clear z_v0
  generalize after (hostOps1 (F := F)) V = V1 at y_v1 y_v0 ⊢
  have z_v1 := y_v1; clear y_v1
  have z_v0 := y_v0; clear y_v0
  have y_v2 := at_v2 V1 z_v1
  have y_v0 := (after_of_writes_sub (hostOps1_1 (F := F)) _ hostOps1_1_writes (r := main_v0) (by decide)).trans z_v0
  clear z_v1 z_v0
  generalize after (hostOps1_1 (F := F)) V1 = V2 at y_v2 y_v0 ⊢
  have z_v2 := y_v2; clear y_v2
  have z_v0 := y_v0; clear y_v0
  have y_v5 := at_v5 V2 z_v2
  have y_v0 := (after_of_writes_sub (hostOps1_2 (F := F)) _ hostOps1_2_writes (r := main_v0) (by decide)).trans z_v0
  clear z_v2 z_v0
  generalize after (hostOps1_2 (F := F)) V2 = V3 at y_v5 y_v0 ⊢
  have z_v5 := y_v5; clear y_v5
  have z_v0 := y_v0; clear y_v0
  have y_v6 := at_v6 V3 z_v5
  have y_v5 := (after_of_writes_sub (hostOps1_3 (F := F)) _ hostOps1_3_writes (r := main_v5) (by decide)).trans z_v5
  have y_v0 := (after_of_writes_sub (hostOps1_3 (F := F)) _ hostOps1_3_writes (r := main_v0) (by decide)).trans z_v0
  clear z_v5 z_v0
  generalize after (hostOps1_3 (F := F)) V3 = V4 at y_v6 y_v5 y_v0 ⊢
  have z_v6 := y_v6; clear y_v6
  have z_v5 := y_v5; clear y_v5
  have z_v0 := y_v0; clear y_v0
  have y_v15 := at_v15 V4 z_v6
  have y_v5 := (after_of_writes_sub (hostOps1_4 (F := F)) _ hostOps1_4_writes (r := main_v5) (by decide)).trans z_v5
  have y_v0 := (after_of_writes_sub (hostOps1_4 (F := F)) _ hostOps1_4_writes (r := main_v0) (by decide)).trans z_v0
  clear z_v6 z_v5 z_v0
  generalize after (hostOps1_4 (F := F)) V4 = V5 at y_v15 y_v5 y_v0 ⊢
  have z_v15 := y_v15; clear y_v15
  have z_v5 := y_v5; clear y_v5
  have z_v0 := y_v0; clear y_v0
  have y_v16 := at_v16 V5 z_v15
  have y_v5 := (after_of_writes_sub (hostOps1_5 (F := F)) _ hostOps1_5_writes (r := main_v5) (by decide)).trans z_v5
  have y_v0 := (after_of_writes_sub (hostOps1_5 (F := F)) _ hostOps1_5_writes (r := main_v0) (by decide)).trans z_v0
  clear z_v15 z_v5 z_v0
  generalize after (hostOps1_5 (F := F)) V5 = V6 at y_v16 y_v5 y_v0 ⊢
  have z_v16 := y_v16; clear y_v16
  have z_v5 := y_v5; clear y_v5
  have z_v0 := y_v0; clear y_v0
  have y_c_4 := at_c_4 V6
  have y_v16 := (after_of_writes_sub (hostOps1_6 (F := F)) _ hostOps1_6_writes (r := main_v16) (by decide)).trans z_v16
  have y_v5 := (after_of_writes_sub (hostOps1_6 (F := F)) _ hostOps1_6_writes (r := main_v5) (by decide)).trans z_v5
  have y_v0 := (after_of_writes_sub (hostOps1_6 (F := F)) _ hostOps1_6_writes (r := main_v0) (by decide)).trans z_v0
  clear z_v16 z_v5 z_v0
  generalize after (hostOps1_6 (F := F)) V6 = V7 at y_c_4 y_v16 y_v5 y_v0 ⊢
  have z_c_4 := y_c_4; clear y_c_4
  have z_v16 := y_v16; clear y_v16
  have z_v5 := y_v5; clear y_v5
  have z_v0 := y_v0; clear y_v0
  have y_v17 := at_v17 V7 z_v16 z_c_4
  have y_v16 := (after_of_writes_sub (hostOps1_7 (F := F)) _ hostOps1_7_writes (r := main_v16) (by decide)).trans z_v16
  have y_v5 := (after_of_writes_sub (hostOps1_7 (F := F)) _ hostOps1_7_writes (r := main_v5) (by decide)).trans z_v5
  have y_v0 := (after_of_writes_sub (hostOps1_7 (F := F)) _ hostOps1_7_writes (r := main_v0) (by decide)).trans z_v0
  clear z_c_4 z_v16 z_v5 z_v0
  generalize after (hostOps1_7 (F := F)) V7 = V8 at y_v17 y_v16 y_v5 y_v0 ⊢
  have z_v17 := y_v17; clear y_v17
  have z_v16 := y_v16; clear y_v16
  have z_v5 := y_v5; clear y_v5
  have z_v0 := y_v0; clear y_v0
  have y_c_5 := at_c_5 V8
  have y_v17 := (after_of_writes_sub (hostOps1_8 (F := F)) _ hostOps1_8_writes (r := main_v17) (by decide)).trans z_v17
  have y_v16 := (after_of_writes_sub (hostOps1_8 (F := F)) _ hostOps1_8_writes (r := main_v16) (by decide)).trans z_v16
  have y_v5 := (after_of_writes_sub (hostOps1_8 (F := F)) _ hostOps1_8_writes (r := main_v5) (by decide)).trans z_v5
  have y_v0 := (after_of_writes_sub (hostOps1_8 (F := F)) _ hostOps1_8_writes (r := main_v0) (by decide)).trans z_v0
  clear z_v17 z_v16 z_v5 z_v0
  generalize after (hostOps1_8 (F := F)) V8 = V9 at y_c_5 y_v17 y_v16 y_v5 y_v0 ⊢
  have z_c_5 := y_c_5; clear y_c_5
  have z_v17 := y_v17; clear y_v17
  have z_v16 := y_v16; clear y_v16
  have z_v5 := y_v5; clear y_v5
  have z_v0 := y_v0; clear y_v0
  have y_v18 := at_v18 V9 z_v17 z_c_5
  have y_v16 := (after_of_writes_sub (hostOps1_9 (F := F)) _ hostOps1_9_writes (r := main_v16) (by decide)).trans z_v16
  have y_v5 := (after_of_writes_sub (hostOps1_9 (F := F)) _ hostOps1_9_writes (r := main_v5) (by decide)).trans z_v5
  have y_v0 := (after_of_writes_sub (hostOps1_9 (F := F)) _ hostOps1_9_writes (r := main_v0) (by decide)).trans z_v0
  clear z_c_5 z_v17 z_v16 z_v5 z_v0
  generalize after (hostOps1_9 (F := F)) V9 = V10 at y_v18 y_v16 y_v5 y_v0 ⊢
  have z_v18 := y_v18; clear y_v18
  have z_v16 := y_v16; clear y_v16
  have z_v5 := y_v5; clear y_v5
  have z_v0 := y_v0; clear y_v0
  have y_c_6 := at_c_6 V10
  have y_v18 := (after_of_writes_sub (hostOps1_10 (F := F)) _ hostOps1_10_writes (r := main_v18) (by decide)).trans z_v18
  have y_v16 := (after_of_writes_sub (hostOps1_10 (F := F)) _ hostOps1_10_writes (r := main_v16) (by decide)).trans z_v16
  have y_v5 := (after_of_writes_sub (hostOps1_10 (F := F)) _ hostOps1_10_writes (r := main_v5) (by decide)).trans z_v5
  have y_v0 := (after_of_writes_sub (hostOps1_10 (F := F)) _ hostOps1_10_writes (r := main_v0) (by decide)).trans z_v0
  clear z_v18 z_v16 z_v5 z_v0
  generalize after (hostOps1_10 (F := F)) V10 = V11 at y_c_6 y_v18 y_v16 y_v5 y_v0 ⊢
  have z_c_6 := y_c_6; clear y_c_6
  have z_v18 := y_v18; clear y_v18
  have z_v16 := y_v16; clear y_v16
  have z_v5 := y_v5; clear y_v5
  have z_v0 := y_v0; clear y_v0
  have y_v19 := at_v19 V11 z_v16 z_c_6
  have y_v18 := (after_of_writes_sub (hostOps1_11 (F := F)) _ hostOps1_11_writes (r := main_v18) (by decide)).trans z_v18
  have y_v5 := (after_of_writes_sub (hostOps1_11 (F := F)) _ hostOps1_11_writes (r := main_v5) (by decide)).trans z_v5
  have y_v0 := (after_of_writes_sub (hostOps1_11 (F := F)) _ hostOps1_11_writes (r := main_v0) (by decide)).trans z_v0
  clear z_c_6 z_v18 z_v16 z_v5 z_v0
  generalize after (hostOps1_11 (F := F)) V11 = V12 at y_v19 y_v18 y_v5 y_v0 ⊢
  have z_v19 := y_v19; clear y_v19
  have z_v18 := y_v18; clear y_v18
  have z_v5 := y_v5; clear y_v5
  have z_v0 := y_v0; clear y_v0
  have y_c_7 := at_c_7 V12
  have y_v19 := (after_of_writes_sub (hostOps1_12 (F := F)) _ hostOps1_12_writes (r := main_v19) (by decide)).trans z_v19
  have y_v18 := (after_of_writes_sub (hostOps1_12 (F := F)) _ hostOps1_12_writes (r := main_v18) (by decide)).trans z_v18
  have y_v5 := (after_of_writes_sub (hostOps1_12 (F := F)) _ hostOps1_12_writes (r := main_v5) (by decide)).trans z_v5
  have y_v0 := (after_of_writes_sub (hostOps1_12 (F := F)) _ hostOps1_12_writes (r := main_v0) (by decide)).trans z_v0
  clear z_v19 z_v18 z_v5 z_v0
  generalize after (hostOps1_12 (F := F)) V12 = V13 at y_c_7 y_v19 y_v18 y_v5 y_v0 ⊢
  have z_c_7 := y_c_7; clear y_c_7
  have z_v19 := y_v19; clear y_v19
  have z_v18 := y_v18; clear y_v18
  have z_v5 := y_v5; clear y_v5
  have z_v0 := y_v0; clear y_v0
  have y_v20 := at_v20 V13 z_v19 z_c_7
  have y_v18 := (after_of_writes_sub (hostOps1_13 (F := F)) _ hostOps1_13_writes (r := main_v18) (by decide)).trans z_v18
  have y_v5 := (after_of_writes_sub (hostOps1_13 (F := F)) _ hostOps1_13_writes (r := main_v5) (by decide)).trans z_v5
  have y_v0 := (after_of_writes_sub (hostOps1_13 (F := F)) _ hostOps1_13_writes (r := main_v0) (by decide)).trans z_v0
  clear z_c_7 z_v19 z_v18 z_v5 z_v0
  generalize after (hostOps1_13 (F := F)) V13 = V14 at y_v20 y_v18 y_v5 y_v0 ⊢
  have z_v20 := y_v20; clear y_v20
  have z_v18 := y_v18; clear y_v18
  have z_v5 := y_v5; clear y_v5
  have z_v0 := y_v0; clear y_v0
  have y_v26 := at_v26 V14 z_v5
  have y_c_9 := at_c_9 V14
  have y_v20 := (after_of_writes_sub (hostOps1_14 (F := F)) _ hostOps1_14_writes (r := main_v20) (by decide)).trans z_v20
  have y_v18 := (after_of_writes_sub (hostOps1_14 (F := F)) _ hostOps1_14_writes (r := main_v18) (by decide)).trans z_v18
  have y_v0 := (after_of_writes_sub (hostOps1_14 (F := F)) _ hostOps1_14_writes (r := main_v0) (by decide)).trans z_v0
  clear z_v20 z_v18 z_v5 z_v0
  generalize after (hostOps1_14 (F := F)) V14 = V15 at y_v26 y_c_9 y_v20 y_v18 y_v0 ⊢
  have z_v26 := y_v26; clear y_v26
  have z_c_9 := y_c_9; clear y_c_9
  have z_v20 := y_v20; clear y_v20
  have z_v18 := y_v18; clear y_v18
  have z_v0 := y_v0; clear y_v0
  have y_v27 := at_v27 V15 z_v26 z_c_9 z_v18
  have y_v26 := (after_of_writes_sub (hostOps1_15 (F := F)) _ hostOps1_15_writes (r := main_v26) (by decide)).trans z_v26
  have y_v20 := (after_of_writes_sub (hostOps1_15 (F := F)) _ hostOps1_15_writes (r := main_v20) (by decide)).trans z_v20
  have y_v0 := (after_of_writes_sub (hostOps1_15 (F := F)) _ hostOps1_15_writes (r := main_v0) (by decide)).trans z_v0
  clear z_v26 z_c_9 z_v20 z_v18 z_v0
  generalize after (hostOps1_15 (F := F)) V15 = V16 at y_v27 y_v26 y_v20 y_v0 ⊢
  have z_v27 := y_v27; clear y_v27
  have z_v26 := y_v26; clear y_v26
  have z_v20 := y_v20; clear y_v20
  have z_v0 := y_v0; clear y_v0
  have y_c_10 := at_c_10 V16
  have y_v27 := (after_of_writes_sub (hostOps1_16 (F := F)) _ hostOps1_16_writes (r := main_v27) (by decide)).trans z_v27
  have y_v26 := (after_of_writes_sub (hostOps1_16 (F := F)) _ hostOps1_16_writes (r := main_v26) (by decide)).trans z_v26
  have y_v20 := (after_of_writes_sub (hostOps1_16 (F := F)) _ hostOps1_16_writes (r := main_v20) (by decide)).trans z_v20
  have y_v0 := (after_of_writes_sub (hostOps1_16 (F := F)) _ hostOps1_16_writes (r := main_v0) (by decide)).trans z_v0
  clear z_v27 z_v26 z_v20 z_v0
  generalize after (hostOps1_16 (F := F)) V16 = V17 at y_c_10 y_v27 y_v26 y_v20 y_v0 ⊢
  have z_c_10 := y_c_10; clear y_c_10
  have z_v27 := y_v27; clear y_v27
  have z_v26 := y_v26; clear y_v26
  have z_v20 := y_v20; clear y_v20
  have z_v0 := y_v0; clear y_v0
  have y_v28 := at_v28 V17 z_v26 z_c_10 z_v20
  have y_v27 := (after_of_writes_sub (hostOps1_17 (F := F)) _ hostOps1_17_writes (r := main_v27) (by decide)).trans z_v27
  have y_v0 := (after_of_writes_sub (hostOps1_17 (F := F)) _ hostOps1_17_writes (r := main_v0) (by decide)).trans z_v0
  clear z_c_10 z_v27 z_v26 z_v20 z_v0
  generalize after (hostOps1_17 (F := F)) V17 = V18 at y_v28 y_v27 y_v0 ⊢
  have z_v28 := y_v28; clear y_v28
  have z_v27 := y_v27; clear y_v27
  have z_v0 := y_v0; clear y_v0
  rw [at_v39 _ z_v27 z_v28, z_v0]

end Cert.Tail
-- ==== Proof.Triu.lean ====
/- The upper triangle is read two ways: at flat positions of flattened matrices, or at a row and a column. The row and
   column words lie in [0, 128), so the two readings take the same entries. -/
module

public import proofs.«01_k».proof.Proof.Tail
public import Idealize.ShloMosaic.Lib.Pointwise

@[expose] public section

set_option maxRecDepth 8192

noncomputable section

namespace Cert.Triu

open Cert.ReferenceIdeal Cert.ReferenceIdeal.Read
open Idealize.ShloMosaic Idealize.ShloMosaic.TcCoe Idealize.SL.Sem

variable {F : FTy → Type} [FloatOps F]

/-- A word's remainder by 128, raised by 128 when negative. -/
def wrap (x : BitVec 32) : BitVec 32 :=
  Scalar.select
    (IntOp.andi (IntOp.cmpi .ne (IntOp.cmpi .slt (IntOp.remsi .host x 128#32) 0#32) (IntOp.cmpi .slt 128#32 0#32))
      (IntOp.cmpi .ne (IntOp.remsi .host x 128#32) 0#32))
    (IntOp.addi (IntOp.remsi .host x 128#32) 128#32) (IntOp.remsi .host x 128#32)

theorem wrap_bounds (x : BitVec 32) : 0 ≤ (wrap x).toInt ∧ (wrap x).toInt < 128 := by
  unfold wrap
  have hr : IntOp.remsi .host x 128#32 = x.srem 128#32 := IntOp.remsi_of_pos _ (by decide)
  rw [hr]
  have hi : (x.srem 128#32).toInt = x.toInt.tmod 128 := by rw [BitVec.toInt_srem]; rfl
  generalize x.srem 128#32 = r at hi
  have h1 : -128 < r.toInt ∧ r.toInt < 128 := by
    rw [hi]
    exact ⟨by have := Int.lt_tmod_of_pos x.toInt (b := 128) (by omega); omega, Int.tmod_lt_of_pos _ (by omega)⟩
  have h128 : (IntOp.cmpi .slt 128#32 0#32) = 0#1 := by decide
  rw [h128]
  unfold Scalar.select
  have hadd : (IntOp.addi r 128#32).toInt = (r.toInt + 128).bmod (2 ^ 32) := by
    show (r + 128#32).toInt = _
    rw [BitVec.toInt_add]; rfl
  split
  · next h =>
    have h := (IntOp.andi_eq_one.1 h).1
    rw [IntOp.cmpi_ne] at h
    have h2 : IntOp.cmpi .slt r 0#32 = 1#1 := by
      generalize IntOp.cmpi .slt r 0#32 = c at h
      revert c; decide
    rw [IntOp.cmpi_slt] at h2
    have h2 : r.toInt < 0 := h2
    rw [hadd, Int.bmod_eq_of_le (by omega) (by omega)]
    omega
  · next h =>
    have h2 : ¬ r.toInt < 0 := fun h2 => h (IntOp.andi_eq_one.2 ⟨by
      have : IntOp.cmpi .slt r 0#32 = 1#1 := IntOp.cmpi_slt.2 h2
      rw [this]; decide, IntOp.cmpi_ne.2 fun e => by subst e; exact absurd h2 (by decide)⟩)
    omega

theorem v104_eq (t : S8256.Idx) : val_main_v104 (F := F) t = wrap (val_main_v103 (F := F) t) := rfl
theorem v106_eq (t : S8256.Idx) : val_main_v106 (F := F) t = wrap (val_main_v105 (F := F) t) := rfl

theorem select_bounds (c : BitVec 1) (x : BitVec 32) :
    0 ≤ (Scalar.select c 0#32 (wrap x)).toInt ∧ (Scalar.select c 0#32 (wrap x)).toInt < 128 := by
  unfold Scalar.select
  split
  · exact ⟨by decide, by decide⟩
  · exact wrap_bounds x

theorem row_bounds (t : S8256.Idx) : 0 ≤ (val_main_v113 (F := F) t).toInt ∧ (val_main_v113 (F := F) t).toInt < 128 := by
  have h : val_main_v113 (F := F) t = Scalar.select (val_main_v112 (F := F) t) 0#32 (wrap (val_main_v103 (F := F) t)) := rfl
  rw [h]; exact select_bounds _ _

theorem col_bounds (t : S8256.Idx) : 0 ≤ (val_main_v114 (F := F) t).toInt ∧ (val_main_v114 (F := F) t).toInt < 128 := by
  have h : val_main_v114 (F := F) t = Scalar.select (val_main_v112 (F := F) t) 0#32 (wrap (val_main_v105 (F := F) t)) := rfl
  rw [h]; exact select_bounds _ _

/-- A word that is not negative is left alone by the wrap of negative positions. -/
theorem select_nonneg {x y : BitVec 32} (h : 0 ≤ x.toInt) : Scalar.select (IntOp.cmpi .slt x 0#32) y x = x := by
  unfold Scalar.select
  rw [if_neg]
  intro h2
  have h3 : x.toInt < (0#32).toInt := IntOp.cmpi_slt.1 h2
  have : (0#32).toInt = 0 := by decide
  omega

/-- On an axis that takes no start word and is kept, the operand's position is the result's own. -/
theorem operand_kept {s si t : Shape} {w : Nat} (d : GatherDims s si t) (j : t.Idx) (idx : IVec si w) (a : Fin s.rank)
    (h1 : a ∉ d.startIndexMap) (h2 : a ∉ d.operandBatchingDims) : (d.operandIdx j idx a).val = d.offCoord j a := by
  show d.start j idx a + d.batchCoord j a + d.offCoord j a = _
  rw [GatherDims.batchCoord_eq_zero _ _ _ h2]
  unfold GatherDims.start
  rw [dif_neg h1]
  omega

/-- On a collapsed axis the operand's position is the start. -/
theorem operand_start {s si t : Shape} {w : Nat} (d : GatherDims s si t) (j : t.Idx) (idx : IVec si w) (a : Fin s.rank)
    (h1 : a ∉ d.sKept) (h2 : a ∉ d.operandBatchingDims) : (d.operandIdx j idx a).val = d.start j idx a := by
  show d.start j idx a + d.batchCoord j a + d.offCoord j a = _
  rw [GatherDims.batchCoord_eq_zero _ _ _ h2, GatherDims.offCoord_eq_zero _ _ _ h1]
  omega

/-- Columns of flattened matrices taken at one word each. -/
theorem flat_apply {α : Type} (y : Cert.KernelIdeal.S64x16384.Idx → α) (idx : IVec Cert.KernelIdeal.S8256x1 32) (b : Fin 64) (t : Fin 8256) :
    Host.gather Cert.KernelIdeal.gather_S64x16384_S8256x1_S64x8256_0_1_n_n_1_1_641 y idx (ix2 b t)
      = y (ix2 b ⟨min (idx (ix2 t 0)).toInt.toNat 16383, by omega⟩) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · rw [operand_kept _ _ _ _ (by decide) (by decide)]
    rfl
  · rw [operand_start _ _ _ _ (by decide) (by decide)]
    unfold GatherDims.start
    rw [dif_pos (by decide)]
    have hs : ∀ k, Cert.KernelIdeal.gather_S64x16384_S8256x1_S64x8256_0_1_n_n_1_1_641.siIdx (ix2 b t) k = ix2 t 0 := by
      intro k
      funext c; refine Fin.ext ?_
      match c with
      | ⟨0, _⟩ => rfl
      | ⟨1, _⟩ => exact Nat.lt_one_iff.1 (Fin.isLt _)
    rw [hs]
    rfl

/-- Entries of matrices taken at a row word and a column word each. -/
theorem pair_apply {α : Type} (y : S64x128x128.Idx → α) (idx : IVec S8256x2 32) (b : Fin 64) (t : Fin 8256) :
    Host.gather gather_S64x128x128_S8256x2_S64x8256_0_12_n_n_12_1_6411 y idx (ix2 b t)
      = y (ix3 b ⟨min (idx (ix2 t 0)).toInt.toNat 127, by omega⟩ ⟨min (idx (ix2 t 1)).toInt.toNat 127, by omega⟩) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hs : ∀ k, gather_S64x128x128_S8256x2_S64x8256_0_12_n_n_12_1_6411.siIdx (ix2 b t) k = ix2 t ⟨k.val, k.isLt⟩ := by
    intro k
    funext c; refine Fin.ext ?_
    match c with
    | ⟨0, _⟩ => rfl
    | ⟨1, _⟩ => rfl
  rcases h012 with rfl | rfl | rfl
  · rw [operand_kept _ _ _ _ (by decide) (by decide)]
    rfl
  · rw [operand_start _ _ _ _ (by decide) (by decide)]
    unfold GatherDims.start
    rw [dif_pos (by decide), hs]
    rfl
  · rw [operand_start _ _ _ _ (by decide) (by decide)]
    unfold GatherDims.start
    rw [dif_pos (by decide), hs]
    rfl

theorem pos_row (t : Fin 8256) : val_main_v130 (F := F) (ix2 t 0) = val_main_v113 (F := F) (ix1 t) := by
  have h : val_main_v130 (F := F) (ix2 t 0) = val_main_v122 (F := F) (ix1 t) := by
    unfold val_main_v130
    rw [concatenate_pair_apply]
    simp
    unfold val_main_v128
    pointwise
  rw [h]
  exact select_nonneg (row_bounds _).1

theorem pos_col (t : Fin 8256) : val_main_v130 (F := F) (ix2 t 1) = val_main_v114 (F := F) (ix1 t) := by
  have h : val_main_v130 (F := F) (ix2 t 1) = val_main_v127 (F := F) (ix1 t) := by
    unfold val_main_v130
    rw [concatenate_pair_apply]
    simp
    unfold val_main_v129
    pointwise
  rw [h]
  exact select_nonneg (col_bounds _).1

theorem flatten_apply {α : Type} (x : S64x128x128.Idx → α) (h) (b : Fin 64) (p q : Fin 128) (n : Nat) (hn : n < 16384) (e : n = p.val * 128 + q.val) :
    shapeCast Cert.KernelIdeal.S64x16384 x h (ix2 b ⟨n, hn⟩) = x (ix3 b p q) := by
  subst e
  pointwise

theorem pair_at {α : Type} (y : S64x128x128.Idx → α) (idx : IVec S8256x2 32) (b : Fin 64) (t : Fin 8256) (p q : Fin 128)
    (hp : (idx (ix2 t 0)).toInt = (p.val : Int)) (hq : (idx (ix2 t 1)).toInt = (q.val : Int)) :
    Host.gather gather_S64x128x128_S8256x2_S64x8256_0_12_n_n_12_1_6411 y idx (ix2 b t) = y (ix3 b p q) := by
  rw [pair_apply]
  congr 2
  · refine Fin.ext ?_
    show min _ _ = p.val
    rw [hp]; omega
  · refine Fin.ext ?_
    show min _ _ = q.val
    rw [hq]; omega

/-- The flat position of a row word and a column word, both in [0, 128). -/
theorem flat_toInt {u v : BitVec 32} {p q : Fin 128} (hu : u.toInt = (p.val : Int)) (hv : v.toInt = (q.val : Int)) :
    (IntOp.addi (IntOp.muli u 128#32) v).toInt = (p.val : Int) * 128 + q.val := by
  show (u * 128#32 + v).toInt = _
  have h128 : (128#32).toInt = 128 := by decide
  have hm : (u * 128#32).toInt = (p.val : Int) * 128 := by
    rw [BitVec.toInt_mul, h128, hu, Int.bmod_eq_of_le (by omega) (by omega)]
  rw [BitVec.toInt_add, hm, hv, Int.bmod_eq_of_le (by omega) (by omega)]

theorem flat_at {α : Type} (x : S64x128x128.Idx → α) (h) (h1) (h2) (u v : IVec S8256 32) (b : Fin 64) (t : Fin 8256) (p q : Fin 128)
    (hp : (u (ix1 t)).toInt = (p.val : Int)) (hq : (v (ix1 t)).toInt = (q.val : Int)) :
    Host.gather Cert.KernelIdeal.gather_S64x16384_S8256x1_S64x8256_0_1_n_n_1_1_641 (shapeCast Cert.KernelIdeal.S64x16384 x h)
      (broadcastInDim Cert.KernelIdeal.S8256x1 ![0] h1
        (select (cmpi .slt (addi (muli u (broadcastInDim S8256 ![] h2 (constantI S_ 32 128#32))) v)
            (broadcastInDim S8256 ![] h2 (constantI S_ 32 0#32)))
          (addi (addi (muli u (broadcastInDim S8256 ![] h2 (constantI S_ 32 128#32))) v)
            (broadcastInDim S8256 ![] h2 (constantI S_ 32 16384#32)))
          (addi (muli u (broadcastInDim S8256 ![] h2 (constantI S_ 32 128#32))) v))) (ix2 b t)
      = x (ix3 b p q) := by
  rw [flat_apply]
  have h3 := flat_toInt hp hq
  refine flatten_apply _ _ _ p q _ _ ?_
  have h4 : Scalar.select (IntOp.cmpi .slt (IntOp.addi (IntOp.muli (u (ix1 t)) 128#32) (v (ix1 t))) 0#32)
      (IntOp.addi (IntOp.addi (IntOp.muli (u (ix1 t)) 128#32) (v (ix1 t))) 16384#32)
      (IntOp.addi (IntOp.muli (u (ix1 t)) 128#32) (v (ix1 t)))
      = IntOp.addi (IntOp.muli (u (ix1 t)) 128#32) (v (ix1 t)) :=
    select_nonneg (by rw [h3]; omega)
  have h5 : ∀ w : BitVec 32, w = IntOp.addi (IntOp.muli (u (ix1 t)) 128#32) (v (ix1 t)) → min w.toInt.toNat 16383 = p.val * 128 + q.val := by
    intro w hw
    rw [hw, h3]; omega
  refine h5 _ (Eq.trans ?_ h4)
  pointwise

/-- The row and the column the `t`-th entry of the triangle is read at. -/
def row (F : FTy → Type) [FloatOps F] (t : Fin 8256) : Fin 128 := ⟨(val_main_v113 (F := F) (ix1 t)).toInt.toNat, by have := row_bounds (F := F) (ix1 t); omega⟩
def col (F : FTy → Type) [FloatOps F] (t : Fin 8256) : Fin 128 := ⟨(val_main_v114 (F := F) (ix1 t)).toInt.toNat, by have := col_bounds (F := F) (ix1 t); omega⟩

theorem row_val (t : Fin 8256) : (val_main_v113 (F := F) (ix1 t)).toInt = ((row F t).val : Int) :=
  (Int.toNat_of_nonneg (row_bounds (F := F) (ix1 t)).1).symm
theorem col_val (t : Fin 8256) : (val_main_v114 (F := F) (ix1 t)).toInt = ((col F t).val : Int) :=
  (Int.toNat_of_nonneg (col_bounds (F := F) (ix1 t)).1).symm

theorem reference_apply (y : FVec F S64x128x128 .f32) (b : Fin 64) (t : Fin 8256) :
    Host.gather gather_S64x128x128_S8256x2_S64x8256_0_12_n_n_12_1_6411 y (val_main_v130 (F := F)) (ix2 b t)
      = y (ix3 b (row F t) (col F t)) :=
  pair_at y _ b t _ _ (by rw [pos_row, row_val]) (by rw [pos_col, col_val])

theorem picked_apply (x : FVec F S64x128x128 .f32) (b : Fin 64) (t : Fin 8256) :
    Tail.picked x (ix2 b t) = x (ix3 b (row F t) (col F t)) :=
  flat_at x _ _ _ _ _ b t _ _ (row_val t) (col_val t)

/-- Both readings of the same matrices are the same. -/
theorem picked_eq (x y : FVec F S64x128x128 .f32) (h : ∀ b p q, x (ix3 b p q) = y (ix3 b p q)) :
    Tail.picked x = Host.gather gather_S64x128x128_S8256x2_S64x8256_0_12_n_n_12_1_6411 y (val_main_v130 (F := F)) := by
  funext j
  idx_vars j
  rw [picked_apply, reference_apply, h]

end Cert.Triu
-- ==== Proof.RefSum.lean ====
/- The pooled sums of the reference on the extended reals, and their agreement with the kernel's accumulator over its bounded sum of weights. -/
module

public import proofs.«01_k».proof.Proof.Triu
public import proofs.«01_k».proof.Proof.Words
public import Idealize.ShloMosaic.Lib.Routing.OpsPair
public import Idealize.ShloMosaic.Lib.Pointwise

@[expose] public section

set_option maxRecDepth 8192

noncomputable section

namespace Cert.RefSum

open Cert.ReferenceIdeal Cert.ReferenceIdeal.Read
open Idealize.ShloMosaic Idealize.ShloMosaic.TcCoe

/-! ## Division by a positive number passes through a sum -/

/-- The constant that bounds the sums of weights from below is positive. -/
theorem least_pos : (0 : EReal) < Ideal.ofBits .f32 0x0DA24260#32 := by
  simp [Ideal.ofBits, Ideal.ieee]
  positivity

theorem inv_nonneg_ne_top {e : EReal} (h : 0 < e) : 0 ≤ e⁻¹ ∧ e⁻¹ ≠ ⊤ := by
  induction e with
  | bot => exact absurd h (by simp)
  | top => simp
  | coe r =>
    rw [← EReal.coe_inv]
    have hr : 0 < r := by exact_mod_cast h
    exact ⟨by exact_mod_cast (inv_pos.2 hr).le, EReal.coe_ne_top _⟩

theorem sum_mul {ι : Type} (s : Finset ι) (f : ι → EReal) {c : EReal} (h : 0 ≤ c ∧ c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h.1 h.2, ih]

/-- A sum of weighted entries over `e`, the weights divided first, or the sum. -/
theorem div_sum {ι : Type} [Fintype ι] (P : ι → Prop) [DecidablePred P] (u v : ι → EReal) (e l : EReal) (hl : 0 < l) (he : ∀ i, P i → l ≤ e) :
    Ideal.div (∑ i, (if P i then u i else 0) * v i) (max e l) = ∑ i, if P i then Ideal.div (u i) e * v i else 0 := by
  have hm : 0 < max e l := lt_max_of_lt_right hl
  rw [Ideal.div, if_neg hm.ne', sum_mul _ _ (inv_nonneg_ne_top hm)]
  refine Finset.sum_congr rfl fun i _ => ?_
  by_cases h : P i
  · rw [if_pos h, if_pos h, max_eq_left (he i h), Ideal.div, if_neg (hl.trans_le (he i h)).ne', mul_assoc, mul_assoc, mul_comm (v i)]
  · rw [if_neg h, if_neg h, zero_mul, zero_mul]

/-! ## Where the scatter adds -/

abbrev sd := scatter_S64x128x128_S8192x1_S8192x128x128_12_0_0_1

theorem lands (idx : IVec S8192x1 32) (n : Fin 8192) (p' q' : Fin 128) (b : Fin 64) (p q : Fin 128) :
    sd.resultIdx? (ix3 n p' q') idx = some (ix3 b p q) ↔ (idx (ix2 n 0)).toInt = b.val ∧ p' = p ∧ q' = q := by
  rw [Routing.resultIdx?_eq_some]
  have hs : ∀ k, sd.siIdx (ix3 n p' q') k = ix2 n 0 := by
    intro k
    funext c; refine Fin.ext ?_
    match c with
    | ⟨0, _⟩ => rfl
    | ⟨1, _⟩ => exact Nat.lt_one_iff.1 (Fin.isLt _)
  have s0 : sd.start (ix3 n p' q') idx 0 = (idx (ix2 n 0)).toInt := by
    unfold ScatterDims.start
    rw [dif_pos (by decide), hs]
  have s1 : sd.start (ix3 n p' q') idx 1 = 0 := by unfold ScatterDims.start; rw [dif_neg (by decide)]
  have s2 : sd.start (ix3 n p' q') idx 2 = 0 := by unfold ScatterDims.start; rw [dif_neg (by decide)]
  have w0 : sd.window (ix3 n p' q') 0 = 0 := by unfold ScatterDims.window; rw [dif_neg (by decide)]
  have w1 : sd.window (ix3 n p' q') 1 = p'.val := by unfold ScatterDims.window; rw [dif_pos (by decide)]; rfl
  have w2 : sd.window (ix3 n p' q') 2 = q'.val := by unfold ScatterDims.window; rw [dif_pos (by decide)]; rfl
  constructor
  · intro h
    have h0 := h 0; have h1 := h 1; have h2 := h 2
    rw [s0, w0] at h0; rw [s1, w1] at h1; rw [s2, w2] at h2
    change _ = ((b.val : ℕ) : Int) at h0
    change _ = ((p.val : ℕ) : Int) at h1
    change _ = ((q.val : ℕ) : Int) at h2
    exact ⟨by omega, Fin.ext (by omega), Fin.ext (by omega)⟩
  · rintro ⟨h0, rfl, rfl⟩ a
    have h012 : a = 0 ∨ a = 1 ∨ a = 2 := by
      match a with
      | ⟨0, _⟩ => exact Or.inl rfl
      | ⟨1, _⟩ => exact Or.inr (Or.inl rfl)
      | ⟨2, _⟩ => exact Or.inr (Or.inr rfl)
    rcases h012 with rfl | rfl | rfl
    · rw [s0, w0, h0]; exact add_zero _
    · rw [s1, w1]; exact zero_add _
    · rw [s2, w2]; exact zero_add _

/-- The scatter at an entry: the updates of the nodes whose word is the graph's number. -/
theorem scatter_apply (x : FVec Ideal S64x128x128 .f32) (idx : IVec S8192x1 32) (u : FVec Ideal S8192x128x128 .f32) (b : Fin 64) (p q : Fin 128) :
    Host.scatterAdd sd x idx u (ix3 b p q)
      = (x (ix3 b p q) + ∑ n : Fin 8192, if (idx (ix2 n 0)).toInt = b.val then u (ix3 n p q) else 0 : EReal) := by
  show x (ix3 b p q) + (∑ j ∈ Finset.univ.filter (fun j => sd.resultIdx? j idx = some (ix3 b p q)), u j : EReal) = _
  refine congrArg (x (ix3 b p q) + ·) ?_
  rw [← Finset.sum_filter]
  have hj : ∀ j : S8192x128x128.Idx, j = ix3 (j 0) (j 1) (j 2) := fun j => by
    funext a
    match a with
    | ⟨0, _⟩ => rfl
    | ⟨1, _⟩ => rfl
    | ⟨2, _⟩ => rfl
  have hl : ∀ j : S8192x128x128.Idx, sd.resultIdx? j idx = some (ix3 b p q) → (idx (ix2 (j 0) 0)).toInt = b.val ∧ j = ix3 (j 0) p q := fun j h => by
    rw [hj j] at h
    obtain ⟨h0, h1, h2⟩ := (lands idx (j 0) (j 1) (j 2) b p q).1 h
    exact ⟨h0, (hj j).trans (by rw [h1, h2]; rfl)⟩
  refine Finset.sum_bij' (fun (j : S8192x128x128.Idx) _ => (j 0 : Fin 8192)) (fun n _ => ix3 n p q) ?_ ?_ ?_ ?_ ?_
  · intro j h; exact Finset.mem_filter.2 ⟨Finset.mem_univ _, (hl j (Finset.mem_filter.1 h).2).1⟩
  · intro n h; exact Finset.mem_filter.2 ⟨Finset.mem_univ _, (lands idx n p q b p q).2 ⟨(Finset.mem_filter.1 h).2, rfl, rfl⟩⟩
  · intro j h; exact (hl j (Finset.mem_filter.1 h).2).2.symm
  · intro n h; rfl
  · intro j h; exact congrArg u (hl j (Finset.mem_filter.1 h).2).2

/-! ## The reference's sums -/

abbrev gd := gather_S64_S8192x1_S8192_n_0_n_n_0_1_1

/-- One entry of a vector, taken at a word each. -/
theorem take_apply {α : Type} (y : S64.Idx → α) (idx : IVec S8192x1 32) (n : Fin 8192) :
    Host.gather gd y idx (ix1 n) = y (ix1 ⟨min (idx (ix2 n 0)).toInt.toNat 63, by omega⟩) := by
  unfold Host.gather
  congr 1
  funext a
  refine Fin.ext ?_
  have h0 : a = 0 := by
    match a with
    | ⟨0, _⟩ => rfl
  subst h0
  rw [Triu.operand_start _ _ _ _ (by decide) (by decide)]
  unfold GatherDims.start
  rw [dif_pos (by decide)]
  have hs : ∀ k, gd.siIdx (ix1 n) k = ix2 n 0 := by
    intro k
    funext c; refine Fin.ext ?_
    match c with
    | ⟨0, _⟩ => rfl
    | ⟨1, _⟩ => exact Nat.lt_one_iff.1 (Fin.isLt _)
  rw [hs]
  rfl

/-- A graph's number as a word. -/
theorem word_iff (w : BitVec 32) (b : Fin 64) : w.toInt = b.val ↔ w = BitVec.ofNat 32 b.val := by
  have hb : ∀ b : Fin 64, (BitVec.ofNat 32 b.val).toInt = b.val := by decide
  constructor
  · intro h; exact BitVec.eq_of_toInt_eq (h.trans (hb b).symm)
  · rintro rfl; exact hb b

section
variable (x1 : FVec Ideal S128x8192 .f32) (x2 : FVec Ideal S8192x128 .f32) (x3 : IVec S1x8192 32) (x4 : FVec Ideal S1x64 .f32)

theorem batch_apply (n : Fin 8192) : val_main_v0 (F := Ideal) x3 (ix1 n) = x3 (ix2 0 n) := by
  rw [val_main_v0_apply]
  refine congrArg x3 (funext fun a => Fin.ext ?_)
  match a with
  | ⟨0, _⟩ => rfl
  | ⟨1, _⟩ => exact Nat.mod_eq_of_lt n.isLt

theorem word_apply (n : Fin 8192) : val_main_v25 (F := Ideal) x3 (ix2 n 0) = x3 (ix2 0 n) := by
  rw [val_main_v25_apply]
  exact (congrArg (val_main_v0 (F := Ideal) x3) (idx_vec _ n rfl)).trans (batch_apply x3 n)
where
  idx_vec (i : S8192.Idx) (n : Fin 8192) (h : (i 0).val = n.val) : i = ix1 n := funext fun a => by
    match a with
    | ⟨0, _⟩ => exact Fin.ext h

/-- The sum of weights of a node's graph. -/
theorem weight_apply (n : Fin 8192) (b : Fin 64) (h : x3 (ix2 0 n) = BitVec.ofNat 32 b.val) :
    val_main_v15 (F := Ideal) x3 x4 (ix1 n) = x4 (ix2 0 b) := by
  have hi := (word_iff _ b).2 h
  have hx : 0 ≤ (x3 (ix2 0 n)).toInt := by rw [hi]; omega
  have hw : val_main_v14 (F := Ideal) x3 (ix2 n 0) = x3 (ix2 0 n) := by
    rw [val_main_v14_apply]
    refine (congrArg (val_main_v13 (F := Ideal) x3) (word_apply.idx_vec _ n rfl)).trans ?_
    rw [val_main_v13_apply, val_main_v10_apply, batch_apply]
    exact Triu.select_nonneg hx
  unfold val_main_v15
  rw [take_apply, val_main_v8_apply]
  refine congrArg x4 (funext fun a => Fin.ext ?_)
  have hb := b.isLt
  match a with
  | ⟨0, _⟩ => rfl
  | ⟨1, _⟩ => show min (val_main_v14 (F := Ideal) x3 (ix2 n 0)).toInt.toNat 63 % 64 = b.val; rw [hw]; omega

/-- A node's outer product, at an entry. -/
theorem outer_apply (n : Fin 8192) (p q : Fin 128) :
    val_main_v23 (F := Ideal) x1 x2 x3 x4 (ix3 n p q) = (Ideal.div (x1 (ix2 p n)) (val_main_v15 (F := Ideal) x3 x4 (ix1 n)) * x2 (ix2 n q) : EReal) := by
  rw [val_main_v23_apply, val_main_v21_apply, val_main_v19_apply, val_main_v18_apply, val_main_v7_apply, val_main_v17_apply, val_main_v16_apply,
    val_main_v22_apply, val_main_v20_apply]
  show (Ideal.div (x1 _) (val_main_v15 (F := Ideal) x3 x4 _) * x2 _ : EReal) = _
  congr 1
  · congr 1
    · refine congrArg x1 (funext fun a => ?_)
      match a with
      | ⟨0, _⟩ => rfl
      | ⟨1, _⟩ => rfl
  · refine congrArg x2 (funext fun a => ?_)
    match a with
    | ⟨0, _⟩ => rfl
    | ⟨1, _⟩ => rfl

/-- The reference's pooled sum at an entry. -/
theorem pooled_apply (b : Fin 64) (p q : Fin 128) :
    val_main_v26 (F := Ideal) x1 x2 x3 x4 (ix3 b p q)
      = (∑ n : Fin 8192, if x3 (ix2 0 n) = BitVec.ofNat 32 b.val then Ideal.div (x1 (ix2 p n)) (x4 (ix2 0 b)) * x2 (ix2 n q) else 0 : EReal) := by
  unfold val_main_v26
  rw [scatter_apply]
  have h0 : val_main_v24 (F := Ideal) (ix3 b p q) = (0 : EReal) := Ideal.ofBits_zero_f32
  rw [h0, zero_add]
  refine Finset.sum_congr rfl fun n _ => ?_
  rw [word_apply]
  by_cases h : x3 (ix2 0 n) = BitVec.ofNat 32 b.val
  · rw [if_pos h, if_pos ((word_iff _ b).2 h), outer_apply, weight_apply x3 x4 n b h]
  · rw [if_neg h, if_neg fun e => h ((word_iff _ b).1 e)]

/-- The pooled sum is the kernel's: its accumulator over the bounded sum of weights. -/
theorem pooled_eq (b : Fin 64) (p q : Fin 128)
    (he : ∀ n : Fin 8192, x3 (ix2 0 n) = BitVec.ofNat 32 b.val → (Ideal.ofBits .f32 0x0DA24260#32 : EReal) ≤ x4 (ix2 0 b)) :
    val_main_v26 (F := Ideal) x1 x2 x3 x4 (ix3 b p q)
      = Ideal.div (∑ n : Fin 8192, (if x3 (ix2 0 n) = BitVec.ofNat 32 b.val then x1 (ix2 p n) else 0) * x2 (ix2 n q))
          (max (x4 (ix2 0 b)) (Ideal.ofBits .f32 0x0DA24260#32)) := by
  rw [pooled_apply]
  exact (div_sum (fun n : Fin 8192 => x3 (ix2 0 n) = BitVec.ofNat 32 b.val) (fun n => x1 (ix2 p n)) (fun n => x2 (ix2 n q)) _ _ least_pos he).symm
end

end Cert.RefSum
-- ==== Proof.Agree.lean ====
/- The kernel's matrix of every graph is the reference's. -/
module

public import proofs.«01_k».proof.Proof.Pooled
public import proofs.«01_k».proof.Proof.Newton
public import proofs.«01_k».proof.Proof.RefSum

@[expose] public section

set_option maxRecDepth 16384

noncomputable section

namespace Cert.Agree

open Idealize.ShloMosaic Idealize.ShloMosaic.TcCoe
open Cert.KernelIdeal.Gen
open Cert.ReferenceIdeal (S128x8192 S8192x128 S1x8192 S1x64 S64x128x128 S128x128)
open Cert.ReferenceIdeal.Read

/-- The kernel's bounded sum of weights of a graph. -/
theorem sumOf_apply (b : Fin 64) (e : FVec Ideal S1x64 .f32) :
    Point.sumOf (F := Ideal) (BitVec.ofNat 32 b.val) e (ix2 0 0) = (max (e (ix2 0 b)) (Ideal.ofBits .f32 0x0DA24260#32) : EReal) := by
  unfold Point.sumOf
  pointwise
  refine congrArg (max · _) ?_
  rw [Finset.sum_eq_single b]
  · simp [IntOp.cmpi, Scalar.select]
  · intro k _ hk
    have hne : ¬ (BitVec.ofNat 32 k.val = BitVec.ofNat 32 b.val) := fun e => hk (Fin.ext (by
      have := congrArg BitVec.toNat e
      simp only [BitVec.toNat_ofNat] at this
      omega))
    rw [IntOp.cmpi, beq_eq_false_iff_ne.mpr hne]; rfl
  · intro h; exact absurd (Finset.mem_univ b) h

theorem mean_apply (b : Fin 64) (a : FVec Ideal S128x128 .f32) (e : FVec Ideal S1x64 .f32) (p q : Fin 128) :
    Point.mean (F := Ideal) (BitVec.ofNat 32 b.val) a e (ix2 p q)
      = (Ideal.div (a (ix2 p q)) (max (e (ix2 0 b)) (Ideal.ofBits .f32 0x0DA24260#32)) + Ideal.ofBits .f32 0x3A83126F#32 * k0_pay2 (F := Ideal) (ix2 p q) : EReal) := by
  unfold Point.mean
  pointwise
  rw [sumOf_apply]

/-- The trace, as a sum of the diagonal. -/
theorem trace_apply (A : FVec Ideal S128x128 .f32) :
    Point.trace A (ix2 0 0) = (∑ p : Fin 128, ∑ q : Fin 128, if p = q then A (ix2 p q) else 0 : EReal) := by
  unfold Point.trace
  pointwise
  refine Finset.sum_congr rfl fun p _ => Finset.sum_congr rfl fun q _ => ?_
  rw [Newton.eye_kernel]
  split
  · exact mul_one _
  · exact mul_zero _

section
variable (x1 : FVec Ideal S128x8192 .f32) (x2 : FVec Ideal S8192x128 .f32) (x3 : IVec S1x8192 32) (x4 : FVec Ideal S1x64 .f32)

theorem trace_reference (b : Fin 64) :
    val_main_v32 (F := Ideal) x1 x2 x3 x4 (ix1 b) = (∑ p : Fin 128, ∑ q : Fin 128, if p = q then val_main_v31 (F := Ideal) x1 x2 x3 x4 (ix3 b p q) else 0 : EReal) := by
  have h : ∀ p q : Fin 128, val_main_call0_v6 (F := Ideal) x1 x2 x3 x4 (ix3 b p q) = (if p = q then val_main_v31 (F := Ideal) x1 x2 x3 x4 (ix3 b p q) else 0 : EReal) := by
    intro p q
    rw [val_main_call0_v6_apply, val_main_call0_call0_v0_apply]
    have hc : val_main_call0_v4 (F := Ideal) (ix2 p q) = (if p = q then 1#1 else 0#1) := Newton.word_eq p q
    rw [show val_main_call0_v4 (F := Ideal) (idx_main_call0_call0_v0 (ix3 b p q)) = _ from hc, show val_main_call0_v5 (F := Ideal) (ix3 b p q) = (0 : EReal) from Ideal.ofBits_zero_f32]
    split <;> rfl
  unfold val_main_v32
  generalize val_main_call0_v6 (F := Ideal) x1 x2 x3 x4 = y at h
  pointwise
  rw [show val_main_call0_cst_0 (F := Ideal) (Shape.Idx.first Cert.ReferenceIdeal.Gen.h_S_) = (0 : EReal) from Ideal.ofBits_zero_f32, zero_add]
  exact Finset.sum_congr rfl fun p _ => Finset.sum_congr rfl fun q _ => h p q

variable (b : Fin 64)
    (he : ∀ n : Fin 8192, x3 (ix2 0 n) = BitVec.ofNat 32 b.val → (Ideal.ofBits .f32 0x0DA24260#32 : EReal) ≤ x4 (ix2 0 b))

include he in
/-- The two means. -/
theorem mean_eq (p q : Fin 128) :
    val_main_v31 (F := Ideal) x1 x2 x3 x4 (ix3 b p q)
      = Point.mean (F := Ideal) (BitVec.ofNat 32 b.val) (Pooled.accSum (BitVec.ofNat 32 b.val) x1 x2 x3) x4 (ix2 p q) := by
  rw [mean_apply, val_main_v31_apply, RefSum.pooled_eq x1 x2 x3 x4 b p q he]
  have h : val_main_v30 (F := Ideal) (ix3 b p q) = (Ideal.ofBits .f32 0x3A83126F#32 * k0_pay2 (F := Ideal) (ix2 p q) : EReal) := by
    rw [← Newton.eye_eq]; rfl
  rw [h]
  rfl

include he in
/-- The two traces. -/
theorem trace_eq : val_main_v32 (F := Ideal) x1 x2 x3 x4 (ix1 b)
    = Point.trace (F := Ideal) (Point.mean (BitVec.ofNat 32 b.val) (Pooled.accSum (BitVec.ofNat 32 b.val) x1 x2 x3) x4) (ix2 0 0) := by
  rw [trace_reference, trace_apply]
  simp only [mean_eq x1 x2 x3 x4 b he]

theorem trace_at (i : Cert.ReferenceIdeal.S64x1x1.Idx) (h : (i 0).val = b.val) :
    val_main_v33 (F := Ideal) x1 x2 x3 x4 i = val_main_v32 (F := Ideal) x1 x2 x3 x4 (ix1 b) := by
  rw [val_main_v33_apply]
  refine congrArg (val_main_v32 (F := Ideal) x1 x2 x3 x4) (funext fun a => ?_)
  match a with
  | ⟨0, _⟩ => exact Fin.ext h

include he in
/-- The two starting matrices. -/
theorem start_eq (p q : Fin 128) : val_main_v35 (F := Ideal) x1 x2 x3 x4 (ix3 b p q)
    = divf (Point.mean (F := Ideal) (BitVec.ofNat 32 b.val) (Pooled.accSum (BitVec.ofNat 32 b.val) x1 x2 x3) x4)
        (broadcastTo S128x128 (Point.trace (Point.mean (BitVec.ofNat 32 b.val) (Pooled.accSum (BitVec.ofNat 32 b.val) x1 x2 x3) x4))
          Cert.KernelIdeal.Gen.broadcasts_S1x1_S128x128) (ix2 p q) := by
  generalize hA : Point.mean (F := Ideal) (BitVec.ofNat 32 b.val) (Pooled.accSum (BitVec.ofNat 32 b.val) x1 x2 x3) x4 = A
  have ht := trace_eq x1 x2 x3 x4 b he
  have hm := mean_eq x1 x2 x3 x4 b he p q
  rw [hA] at ht hm
  pointwise
  rw [val_main_v35_apply, val_main_v34_apply, trace_at x1 x2 x3 x4 b _ rfl, hm, ← ht]
  rfl

include he in
/-- The two scaled square roots. -/
theorem root_eq (p q : Fin 128) : val_main_v117 (F := Ideal) x1 x2 x3 x4 (ix3 b p q)
    = Pooled.matrix (BitVec.ofNat 32 b.val) x1 x2 x3 x4 (ix2 p q) := by
  have h5 := (Newton.pair_eq (val_main_v35 (F := Ideal) x1 x2 x3 x4) b _ (start_eq x1 x2 x3 x4 b he) 5).1 p q
  rw [Newton.after5] at h5
  have ht := trace_eq x1 x2 x3 x4 b he
  unfold Pooled.matrix Point.root k0_pay173
  generalize Point.mean (F := Ideal) (BitVec.ofNat 32 b.val) (Pooled.accSum (BitVec.ofNat 32 b.val) x1 x2 x3) x4 = A at h5 ht ⊢
  pointwise
  rw [val_main_v117_apply, val_main_v116_apply, val_main_v115_apply, trace_at x1 x2 x3 x4 b _ rfl, ← ht, ← h5]
  rfl
end

end Cert.Agree
-- ==== Proof.Algebraic.lean ====
/- The value claim: on the extended reals, the kernel's run and the reference's end with the same upper triangles. -/
module

public import proofs.«01_k».proof.Defs
public import proofs.«01_k».proof.Proof.IdealHyps
public import proofs.«01_k».proof.Proof.Agree
public import proofs.«01_k».proof.Proof.Triu

@[expose] public section

set_option maxRecDepth 16384

noncomputable section

namespace Cert.Algebraic

open Idealize.ShloMosaic Idealize.ShloMosaic.TcCoe Idealize.SL.Sem
open Cert.KernelIdeal Cert.KernelIdeal.Gen

attribute [local instance] Words.preFacts

/-- What an ordered comparison `oge` answering one says. -/
theorem le_of_oge {x y : EReal} (h : Ideal.cmp .oge x y = 1#1) : y ≤ x := by
  by_contra hn
  simp [Ideal.cmp, hn] at h

/-- The contents the kernel's result buffer ends at: the upper triangles of the pooled matrices. -/
def result (m : (ℓ : Loc nD τ sig) → Buf (Elt Ideal) ℓ) (c : Dev nD) : FVec Ideal S64x8256 .f32 := Tail.picked (Pooled.pooled m c)

theorem kernel_run (m : (ℓ : Loc nD τ sig) → Buf (Elt Ideal) ℓ) (ρ : Dev nD → PrngReg) (hO : Ok m) (hH : Hyps m hO)
    (hS : ∀ c : Dev nD, Words.Segs (m (((0 : Dev nD) : Thread nD τ).loc main_arg0)) (m ((c : Thread nD τ).loc main_arg3))) :
    θ_run defs (onTc (τ := τ) (main (F := Ideal))) ⟨m, fun _ => 0, ρ⟩ fun r => ∀ c : Dev nD,
      r.2.mem ((c.tc : Thread nD τ).loc main_v39) = result m c := by
  refine (θ_run defs _ _).mono (fun r h c => ?_) (run_main m ρ hO hH)
  refine ((h c).2 main_v39 ((by decide : main_v39 ∈ Pipeline.restRefs sig spec0))).trans ?_
  refine (Tail.tail _).trans (congrArg (Tail.picked (F := Ideal)) ?_)
  exact (Pipeline.withArrays_arr spec0 (by decide) c _ _ (4 : Fin 5)).trans (Pooled.final m hO hH c (hS c))

/-- The reference's upper triangles are the kernel's, where the precondition holds. -/
theorem result_eq {m : (ℓ : Loc nD τ sig) → Buf (Elt Ideal) ℓ} (h : Pre_KernelIdeal_segments_and_sums m) (c : Dev nD) :
    ReferenceIdeal.Read.val_main_v131 (F := Ideal) (m ((c : Thread nD τ).loc main_arg1)) (m ((c : Thread nD τ).loc main_arg2))
      (m ((c : Thread nD τ).loc main_arg3)) (m ((c : Thread nD τ).loc main_arg4)) = result m c := by
  refine (Triu.picked_eq (F := Ideal) (Pooled.pooled m c) _ fun b p q => ?_).symm
  exact (Agree.root_eq _ _ _ _ b (fun n hn => le_of_oge ((Words.decode fun y => congrFun (h c) y).2 b n hn)) p q).symm

theorem reference_run (m : (ℓ : Loc ReferenceIdeal.nD ReferenceIdeal.τ ReferenceIdeal.sig) → Buf (Elt Ideal) ℓ)
    (ρ : Dev ReferenceIdeal.nD → PrngReg) :
    θ_run ReferenceIdeal.defs (onTc (τ := ReferenceIdeal.τ) (ReferenceIdeal.main (F := Ideal))) ⟨m, fun _ => 0, ρ⟩ fun r =>
      ∀ c : Dev ReferenceIdeal.nD,
        r.2.mem ((c.tc : Thread ReferenceIdeal.nD ReferenceIdeal.τ).loc ReferenceIdeal.main_v131)
          = ReferenceIdeal.Read.val_main_v131 (F := Ideal) (m ((c.tc : Thread ReferenceIdeal.nD ReferenceIdeal.τ).loc ReferenceIdeal.main_arg1))
            (m ((c.tc : Thread ReferenceIdeal.nD ReferenceIdeal.τ).loc ReferenceIdeal.main_arg2))
            (m ((c.tc : Thread ReferenceIdeal.nD ReferenceIdeal.τ).loc ReferenceIdeal.main_arg3))
            (m ((c.tc : Thread ReferenceIdeal.nD ReferenceIdeal.τ).loc ReferenceIdeal.main_arg4)) :=
  (θ_run ReferenceIdeal.defs _ _).mono
    (fun _ h c => (h c).1.trans (ReferenceIdeal.Read.val_main_v131_eq (StableHlo.launchContents m c)))
    (ReferenceIdeal.Value.run (F := Ideal) m ρ)

/-- The words of `starts` cut `batch2` into segments, on every device. -/
theorem segs {m : (ℓ : Loc nD τ sig) → Buf (Elt Ideal) ℓ} (h : Pre_KernelIdeal_segments_and_sums m) (c : Dev nD) :
    Words.Segs (m (((0 : Dev nD) : Thread nD τ).loc main_arg0)) (m ((c : Thread nD τ).loc main_arg3)) := by
  obtain rfl : c = 0 := Subsingleton.elim _ _
  exact (Words.decode fun y => congrFun (h 0) y).1

theorem algebraic : algebraic_KernelIdeal_ReferenceIdeal_pre_segments_and_sums := by
  intro m ρ m' ρ' h same
  refine ⟨fun c => result m c, ?_, ?_⟩
  · have hH := IdealHyps.hyps m trivial fun b => (segs h 0 b).1
    exact (θ_run defs _ _).mono (fun _ r c => ⟨r.1 c, r.2 c⟩)
      (θ_run_and (kernel_run m ρ trivial hH (segs h)) (unchanged m ρ trivial hH))
  · refine (θ_run ReferenceIdeal.defs _ _).mono (fun _ r c => ⟨(r.1 c).trans ?_, (r.2 c).2⟩)
      (θ_run_and (reference_run m' ρ') (ReferenceIdeal.Value.run (F := Ideal) m' ρ'))
    obtain ⟨_, e1, e2, e3, e4⟩ := same c
    rw [e1, e2, e3, e4]
    exact result_eq h c

end Cert.Algebraic

end
-- ==== Proof.KernelRuns.lean ====
/- The pooling kernel on machine words: what its frame rests on. The lines around the kernel's call, the blocks each grid
   point is handed, and the conditions on the words of `starts` under which the body runs. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The lines around the kernel's call -/

/-- Core `c`'s buffer contents when the kernel is called: as launched, since no line comes before the call. -/
abbrev V0 (c : Dev nD) : Valuation τ sig (Elt F) := StableHlo.after (List.flatten []) (fun b => m (c, b))
/-- The same, read at one buffer. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
/-- The buffers this stretch of lines writes, in order. -/
abbrev hostOps1_W : List (Ref sig .tc) := [main_cst, main_v1]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The buffers this stretch of lines writes, in order. -/
abbrev hostOps1_1_W : List (Ref sig .tc) := [main_call0_v0, main_call0_c, main_call0_v1, main_call0_v2, main_call0_v3, main_call0_v4, main_call0_cst, main_call0_v5, main_v2]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The buffers this stretch of lines writes, in order. -/
abbrev hostOps1_2_W : List (Ref sig .tc) := [main_v3, main_cst_0, main_v4, main_v5]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_3_fresh : (hostOps1_3 : List (HloOp τ sig (Elt F))).Forall fun op => op.fresh = ∅ := by
  simp only [List.Forall]; repeat' constructor
/-- The buffers this stretch of lines writes, in order. -/
abbrev hostOps1_3_W : List (Ref sig .tc) := [main_call1_v0, main_call1_call0_c, main_call1_call0_v0, main_v6]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_4_fresh : (hostOps1_4 : List (HloOp τ sig (Elt F))).Forall fun op => op.fresh = ∅ := by
  simp only [List.Forall]; repeat' constructor
/-- The buffers this stretch of lines writes, in order. -/
abbrev hostOps1_4_W : List (Ref sig .tc) := [main_c, main_v7, main_c_1, main_v8, main_v9, main_c_2, main_v10, main_v11, main_v12, main_v13, main_c_3, main_v14, main_v15]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_5_fresh : (hostOps1_5 : List (HloOp τ sig (Elt F))).Forall fun op => op.fresh = ∅ := by
  simp only [List.Forall]; repeat' constructor
/-- The buffers this stretch of lines writes, in order. -/
abbrev hostOps1_5_W : List (Ref sig .tc) := [main_call2_call0_c, main_call2_call0_v0, main_v16]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_6_fresh : (hostOps1_6 : List (HloOp τ sig (Elt F))).Forall fun op => op.fresh = ∅ := by
  simp only [List.Forall]; repeat' constructor
/-- The buffers this stretch of lines writes, in order. -/
abbrev hostOps1_6_W : List (Ref sig .tc) := [main_c_4]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_7_fresh : (hostOps1_7 : List (HloOp τ sig (Elt F))).Forall fun op => op.fresh = ∅ := by
  simp only [List.Forall]; repeat' constructor
/-- The buffers this stretch of lines writes, in order. -/
abbrev hostOps1_7_W : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v17]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_8_fresh : (hostOps1_8 : List (HloOp τ sig (Elt F))).Forall fun op => op.fresh = ∅ := by
  simp only [List.Forall]; repeat' constructor
/-- The buffers this stretch of lines writes, in order. -/
abbrev hostOps1_8_W : List (Ref sig .tc) := [main_c_5]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_9_fresh : (hostOps1_9 : List (HloOp τ sig (Elt F))).Forall fun op => op.fresh = ∅ := by
  simp only [List.Forall]; repeat' constructor
/-- The buffers this stretch of lines writes, in order. -/
abbrev hostOps1_9_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v18]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_10_fresh : (hostOps1_10 : List (HloOp τ sig (Elt F))).Forall fun op => op.fresh = ∅ := by
  simp only [List.Forall]; repeat' constructor
/-- The buffers this stretch of lines writes, in order. -/
abbrev hostOps1_10_W : List (Ref sig .tc) := [main_c_6]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_11_fresh : (hostOps1_11 : List (HloOp τ sig (Elt F))).Forall fun op => op.fresh = ∅ := by
  simp only [List.Forall]; repeat' constructor
/-- The buffers this stretch of lines writes, in order. -/
abbrev hostOps1_11_W : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v19]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_12_fresh : (hostOps1_12 : List (HloOp τ sig (Elt F))).Forall fun op => op.fresh = ∅ := by
  simp only [List.Forall]; repeat' constructor
/-- The buffers this stretch of lines writes, in order. -/
abbrev hostOps1_12_W : List (Ref sig .tc) := [main_c_7]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_13_fresh : (hostOps1_13 : List (HloOp τ sig (Elt F))).Forall fun op => op.fresh = ∅ := by
  simp only [List.Forall]; repeat' constructor
/-- The buffers this stretch of lines writes, in order. -/
abbrev hostOps1_13_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v20]
theorem hostOps1_13_writes : (hostOps1_13 : List (HloOp τ sig (Elt F))).Forall fun op => op.writes ⊆ (hostOps1_13_W.map (Proc.devRef (τ := τ) .tc)).toFinset :=
  StableHlo.forall_writes_sub_of_map rfl
theorem hostOps1_14_fresh : (hostOps1_14 : List (HloOp τ sig (Elt F))).Forall fun op => op.fresh = ∅ := by
  simp only [List.Forall]; repeat' constructor
/-- The buffers this stretch of lines writes, in order. -/
abbrev hostOps1_14_W : List (Ref sig .tc) := [main_v21, main_c_8, main_v22, main_v23, main_v24, main_v25, main_v26, main_c_9]
theorem hostOps1_14_writes : (hostOps1_14 : List (HloOp τ sig (Elt F))).Forall fun op => op.writes ⊆ (hostOps1_14_W.map (Proc.devRef (τ := τ) .tc)).toFinset :=
  StableHlo.forall_writes_sub_of_map rfl
theorem hostOps1_15_fresh : (hostOps1_15 : List (HloOp τ sig (Elt F))).Forall fun op => op.fresh = ∅ := by
  simp only [List.Forall]; repeat' constructor
/-- The buffers this stretch of lines writes, in order. -/
abbrev hostOps1_15_W : List (Ref sig .tc) := [main_call7_v0, main_call7_v1, main_v27]
theorem hostOps1_15_writes : (hostOps1_15 : List (HloOp τ sig (Elt F))).Forall fun op => op.writes ⊆ (hostOps1_15_W.map (Proc.devRef (τ := τ) .tc)).toFinset :=
  StableHlo.forall_writes_sub_of_map rfl
theorem hostOps1_16_fresh : (hostOps1_16 : List (HloOp τ sig (Elt F))).Forall fun op => op.fresh = ∅ := by
  simp only [List.Forall]; repeat' constructor
/-- The buffers this stretch of lines writes, in order. -/
abbrev hostOps1_16_W : List (Ref sig .tc) := [main_c_10]
theorem hostOps1_16_writes : (hostOps1_16 : List (HloOp τ sig (Elt F))).Forall fun op => op.writes ⊆ (hostOps1_16_W.map (Proc.devRef (τ := τ) .tc)).toFinset :=
  StableHlo.forall_writes_sub_of_map rfl
theorem hostOps1_17_fresh : (hostOps1_17 : List (HloOp τ sig (Elt F))).Forall fun op => op.fresh = ∅ := by
  simp only [List.Forall]; repeat' constructor
/-- The buffers this stretch of lines writes, in order. -/
abbrev hostOps1_17_W : List (Ref sig .tc) := [main_call8_v0, main_call8_v1, main_v28]
theorem hostOps1_17_writes : (hostOps1_17 : List (HloOp τ sig (Elt F))).Forall fun op => op.writes ⊆ (hostOps1_17_W.map (Proc.devRef (τ := τ) .tc)).toFinset :=
  StableHlo.forall_writes_sub_of_map rfl
theorem hostOps1_18_fresh : (hostOps1_18 : List (HloOp τ sig (Elt F))).Forall fun op => op.fresh = ∅ := by
  simp only [List.Forall]; repeat' constructor
/-- The buffers this stretch of lines writes, in order. -/
abbrev hostOps1_18_W : List (Ref sig .tc) := [main_v29, main_c_11, main_v30, main_v31, main_v32, main_c_12, main_v33, main_v34, main_c_13, main_v35, main_v36, main_v37, main_v38, main_v39]
theorem hostOps1_18_writes : (hostOps1_18 : List (HloOp τ sig (Elt F))).Forall fun op => op.writes ⊆ (hostOps1_18_W.map (Proc.devRef (τ := τ) .tc)).toFinset :=
  StableHlo.forall_writes_sub_of_map rfl

set_option maxHeartbeats 800000 in
/-- The program is the kernel's call followed by the lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18].map StableHlo.seq)) :=
  Pipeline.hmainP_around pcfgs 0 defs₀ 𝒱₀ m main [] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] (by simp only [List.Forall])
    (by simp only [List.Forall]) main_chain

/-- The lines after the call touch unscoped buffers only, and not the table of starts. -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_3_sub) op hop) ?_
    simp only [hostOps1_3, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_4_sub) op hop) ?_
    simp only [hostOps1_4, List.mem_cons, List.mem_nil_iff, or_false] at hop
    rcases hop with rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_5_sub) op hop) ?_
    simp only [hostOps1_5, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_6_sub) op hop) ?_
    simp only [hostOps1_6, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_7_sub) op hop) ?_
    simp only [hostOps1_7, List.mem_cons, List.mem_nil_iff, or_false] at hop
    rcases hop with rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_8_sub) op hop) ?_
    simp only [hostOps1_8, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_9_sub) op hop) ?_
    simp only [hostOps1_9, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_10_sub) op hop) ?_
    simp only [hostOps1_10, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_11_sub) op hop) ?_
    simp only [hostOps1_11, List.mem_cons, List.mem_nil_iff, or_false] at hop
    rcases hop with rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_12_sub) op hop) ?_
    simp only [hostOps1_12, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_13_sub) op hop) ?_
    simp only [hostOps1_13, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_14_sub) op hop) ?_
    simp only [hostOps1_14, List.mem_cons, List.mem_nil_iff, or_false] at hop
    rcases hop with rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_15_sub) op hop) ?_
    simp only [hostOps1_15, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_16_sub) op hop) ?_
    simp only [hostOps1_16, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_17_sub) op hop) ?_
    simp only [hostOps1_17, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_18_sub) op hop) ?_
    simp only [hostOps1_18, List.mem_cons, List.mem_nil_iff, or_false] at hop
    rcases hop with rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
/-- They write none of the arrays that the kernel's windows are cut from. -/
theorem keeps_out {ops : List (HloOp τ sig (Elt F))} {W : List (Ref sig .tc)}
    (hw : ops.Forall fun op => op.writes ⊆ (W.map (Proc.devRef (τ := τ) .tc)).toFinset)
    (hW : ∀ w, Pipeline.arrRef spec0 w ∉ W) :
    ∀ op ∈ ops, ∀ w, Proc.devRef .tc (Pipeline.arrRef spec0 w) ∉ op.writes := fun op hop w hb => by
  obtain ⟨y, hy, he⟩ := List.mem_map.mp (List.mem_toFinset.mp ((List.forall_iff_forall_mem.mp hw) op hop hb))
  exact hW w (Proc.devRef_injective _ he ▸ hy)
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl | rfl | rfl | rfl | rfl | rfl | rfl | rfl | rfl | rfl | rfl | rfl | rfl | rfl | rfl | rfl | rfl
  · exact keeps_out hostOps1_writes (by decide +kernel)
  · exact keeps_out hostOps1_1_writes (by decide +kernel)
  · exact keeps_out hostOps1_2_writes (by decide +kernel)
  · exact keeps_out hostOps1_3_writes (by decide +kernel)
  · exact keeps_out hostOps1_4_writes (by decide +kernel)
  · exact keeps_out hostOps1_5_writes (by decide +kernel)
  · exact keeps_out hostOps1_6_writes (by decide +kernel)
  · exact keeps_out hostOps1_7_writes (by decide +kernel)
  · exact keeps_out hostOps1_8_writes (by decide +kernel)
  · exact keeps_out hostOps1_9_writes (by decide +kernel)
  · exact keeps_out hostOps1_10_writes (by decide +kernel)
  · exact keeps_out hostOps1_11_writes (by decide +kernel)
  · exact keeps_out hostOps1_12_writes (by decide +kernel)
  · exact keeps_out hostOps1_13_writes (by decide +kernel)
  · exact keeps_out hostOps1_14_writes (by decide +kernel)
  · exact keeps_out hostOps1_15_writes (by decide +kernel)
  · exact keeps_out hostOps1_16_writes (by decide +kernel)
  · exact keeps_out hostOps1_17_writes (by decide +kernel)
  · exact keeps_out hostOps1_18_writes (by decide +kernel)

/-- The buffers that the lines after the call write. They are computed from the kernel's result, which the frame doesn't name. -/
def T0 : Finset (Ref sig .tc) := {main_c, main_c_1, main_c_10, main_c_11, main_c_12, main_c_13, main_c_2, main_c_3, main_c_4, main_c_5, main_c_6, main_c_7, main_c_8, main_c_9, main_call0_c, main_call0_cst, main_call0_v0, main_call0_v1, main_call0_v2, main_call0_v3, main_call0_v4, main_call0_v5, main_call1_call0_c, main_call1_call0_v0, main_call1_v0, main_call2_call0_c, main_call2_call0_v0, main_call3_c, main_call3_c_0, main_call3_v0, main_call3_v1, main_call3_v10, main_call3_v11, main_call3_v12, main_call3_v13, main_call3_v2, main_call3_v3, main_call3_v4, main_call3_v5, main_call3_v6, main_call3_v7, main_call3_v8, main_call3_v9, main_call4_c, main_call4_c_0, main_call4_c_1, main_call4_c_2, main_call4_c_3, main_call4_v0, main_call4_v1, main_call4_v10, main_call4_v11, main_call4_v12, main_call4_v13, main_call4_v14, main_call4_v2, main_call4_v3, main_call4_v4, main_call4_v5, main_call4_v6, main_call4_v7, main_call4_v8, main_call4_v9, main_call5_c, main_call5_c_0, main_call5_v0, main_call5_v1, main_call5_v10, main_call5_v11, main_call5_v12, main_call5_v13, main_call5_v2, main_call5_v3, main_call5_v4, main_call5_v5, main_call5_v6, main_call5_v7, main_call5_v8, main_call5_v9, main_call6_c, main_call6_c_0, main_call6_c_1, main_call6_c_2, main_call6_c_3, main_call6_v0, main_call6_v1, main_call6_v10, main_call6_v11, main_call6_v12, main_call6_v13, main_call6_v14, main_call6_v2, main_call6_v3, main_call6_v4, main_call6_v5, main_call6_v6, main_call6_v7, main_call6_v8, main_call6_v9, main_call7_v0, main_call7_v1, main_call8_v0, main_call8_v1, main_cst, main_cst_0, main_v1, main_v10, main_v11, main_v12, main_v13, main_v14, main_v15, main_v16, main_v17, main_v18, main_v19, main_v2, main_v20, main_v21, main_v22, main_v23, main_v24, main_v25, main_v26, main_v27, main_v28, main_v29, main_v3, main_v30, main_v31, main_v32, main_v33, main_v34, main_v35, main_v36, main_v37, main_v38, main_v39, main_v4, main_v5, main_v6, main_v7, main_v8, main_v9}
/-- A later line writes only those. -/
theorem sub_hostOps1 : ∀ r ∈ hostOps1_W, r ∈ T0 := ListAll.forall_mem_of_all_decide (by decide +kernel)
theorem sub_hostOps1_1 : ∀ r ∈ hostOps1_1_W, r ∈ T0 := ListAll.forall_mem_of_all_decide (by decide +kernel)
theorem sub_hostOps1_2 : ∀ r ∈ hostOps1_2_W, r ∈ T0 := ListAll.forall_mem_of_all_decide (by decide +kernel)
theorem sub_hostOps1_3 : ∀ r ∈ hostOps1_3_W, r ∈ T0 := ListAll.forall_mem_of_all_decide (by decide +kernel)
theorem sub_hostOps1_4 : ∀ r ∈ hostOps1_4_W, r ∈ T0 := ListAll.forall_mem_of_all_decide (by decide +kernel)
theorem sub_hostOps1_5 : ∀ r ∈ hostOps1_5_W, r ∈ T0 := ListAll.forall_mem_of_all_decide (by decide +kernel)
theorem sub_hostOps1_6 : ∀ r ∈ hostOps1_6_W, r ∈ T0 := ListAll.forall_mem_of_all_decide (by decide +kernel)
theorem sub_hostOps1_7 : ∀ r ∈ hostOps1_7_W, r ∈ T0 := ListAll.forall_mem_of_all_decide (by decide +kernel)
theorem sub_hostOps1_8 : ∀ r ∈ hostOps1_8_W, r ∈ T0 := ListAll.forall_mem_of_all_decide (by decide +kernel)
theorem sub_hostOps1_9 : ∀ r ∈ hostOps1_9_W, r ∈ T0 := ListAll.forall_mem_of_all_decide (by decide +kernel)
theorem sub_hostOps1_10 : ∀ r ∈ hostOps1_10_W, r ∈ T0 := ListAll.forall_mem_of_all_decide (by decide +kernel)
theorem sub_hostOps1_11 : ∀ r ∈ hostOps1_11_W, r ∈ T0 := ListAll.forall_mem_of_all_decide (by decide +kernel)
theorem sub_hostOps1_12 : ∀ r ∈ hostOps1_12_W, r ∈ T0 := ListAll.forall_mem_of_all_decide (by decide +kernel)
theorem sub_hostOps1_13 : ∀ r ∈ hostOps1_13_W, r ∈ T0 := ListAll.forall_mem_of_all_decide (by decide +kernel)
theorem sub_hostOps1_14 : ∀ r ∈ hostOps1_14_W, r ∈ T0 := ListAll.forall_mem_of_all_decide (by decide +kernel)
theorem sub_hostOps1_15 : ∀ r ∈ hostOps1_15_W, r ∈ T0 := ListAll.forall_mem_of_all_decide (by decide +kernel)
theorem sub_hostOps1_16 : ∀ r ∈ hostOps1_16_W, r ∈ T0 := ListAll.forall_mem_of_all_decide (by decide +kernel)
theorem sub_hostOps1_17 : ∀ r ∈ hostOps1_17_W, r ∈ T0 := ListAll.forall_mem_of_all_decide (by decide +kernel)
theorem sub_hostOps1_18 : ∀ r ∈ hostOps1_18_W, r ∈ T0 := ListAll.forall_mem_of_all_decide (by decide +kernel)
theorem writes_in {ops : List (HloOp τ sig (Elt F))} {W : List (Ref sig .tc)}
    (hw : ops.Forall fun op => op.writes ⊆ (W.map (Proc.devRef (τ := τ) .tc)).toFinset) (hW : ∀ r ∈ W, r ∈ T0) :
    ∀ op ∈ ops, ∀ b : Ref sig .tc, Proc.devRef .tc b ∈ op.writes → b ∈ T0 := fun op hop b hb => by
  obtain ⟨y, hy, he⟩ := List.mem_map.mp (List.mem_toFinset.mp ((List.forall_iff_forall_mem.mp hw) op hop hb))
  exact Proc.devRef_injective _ he ▸ hW y hy
theorem sfx_writes : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (List (HloOp τ sig (Elt F)))), ∀ op ∈ ops,
    ∀ b : Ref sig .tc, Proc.devRef .tc b ∈ op.writes → b ∈ T0 := by
  intro ops hops
  simp only [List.mem_cons, List.mem_nil_iff, or_false] at hops
  rcases hops with rfl | rfl | rfl | rfl | rfl | rfl | rfl | rfl | rfl | rfl | rfl | rfl | rfl | rfl | rfl | rfl | rfl | rfl | rfl
  · exact writes_in hostOps1_writes sub_hostOps1
  · exact writes_in hostOps1_1_writes sub_hostOps1_1
  · exact writes_in hostOps1_2_writes sub_hostOps1_2
  · exact writes_in hostOps1_3_writes sub_hostOps1_3
  · exact writes_in hostOps1_4_writes sub_hostOps1_4
  · exact writes_in hostOps1_5_writes sub_hostOps1_5
  · exact writes_in hostOps1_6_writes sub_hostOps1_6
  · exact writes_in hostOps1_7_writes sub_hostOps1_7
  · exact writes_in hostOps1_8_writes sub_hostOps1_8
  · exact writes_in hostOps1_9_writes sub_hostOps1_9
  · exact writes_in hostOps1_10_writes sub_hostOps1_10
  · exact writes_in hostOps1_11_writes sub_hostOps1_11
  · exact writes_in hostOps1_12_writes sub_hostOps1_12
  · exact writes_in hostOps1_13_writes sub_hostOps1_13
  · exact writes_in hostOps1_14_writes sub_hostOps1_14
  · exact writes_in hostOps1_15_writes sub_hostOps1_15
  · exact writes_in hostOps1_16_writes sub_hostOps1_16
  · exact writes_in hostOps1_17_writes sub_hostOps1_17
  · exact writes_in hostOps1_18_writes sub_hostOps1_18

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The table of starts -/

/-- The words of `starts` when the kernel is called, on the one device. -/
def tbl : pre0.Contents (Elt F) := fun j => V m (0 : Dev nD) (pre0.ref j)
/-- Every device holds those words: there is one device. -/
theorem V_pre (c : Dev nD) (j : Fin 1) : V m c (pre0.ref j) = tbl m j := by
  obtain rfl : c = 0 := Subsingleton.elim _ _; rfl
/-- No window is placed by a word of `starts`, so nothing is asked of them here. -/
abbrev Ok : Prop := ok0 (F := F) (tbl m)
/-- The pipeline at those words. -/
abbrev adm (hO : Ok m) : (pcfg0 (F := F)).Adm := ⟨tbl m, hO⟩
abbrev cfgM (hO : Ok m) : Pipeline.Cfg sig Λ₀ := cfg0 (adm m hO)

/-- The table as the body is handed it: its whole buffer. -/
abbrev tbM0_0 : Memref sig .tc .smem S65 .i32 := Memref.whole main_arg0
abbrev htbM0_0 : tbM0_0.IsWhole := Memref.isWhole_whole _

/-- What the body holds of the table: its buffer at half a share, enough to read it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- That half is all that the body is handed of the table. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- This argument ends as launched: no line after the call writes it. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] c main_arg0 = m ((c : Thread nD τ).loc main_arg0) := by
  unfold Pipeline.afterTail
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg0) hostOps1_18 _ hostOps1_18_writes (by decide +kernel),
    StableHlo.after_of_writes_sub (r := main_arg0) hostOps1_17 _ hostOps1_17_writes (by decide +kernel),
    StableHlo.after_of_writes_sub (r := main_arg0) hostOps1_16 _ hostOps1_16_writes (by decide +kernel),
    StableHlo.after_of_writes_sub (r := main_arg0) hostOps1_15 _ hostOps1_15_writes (by decide +kernel),
    StableHlo.after_of_writes_sub (r := main_arg0) hostOps1_14 _ hostOps1_14_writes (by decide +kernel),
    StableHlo.after_of_writes_sub (r := main_arg0) hostOps1_13 _ hostOps1_13_writes (by decide +kernel),
    StableHlo.after_of_writes_sub (r := main_arg0) hostOps1_12 _ hostOps1_12_writes (by decide +kernel),
    StableHlo.after_of_writes_sub (r := main_arg0) hostOps1_11 _ hostOps1_11_writes (by decide +kernel),
    StableHlo.after_of_writes_sub (r := main_arg0) hostOps1_10 _ hostOps1_10_writes (by decide +kernel),
    StableHlo.after_of_writes_sub (r := main_arg0) hostOps1_9 _ hostOps1_9_writes (by decide +kernel),
    StableHlo.after_of_writes_sub (r := main_arg0) hostOps1_8 _ hostOps1_8_writes (by decide +kernel),
    StableHlo.after_of_writes_sub (r := main_arg0) hostOps1_7 _ hostOps1_7_writes (by decide +kernel),
    StableHlo.after_of_writes_sub (r := main_arg0) hostOps1_6 _ hostOps1_6_writes (by decide +kernel),
    StableHlo.after_of_writes_sub (r := main_arg0) hostOps1_5 _ hostOps1_5_writes (by decide +kernel),
    StableHlo.after_of_writes_sub (r := main_arg0) hostOps1_4 _ hostOps1_4_writes (by decide +kernel),
    StableHlo.after_of_writes_sub (r := main_arg0) hostOps1_3 _ hostOps1_3_writes (by decide +kernel),
    StableHlo.after_of_writes_sub (r := main_arg0) hostOps1_2 _ hostOps1_2_writes (by decide +kernel),
    StableHlo.after_of_writes_sub (r := main_arg0) hostOps1_1 _ hostOps1_1_writes (by decide +kernel),
    StableHlo.after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c
/-! ## The windows' blocks -/

/-- The block of window `w` at grid point `t`, cut from its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body finds this window's block in its buffer at every point, newly copied there or left by the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds this window's block in its buffer at every point, newly copied there or left by the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds this window's block in its buffer at every point, newly copied there or left by the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The body finds this window's block in its buffer at every point, newly copied there or left by the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run to the arguments -/

/-- After a run that leaves the windows' input arrays and all buffers outside `T0` alone, the arguments are as launched. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0 \ T0)).trans (V_main_arg0 m c),
      (Pipeline.RDat.FramePostR.arr_in h c 0 rfl).trans ((hA c 0).trans (V_main_arg1 m c)),
      (Pipeline.RDat.FramePostR.arr_in h c 1 rfl).trans ((hA c 1).trans (V_main_arg2 m c)),
      (Pipeline.RDat.FramePostR.arr_in h c 2 rfl).trans ((hA c 2).trans (V_main_arg3 m c)),
      (Pipeline.RDat.FramePostR.arr_in h c 3 rfl).trans ((hA c 3).trans (V_main_arg4 m c))⟩) h

/-! ## The buffers the body is handed -/

/-- Each window's buffer at point `t`. -/
abbrev ms0_0 (hO : Ok m) (t : Fin (cfgM m hO).N) : Memref sig .tc .vmem S128x8192 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S8192x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S8x128x128 .f32 := spec0_4.stage ((cfgM m hO).slots t 4)
abbrev hs0_4 (hO : Ok m) (t : Fin (cfgM m hO).N) : (ms0_4 m hO t).IsWhole := hstage0_4 (((cfgM m hO).slots t 4).cast nbuf0_4)

/-! ## What the body assumes of `starts` -/

/-- What the body assumes of the two words of `starts` that bound each of its eight graphs, at every grid point: the loop
    between them reads blocks inside the arrays. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos))) (tbM0_0.view.readAt (Elt F) (Rect.unit (s := S65) (k0_off2 (grid0.coords t)) S1.size (k0_off2_inb (grid0.coords t))).toLoadRect (tbl m 0) (Shape.Idx.first (numel1_S1.symm ▸ Nat.one_pos)))
    ∧ k0_chk2 (tbM0_0.view.readAt (Elt F) (Rect.unit (s := S65) (k0_off9 (grid0.coords t)) S1.size (k0_off9_inb (grid0.coords t))).toLoadRect (tbl m 0) (Shape.Idx.first (numel1_S1.symm ▸ Nat.one_pos))) (tbM0_0.view.readAt (Elt F) (Rect.unit (s := S65) (k0_off10 (grid0.coords t)) S1.size (k0_off10_inb (grid0.coords t))).toLoadRect (tbl m 0) (Shape.Idx.first (numel1_S1.symm ▸ Nat.one_pos)))
    ∧ k0_chk3 (tbM0_0.view.readAt (Elt F) (Rect.unit (s := S65) (k0_off17 (grid0.coords t)) S1.size (k0_off17_inb (grid0.coords t))).toLoadRect (tbl m 0) (Shape.Idx.first (numel1_S1.symm ▸ Nat.one_pos))) (tbM0_0.view.readAt (Elt F) (Rect.unit (s := S65) (k0_off18 (grid0.coords t)) S1.size (k0_off18_inb (grid0.coords t))).toLoadRect (tbl m 0) (Shape.Idx.first (numel1_S1.symm ▸ Nat.one_pos)))
    ∧ k0_chk4 (tbM0_0.view.readAt (Elt F) (Rect.unit (s := S65) (k0_off25 (grid0.coords t)) S1.size (k0_off25_inb (grid0.coords t))).toLoadRect (tbl m 0) (Shape.Idx.first (numel1_S1.symm ▸ Nat.one_pos))) (tbM0_0.view.readAt (Elt F) (Rect.unit (s := S65) (k0_off26 (grid0.coords t)) S1.size (k0_off26_inb (grid0.coords t))).toLoadRect (tbl m 0) (Shape.Idx.first (numel1_S1.symm ▸ Nat.one_pos)))
    ∧ k0_chk5 (tbM0_0.view.readAt (Elt F) (Rect.unit (s := S65) (k0_off33 (grid0.coords t)) S1.size (k0_off33_inb (grid0.coords t))).toLoadRect (tbl m 0) (Shape.Idx.first (numel1_S1.symm ▸ Nat.one_pos))) (tbM0_0.view.readAt (Elt F) (Rect.unit (s := S65) (k0_off34 (grid0.coords t)) S1.size (k0_off34_inb (grid0.coords t))).toLoadRect (tbl m 0) (Shape.Idx.first (numel1_S1.symm ▸ Nat.one_pos)))
    ∧ k0_chk6 (tbM0_0.view.readAt (Elt F) (Rect.unit (s := S65) (k0_off41 (grid0.coords t)) S1.size (k0_off41_inb (grid0.coords t))).toLoadRect (tbl m 0) (Shape.Idx.first (numel1_S1.symm ▸ Nat.one_pos))) (tbM0_0.view.readAt (Elt F) (Rect.unit (s := S65) (k0_off42 (grid0.coords t)) S1.size (k0_off42_inb (grid0.coords t))).toLoadRect (tbl m 0) (Shape.Idx.first (numel1_S1.symm ▸ Nat.one_pos)))
    ∧ k0_chk7 (tbM0_0.view.readAt (Elt F) (Rect.unit (s := S65) (k0_off49 (grid0.coords t)) S1.size (k0_off49_inb (grid0.coords t))).toLoadRect (tbl m 0) (Shape.Idx.first (numel1_S1.symm ▸ Nat.one_pos))) (tbM0_0.view.readAt (Elt F) (Rect.unit (s := S65) (k0_off50 (grid0.coords t)) S1.size (k0_off50_inb (grid0.coords t))).toLoadRect (tbl m 0) (Shape.Idx.first (numel1_S1.symm ▸ Nat.one_pos)))
    ∧ k0_chk8 (tbM0_0.view.readAt (Elt F) (Rect.unit (s := S65) (k0_off57 (grid0.coords t)) S1.size (k0_off57_inb (grid0.coords t))).toLoadRect (tbl m 0) (Shape.Idx.first (numel1_S1.symm ▸ Nat.one_pos))) (tbM0_0.view.readAt (Elt F) (Rect.unit (s := S65) (k0_off58 (grid0.coords t)) S1.size (k0_off58_inb (grid0.coords t))).toLoadRect (tbl m 0) (Shape.Idx.first (numel1_S1.symm ▸ Nat.one_pos)))

/-! The eight assumptions by name, and all of them from one proof of each. -/

/-- One graph's assumption at point `t`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos))) (tbM0_0.view.readAt (Elt F) (Rect.unit (s := S65) (k0_off2 (grid0.coords t)) S1.size (k0_off2_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos))) (tbM0_0.view.readAt (Elt F) (Rect.unit (s := S65) (k0_off2 (grid0.coords t)) S1.size (k0_off2_inb (grid0.coords t))).toLoadRect (tbl m 0) (Shape.Idx.first (numel1_S1.symm ▸ Nat.one_pos))) := (hH c t).1
/-- One graph's assumption at point `t`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S65) (k0_off9 (grid0.coords t)) S1.size (k0_off9_inb (grid0.coords t))).toLoadRect (tbl m 0) (Shape.Idx.first (numel1_S1.symm ▸ Nat.one_pos))) (tbM0_0.view.readAt (Elt F) (Rect.unit (s := S65) (k0_off10 (grid0.coords t)) S1.size (k0_off10_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S65) (k0_off9 (grid0.coords t)) S1.size (k0_off9_inb (grid0.coords t))).toLoadRect (tbl m 0) (Shape.Idx.first (numel1_S1.symm ▸ Nat.one_pos))) (tbM0_0.view.readAt (Elt F) (Rect.unit (s := S65) (k0_off10 (grid0.coords t)) S1.size (k0_off10_inb (grid0.coords t))).toLoadRect (tbl m 0) (Shape.Idx.first (numel1_S1.symm ▸ Nat.one_pos))) := (hH c t).2.1
/-- One graph's assumption at point `t`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S65) (k0_off17 (grid0.coords t)) S1.size (k0_off17_inb (grid0.coords t))).toLoadRect (tbl m 0) (Shape.Idx.first (numel1_S1.symm ▸ Nat.one_pos))) (tbM0_0.view.readAt (Elt F) (Rect.unit (s := S65) (k0_off18 (grid0.coords t)) S1.size (k0_off18_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S65) (k0_off17 (grid0.coords t)) S1.size (k0_off17_inb (grid0.coords t))).toLoadRect (tbl m 0) (Shape.Idx.first (numel1_S1.symm ▸ Nat.one_pos))) (tbM0_0.view.readAt (Elt F) (Rect.unit (s := S65) (k0_off18 (grid0.coords t)) S1.size (k0_off18_inb (grid0.coords t))).toLoadRect (tbl m 0) (Shape.Idx.first (numel1_S1.symm ▸ Nat.one_pos))) := (hH c t).2.2.1
/-- One graph's assumption at point `t`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S65) (k0_off25 (grid0.coords t)) S1.size (k0_off25_inb (grid0.coords t))).toLoadRect (tbl m 0) (Shape.Idx.first (numel1_S1.symm ▸ Nat.one_pos))) (tbM0_0.view.readAt (Elt F) (Rect.unit (s := S65) (k0_off26 (grid0.coords t)) S1.size (k0_off26_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S65) (k0_off25 (grid0.coords t)) S1.size (k0_off25_inb (grid0.coords t))).toLoadRect (tbl m 0) (Shape.Idx.first (numel1_S1.symm ▸ Nat.one_pos))) (tbM0_0.view.readAt (Elt F) (Rect.unit (s := S65) (k0_off26 (grid0.coords t)) S1.size (k0_off26_inb (grid0.coords t))).toLoadRect (tbl m 0) (Shape.Idx.first (numel1_S1.symm ▸ Nat.one_pos))) := (hH c t).2.2.2.1
/-- One graph's assumption at point `t`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S65) (k0_off33 (grid0.coords t)) S1.size (k0_off33_inb (grid0.coords t))).toLoadRect (tbl m 0) (Shape.Idx.first (numel1_S1.symm ▸ Nat.one_pos))) (tbM0_0.view.readAt (Elt F) (Rect.unit (s := S65) (k0_off34 (grid0.coords t)) S1.size (k0_off34_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S65) (k0_off33 (grid0.coords t)) S1.size (k0_off33_inb (grid0.coords t))).toLoadRect (tbl m 0) (Shape.Idx.first (numel1_S1.symm ▸ Nat.one_pos))) (tbM0_0.view.readAt (Elt F) (Rect.unit (s := S65) (k0_off34 (grid0.coords t)) S1.size (k0_off34_inb (grid0.coords t))).toLoadRect (tbl m 0) (Shape.Idx.first (numel1_S1.symm ▸ Nat.one_pos))) := (hH c t).2.2.2.2.1
/-- One graph's assumption at point `t`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S65) (k0_off41 (grid0.coords t)) S1.size (k0_off41_inb (grid0.coords t))).toLoadRect (tbl m 0) (Shape.Idx.first (numel1_S1.symm ▸ Nat.one_pos))) (tbM0_0.view.readAt (Elt F) (Rect.unit (s := S65) (k0_off42 (grid0.coords t)) S1.size (k0_off42_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S65) (k0_off41 (grid0.coords t)) S1.size (k0_off41_inb (grid0.coords t))).toLoadRect (tbl m 0) (Shape.Idx.first (numel1_S1.symm ▸ Nat.one_pos))) (tbM0_0.view.readAt (Elt F) (Rect.unit (s := S65) (k0_off42 (grid0.coords t)) S1.size (k0_off42_inb (grid0.coords t))).toLoadRect (tbl m 0) (Shape.Idx.first (numel1_S1.symm ▸ Nat.one_pos))) := (hH c t).2.2.2.2.2.1
/-- One graph's assumption at point `t`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S65) (k0_off49 (grid0.coords t)) S1.size (k0_off49_inb (grid0.coords t))).toLoadRect (tbl m 0) (Shape.Idx.first (numel1_S1.symm ▸ Nat.one_pos))) (tbM0_0.view.readAt (Elt F) (Rect.unit (s := S65) (k0_off50 (grid0.coords t)) S1.size (k0_off50_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S65) (k0_off49 (grid0.coords t)) S1.size (k0_off49_inb (grid0.coords t))).toLoadRect (tbl m 0) (Shape.Idx.first (numel1_S1.symm ▸ Nat.one_pos))) (tbM0_0.view.readAt (Elt F) (Rect.unit (s := S65) (k0_off50 (grid0.coords t)) S1.size (k0_off50_inb (grid0.coords t))).toLoadRect (tbl m 0) (Shape.Idx.first (numel1_S1.symm ▸ Nat.one_pos))) := (hH c t).2.2.2.2.2.2.1
/-- One graph's assumption at point `t`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S65) (k0_off57 (grid0.coords t)) S1.size (k0_off57_inb (grid0.coords t))).toLoadRect (tbl m 0) (Shape.Idx.first (numel1_S1.symm ▸ Nat.one_pos))) (tbM0_0.view.readAt (Elt F) (Rect.unit (s := S65) (k0_off58 (grid0.coords t)) S1.size (k0_off58_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S65) (k0_off57 (grid0.coords t)) S1.size (k0_off57_inb (grid0.coords t))).toLoadRect (tbl m 0) (Shape.Idx.first (numel1_S1.symm ▸ Nat.one_pos))) (tbM0_0.view.readAt (Elt F) (Rect.unit (s := S65) (k0_off58 (grid0.coords t)) S1.size (k0_off58_inb (grid0.coords t))).toLoadRect (tbl m 0) (Shape.Idx.first (numel1_S1.symm ▸ Nat.one_pos))) := (hH c t).2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t) :
    Hyps m hO := fun c t =>
  And.intro (p0 c t) (And.intro (p1 c t) (And.intro (p2 c t) (And.intro (p3 c t) (And.intro (p4 c t) (And.intro (p5 c t) (And.intro (p6 c t) (p7 c t)))))))

end Cert.KernelFrame

end
-- ==== Proof.KernelRunA.lean ====
/- The pooling kernel on machine words: one run of its body. -/
module

public import proofs.«01_k».proof.Proof.KernelRuns

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1876000 in
/-- The body, given its four input blocks, some contents of the output block and half the table, runs to the end and gives all
    of them back, the inputs unchanged. -/
theorem kernelRun0_A (c : Dev nD) (i : grid0.Coords) (arg2 : Memref sig .tc .vmem S128x8192 .f32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S1x64 .f32) (harg5 : arg5.IsWhole) (arg6 : Memref sig .tc .vmem S8x128x128 .f32) (harg6 : arg6.IsWhole)
    (x0 : Vec F S128x8192 .f32) (x1 : Vec F S8192x128 .f32) (x2 : Vec F S1x8192 .i32) (x3 : Vec F S1x64 .f32) (xt0 : TbBuf0 (F := F) c tbM0_0) (k0_hw1 : k0_chk1 (tbM0_0.view.readAt (Elt F) (Rect.unit (s := S65) (k0_off1 i) S1.size (k0_off1_inb i)).toLoadRect xt0 (Shape.Idx.first (numel1_S1.symm ▸ Nat.one_pos))) (tbM0_0.view.readAt (Elt F) (Rect.unit (s := S65) (k0_off2 i) S1.size (k0_off2_inb i)).toLoadRect xt0 (Shape.Idx.first (numel1_S1.symm ▸ Nat.one_pos)))) (k0_hw2 : k0_chk2 (tbM0_0.view.readAt (Elt F) (Rect.unit (s := S65) (k0_off9 i) S1.size (k0_off9_inb i)).toLoadRect xt0 (Shape.Idx.first (numel1_S1.symm ▸ Nat.one_pos))) (tbM0_0.view.readAt (Elt F) (Rect.unit (s := S65) (k0_off10 i) S1.size (k0_off10_inb i)).toLoadRect xt0 (Shape.Idx.first (numel1_S1.symm ▸ Nat.one_pos)))) (k0_hw3 : k0_chk3 (tbM0_0.view.readAt (Elt F) (Rect.unit (s := S65) (k0_off17 i) S1.size (k0_off17_inb i)).toLoadRect xt0 (Shape.Idx.first (numel1_S1.symm ▸ Nat.one_pos))) (tbM0_0.view.readAt (Elt F) (Rect.unit (s := S65) (k0_off18 i) S1.size (k0_off18_inb i)).toLoadRect xt0 (Shape.Idx.first (numel1_S1.symm ▸ Nat.one_pos)))) (k0_hw4 : k0_chk4 (tbM0_0.view.readAt (Elt F) (Rect.unit (s := S65) (k0_off25 i) S1.size (k0_off25_inb i)).toLoadRect xt0 (Shape.Idx.first (numel1_S1.symm ▸ Nat.one_pos))) (tbM0_0.view.readAt (Elt F) (Rect.unit (s := S65) (k0_off26 i) S1.size (k0_off26_inb i)).toLoadRect xt0 (Shape.Idx.first (numel1_S1.symm ▸ Nat.one_pos)))) (k0_hw5 : k0_chk5 (tbM0_0.view.readAt (Elt F) (Rect.unit (s := S65) (k0_off33 i) S1.size (k0_off33_inb i)).toLoadRect xt0 (Shape.Idx.first (numel1_S1.symm ▸ Nat.one_pos))) (tbM0_0.view.readAt (Elt F) (Rect.unit (s := S65) (k0_off34 i) S1.size (k0_off34_inb i)).toLoadRect xt0 (Shape.Idx.first (numel1_S1.symm ▸ Nat.one_pos)))) (k0_hw6 : k0_chk6 (tbM0_0.view.readAt (Elt F) (Rect.unit (s := S65) (k0_off41 i) S1.size (k0_off41_inb i)).toLoadRect xt0 (Shape.Idx.first (numel1_S1.symm ▸ Nat.one_pos))) (tbM0_0.view.readAt (Elt F) (Rect.unit (s := S65) (k0_off42 i) S1.size (k0_off42_inb i)).toLoadRect xt0 (Shape.Idx.first (numel1_S1.symm ▸ Nat.one_pos)))) (k0_hw7 : k0_chk7 (tbM0_0.view.readAt (Elt F) (Rect.unit (s := S65) (k0_off49 i) S1.size (k0_off49_inb i)).toLoadRect xt0 (Shape.Idx.first (numel1_S1.symm ▸ Nat.one_pos))) (tbM0_0.view.readAt (Elt F) (Rect.unit (s := S65) (k0_off50 i) S1.size (k0_off50_inb i)).toLoadRect xt0 (Shape.Idx.first (numel1_S1.symm ▸ Nat.one_pos)))) (k0_hw8 : k0_chk8 (tbM0_0.view.readAt (Elt F) (Rect.unit (s := S65) (k0_off57 i) S1.size (k0_off57_inb i)).toLoadRect xt0 (Shape.Idx.first (numel1_S1.symm ▸ Nat.one_pos))) (tbM0_0.view.readAt (Elt F) (Rect.unit (s := S65) (k0_off58 i) S1.size (k0_off58_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt0 c tbM0_0 xt0) -∗ K ⟨⟩))
          ⊢ wp frame (wpE (defs₀ (F := F)) Variants.none c none) E (cc0_pool_ns i tbM0_0 htbM0_0 arg2 harg2 arg3 harg3 arg4 harg4 arg5 harg5 arg6 harg6) K := by
    intro E K
    simp only [cc0_pool_ns_eq_skeleton]; unfold cc0_pool_ns_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg2.eq_unread hf0; obtain rfl := harg3.eq_unread hf1; obtain rfl := harg4.eq_unread hf2; obtain rfl := harg5.eq_unread hf3
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    iexact HT0

end Cert.KernelFrame

end
-- ==== Proof.KernelFrame.lean ====
/- The pooling kernel on machine words: every run ends, with its argument arrays unchanged. -/
module

public import proofs.«01_k».proof.Proof.KernelRunA
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What is said of each window -/

/-- Window 4 is the output. The frame says nothing of what it holds. -/
def forgets0 : Fin 5 → Bool := fun w => w.val == 4

/-- What is said of each window on core `c`: its array as the call finds it, and after the body at point `t` each input still at
    its block. The output's contents go unnamed. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The arrays are those the call finds. -/
theorem A_eq (hO : Ok m) (hH : Hyps m hO) (c : Dev nD) (w : Fin (cfgM m hO).W) : (dats m hO hH 0 c).A w = V m c (Pipeline.arrRef spec0 w) := by
  dsimp only [dats]

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl

/-- What the body finds, window by window. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body at a grid point -/

/-- What the body is called with at point `t`, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ (∃ d, owns (c : Thread nD τ) (ms0_4 m hO t) fullShare d))

/-- The body runs at every point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (Hyps.c0 hH c t) (Hyps.c1 hH c t) (Hyps.c2 hH c t) (Hyps.c3 hH c t) (Hyps.c4 hH c t) (Hyps.c5 hH c t) (Hyps.c6 hH c t) (Hyps.c7 hH c t)) Set.univ _)
  isplitl [H0]; · iexact H0
  isplitl [H1]; · iexact H1
  isplitl [H2]; · iexact H2
  isplitl [H3]; · iexact H3
  isplitl [H4]; · iexists _; iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

/-- The body's entry in the table of bodies. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The same in the form that the launch asks for. -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

set_option backward.isDefEq.respectTransparency.types false in
set_option maxHeartbeats 800000 in
/-- The launch: the input arrays and every buffer outside `T0` end as the call finds them, and every semaphore ends at zero. -/
theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) T0 (V m)) r ∧ r.2.sem = fun _ => 0) :=
  Pipeline.θ_run_frameP_around_T_forget (Q' := _) pcfgs (fun _ => adm m hO) (dats m hO hH) (0 : Fin 1) launch0 defs₀ Variants.none forgets0 T0 m ρ main
    (hbody := fun c => (body_obligation m hO hH c).loose) (hshare := fun c => (dats m hO hH 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]) (hsub := sfx_sub) (hfresh := sfx_fresh) (hkeep := sfx_keeps) (hT := sfx_writes)
    (hmain := hmain m Variants.none) (hA := A_eq m hO hH) (hpf := V_pre m) (hΦ := fun _ _ => rfl)

/-- The launch without its semaphores. -/
theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) T0 (V m)) :=
  (θ_run defs _ _).mono (fun _ h => h.1) (run_main_quiescent m ρ hO hH)

/-- The arguments end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO hH 0 c).toRForget forgets0) (A_eq m hO hH) (run_main m ρ hO hH)

/-- The frame: the arguments end unchanged and every semaphore at zero, if the words of `starts` are as the body assumes. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.KernelFrame

end
-- ==== Proof.BitsHyps.lean ====
/- The pooling kernel on the compiled bits: the words of `starts` its body reads, and why they satisfy what the body
   assumes of them. -/
module

public import proofs.«01_k».proof.Proof.Words
public import proofs.«01_k».proof.Proof.KernelFrame

@[expose] public section

set_option maxRecDepth 16384

namespace Cert.BitsHyps

open Cert.Kernel Cert.Kernel.Gen Cert.KernelFrame
open Idealize.ShloMosaic Idealize.ShloMosaic.TcCoe Idealize.ShloMosaic.ValueIdx

variable {F : FTy → Type} [FloatOps F]
variable (m : (ℓ : Loc nD τ sig) → Buf (Elt F) ℓ)

/-- Graph `8 i + g`, the `g`-th of grid point `i`. -/
def graph (i : grid0.Coords) (g : Fin 8) : Fin 64 := ⟨8 * (i 0).val + g.val, by
  have h : (i 0).val < 8 := (i 0).isLt
  omega⟩

/-- A word read off `starts` at offset `v` is the array's word `v`. -/
theorem word_at (c : Dev nD) (x : TbBuf0 (F := F) c tbM0_0) (off : Fin 1 → ℕ) (v : Fin 65) (h : off = ![v.val]) (inb) (j) :
    tbM0_0.view.readAt (Elt F) (Rect.unit (s := S65) off S1.size inb).toLoadRect x j = x (ix1 v) := by
  subst h
  refine congrArg x (funext fun a => ?_)
  match a with
  | ⟨0, _⟩ => exact Fin.ext (by
      have : (j 0).val < 1 := (j 0).isLt
      show v.val + 1 * (j 0).val = v.val
      omega)

/-- The two words of a graph satisfy what the body assumes of them. -/
theorem chk_at {s : IVec S65 32} (h : ∀ b : Fin 64, Words.Bounds (s (ix1 b.castSucc)) (s (ix1 b.succ))) (c : Dev nD) (x : TbBuf0 (F := F) c tbM0_0)
    (hx : ∀ v, x (ix1 v) = s (ix1 v)) (i : grid0.Coords) (g : Fin 8) (o1 o2 : Fin 1 → ℕ)
    (e1 : o1 = ![8 * (i 0).val + g.val]) (e2 : o2 = ![8 * (i 0).val + g.val + 1]) (i1) (i2) (j1) (j2) :
    k0_chk1 (tbM0_0.view.readAt (Elt F) (Rect.unit (s := S65) o1 S1.size i1).toLoadRect x j1)
      (tbM0_0.view.readAt (Elt F) (Rect.unit (s := S65) o2 S1.size i2).toLoadRect x j2) := by
  rw [word_at c x o1 (graph i g).castSucc e1, word_at c x o2 (graph i g).succ e2, hx, hx]
  exact Words.chk_bits (h (graph i g))

theorem hyps (hO : Ok m) (h : ∀ b : Fin 64, Words.Bounds ((m (((0 : Dev nD) : Thread nD τ).loc main_arg0) : IVec S65 32) (ix1 b.castSucc))
    ((m (((0 : Dev nD) : Thread nD τ).loc main_arg0) : IVec S65 32) (ix1 b.succ))) :
    Hyps m hO := by
  refine Hyps.of (m := m) ?_ ?_ ?_ ?_ ?_ ?_ ?_ ?_ <;> intro c t
  · exact chk_at h 0 (tbl m 0) (fun _ => rfl) _ 0 _ _ (k0_off1_eq _) (k0_off2_eq _) _ _ _ _
  · exact chk_at h 0 (tbl m 0) (fun _ => rfl) _ 1 _ _ (k0_off9_eq _) (k0_off10_eq _) _ _ _ _
  · exact chk_at h 0 (tbl m 0) (fun _ => rfl) _ 2 _ _ (k0_off17_eq _) (k0_off18_eq _) _ _ _ _
  · exact chk_at h 0 (tbl m 0) (fun _ => rfl) _ 3 _ _ (k0_off25_eq _) (k0_off26_eq _) _ _ _ _
  · exact chk_at h 0 (tbl m 0) (fun _ => rfl) _ 4 _ _ (k0_off33_eq _) (k0_off34_eq _) _ _ _ _
  · exact chk_at h 0 (tbl m 0) (fun _ => rfl) _ 5 _ _ (k0_off41_eq _) (k0_off42_eq _) _ _ _ _
  · exact chk_at h 0 (tbl m 0) (fun _ => rfl) _ 6 _ _ (k0_off49_eq _) (k0_off50_eq _) _ _ _ _
  · exact chk_at h 0 (tbl m 0) (fun _ => rfl) _ 7 _ _ (k0_off57_eq _) (k0_off58_eq _) _ _ _ _

end Cert.BitsHyps
-- ==== Proof.Strips.lean ====
/- The weights kernel unrolls its flattened upper triangle into a square matrix, one row at a time, and reads it back. -/
module

public import proofs.«01_k».proof.Proof.Gen.WeightsIdeal.Value
public import Idealize.ShloMosaic.Lib.Pipeline.ValueKit

@[expose] public section

set_option maxRecDepth 16384

noncomputable section

namespace Cert.Strips

open Cert.WeightsIdeal Cert.WeightsIdeal.Gen
open Idealize.ShloMosaic Idealize.ShloMosaic.TcCoe

variable {F : FTy → Type} [FloatOps F]

/-- Where row `i` would begin in the flattened triangle if it began at column 0. -/
def start (i : ℕ) : ℕ := i * (255 - i) / 2

theorem start_le {i : ℕ} (h : i < 128) : start i + 128 ≤ 8256 :=
  (by decide : ∀ i : Fin 128, start i.val + 128 ≤ 8256) ⟨i, h⟩

theorem slices {i : ℕ} (h : i < 128) : S1x8256.Slices ![0, start i] S1x128 :=
  ⟨rfl, fun a => match a with | ⟨0, _⟩ => Nat.le_refl 1 | ⟨1, _⟩ => start_le h⟩

theorem inb {i : ℕ} (h : i < 128) : ∀ a, (![i, 0] : Fin 2 → ℕ) a + S1x128.size a ≤ S128x128.size a :=
  fun a => match a with | ⟨0, _⟩ => h | ⟨1, _⟩ => Nat.le_refl 128

/-- Row `i`: the slice that puts entry `(i, j)` in lane `j`, with the lanes below the diagonal cleared. -/
def row {i : ℕ} (h : i < 128) (w : Vec F S1x8256 .f32) : FVec F S1x128 .f32 :=
  shapeCast S1x128 (select (cmpi .sge (iota .tc S1x128 32 [1] iota_S1x128_d1_w32) (broadcast S1x128 (BitVec.ofNat 32 i)))
    (extractStridedSlice S1x128 ![0, start i] w (slices h)) (broadcast S1x128 (Scalar.ofBits .f32 0x00000000#32))) shapeCasts_S1x128_S1x128

/-- The stores of the first `n` rows, the last one first. -/
def rows (w : Vec F S1x8256 .f32) : (n : ℕ) → n ≤ 128 → List (View.Piece (Elt F) S128x128 .f32)
  | 0, _ => []
  | n + 1, h => ⟨Rect.unit ![n, 0] S1x128.size (inb h), row h w⟩ :: rows w n (Nat.le_of_succ_le h)

set_option maxHeartbeats 2000000 in
theorem stores_eq (c : Dev nD) (arg1 : Memref sig .tc .vmem S1x8256 .f32) (harg1 : arg1.IsWhole) (x1 : Vec F S1x8256 .f32) :
    kernelRun0_A.sl.HS0_128 c arg1 harg1 x1
      = rows (View.readAt (Elt F) arg1.view (Rect.unit (s := S1x8256) ![0, 0] S1x8256.size inb_S1x8256_S1x8256_0_0).toLoadRect (harg1.unread x1)) 128 (Nat.le_refl _) :=
  rfl

/-- The matrix the rows make: entry `(i, j)` on or above the diagonal is the triangle's, below it zero. -/
def full (w : Vec F S1x8256 .f32) : FVec F S128x128 .f32 := fun y =>
  if h : (y 0).val ≤ (y 1).val then
    w (ix2 (0 : Fin 1) ⟨start (y 0).val + (y 1).val, by have := start_le (y 0).isLt; have := (y 1).isLt; change (y 1).val < 128 at this; omega⟩)
  else Scalar.ofBits .f32 0x00000000#32

theorem select_sge {α : Type} {i j : ℕ} (hi : i < 128) (hj : j < 128) (a b : α) :
    Scalar.select (IntOp.cmpi .sge (BitVec.ofNat 32 j) (BitVec.ofNat 32 i)) a b = if i ≤ j then a else b :=
  if_congr (WordCmp.cmpi_sge_ofNat_eq_one_iff (w := 32) (by norm_num; omega) (by norm_num; omega)) rfl rfl

theorem row_apply {i : ℕ} (h : i < 128) (w : Vec F S1x8256 .f32) (x : S1x128.Idx) (y : S128x128.Idx) (h0 : (y 0).val = i) (h1 : (y 1).val = (x 1).val) :
    row h w x = full w y := by
  subst h0
  unfold row full
  rw [shapeCast_self]
  have hx : (x 1).val < 128 := (x 1).isLt
  have hy : (y 0).val < 128 := (y 0).isLt
  show Scalar.select (IntOp.cmpi .sge (iota .tc S1x128 32 [1] iota_S1x128_d1_w32 x) (BitVec.ofNat 32 (y 0).val)) _ _ = _
  rw [iota_single_apply, select_sge hy hx]
  by_cases hle : (y 0).val ≤ (y 1).val
  · rw [dif_pos hle, if_pos (h1 ▸ hle)]
    refine extractStridedSlice_apply _ w (slices h) x _ fun a => match a with
      | ⟨0, _⟩ => ?_
      | ⟨1, _⟩ => congrArg (start (y 0).val + ·) h1
    have : (x 0).val < 1 := (x 0).isLt
    show 0 = 0 + (x 0).val
    omega
  · rw [dif_neg hle, if_neg (h1 ▸ hle)]
    rfl

theorem rows_agree (w : Vec F S1x8256 .f32) : ∀ (n : ℕ) (hn : n ≤ 128), ∀ p ∈ rows w n hn, ∀ x : p.1.shape.Idx, p.2 x = full w (p.1.emb x)
  | 0, _, p, hp, _ => absurd hp List.not_mem_nil
  | n + 1, hn, p, hp, x => by
    rcases List.mem_cons.mp hp with rfl | hp
    · refine row_apply hn w x _ ?_ ?_
      · rw [Rect.emb_apply]
        have : (x 0).val < 1 := (x 0).isLt
        show n + 1 * (x 0).val = n
        omega
      · rw [Rect.emb_apply]
        show 0 + 1 * (x 1).val = (x 1).val
        omega
    · exact rows_agree w n _ p hp x

theorem rows_cover (w : Vec F S1x8256 .f32) (y : S128x128.Idx) : ∀ (n : ℕ) (hn : n ≤ 128), (y 0).val < n → ∃ p ∈ rows w n hn, y ∈ p.1.set
  | 0, _, h => absurd h (Nat.not_lt_zero _)
  | n + 1, hn, h => by
    by_cases hy : (y 0).val = n
    · refine ⟨_, List.mem_cons_self, (Rect.mem_set_unit (inb := inb hn)).mpr fun a => ?_⟩
      match a with
      | ⟨0, _⟩ => exact ⟨hy.symm.le, hy.le.trans_lt (Nat.lt_succ_self n)⟩
      | ⟨1, _⟩ => exact ⟨Nat.zero_le _, (y 1).isLt⟩
    · obtain ⟨p, hp, hy⟩ := rows_cover w y n (Nat.le_of_succ_le hn) (by omega)
      exact ⟨p, List.mem_cons_of_mem _ hp, hy⟩

/-- The matrix read back whole. -/
theorem read_back (c : Dev nD) (arg1 : Memref sig .tc .vmem S1x8256 .f32) (harg1 : arg1.IsWhole) (arg6 : Memref sig .tc .vmem S128x128 .f32)
    (x1 : Vec F S1x8256 .f32) : kernelRun0_A.sl.v1026 c arg1 harg1 arg6 x1 = full x1 := by
  unfold kernelRun0_A.sl.v1026
  rw [stores_eq]
  rw [View.readAt_eq_ld, harg1.read_unread, View.ld_unit_zero (by funext a; match a with | ⟨0, _⟩ => rfl | ⟨1, _⟩ => rfl)]
  funext y
  unfold View.readCov
  rw [View.readAt_apply, View.read_writes_apply_of_pieces _ _ (full x1) _ (rows_agree x1 128 _) _ (rows_cover x1 _ 128 _ (Fin.isLt _))]
  congr 1
  exact funext fun a => Fin.ext (match a with
    | ⟨0, _⟩ => (Nat.zero_add _).trans (Nat.one_mul _)
    | ⟨1, _⟩ => (Nat.zero_add _).trans (Nat.one_mul _))

end Cert.Strips

end
-- ==== Proof.Outputs.lean ====
/- What the weights kernel leaves in its three results, as its own operations on the three arguments. -/
module

public import proofs.«01_k».proof.Proof.Strips

@[expose] public section

set_option maxRecDepth 16384

noncomputable section

namespace Cert.Outputs

open Cert.WeightsIdeal Cert.WeightsIdeal.Gen
open Idealize.ShloMosaic Idealize.ShloMosaic.TcCoe Idealize.SL.Sem

variable {F : FTy → Type} [FloatOps F]

/-- The shifted exponentials of the nodes' logits. -/
def weight (x : Vec F S8192x128 .f32) (w : Vec F S1x8256 .f32) : FVec F S8192 .f32 :=
  k0_pay165 (k0_pay164 (Strips.full w)) x (constant S8192x128 .f32 0x00000000#32)

/-- The first result: the nodes scaled by their weights, one node a column. -/
def scaled (x : Vec F S8192x128 .f32) (w : Vec F S1x8256 .f32) : FVec F S128x8192 .f32 :=
  k0_pay1 x (weight x w) k0_pay169

/-- The second: how many nodes the graphs before each one have. -/
def starts (b : Vec F S1x8192 .i32) : IVec S1x128 32 := k0_pay168 (F := F) b

/-- The third: each graph's sum of weights. -/
def sums (x : Vec F S8192x128 .f32) (w : Vec F S1x8256 .f32) (b : Vec F S1x8192 .i32) : FVec F S1x64 .f32 :=
  k0_pay167 (k0_pay164 (Strips.full w)) x (constant S8192x128 .f32 0x00000000#32) b

section Body

variable (c : Dev nD) (arg0 : Memref sig .tc .vmem S8192x128 .f32) (harg0 : arg0.IsWhole) (arg1 : Memref sig .tc .vmem S1x8256 .f32)
  (harg1 : arg1.IsWhole) (arg2 : Memref sig .tc .vmem S1x8192 .i32) (harg2 : arg2.IsWhole) (arg3 : Memref sig .tc .vmem S128x8192 .f32)
  (harg3 : arg3.IsWhole) (arg4 : Memref sig .tc .vmem S1x128 .i32) (harg4 : arg4.IsWhole) (arg5 : Memref sig .tc .vmem S1x64 .f32)
  (harg5 : arg5.IsWhole) (arg6 : Memref sig .tc .vmem S128x128 .f32) (harg6 : arg6.IsWhole)
  (x0 : Vec F S8192x128 .f32) (x1 : Vec F S1x8256 .f32) (x2 : Vec F S1x8192 .i32)

/-- A load of all nodes. -/
theorem nodes_full : kernelRun0_A.sl.r_27 c arg0 harg0 x0 = x0 := by
  unfold kernelRun0_A.sl.r_27
  rw [View.readAt_eq_ld, harg0.read_unread]
  exact View.ld_unit_zero (by funext a; match a with | ⟨0, _⟩ => rfl | ⟨1, _⟩ => rfl) _ _

/-- A load of all graph numbers. -/
theorem batch_full :
    View.readAt (Elt F) arg2.view (Rect.unit (s := S1x8192) ![0, 0] S1x8192.size inb_S1x8192_S1x8192_0_0).toLoadRect (harg2.unread x2) = x2 := by
  rw [View.readAt_eq_ld, harg2.read_unread]
  exact View.ld_unit_zero (by funext a; match a with | ⟨0, _⟩ => rfl | ⟨1, _⟩ => rfl) _ _

theorem out_scaled : out0_A_3 c arg0 harg0 arg1 harg1 arg2 harg2 arg3 harg3 arg4 harg4 arg5 harg5 arg6 harg6 x0 x1 x2 = scaled x0 x1 := by
  unfold out0_A_3
  rw [View.read_writes_eq_canon _ _ _ (cover0_A_3 c arg0 harg0 arg1 harg1 arg2 harg2 arg3 harg3 arg4 harg4 arg5 harg5 arg6 harg6 x0 x1 x2)]
  unfold kernelRun0_A
  dsimp only
  unfold kernelRun0_A.sl.r_28 kernelRun0_A.sl.r_26
  rw [Strips.read_back, nodes_full]
  exact View.canon_cons_unit_zero (by funext a; match a with | ⟨0, _⟩ => rfl | ⟨1, _⟩ => rfl) _ _ _

theorem out_starts : out0_A_4 c arg0 harg0 arg1 harg1 arg2 harg2 arg3 harg3 arg4 harg4 arg5 harg5 arg6 harg6 x0 x1 x2 = starts (F := F) x2 := by
  unfold out0_A_4
  rw [View.read_writes_eq_canon _ _ _ (cover0_A_4 c arg0 harg0 arg1 harg1 arg2 harg2 arg3 harg3 arg4 harg4 arg5 harg5 arg6 harg6 x0 x1 x2)]
  unfold kernelRun0_A
  dsimp only
  erw [batch_full]
  exact View.canon_cons_unit_zero (by funext a; match a with | ⟨0, _⟩ => rfl | ⟨1, _⟩ => rfl) _ _ _

theorem out_sums : out0_A_5 c arg0 harg0 arg1 harg1 arg2 harg2 arg3 harg3 arg4 harg4 arg5 harg5 arg6 harg6 x0 x1 x2 = sums x0 x1 x2 := by
  unfold out0_A_5
  rw [View.read_writes_eq_canon _ _ _ (cover0_A_5 c arg0 harg0 arg1 harg1 arg2 harg2 arg3 harg3 arg4 harg4 arg5 harg5 arg6 harg6 x0 x1 x2)]
  unfold kernelRun0_A
  dsimp only
  unfold kernelRun0_A.sl.r_26
  rw [Strips.read_back, nodes_full]
  erw [batch_full]
  exact View.canon_cons_unit_zero (by funext a; match a with | ⟨0, _⟩ => rfl | ⟨1, _⟩ => rfl) _ _ _

end Body

variable (m : (ℓ : Loc nD τ sig) → Buf (Elt F) ℓ) (c : Dev nD)

theorem iblk_0 (t : Fin cfg0.N) : iblk m c 0 t = m ((c : Thread nD τ).loc main_arg0) := by
  refine funext fun (x : S8192x128.Idx) => ?_
  refine congrArg (m ((c : Thread nD τ).loc main_arg0)) (funext fun a => ?_)
  match a with
  | ⟨0, _⟩ => exact Fin.ext (by show 0 * 8192 + 1 * (x 0).val = (x 0).val; omega)
  | ⟨1, _⟩ => exact Fin.ext (by show 0 * 128 + 1 * (x 1).val = (x 1).val; omega)

theorem iblk_1 (t : Fin cfg0.N) : iblk m c 1 t = m ((c : Thread nD τ).loc main_arg1) := by
  refine funext fun (x : S1x8256.Idx) => ?_
  refine congrArg (m ((c : Thread nD τ).loc main_arg1)) (funext fun a => ?_)
  match a with
  | ⟨0, _⟩ => exact Fin.ext (by show 0 * 1 + 1 * (x 0).val = (x 0).val; omega)
  | ⟨1, _⟩ => exact Fin.ext (by show 0 * 8256 + 1 * (x 1).val = (x 1).val; omega)

theorem iblk_2 (t : Fin cfg0.N) : iblk m c 2 t = m ((c : Thread nD τ).loc main_arg2) := by
  refine funext fun (x : S1x8192.Idx) => ?_
  refine congrArg (m ((c : Thread nD τ).loc main_arg2)) (funext fun a => ?_)
  match a with
  | ⟨0, _⟩ => exact Fin.ext (by show 0 * 1 + 1 * (x 0).val = (x 0).val; omega)
  | ⟨1, _⟩ => exact Fin.ext (by show 0 * 8192 + 1 * (x 1).val = (x 1).val; omega)

/-- The one grid point. -/
def only : Fin cfg0.N := ⟨0, (by decide : 0 < grid0.N)⟩

/-- It writes each result whole. -/
theorem final_scaled : (dats m 0 c).arrAt 3 cfg0.N = scaled (m ((c : Thread nD τ).loc main_arg0)) (m ((c : Thread nD τ).loc main_arg1)) := by
  refine (dats m 0 c).arrAt_eq_of_after_last 3 only (by decide +kernel) _ fun j => ?_
  rw [after0_3]
  unfold outsAt0
  rw [out_scaled, iblk_0, iblk_1]
  rfl

theorem final_starts : (dats m 0 c).arrAt 4 cfg0.N = starts (F := F) (m ((c : Thread nD τ).loc main_arg2)) := by
  refine (dats m 0 c).arrAt_eq_of_after_last 4 only (by decide +kernel) _ fun j => ?_
  rw [after0_4]
  unfold outsAt0
  rw [out_starts, iblk_2]
  rfl

theorem final_sums : (dats m 0 c).arrAt 5 cfg0.N = sums (m ((c : Thread nD τ).loc main_arg0)) (m ((c : Thread nD τ).loc main_arg1)) (m ((c : Thread nD τ).loc main_arg2)) := by
  refine (dats m 0 c).arrAt_eq_of_after_last 5 only (by decide +kernel) _ fun j => ?_
  rw [after0_5]
  unfold outsAt0
  rw [out_sums, iblk_0, iblk_1, iblk_2]
  rfl

end Cert.Outputs

end
-- ==== Proof.Quadratic.lean ====
/- A quadratic form of finite numbers is that of its symmetrised matrix. -/
module

public import Idealize.ShloMosaic.Lib.Pointwise

@[expose] public section

namespace Cert.Quadratic

open Idealize.ShloMosaic

/-- A finite sum of real numbers, read on the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem half : Ideal.ofBits .f32 0x3F000000#32 = ((1 / 2 : ℝ) : EReal) := by
  simp [Ideal.ofBits, Ideal.ieee]
  rw [← EReal.coe_mul]
  norm_num

/-- On the reals. -/
theorem real {n : ℕ} (a : Fin n → ℝ) (B : Fin n → Fin n → ℝ) :
    ∑ j, (∑ i, a i * (1 / 2 * (B i j + B j i))) * a j = ∑ i, ∑ j, a i * a j * B i j := by
  have e : ∀ j, (∑ i, a i * (1 / 2 * (B i j + B j i))) * a j
      = ∑ i, 1 / 2 * (a i * a j * B i j) + ∑ i, 1 / 2 * (a j * a i * B j i) := fun j => by
    rw [Finset.sum_mul, ← Finset.sum_add_distrib]
    exact Finset.sum_congr rfl fun i _ => by ring
  rw [Finset.sum_congr rfl fun j _ => e j, Finset.sum_add_distrib, Finset.sum_comm, ← Finset.sum_add_distrib]
  refine Finset.sum_congr rfl fun i _ => ?_
  rw [← Finset.sum_add_distrib]
  exact Finset.sum_congr rfl fun j _ => by ring

/-- On the extended reals, of finite entries. -/
theorem symmetrised {n : ℕ} (a : Fin n → EReal) (B : Fin n → Fin n → EReal) (ha : ∀ i, a i ≠ ⊤ ∧ a i ≠ ⊥) (hB : ∀ i j, B i j ≠ ⊤ ∧ B i j ≠ ⊥) :
    ∑ j, (∑ i, a i * (Ideal.ofBits .f32 0x3F000000#32 * (B i j + B j i))) * a j = ∑ i, ∑ j, a i * a j * B i j := by
  obtain ⟨a, rfl⟩ : ∃ a' : Fin n → ℝ, a = fun i => (a' i : EReal) :=
    ⟨fun i => (a i).toReal, funext fun i => (EReal.coe_toReal (ha i).1 (ha i).2).symm⟩
  obtain ⟨B, rfl⟩ : ∃ B' : Fin n → Fin n → ℝ, B = fun i j => (B' i j : EReal) :=
    ⟨fun i j => (B i j).toReal, funext fun i => funext fun j => (EReal.coe_toReal (hB i j).1 (hB i j).2).symm⟩
  rw [half]
  simp only [← EReal.coe_add, ← EReal.coe_mul, ← coe_sum]
  rw [real]

end Cert.Quadratic
-- ==== Proof.Counts.lean ====
/- Where each graph's nodes begin: the kernel's sums of counts, taken on the reals and rounded, are the reference's on integers. -/
module

public import proofs.«01_k».proof.Proof.Outputs
public import proofs.«01_k».proof.Proof.Quadratic
public import proofs.«01_k».proof.Proof.Gen.WeightsReferenceIdeal.Read
public import Idealize.ShloMosaic.Lib.WordArith
public import Idealize.ShloMosaic.Lib.IndicatorCount
public import Idealize.ShloMosaic.Lib.StableHlo.Predicate
public import Idealize.ShloMosaic.Lib.Pointwise

@[expose] public section

set_option maxRecDepth 16384

noncomputable section

namespace Cert.Counts

open Cert.WeightsIdeal Cert.WeightsIdeal.Gen
open Cert.WeightsReferenceIdeal.Read
open Idealize.ShloMosaic Idealize.ShloMosaic.TcCoe

/-- A whole number rounds to itself … -/
theorem round_int (k : ℤ) : Ideal.liftRound Ideal.roundHalfEven ((k : ℝ) : EReal) = ((k : ℝ) : EReal) := by
  rw [Ideal.liftRound_coe]
  unfold Ideal.roundHalfEven
  simp

/-- … and one in range is its word. -/
theorem word_nat {k : ℕ} (h : k < 2 ^ 31) : Ideal.fptosi 32 (((k : ℤ) : ℝ) : EReal) = BitVec.ofNat 32 k := by
  unfold Ideal.fptosi
  rw [Ideal.toIntClamped_coe, if_pos (by positivity), Int.floor_intCast]
  rw [max_eq_right, min_eq_right]
  · exact BitVec.ofInt_natCast ..
  all_goals norm_num
  all_goals omega

/-- Adding up numbers as words. -/
theorem fold_ofNat {ι : Type} (s : Finset ι) (f : ι → ℕ) :
    s.fold IntOp.addi 0#32 (fun i => BitVec.ofNat 32 (f i)) = BitVec.ofNat 32 (∑ i ∈ s, f i) := by
  classical
  induction s using Finset.induction_on with
  | empty => rfl
  | insert a s h ih => rw [Finset.fold_insert h, Finset.sum_insert h, ih, BitVec.ofNat_add]; rfl

variable (b : IVec S1x8192 32)

/-- The nodes of graph `g`. -/
def count (g : Fin 64) : ℕ := (Finset.univ.filter fun n : Fin 8192 => IntOp.cmpi .eq (b (ix2 0 n)) (BitVec.ofNat 32 g.val) = 1#1).card

theorem eq_word {p q : BitVec 32} (h : IntOp.cmpi .eq p q = 1#1) : p = q := by
  unfold IntOp.cmpi at h
  exact eq_of_beq ((WordArith.ofBool_eq_one_iff _).mp h)

/-- No node is in two graphs. -/
theorem count_sum : ∑ g : Fin 64, count b g ≤ 8192 := by
  classical
  unfold count
  rw [← Finset.card_biUnion]
  · exact (Finset.card_le_univ _).trans (by simp)
  · intro g _ g' _ hne
    refine Finset.disjoint_left.mpr fun n h h' => hne ?_
    have e := eq_word (Finset.mem_filter.mp h).2
    have e' := eq_word (Finset.mem_filter.mp h').2
    have := congrArg BitVec.toNat (e.symm.trans e')
    simp only [BitVec.toNat_ofNat] at this
    exact Fin.ext (by omega)

theorem count_le (g : Fin 64) : count b g ≤ 8192 := (Finset.card_le_univ _).trans (by simp)

/-- Whether graph `g` comes before graph `j`. -/
def before (g : Fin 64) (j : Fin 128) : BitVec 1 := IntOp.cmpi .slt (BitVec.ofNat 32 g.val) (BitVec.ofNat 32 j.val)

/-- How many nodes the graphs before graph `j` have. -/
def start (j : Fin 128) : ℕ := ∑ g : Fin 64, if before g j = 1#1 then count b g else 0

theorem start_le (j : Fin 128) : start b j ≤ 8192 :=
  (Finset.sum_le_sum fun g _ => by split <;> omega).trans (count_sum b)

theorem kernel_start (j : Fin 128) : Outputs.starts (F := Ideal) b (ix2 0 j) = BitVec.ofNat 32 (start b j) := by
  unfold Outputs.starts k0_pay168 k0_pay166
  pointwise
  have e : ∀ g : Fin 64, Scalar.select (before g j) (FloatOps.sitofp (F := Ideal) .f32
      (Finset.fold IntOp.addi 0#32 (fun n : Fin 8192 => BitVec.setWidth 32 (IntOp.cmpi .eq (b (ix2 0 n)) (BitVec.ofNat 32 g.val))) Finset.univ) : EReal) 0
      = (((if before g j = 1#1 then count b g else 0 : ℕ) : ℝ) : EReal) := fun g => by
    rw [IndicatorCount.fold_addi_setWidth_eq_card]
    by_cases hg : before g j = 1#1
    · rw [if_pos hg, Scalar.select, if_pos (show before g j = 1 from hg)]
      show (((BitVec.ofNat 32 (count b g)).toInt : ℝ) : EReal) = _
      have := count_le b g
      rw [BitVec.toInt_eq_toNat_of_lt (by simp only [BitVec.toNat_ofNat]; omega), BitVec.toNat_ofNat, Nat.mod_eq_of_lt (by omega)]
      norm_cast
    · rw [if_neg hg, Scalar.select, if_neg (show ¬ before g j = 1 from hg)]
      simp
  refine (congrArg (fun s : EReal => Ideal.fptosi 32 (Ideal.liftRound Ideal.roundHalfEven s))
    ((Finset.sum_congr rfl fun g _ => e g).trans (Quadratic.coe_sum _ _).symm)).trans ?_
  rw [show (∑ g : Fin 64, ((if before g j = 1#1 then count b g else 0 : ℕ) : ℝ)) = (((start b j : ℕ) : ℤ) : ℝ) by unfold start; push_cast; rfl,
    round_int]
  exact word_nat ((start_le b j).trans_lt (by norm_num))

theorem reference_count (g : Fin 64) : val_main_v57 (F := Ideal) b (ix1 g) = BitVec.ofNat 32 (count b g) := by
  unfold val_main_v57 val_main_v56 val_main_v52 val_main_v50 val_main_v47 val_main_v0 val_main_v51 val_main_v49 val_main_v48
  pointwise
  exact IndicatorCount.fold_addi_setWidth_eq_card _ _

theorem reference_start (j : Fin 128) : val_main_v72 (F := Ideal) b (ix2 0 j) = BitVec.ofNat 32 (start b j) := by
  unfold val_main_v72 val_main_v67 val_main_v66 val_main_v64 val_main_v62 val_main_v63 val_main_v61 val_main_v60 val_main_v59 val_main_v58 val_main_call3_v1 val_main_v65
  pointwise
  refine (congrArg (fun f : Fin 64 → BitVec 32 => Finset.univ.fold IntOp.addi 0#32 f) (funext fun g => ?_)).trans (fold_ofNat Finset.univ _)
  rw [reference_count]
  show Scalar.select (before g j) (BitVec.ofNat 32 (count b g)) (val_main_call3_v2 (F := Ideal) (ix2 g j)) = BitVec.ofNat 32 (if before g j = 1#1 then count b g else 0)
  by_cases hg : before g j = 1#1
  · rw [if_pos hg, Scalar.select, if_pos (show before g j = 1 from hg)]
  · rw [if_neg hg, Scalar.select, if_neg (show ¬ before g j = 1 from hg)]
    rfl

/-- The second results agree. -/
theorem starts_eq : val_main_v72 (F := Ideal) b = Outputs.starts (F := Ideal) b := by
  funext y
  obtain ⟨z, j, rfl⟩ : ∃ (z : Fin 1) (j : Fin 128), y = ix2 z j := ⟨y 0, y 1, eq_ix2 y⟩
  obtain rfl : z = 0 := Subsingleton.elim _ _
  exact (reference_start b j).trans (kernel_start b j).symm

end Cert.Counts

end
-- ==== Proof.Triangle.lean ====
/- The reference takes the weight of a pair of columns from the flattened triangle by its place: the same matrix the kernel unrolls. -/
module

public import proofs.«01_k».proof.Proof.Strips
public import proofs.«01_k».proof.Proof.Triu
public import proofs.«01_k».proof.Proof.Gen.WeightsReferenceIdeal.Read
public import Idealize.ShloMosaic.Lib.Pointwise

@[expose] public section

set_option maxRecDepth 16384

noncomputable section

namespace Cert.Triangle

open Cert.WeightsReferenceIdeal Cert.WeightsReferenceIdeal.Read
open Idealize.ShloMosaic Idealize.ShloMosaic.TcCoe

variable {F : FTy → Type} [FloatOps F]

/-- The place of the pair `(a, b)` before the reference's test for a negative one. -/
def place (a b : BitVec 32) : BitVec 32 :=
  Scalar.select (IntOp.cmpi .sle a b) (IntOp.addi (IntOp.subi (IntOp.muli 128#32 a) (IntOp.shrsi .host (IntOp.muli a (IntOp.subi a 1#32)) 1#32)) (IntOp.subi b a)) 0#32

theorem place_word (i j : Fin 128) : val_main_v31 (F := F) (ix3 i j 0)
    = Scalar.select (IntOp.cmpi .slt (place (BitVec.ofNat 32 i.val) (BitVec.ofNat 32 j.val)) 0#32)
      (IntOp.addi (place (BitVec.ofNat 32 i.val) (BitVec.ofNat 32 j.val)) 8256#32) (place (BitVec.ofNat 32 i.val) (BitVec.ofNat 32 j.val)) := by
  rw [val_main_v31_apply]
  rfl

theorem place_eq : ∀ i j : Fin 128, i ≤ j →
    (Scalar.select (IntOp.cmpi .slt (place (BitVec.ofNat 32 i.val) (BitVec.ofNat 32 j.val)) 0#32)
      (IntOp.addi (place (BitVec.ofNat 32 i.val) (BitVec.ofNat 32 j.val)) 8256#32) (place (BitVec.ofNat 32 i.val) (BitVec.ofNat 32 j.val))).toInt.toNat
      = Strips.start i.val + j.val := by
  decide +kernel

theorem word_eq (i j : Fin 128) (h : i ≤ j) : (BitVec.toInt (val_main_v31 (F := F) (ix3 i j 0))).toNat = Strips.start i.val + j.val :=
  (congrArg (fun b : BitVec 32 => b.toInt.toNat) (place_word i j)).trans (place_eq i j h)

abbrev gd := gather_S8256_S128x128x1_S128x128_n_0_n_n_0_2_1

/-- Entries of a vector, taken at a word each. -/
theorem take_apply {α : Type} (y : S8256.Idx → α) (idx : IVec S128x128x1 32) (i j : Fin 128) :
    Host.gather gd y idx (ix2 i j) = y (ix1 ⟨min (idx (ix3 i j 0)).toInt.toNat 8255, by omega⟩) := by
  unfold Host.gather
  congr 1
  funext a
  refine Fin.ext ?_
  have h0 : a = 0 := by
    match a with
    | ⟨0, _⟩ => rfl
  subst h0
  rw [Triu.operand_start _ _ _ _ (by decide) (by decide)]
  unfold GatherDims.start
  rw [dif_pos (by decide)]
  have hs : ∀ k, gd.siIdx (ix2 i j) k = ix3 i j 0 := by
    intro k
    funext c; refine Fin.ext ?_
    match c with
    | ⟨0, _⟩ => rfl
    | ⟨1, _⟩ => rfl
    | ⟨2, _⟩ => exact Nat.lt_one_iff.1 (Fin.isLt _)
  rw [hs]
  rfl

theorem triangle_eq (w : FVec F S1x8256 .f32) (i j : Fin 128) : val_main_v33 (F := F) w (ix2 i j) = Strips.full w (ix2 i j) := by
  unfold val_main_v33
  have hc : val_main_v20 (F := F) (ix2 i j) = IntOp.cmpi .sle (BitVec.ofNat 32 i.val) (BitVec.ofNat 32 j.val) := rfl
  have hi := i.isLt
  have hj := j.isLt
  show Scalar.select (val_main_v20 (F := F) (ix2 i j)) (val_main_v32 (F := F) w (ix2 i j)) _ = _
  rw [hc]
  show Scalar.select (IntOp.cmpi .sge (BitVec.ofNat 32 j.val) (BitVec.ofNat 32 i.val)) _ _ = _
  rw [Strips.select_sge hi hj]
  unfold Strips.full
  by_cases h : i.val ≤ j.val
  · rw [if_pos h, dif_pos (show ((ix2 i j : S128x128.Idx) 0).val ≤ ((ix2 i j : S128x128.Idx) 1).val from h)]
    unfold val_main_v32
    rw [take_apply]
    have e := Strips.start_le hi
    have hp := word_eq (F := F) i j h
    rw [val_main_v21_apply]
    refine congrArg w (funext fun a => Fin.ext ?_)
    match a with
    | ⟨0, _⟩ => rfl
    | ⟨1, _⟩ =>
      show min (BitVec.toInt (val_main_v31 (F := F) (ix3 i j 0))).toNat 8255 % 8256 = Strips.start i.val + j.val
      rw [hp]
      omega
  · rw [if_neg h, dif_neg (show ¬ ((ix2 i j : S128x128.Idx) 0).val ≤ ((ix2 i j : S128x128.Idx) 1).val from h)]
    rfl

end Cert.Triangle

end
-- ==== Proof.Logits.lean ====
/- The two programs' weights of the nodes agree, of finite arguments: the kernel's logits are quadratic forms of the symmetrised triangle. -/
module

public import proofs.«01_k».proof.Proof.Outputs
public import proofs.«01_k».proof.Proof.Triangle
public import proofs.«01_k».proof.Proof.Quadratic
public import proofs.«01_k».proof.Proof.Newton

@[expose] public section

set_option maxRecDepth 16384

noncomputable section

namespace Cert.Logits

open Cert.WeightsIdeal Cert.WeightsIdeal.Gen
open Cert.WeightsReferenceIdeal.Read
open Idealize.ShloMosaic Idealize.ShloMosaic.TcCoe

/-- All entries are real numbers. -/
def Finite {s : Shape} (x : FVec Ideal s .f32) : Prop := ∀ i, (x i : EReal) ≠ ⊤ ∧ (x i : EReal) ≠ ⊥

theorem finite_full {w : FVec Ideal S1x8256 .f32} (hw : Finite w) : Finite (Strips.full (F := Ideal) w) := fun y => by
  unfold Strips.full
  split
  · exact hw _
  · show Ideal.ofBits .f32 0x00000000#32 ≠ ⊤ ∧ Ideal.ofBits .f32 0x00000000#32 ≠ ⊥
    rw [Ideal.ofBits_zero_f32]
    exact ⟨EReal.zero_ne_top, EReal.zero_ne_bot⟩

variable (x : FVec Ideal S8192x128 .f32) (w : FVec Ideal S1x8256 .f32)

/-- A node's logit, by the kernel. -/
def logit (x : FVec Ideal S8192x128 .f32) (w : FVec Ideal S1x8256 .f32) (n : Fin 8192) : EReal :=
  ∑ j : Fin 128, (∑ i : Fin 128, x (ix2 n i) * k0_pay164 (F := Ideal) (Strips.full (F := Ideal) w) (ix2 i j)) * x (ix2 n j)

theorem half_apply (i j : Fin 128) : k0_pay164 (F := Ideal) (Strips.full (F := Ideal) w) (ix2 i j)
    = (Ideal.ofBits .f32 0x3F000000#32 * (Strips.full (F := Ideal) w (ix2 i j) + Strips.full (F := Ideal) w (ix2 j i)) : EReal) := by
  unfold k0_pay164
  pointwise

theorem product_apply (n : Fin 8192) (i j : Fin 128) : val_main_v41 (F := Ideal) x w (ix3 n i j)
    = (x (ix2 n i) * x (ix2 n j) * Strips.full (F := Ideal) w (ix2 i j) : EReal) := by
  rw [← Triangle.triangle_eq]
  rw [val_main_v41_apply, val_main_v38_apply, val_main_v36_apply, val_main_v34_apply, val_main_v37_apply, val_main_v35_apply, val_main_v40_apply, val_main_v39_apply]
  refine congrArg₂ (fun p q : EReal => p * q) (congrArg₂ (fun p q : EReal => p * q) (congrArg x ?_) (congrArg x ?_))
    (congrArg (val_main_v33 (F := Ideal) w) ?_) <;> exact funext fun a => match a with
    | ⟨0, _⟩ => rfl
    | ⟨1, _⟩ => rfl

theorem logit_eq (hx : Finite x) (hw : Finite w) (n : Fin 8192) : val_main_v42 (F := Ideal) x w (ix1 n) = logit x w n := by
  unfold logit
  simp only [half_apply]
  rw [Quadratic.symmetrised (fun i => x (ix2 n i)) (fun i j => Strips.full (F := Ideal) w (ix2 i j)) (fun i => hx _) (fun i j => finite_full hw _)]
  unfold val_main_v42
  pointwise
  simp only [product_apply]
  exact (congrArg (· + _) Ideal.ofBits_zero_f32).trans (zero_add _)

theorem weight_apply (n : Fin 8192) : Outputs.weight (F := Ideal) x w (ix1 n)
    = Ideal.exp (logit x w n - Finset.fold max (Ideal.ofBits .f32 4286578688#32) (fun k => logit x w k) Finset.univ) := by
  unfold Outputs.weight k0_pay165
  pointwise
  rfl

theorem weight_eq (hx : Finite x) (hw : Finite w) (n : Fin 8192) : val_main_v46 (F := Ideal) x w (ix1 n) = Outputs.weight (F := Ideal) x w (ix1 n) := by
  rw [weight_apply]
  unfold val_main_v46 val_main_v45 val_main_v44 val_main_v43
  pointwise
  simp only [logit_eq x w hx hw]
  rfl

/-- The first results agree … -/
theorem scaled_eq (hx : Finite x) (hw : Finite w) : val_main_v71 (F := Ideal) x w = Outputs.scaled (F := Ideal) x w := by
  funext y
  obtain ⟨i, n, rfl⟩ : ∃ (i : Fin 128) (n : Fin 8192), y = ix2 i n := ⟨y 0, y 1, eq_ix2 y⟩
  unfold Outputs.scaled k0_pay1 k0_pay169
  pointwise
  have e : ∀ k : Fin 128, (FloatOps.sitofp (F := Ideal) .f32 (BitVec.setWidth 32
      (IntOp.cmpi .eq (IntOp.addi (BitVec.ofNat 32 i.val) 0#32) (BitVec.ofNat 32 k.val))) : EReal) = if i = k then 1 else 0 := fun k => by
    rw [Newton.word_eq]
    split
    · exact (by simp : ((((1 : ℤ) : ℝ)) : EReal) = 1)
    · exact (by simp : ((((0 : ℤ) : ℝ)) : EReal) = 0)
  rw [Finset.sum_congr rfl fun k _ => congrArg (· * x (ix2 n k)) (e k), Finset.sum_congr rfl fun k _ => ite_mul _ _ _ _]
  simp only [one_mul, zero_mul, Finset.sum_ite_eq, Finset.mem_univ, if_true]
  rw [← weight_eq x w hx hw, val_main_v71_apply, val_main_v70_apply, val_main_v69_apply, val_main_v68_apply]
  exact congrArg₂ (fun p q : EReal => p * q)
    (congrArg x (funext fun a => match a with
      | ⟨0, _⟩ => rfl
      | ⟨1, _⟩ => rfl))
    (congrArg (val_main_v46 (F := Ideal) x w) (funext fun a => match a with
      | ⟨0, _⟩ => rfl))

theorem masked_apply (b : IVec S1x8192 32) (g : Fin 64) (n : Fin 8192) : val_main_v54 (F := Ideal) x w b (ix2 g n)
    = Scalar.select (IntOp.cmpi .eq (b (ix2 0 n)) (BitVec.ofNat 32 g.val)) (val_main_v46 (F := Ideal) x w (ix1 n)) (0 : EReal) := by
  unfold val_main_v54 val_main_v52 val_main_v50 val_main_v47 val_main_v0 val_main_v51 val_main_v49 val_main_v48
    val_main_call2_v1 val_main_v53 val_main_call2_v2 val_main_call2_v0 val_main_cst_7
  pointwise
  exact congrArg (Scalar.select _ _) Ideal.ofBits_zero_f32

/-- … and so do the third. -/
theorem sums_eq (hx : Finite x) (hw : Finite w) (b : IVec S1x8192 32) : val_main_v73 (F := Ideal) x w b = Outputs.sums (F := Ideal) x w b := by
  funext y
  obtain ⟨z, g, rfl⟩ : ∃ (z : Fin 1) (g : Fin 64), y = ix2 z g := ⟨y 0, y 1, eq_ix2 y⟩
  obtain rfl : z = 0 := Subsingleton.elim _ _
  rw [val_main_v73_apply, val_main_v55_apply]
  unfold Outputs.sums k0_pay167 k0_pay166
  pointwise
  refine (congrArg (· + _) Ideal.ofBits_zero_f32).trans ((zero_add _).trans (Finset.sum_congr rfl fun n _ => ?_))
  have e : idx_main_v55 (idx_main_v73 (ix2 0 g)) n = ix2 g n := funext fun a => match a with
    | ⟨0, _⟩ => Fin.ext (by show 0 * 64 + g.val = g.val; omega)
    | ⟨1, _⟩ => rfl
  rw [e, masked_apply, weight_eq x w hx hw]
  rfl

end Cert.Logits

end
-- ==== Proof.WeightsAlgebraic.lean ====
/- The value claim of the weights kernel: on finite arguments its run and its reference's end with the same three results. -/
module

public import proofs.«01_k».proof.Defs
public import proofs.«01_k».proof.Proof.Counts
public import proofs.«01_k».proof.Proof.Logits
public import proofs.«01_k».proof.Proof.Words
public import proofs.«01_k».proof.Proof.Gen.WeightsIdeal.Value
public import Idealize.ShloMosaic.Lib.ReduceAll

@[expose] public section

set_option maxRecDepth 16384

noncomputable section

namespace Cert.WeightsAlgebraic

open Idealize.ShloMosaic Idealize.ShloMosaic.TcCoe Idealize.SL.Sem
open Cert.WeightsIdeal Cert.WeightsIdeal.Gen

/-- The shape relations the precondition states. -/
theorem preFacts : Pre_finite.Facts := by
  constructor <;> decide

attribute [local instance] preFacts

/-- The single-precision infinity is the top of the extended reals. -/
theorem infinity : Ideal.ofBits .f32 0x7F800000#32 = ⊤ := by
  simp [Ideal.ofBits, Ideal.ieee]

/-- What it says of a number to have a size below infinity. -/
theorem real_of_abs {v : EReal} (h : Ideal.cmp .olt (max v (-v)) (Ideal.ofBits .f32 0x7F800000#32) = 1#1) : v ≠ ⊤ ∧ v ≠ ⊥ := by
  rw [infinity] at h
  constructor <;> rintro rfl <;> simp [Ideal.cmp] at h

/-- The precondition read off: nodes and weights are real numbers. -/
theorem decode {x : FVec Ideal S8192x128 .f32} {w : FVec Ideal S1x8256 .f32} {b : IVec S1x8192 32}
    (h : ∀ y, Pre_finite.fn x w b y = 1#1) : Logits.Finite x ∧ Logits.Finite w := by
  obtain ⟨h1, h2⟩ := IntOp.andi_eq_one.mp (h ix0)
  exact ⟨fun i => real_of_abs (Host.reduce_andi_all _ _ _ _ _ h1 i), fun i => real_of_abs (Host.reduce_andi_all _ _ _ _ _ h2 i)⟩

theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = Outputs.scaled (F := Ideal) (m ((c : Thread nD τ).loc main_arg0)) (m ((c : Thread nD τ).loc main_arg1))
      ∧ r.2.mem ((c.tc : Thread nD τ).loc main_v0_1) = Outputs.starts (F := Ideal) (m ((c : Thread nD τ).loc main_arg2))
      ∧ r.2.mem ((c.tc : Thread nD τ).loc main_v0_2)
        = Outputs.sums (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Outputs.final_scaled m c), (h c).2.1.trans (Outputs.final_starts m c),
    (h c).2.2.1.trans (Outputs.final_sums m c), (h c).2.2.2⟩) (Value.run_blocks m ρ)

theorem algebraic : algebraic_WeightsIdeal_WeightsReferenceIdeal_pre_finite := by
  intro m ρ m' ρ' h same
  refine ⟨_, _, _, kernel_run m ρ, (θ_run WeightsReferenceIdeal.defs _ _).mono (fun _ r c => ?_) (WeightsReferenceIdeal.Value.run (F := Ideal) m' ρ')⟩
  obtain ⟨hx, hw⟩ := decode fun y => congrFun (h c) y
  obtain ⟨e0, e1, e2⟩ := same c
  refine ⟨(r c).1.trans ?_, (r c).2.1.trans ?_, (r c).2.2.1.trans ?_, (r c).2.2.2⟩
  · rw [WeightsReferenceIdeal.Read.val_main_v71_eq, e0, e1]
    exact Logits.scaled_eq _ _ hx hw
  · rw [WeightsReferenceIdeal.Read.val_main_v72_eq, e2]
    exact Counts.starts_eq _
  · rw [WeightsReferenceIdeal.Read.val_main_v73_eq, e0, e1, e2]
    exact Logits.sums_eq _ _ hx hw _

end Cert.WeightsAlgebraic

end
-- ==== Proof.Sorted.lean ====
/- What the precondition of the whole kernel says, and the integer side of it: sorted graph numbers are cut into the graphs by
   the node counts that the first call sums up. -/
module

public import proofs.«01_k».proof.Proof.WeightsAlgebraic
public import proofs.«01_k».proof.Proof.Algebraic

@[expose] public section

set_option maxRecDepth 16384

noncomputable section

namespace Cert.Sorted

open Idealize.ShloMosaic Idealize.ShloMosaic.TcCoe
open Idealize.ShloMosaic.WordArith

/-- The shape relations the precondition states. -/
theorem preFacts : Pre_sorted_and_sums.Facts := by
  constructor <;> decide

attribute [local instance] preFacts Words.preFacts

section Decode

open Pre_sorted_and_sums

/-- Whether a node is in a graph. -/
def mask (n : IVec S8192 32) : IVec S64x8192 1 :=
  cmpi .eq (broadcastInDim S64x8192 ![0, 1] Facts.bcast_S1x8192_S64x8192_0_1 (broadcastInDim S1x8192 ![1] Facts.bcast_S8192_S1x8192_1 n))
    (broadcastInDim S64x8192 ![0, 1] Facts.bcast_S64x1_S64x8192_0_1 (broadcastInDim S64x1 ![0] Facts.bcast_S64_S64x1_0 (iotaInDim S64 32 0)))

/-- The sums of the weights `e` over the graphs. -/
def total (e : FVec Ideal S8192 .f32) (n : IVec S8192 32) : FVec Ideal S64 .f32 :=
  Host.reduceAdd (fn_where_1 (mask n) (broadcastInDim S1x8192 ![1] Facts.bcast_S8192_S1x8192_1 e) (constant S_ .f32 0x00000000#32))
    (constant S_ .f32 0x00000000#32) Facts.reducesTo_S64x8192_S64_d1 Facts.h_S_

theorem mask_apply (n : IVec S8192 32) (g : Fin 64) (k : Fin 8192) : mask n (ix2 g k) = IntOp.cmpi .eq (n (ix1 k)) (BitVec.ofNat 32 g.val) := by
  unfold mask
  pointwise

theorem total_apply (e : FVec Ideal S8192 .f32) (n : IVec S8192 32) (g : Fin 64) : total e n (ix1 g)
    = (∑ k : Fin 8192, Scalar.select (IntOp.cmpi .eq (n (ix1 k)) (BitVec.ofNat 32 g.val)) (e (ix1 k)) (0 : EReal) : EReal) := by
  unfold total fn_where_1
  pointwise
  refine Finset.sum_congr rfl fun k _ => ?_
  rw [mask_apply]
  exact congrArg (Scalar.select _ _) Ideal.ofBits_zero_f32

theorem column_apply (v : FVec Ideal S64 .f32) (g : Fin 64) (k : Fin 8192) :
    broadcastInDim S64x8192 ![0, 1] Facts.bcast_S64x1_S64x8192_0_1
      (cmpf .oge (broadcastInDim S64x1 ![0] Facts.bcast_S64_S64x1_0 v) (broadcastInDim S64x1 ![] Facts.bcast_S_S64x1 (constant (F := Ideal) S_ .f32 0x0DA24260#32))) (ix2 g k)
      = Ideal.cmp .oge (v (ix1 g)) (Ideal.ofBits .f32 0x0DA24260#32) := by
  pointwise

/-- The precondition read off: finite numbers, sorted graph numbers that are not negative, and no sum of a graph with nodes too small. -/
theorem decode {x : FVec Ideal S8192x128 .f32} {w : FVec Ideal S8256x1 .f32} {b : FVec Ideal S1 .f32} {n : IVec S8192 32} {e : IVec S2x131072 32}
    (h : ∀ y, Pre_sorted_and_sums.fn x w b n e y = 1#1) :
    Logits.Finite x ∧ Logits.Finite w ∧ Logits.Finite b
      ∧ (∀ k : Fin 8191, (n (ix1 k.castSucc)).toInt ≤ (n (ix1 k.succ)).toInt) ∧ (∀ k : Fin 8192, 0 ≤ (n (ix1 k)).toInt)
      ∧ ∀ (g : Fin 64) (k : Fin 8192), n (ix1 k) = BitVec.ofNat 32 g.val →
        Ideal.ofBits .f32 0x0DA24260#32
          ≤ (total (WeightsReferenceIdeal.Read.val_main_v46 (F := Ideal) x (shapeCast S1x8256 w Facts.shapeCasts_S8256x1_S1x8256)) n (ix1 g) : EReal) := by
  obtain ⟨h78, h85⟩ := IntOp.andi_eq_one.mp (h ix0)
  obtain ⟨h74, h77⟩ := IntOp.andi_eq_one.mp h78
  obtain ⟨h69, h73⟩ := IntOp.andi_eq_one.mp h74
  obtain ⟨h64, h68⟩ := IntOp.andi_eq_one.mp h69
  obtain ⟨h59, h63⟩ := IntOp.andi_eq_one.mp h64
  refine ⟨fun i => WeightsAlgebraic.real_of_abs (Host.reduce_andi_all _ _ _ _ _ h59 i),
    fun i => WeightsAlgebraic.real_of_abs (Host.reduce_andi_all _ _ _ _ _ h63 i),
    fun i => WeightsAlgebraic.real_of_abs (Host.reduce_andi_all _ _ _ _ _ h68 i), fun k => ?_, fun k => ?_, fun g k hk => ?_⟩
  · have q : IntOp.cmpi .sle (extractStridedSlice S8191 ![0] n Facts.slices_S8192_S8191_0 (ix1 k)) (extractStridedSlice S8191 ![1] n Facts.slices_S8192_S8191_1 (ix1 k)) = 1#1 :=
      Host.reduce_andi_all _ _ _ _ _ h73 (ix1 k)
    rw [show extractStridedSlice S8191 ![0] n Facts.slices_S8192_S8191_0 (ix1 k) = n (ix1 k.castSucc) from
        congrArg n (funext fun a => match a with | ⟨0, _⟩ => Fin.ext (Nat.zero_add _)),
      show extractStridedSlice S8191 ![1] n Facts.slices_S8192_S8191_1 (ix1 k) = n (ix1 k.succ) from
        congrArg n (funext fun a => match a with | ⟨0, _⟩ => Fin.ext (Nat.add_comm _ _))] at q
    simpa only [IntOp.cmpi, ofBool_eq_one_iff, BitVec.sle_iff_toInt_le] using q
  · have q : IntOp.cmpi .sge (n (ix1 k)) 0#32 = 1#1 := Host.reduce_andi_all _ _ _ _ _ h77 (ix1 k)
    simpa only [IntOp.cmpi, ofBool_eq_one_iff, BitVec.sle_iff_toInt_le, BitVec.toInt_zero] using q
  · have q : IntOp.ori (~~~(mask n (ix2 g k))) (broadcastInDim S64x8192 ![0, 1] Facts.bcast_S64x1_S64x8192_0_1
        (cmpf .oge (broadcastInDim S64x1 ![0] Facts.bcast_S64_S64x1_0
          (total (WeightsReferenceIdeal.Read.val_main_v46 (F := Ideal) x (shapeCast S1x8256 w Facts.shapeCasts_S8256x1_S1x8256)) n))
          (broadcastInDim S64x1 ![] Facts.bcast_S_S64x1 (constant (F := Ideal) S_ .f32 0x0DA24260#32))) (ix2 g k)) = 1#1 :=
      Host.reduce_andi_all _ _ _ _ _ h85 (ix2 g k)
    rw [Words.ori_noti_one, mask_apply, column_apply] at q
    exact Algebraic.le_of_oge (q (by rw [hk]; simp [IntOp.cmpi]))

end Decode

section Cut

/-- Below a bound, a rising sequence has exactly its first members. -/
theorem first_members {f : Fin 8192 → ℕ} (hf : Monotone f) (j : ℕ) (k : Fin 8192) :
    f k < j ↔ k.val < (Finset.univ.filter fun i : Fin 8192 => f i < j).card := by
  constructor <;> intro h
  · have s : Finset.Iic k ⊆ Finset.univ.filter fun i : Fin 8192 => f i < j := fun i hi =>
      Finset.mem_filter.mpr ⟨Finset.mem_univ _, (hf (Finset.mem_Iic.mp hi)).trans_lt h⟩
    have := Finset.card_le_card s
    rw [Fin.card_Iic] at this
    omega
  · by_contra hn
    have s : (Finset.univ.filter fun i : Fin 8192 => f i < j) ⊆ Finset.Iio k := fun i hi =>
      Finset.mem_Iio.mpr (lt_of_not_ge fun hk => hn ((hf hk).trans_lt (Finset.mem_filter.mp hi).2))
    have := Finset.card_le_card s
    rw [Fin.card_Iio] at this
    omega

variable (b : IVec ⟨2, ![1, 8192]⟩ 32)

theorem eq_iff {g : ℕ} (hg : g < 64) (p : BitVec 32) : IntOp.cmpi .eq p (BitVec.ofNat 32 g) = 1#1 ↔ p.toNat = g := by
  unfold IntOp.cmpi
  rw [ofBool_eq_one_iff, beq_iff_eq]
  constructor
  · rintro rfl
    rw [BitVec.toNat_ofNat]; omega
  · intro h
    exact BitVec.eq_of_toNat_eq (by rw [BitVec.toNat_ofNat]; omega)

theorem before_iff (g : Fin 64) (j : Fin 128) : Counts.before g j = 1#1 ↔ g.val < j.val := by
  unfold Counts.before IntOp.cmpi
  rw [ofBool_eq_one_iff, BitVec.slt_iff_toInt_lt, toInt_ofNat_small _ (by omega), toInt_ofNat_small _ (by omega)]
  omega

/-- A graph starts after all nodes of lower numbers. -/
theorem start_eq (j : Fin 128) (hj : j.val ≤ 64) : Counts.start b j = (Finset.univ.filter fun k : Fin 8192 => (b (ix2 0 k)).toNat < j.val).card := by
  unfold Counts.start Counts.count
  simp only [before_iff, Finset.card_filter, eq_iff (Fin.isLt _)]
  rw [Finset.sum_congr rfl fun (g : Fin 64) _ =>
    show (if g.val < j.val then ∑ k : Fin 8192, (if (b (ix2 0 k)).toNat = g.val then 1 else 0) else 0)
      = ∑ k : Fin 8192, (if g.val < j.val then (if (b (ix2 0 k)).toNat = g.val then 1 else 0) else 0) by split <;> simp, Finset.sum_comm]
  refine Finset.sum_congr rfl fun k _ => ?_
  by_cases h : (b (ix2 0 k)).toNat < j.val
  · rw [if_pos h, Finset.sum_eq_single (⟨(b (ix2 0 k)).toNat, by omega⟩ : Fin 64)]
    · rw [if_pos h, if_pos rfl]
    · intro g _ hg
      split
      · exact if_neg fun e => hg (Fin.ext e.symm)
      · rfl
    · exact fun hn => (hn (Finset.mem_univ _)).elim
  · rw [if_neg h]
    refine Finset.sum_eq_zero fun g _ => ?_
    split
    · exact if_neg fun e => h (by omega)
    · rfl

/-- The starts as words are the starts, … -/
theorem word_start {s : IVec ⟨1, ![65]⟩ 32} (e : ∀ j : Fin 65, s (ix1 j) = BitVec.ofNat 32 (Counts.start b ⟨j.val, by omega⟩)) (j : Fin 65) :
    (s (ix1 j)).toInt = Counts.start b ⟨j.val, by omega⟩ := by
  have := Counts.start_le b ⟨j.val, by omega⟩
  rw [e, toInt_ofNat_small _ (by omega)]

/-- … and they lie in order between 0 and 8192, whatever the graph numbers are. -/
theorem bounds (s : IVec ⟨1, ![65]⟩ 32) (e : ∀ j : Fin 65, s (ix1 j) = BitVec.ofNat 32 (Counts.start b ⟨j.val, by omega⟩)) (g : Fin 64) :
    Words.Bounds (s (ix1 g.castSucc)) (s (ix1 g.succ)) := by
  have rise : Counts.start b ⟨g.castSucc.val, by omega⟩ ≤ Counts.start b ⟨g.succ.val, by omega⟩ := by
    rw [start_eq b _ (by show g.val ≤ 64; omega), start_eq b _ (by show g.val + 1 ≤ 64; omega)]
    refine Finset.card_le_card fun k hk => ?_
    have := (Finset.mem_filter.mp hk).2
    refine Finset.mem_filter.mpr ⟨Finset.mem_univ _, this.trans ?_⟩
    exact Nat.lt_succ_self g.val
  refine ⟨?_, ?_, ?_⟩
  · rw [word_start b e]; exact Int.natCast_nonneg _
  · rw [word_start b e, word_start b e]; exact_mod_cast rise
  · rw [word_start b e]; exact_mod_cast Counts.start_le b _

/-- The starts cut sorted graph numbers into the graphs. -/
theorem segs (hs : ∀ k : Fin 8191, (b (ix2 0 k.castSucc)).toInt ≤ (b (ix2 0 k.succ)).toInt) (h0 : ∀ k : Fin 8192, 0 ≤ (b (ix2 0 k)).toInt)
    (s : IVec ⟨1, ![65]⟩ 32) (e : ∀ j : Fin 65, s (ix1 j) = BitVec.ofNat 32 (Counts.start b ⟨j.val, by omega⟩)) : Words.Segs s b := by
  have nat (k : Fin 8192) : (b (ix2 0 k)).toInt = (b (ix2 0 k)).toNat := by
    have := h0 k
    rw [BitVec.toInt_eq_toNat_cond] at this ⊢
    have := (b (ix2 0 k)).isLt
    split <;> [rfl; omega]
  have mono : Monotone fun k : Fin 8192 => (b (ix2 0 k)).toNat := by
    refine (Fin.monotone_iff_le_succ (n := 8191)).mpr fun k => ?_
    have := hs k
    rw [nat, nat] at this
    exact_mod_cast this
  have cut (j : Fin 65) (k : Fin 8192) : (b (ix2 0 k)).toNat < j.val ↔ k.val < Counts.start b ⟨j.val, by omega⟩ := by
    rw [start_eq b _ (by show j.val ≤ 64; omega)]
    exact first_members mono j.val k
  refine fun g => ⟨bounds b s e g, fun k => ?_⟩
  show b (ix2 0 k) = BitVec.ofNat 32 g.val ↔ (s (ix1 g.castSucc)).toInt ≤ k.val ∧ (k.val : Int) < (s (ix1 g.succ)).toInt
  rw [word_start b e, word_start b e]
  have c0 := cut g.castSucc k
  have c1 := cut g.succ k
  have q := eq_iff g.isLt (b (ix2 0 k))
  unfold IntOp.cmpi at q
  rw [ofBool_eq_one_iff, beq_iff_eq] at q
  rw [q]
  simp only [Fin.val_castSucc, Fin.val_succ] at c0 c1 ⊢
  omega

end Cut

end Cert.Sorted

end
-- ==== Proof.WholeReference.lean ====
/- The reference of the whole kernel ends as the pooling call's reference does, from its own weighted rows and sums. -/
module

public import proofs.«01_k».proof.Proof.Gen.WholeReferenceIdeal.Read
public import proofs.«01_k».proof.Proof.Gen.ReferenceIdeal.Read

@[expose] public section

set_option maxRecDepth 8192

noncomputable section

namespace Cert.WholeReference

open Idealize.ShloMosaic Idealize.ShloMosaic.TcCoe
open Cert.WholeReferenceIdeal
open Cert.WholeReferenceIdeal.Read

variable {F : FTy → Type} [FloatOps F]
variable (x : FVec F S8192x128 .f32) (w : FVec F S8256x1 .f32) (b : FVec F S1 .f32) (n : IVec S8192 32)

theorem pooled_eq : val_main_v103 (F := F) x w b n
    = ReferenceIdeal.Read.val_main_v31 (F := F) (val_main_v69 x w b n) x (val_main_v70 (F := F) n) (val_main_v71 x w b n) := rfl

theorem final_eq : val_main_v203 (F := F) x w b n
    = ReferenceIdeal.Read.val_main_v131 (F := F) (val_main_v69 x w b n) x (val_main_v70 (F := F) n) (val_main_v71 x w b n) := rfl

end Cert.WholeReference

end
-- ==== Proof.Shares.lean ====
/- The shares of the nodes in their graphs' sums are the same in the whole kernel and in its reference: the kernel shifts all
   logits by their greatest one, the reference adds the bias and shifts by the greatest of the node's graph. -/
module

public import proofs.«01_k».proof.Proof.Sorted
public import proofs.«01_k».proof.Proof.WholeReference

@[expose] public section

set_option maxRecDepth 16384

noncomputable section

namespace Cert.Shares

open Idealize.ShloMosaic Idealize.ShloMosaic.TcCoe
open Cert.WholeReferenceIdeal Cert.WholeReferenceIdeal.Gen Cert.WholeReferenceIdeal.Read

/-! ## Real numbers among the extended ones -/

theorem real_mul {u v : EReal} : (∃ r : ℝ, u = r) → (∃ r : ℝ, v = r) → ∃ r : ℝ, u * v = r := by
  rintro ⟨p, rfl⟩ ⟨q, rfl⟩
  exact ⟨p * q, (EReal.coe_mul p q).symm⟩

theorem real_add {u v : EReal} : (∃ r : ℝ, u = r) → (∃ r : ℝ, v = r) → ∃ r : ℝ, u + v = r := by
  rintro ⟨p, rfl⟩ ⟨q, rfl⟩
  exact ⟨p + q, (EReal.coe_add p q).symm⟩

theorem real_sum {ι : Type} [Fintype ι] {f : ι → EReal} (h : ∀ i, ∃ r : ℝ, f i = r) : ∃ r : ℝ, ∑ i, f i = r := by
  choose g hg using h
  exact ⟨∑ i, g i, by rw [Quadratic.coe_sum]; exact Finset.sum_congr rfl fun i _ => hg i⟩

theorem real_of {s : Shape} {x : FVec Ideal s .f32} (hx : Logits.Finite x) (i : s.Idx) : ∃ r : ℝ, (x i : EReal) = r :=
  ⟨(x i : EReal).toReal, (EReal.coe_toReal (hx i).1 (hx i).2).symm⟩

/-- The single-precision negative infinity is the bottom of the extended reals. -/
theorem lowest : Ideal.ofBits .f32 0xFF800000#32 = ⊥ := by
  simp [Ideal.ofBits, Ideal.ieee]

theorem least_le_one : Ideal.ofBits .f32 0x0DA24260#32 ≤ ((1 : ℝ) : EReal) := by
  simp [Ideal.ofBits, Ideal.ieee]
  rw [← EReal.coe_one]
  norm_cast
  norm_num

/-- The greatest of some real numbers is one of them. -/
theorem attained (P : Fin 8192 → Prop) [DecidablePred P] (l : Fin 8192 → ℝ) {k : Fin 8192} (hk : P k) :
    ∃ j, P j ∧ Finset.fold max (⊥ : EReal) (fun i => if P i then (l i : EReal) else ⊥) Finset.univ = (l j : EReal) := by
  obtain ⟨j, hj, hm⟩ := Finset.exists_max_image (Finset.univ.filter P) l ⟨k, Finset.mem_filter.mpr ⟨Finset.mem_univ _, hk⟩⟩
  have pj : P j := (Finset.mem_filter.mp hj).2
  refine ⟨j, pj, le_antisymm (Finset.fold_max_le _ |>.mpr ⟨bot_le, fun i _ => ?_⟩) (Finset.le_fold_max _ |>.mpr (Or.inr ⟨j, Finset.mem_univ _, ?_⟩))⟩
  · split
    · next pi => exact EReal.coe_le_coe_iff.mpr (hm i (Finset.mem_filter.mpr ⟨Finset.mem_univ _, pi⟩))
    · exact bot_le
  · rw [if_pos pj]

theorem masked_sum (P : Fin 8192 → Prop) [DecidablePred P] (l : Fin 8192 → ℝ) (c : ℝ) (e : Fin 8192 → EReal)
    (he : ∀ j, P j → e j = ((Real.exp (l j - c) : ℝ) : EReal)) :
    (∑ j, if P j then e j else 0) = (((∑ j, if P j then Real.exp (l j - c) else 0) : ℝ) : EReal) := by
  rw [Quadratic.coe_sum]
  refine Finset.sum_congr rfl fun j _ => ?_
  split
  · next pj => exact he j pj
  · exact EReal.coe_zero.symm

/-- A node's weight over the sum of its graph's: the shift `c` cancels. -/
theorem share (P : Fin 8192 → Prop) [DecidablePred P] (l : Fin 8192 → ℝ) (c v : ℝ) {k : Fin 8192} (hk : P k) (e : Fin 8192 → EReal)
    (he : ∀ j, P j → e j = ((Real.exp (l j - c) : ℝ) : EReal)) :
    Ideal.div ((v : EReal) * e k) (∑ j, if P j then e j else 0)
      = ((v * Real.exp (l k) / (∑ j, if P j then Real.exp (l j) else 0) : ℝ) : EReal) := by
  have pos : 0 < ∑ j, if P j then Real.exp (l j) else 0 :=
    Finset.sum_pos' (fun j _ => by split <;> positivity) ⟨k, Finset.mem_univ _, by rw [if_pos hk]; positivity⟩
  have scale : (∑ j, if P j then Real.exp (l j - c) else 0) = (∑ j, if P j then Real.exp (l j) else 0) * Real.exp (-c) := by
    rw [Finset.sum_mul]
    refine Finset.sum_congr rfl fun j _ => ?_
    split
    · rw [sub_eq_add_neg, Real.exp_add]
    · rw [zero_mul]
  have hc := Real.exp_pos (-c)
  have ne : (((∑ j, if P j then Real.exp (l j) else 0) * Real.exp (-c) : ℝ) : EReal) ≠ 0 := by
    rw [← EReal.coe_zero]
    exact fun h => (mul_pos pos hc).ne' (EReal.coe_eq_coe_iff.mp h)
  rw [masked_sum P l c e he, he k hk, scale, Ideal.div, if_neg ne, ← EReal.coe_inv, ← EReal.coe_mul, ← EReal.coe_mul,
    sub_eq_add_neg, Real.exp_add]
  refine congrArg Real.toEReal ?_
  field_simp

theorem select_eq {α : Type} (p q : BitVec 32) (u v : α) : Scalar.select (IntOp.cmpi .eq p q) u v = if p = q then u else v := by
  unfold Scalar.select
  by_cases h : p = q
  · rw [if_pos h, if_pos]
    simp [IntOp.cmpi, h]
  · rw [if_neg h]
    exact if_neg fun e => h (Counts.eq_word e)

/-! ## The reference -/

variable (x : FVec Ideal S8192x128 .f32) (w : FVec Ideal S8256x1 .f32) (b : FVec Ideal S1 .f32) (n : IVec S8192 32)

/-- The weights as the first call takes them, flat. -/
abbrev flat : FVec Ideal S1x8256 .f32 := shapeCast S1x8256 w shapeCasts_S8256x1_S1x8256

theorem logits_eq : val_main_v42 (F := Ideal) x w = WeightsReferenceIdeal.Read.val_main_v42 (F := Ideal) x (flat w) := rfl

theorem imp_apply (hx : Logits.Finite x) (hw : Logits.Finite w) (k : Fin 8192) :
    val_main_v44 (F := Ideal) x w b (ix1 k) = (Logits.logit x (flat w) k + b (ix1 0) : EReal) := by
  rw [val_main_v44_apply, val_main_v43_apply, logits_eq, Logits.logit_eq x (flat w) hx fun i => hw _]
  exact congrArg (fun v : EReal => _ + v) (congrArg b (funext fun a => match a with | ⟨0, _⟩ => rfl))

theorem mask_apply (g : Fin 64) (k : Fin 8192) : val_main_v50 (F := Ideal) n (ix2 g k) = IntOp.cmpi .eq (n (ix1 k)) (BitVec.ofNat 32 g.val) := by
  unfold val_main_v50 val_main_v48 val_main_v45 val_main_v49 val_main_v47 val_main_v46
  pointwise

theorem greatest_apply (g : Fin 64) : val_main_v53 (F := Ideal) x w b n (ix1 g)
    = Finset.fold max (⊥ : EReal) (fun k => if n (ix1 k) = BitVec.ofNat 32 g.val then val_main_v44 (F := Ideal) x w b (ix1 k) else (⊥ : EReal)) Finset.univ := by
  unfold val_main_v53 val_main_v52 val_main_call2_v1 val_main_v51 val_main_call2_v2 val_main_call2_v0 val_main_cst_6 val_main_cst_7
  pointwise
  simp only [mask_apply, select_eq]
  rw [← lowest]
  rfl

theorem taken (g : Fin 64) (k : Fin 8192) (h : n (ix1 k) = BitVec.ofNat 32 g.val) :
    val_main_v60 (F := Ideal) x w b n (ix1 k) = val_main_v53 (F := Ideal) x w b n (ix1 g) := by
  have hi := (RefSum.word_iff _ g).2 h
  have hw : val_main_v59 (F := Ideal) n (ix2 k 0) = n (ix1 k) := by
    rw [val_main_v59_apply]
    refine (congrArg (val_main_v58 (F := Ideal) n) (show idx_main_v59 (ix2 k 0) = ix1 k from funext fun a => match a with | ⟨0, _⟩ => rfl)).trans ?_
    rw [val_main_v58_apply, val_main_v55_apply]
    exact Triu.select_nonneg (by rw [hi]; omega)
  refine (RefSum.take_apply (val_main_v53 (F := Ideal) x w b n) (val_main_v59 (F := Ideal) n) k).trans ?_
  refine congrArg (val_main_v53 (F := Ideal) x w b n) (congrArg ix1 (Fin.ext ?_))
  show min (val_main_v59 (F := Ideal) n (ix2 k 0)).toInt.toNat 63 = g.val
  rw [hw]
  have := g.isLt
  omega

theorem rows_apply (p : Fin 128) (k : Fin 8192) : val_main_v69 (F := Ideal) x w b n (ix2 p k)
    = (x (ix2 k p) * val_main_v62 (F := Ideal) x w b n (ix1 k) : EReal) := by
  unfold val_main_v69 val_main_v68 val_main_v67 val_main_v66
  pointwise

theorem sum_apply (g : Fin 64) : val_main_v71 (F := Ideal) x w b n (ix2 0 g)
    = (∑ k : Fin 8192, if n (ix1 k) = BitVec.ofNat 32 g.val then val_main_v62 (F := Ideal) x w b n (ix1 k) else (0 : EReal) : EReal) := by
  unfold val_main_v71 val_main_v65 val_main_v64 val_main_call3_v1 val_main_v63 val_main_call3_v2 val_main_call3_v0 val_main_cst_10 val_main_cst_11
  pointwise
  refine Finset.sum_congr rfl fun k _ => ?_
  rw [mask_apply, select_eq]
  exact congrArg (fun v : EReal => if n (ix1 k) = BitVec.ofNat 32 g.val then _ else v) Ideal.ofBits_zero_f32

theorem batch_apply (k : Fin 8192) : val_main_v70 (F := Ideal) n (ix2 0 k) = n (ix1 k) := by
  rw [val_main_v70_apply]
  refine congrArg n (funext fun a => ?_)
  match a with
  | ⟨0, _⟩ => exact Fin.ext (by show 0 * 8192 + k.val = k.val; omega)

/-! ## The kernel -/

theorem real_logit (hx : Logits.Finite x) (hw : Logits.Finite w) (k : Fin 8192) : ∃ r : ℝ, Logits.logit x (flat w) k = r := by
  have hf : Logits.Finite (flat w) := fun i => hw _
  have full := Logits.finite_full hf
  unfold Logits.logit
  refine real_sum fun j => real_mul (real_sum fun i => real_mul (real_of hx _) ?_) (real_of hx _)
  rw [Logits.half_apply, Quadratic.half]
  exact real_mul ⟨_, rfl⟩ (real_add (real_of full _) (real_of full _))

theorem scaled_apply (hx : Logits.Finite x) (hw : Logits.Finite w) (p : Fin 128) (k : Fin 8192) : Outputs.scaled (F := Ideal) x (flat w) (ix2 p k)
    = (x (ix2 k p) * Outputs.weight (F := Ideal) x (flat w) (ix1 k) : EReal) := by
  have hf : Logits.Finite (flat w) := fun i => hw _
  rw [← Logits.scaled_eq x (flat w) hx hf, ← Logits.weight_eq x (flat w) hx hf]
  unfold WeightsReferenceIdeal.Read.val_main_v71 WeightsReferenceIdeal.Read.val_main_v70 WeightsReferenceIdeal.Read.val_main_v69
    WeightsReferenceIdeal.Read.val_main_v68
  pointwise

theorem sums_apply (g : Fin 64) : Outputs.sums (F := Ideal) x (flat w) (val_main_v70 (F := Ideal) n) (ix2 0 g)
    = (∑ k : Fin 8192, if n (ix1 k) = BitVec.ofNat 32 g.val then Outputs.weight (F := Ideal) x (flat w) (ix1 k) else (0 : EReal) : EReal) := by
  unfold Outputs.sums WeightsIdeal.Gen.k0_pay167 WeightsIdeal.Gen.k0_pay166
  pointwise
  refine Finset.sum_congr rfl fun k _ => ?_
  rw [← batch_apply n k, ← select_eq]
  rfl

/-! ## Both -/

section Both

variable (hx : Logits.Finite x) (hw : Logits.Finite w) (hb : Logits.Finite b)

include hx hw in
/-- The weights of both programs are exponentials of the same logits: here shifted by one number … -/
theorem kernel_weights {l : Fin 8192 → ℝ} (hl : ∀ k, Logits.logit x (flat w) k = l k) :
    ∃ c : ℝ, ∀ k, Outputs.weight (F := Ideal) x (flat w) (ix1 k) = ((Real.exp (l k - c) : ℝ) : EReal) := by
  obtain ⟨j, -, hj⟩ := attained (fun _ => True) l (k := 0) trivial
  refine ⟨l j, fun k => ?_⟩
  have top : Finset.fold max (Ideal.ofBits .f32 4286578688#32) (fun k => Logits.logit x (flat w) k) Finset.univ = (l j : EReal) := by
    rw [show Ideal.ofBits .f32 4286578688#32 = ⊥ from lowest, ← hj]
    refine congrArg (fun f => Finset.fold max (⊥ : EReal) f Finset.univ) (funext fun k => ?_)
    rw [if_pos trivial, hl]
  rw [Logits.weight_apply, top, hl, ← EReal.coe_sub, Ideal.exp_coe]

include hx hw hb in
/-- … there by the greatest of the graph's. -/
theorem reference_weights {l : Fin 8192 → ℝ} (hl : ∀ k, Logits.logit x (flat w) k = l k) (g : Fin 64) {k : Fin 8192}
    (hk : n (ix1 k) = BitVec.ofNat 32 g.val) :
    ∃ j, n (ix1 j) = BitVec.ofNat 32 g.val ∧ ∀ k, n (ix1 k) = BitVec.ofNat 32 g.val →
      val_main_v62 (F := Ideal) x w b n (ix1 k) = ((Real.exp (l k - l j) : ℝ) : EReal) := by
  obtain ⟨r, hr⟩ := real_of hb (ix1 0)
  have imp (k) : val_main_v44 (F := Ideal) x w b (ix1 k) = ((l k + r : ℝ) : EReal) := by
    rw [imp_apply x w b hx hw, hl, hr, ← EReal.coe_add]
  obtain ⟨j, pj, hj⟩ := attained (fun k => n (ix1 k) = BitVec.ofNat 32 g.val) (fun k => l k + r) hk
  refine ⟨j, pj, fun k hk => ?_⟩
  have top := greatest_apply x w b n g
  simp only [imp] at top
  rw [val_main_v62_apply, val_main_v61_apply, taken x w b n g k hk, top, hj, imp]
  show Ideal.exp (((l k + r : ℝ) : EReal) - ((l j + r : ℝ) : EReal)) = _
  rw [← EReal.coe_sub, Ideal.exp_coe, add_sub_add_right_eq_sub]

include hx hw hb in
/-- The sums over the graphs are the same in both programs. -/
theorem pooled_eq (g : Fin 64) (p q : Fin 128) :
    ReferenceIdeal.Read.val_main_v26 (F := Ideal) (Outputs.scaled (F := Ideal) x (flat w)) x (val_main_v70 (F := Ideal) n)
        (Outputs.sums (F := Ideal) x (flat w) (val_main_v70 (F := Ideal) n)) (ix3 g p q)
      = ReferenceIdeal.Read.val_main_v26 (F := Ideal) (val_main_v69 (F := Ideal) x w b n) x (val_main_v70 (F := Ideal) n)
        (val_main_v71 (F := Ideal) x w b n) (ix3 g p q) := by
  choose l hl using real_logit x w hx hw
  obtain ⟨c, hc⟩ := kernel_weights x w hx hw hl
  rw [RefSum.pooled_apply, RefSum.pooled_apply]
  refine Finset.sum_congr rfl fun k _ => ?_
  rw [batch_apply]
  split
  · next hk =>
    obtain ⟨j, -, hj⟩ := reference_weights x w b n hx hw hb hl g hk
    obtain ⟨v, hv⟩ := real_of hx (ix2 k p)
    rw [scaled_apply x w hx hw, sums_apply, rows_apply, sum_apply, hv,
      share (fun k => n (ix1 k) = BitVec.ofNat 32 g.val) l c v hk (fun k => Outputs.weight (F := Ideal) x (flat w) (ix1 k)) fun k _ => hc k,
      share (fun k => n (ix1 k) = BitVec.ofNat 32 g.val) l (l j) v hk (fun k => val_main_v62 (F := Ideal) x w b n (ix1 k)) hj]
  · rfl

include hx hw hb in
/-- No sum of the reference's over a graph with nodes is too small. -/
theorem least (g : Fin 64) (k : Fin 8192) (hk : val_main_v70 (F := Ideal) n (ix2 0 k) = BitVec.ofNat 32 g.val) :
    (Ideal.ofBits .f32 0x0DA24260#32 : EReal) ≤ val_main_v71 (F := Ideal) x w b n (ix2 0 g) := by
  rw [batch_apply] at hk
  choose l hl using real_logit x w hx hw
  obtain ⟨j, pj, hj⟩ := reference_weights x w b n hx hw hb hl g hk
  rw [sum_apply, masked_sum (fun k => n (ix1 k) = BitVec.ofNat 32 g.val) l (l j) (fun k => val_main_v62 (F := Ideal) x w b n (ix1 k)) hj]
  refine least_le_one.trans (EReal.coe_le_coe_iff.mpr ?_)
  refine le_trans ?_ (Finset.single_le_sum (f := fun i => if n (ix1 i) = BitVec.ofNat 32 g.val then Real.exp (l i - l j) else 0)
    (fun i _ => by split <;> positivity) (Finset.mem_univ j))
  rw [if_pos pj, sub_self, Real.exp_zero]

end Both

end Cert.Shares

end
-- ==== Proof.FirstCall.lean ====
/- The first of the kernel's two calls inside the whole program: what one run of its body leaves, over any contents of the
   device's buffers when the call is entered. -/
module

public import proofs.«01_k».proof.Proof.Gen.WholeIdeal.Skeleton
public import proofs.«01_k».proof.Proof.Gen.WholeIdeal.Launch
public import proofs.«01_k».proof.Proof.Gen.WholeIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FirstCall

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (arg0 : Memref sig .tc .vmem S8192x128 .f32) (harg0 : arg0.IsWhole) (arg1 : Memref sig .tc .vmem S1x8256 .f32)
  (harg1 : arg1.IsWhole) (arg2 : Memref sig .tc .vmem S1x8192 .i32) (harg2 : arg2.IsWhole) (arg3 : Memref sig .tc .vmem S128x8192 .f32)
  (harg3 : arg3.IsWhole) (arg4 : Memref sig .tc .vmem S1x128 .i32) (harg4 : arg4.IsWhole) (arg5 : Memref sig .tc .vmem S1x64 .f32)
  (harg5 : arg5.IsWhole) (arg6 : Memref sig .tc .vmem S128x128 .f32) (harg6 : arg6.IsWhole)
  (x0 : Vec F S8192x128 .f32) (x1 : Vec F S1x8256 .f32) (x2 : Vec F S1x8192 .i32)

set_option maxHeartbeats 1844000 in
/-- What the body's stores leave in its three outputs and its scratch, and that it runs to its end with the inputs unchanged. -/
noncomputable def run :
    Σ' (L3 : List (View.Piece (Elt F) S128x8192 .f32)), Σ' (L4 : List (View.Piece (Elt F) S1x128 .i32)), Σ' (L5 : List (View.Piece (Elt F) S1x64 .f32)), { LT0 : List (View.Piece (Elt F) S128x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LT0)) -∗ K ⟨⟩))
          ⊢ wp frame (wpE (defs₀ (F := F)) Variants.none c none) E (cc0_att_weights arg0 harg0 arg1 harg1 arg2 harg2 arg3 harg3 arg4 harg4 arg5 harg5 arg6 harg6) K } := by
  refine ⟨?_, ?_, ?_, ?_, fun E K => ?run⟩
  case run =>
    simp only [cc0_att_weights_eq_skeleton]; unfold cc0_att_weights_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    iexists _; iexact HS0

end Body

section Outs

variable (c : Dev nD) (arg0 : Memref sig .tc .vmem S8192x128 .f32) (harg0 : arg0.IsWhole) (arg1 : Memref sig .tc .vmem S1x8256 .f32)
  (harg1 : arg1.IsWhole) (arg2 : Memref sig .tc .vmem S1x8192 .i32) (harg2 : arg2.IsWhole) (arg3 : Memref sig .tc .vmem S128x8192 .f32)
  (harg3 : arg3.IsWhole) (arg4 : Memref sig .tc .vmem S1x128 .i32) (harg4 : arg4.IsWhole) (arg5 : Memref sig .tc .vmem S1x64 .f32)
  (harg5 : arg5.IsWhole) (arg6 : Memref sig .tc .vmem S128x128 .f32) (harg6 : arg6.IsWhole)
  (x0 : Vec F S8192x128 .f32) (x1 : Vec F S1x8256 .f32) (x2 : Vec F S1x8192 .i32)

/-- Each output is stored whole. -/
theorem cover_3 (y : S128x8192.Idx) : ∃ pc ∈ (run c arg0 harg0 arg1 harg1 arg2 harg2 arg3 harg3 arg4 harg4 arg5 harg5 arg6 harg6 x0 x1 x2).1, y ∈ pc.1.set :=
  View.cover_of_tiledL _ S128x8192.size (by sl_kernel_rfl) y
theorem cover_4 (y : S1x128.Idx) : ∃ pc ∈ (run c arg0 harg0 arg1 harg1 arg2 harg2 arg3 harg3 arg4 harg4 arg5 harg5 arg6 harg6 x0 x1 x2).2.1, y ∈ pc.1.set :=
  View.cover_of_tiledL _ S1x128.size (by sl_kernel_rfl) y
theorem cover_5 (y : S1x64.Idx) : ∃ pc ∈ (run c arg0 harg0 arg1 harg1 arg2 harg2 arg3 harg3 arg4 harg4 arg5 harg5 arg6 harg6 x0 x1 x2).2.2.1, y ∈ pc.1.set :=
  View.cover_of_tiledL _ S1x64.size (by sl_kernel_rfl) y

/-- One staging buffer of each output, through which its contents are stated. -/
abbrev VO_3 : View sig .tc .vmem S128x8192 .f32 := (Memref.whole cc0_stg3_0 : Memref sig .tc .vmem S128x8192 .f32).view
abbrev VO_4 : View sig .tc .vmem S1x128 .i32 := (Memref.whole cc0_stg4_0 : Memref sig .tc .vmem S1x128 .i32).view
abbrev VO_5 : View sig .tc .vmem S1x64 .f32 := (Memref.whole cc0_stg5_0 : Memref sig .tc .vmem S1x64 .f32).view

/-- What the body leaves in each output. -/
def out_3 : Vec F S128x8192 .f32 :=
  VO_3.read (Elt F) (VO_3.writes (Elt F) VO_3.junk (run c arg0 harg0 arg1 harg1 arg2 harg2 arg3 harg3 arg4 harg4 arg5 harg5 arg6 harg6 x0 x1 x2).1)
def out_4 : Vec F S1x128 .i32 :=
  VO_4.read (Elt F) (VO_4.writes (Elt F) VO_4.junk (run c arg0 harg0 arg1 harg1 arg2 harg2 arg3 harg3 arg4 harg4 arg5 harg5 arg6 harg6 x0 x1 x2).2.1)
def out_5 : Vec F S1x64 .f32 :=
  VO_5.read (Elt F) (VO_5.writes (Elt F) VO_5.junk (run c arg0 harg0 arg1 harg1 arg2 harg2 arg3 harg3 arg4 harg4 arg5 harg5 arg6 harg6 x0 x1 x2).2.2.1)

end Outs

/-! ## The call's proof data, over the contents `W` of the buffers when it is entered -/

variable (W : Dev nD → Valuation τ sig (Elt F))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The window's staging memref at point `t`, and that it is whole. -/
abbrev ms_0 (t : Fin cfg0.N) : Memref sig .tc .vmem S8192x128 .f32 := win0_0.stage (cfg0.slots t 0)
abbrev hs_0 (t : Fin cfg0.N) : (ms_0 t).IsWhole := hstage0_0 0
abbrev ms_1 (t : Fin cfg0.N) : Memref sig .tc .vmem S1x8256 .f32 := win0_1.stage (cfg0.slots t 1)
abbrev hs_1 (t : Fin cfg0.N) : (ms_1 t).IsWhole := hstage0_1 0
abbrev ms_2 (t : Fin cfg0.N) : Memref sig .tc .vmem S1x8192 .i32 := win0_2.stage (cfg0.slots t 2)
abbrev hs_2 (t : Fin cfg0.N) : (ms_2 t).IsWhole := hstage0_2 0
abbrev ms_3 (t : Fin cfg0.N) : Memref sig .tc .vmem S128x8192 .f32 := win0_3.stage (cfg0.slots t 3)
abbrev hs_3 (t : Fin cfg0.N) : (ms_3 t).IsWhole := hstage0_3 0
abbrev ms_4 (t : Fin cfg0.N) : Memref sig .tc .vmem S1x128 .i32 := win0_4.stage (cfg0.slots t 4)
abbrev hs_4 (t : Fin cfg0.N) : (ms_4 t).IsWhole := hstage0_4 0
abbrev ms_5 (t : Fin cfg0.N) : Memref sig .tc .vmem S1x64 .f32 := win0_5.stage (cfg0.slots t 5)
abbrev hs_5 (t : Fin cfg0.N) : (ms_5 t).IsWhole := hstage0_5 0
/-- The scratch matrix. -/
abbrev scM : Memref sig .tc .vmem S128x128 .f32 := Memref.whole cc0_scratch0

/-- The scoped buffers beside the staging ones: the scratch matrix, and the second call's staging buffers. -/
theorem PhiA_eq (c : Dev nD) :
    (Pipeline.ΦA spec0 c : sProp 𝕄)
      = iprop(iprop((∃ d, owns (c : Thread nD τ) scM fullShare d) ∗ (∃ d, owns (c : Thread nD τ) (Memref.whole cc1_stg0_0) fullShare d)
          ∗ (∃ d, owns (c : Thread nD τ) (Memref.whole cc1_stg1_0) fullShare d) ∗ (∃ d, owns (c : Thread nD τ) (Memref.whole cc1_stg2_0) fullShare d)
          ∗ (∃ d, owns (c : Thread nD τ) (Memref.whole cc1_stg3_0) fullShare d) ∗ (∃ d, owns (c : Thread nD τ) (Memref.whole cc1_stg4_0) fullShare d)
          ∗ (∃ d, owns (c : Thread nD τ) (Memref.whole cc1_stg4_1) fullShare d)) ∗ (∃ r, prngReg c r)) := by
  unfold Pipeline.ΦA; rw [scopedRest0_eq]; simp only [scM, owns_whole]; try rfl

/-- What the three outputs hold after the body. -/
def outs_3 (c : Dev nD) (t : Fin cfg0.N) : Vec F S128x8192 .f32 :=
  out_3 c (ms_0 t) (hs_0 t) (ms_1 t) (hs_1 t) (ms_2 t) (hs_2 t) (ms_3 t) (hs_3 t) (ms_4 t) (hs_4 t) (ms_5 t) (hs_5 t) scM (Memref.isWhole_whole _) (iblk W c 0 t) (iblk W c 1 t) (iblk W c 2 t)
def outs_4 (c : Dev nD) (t : Fin cfg0.N) : Vec F S1x128 .i32 :=
  out_4 c (ms_0 t) (hs_0 t) (ms_1 t) (hs_1 t) (ms_2 t) (hs_2 t) (ms_3 t) (hs_3 t) (ms_4 t) (hs_4 t) (ms_5 t) (hs_5 t) scM (Memref.isWhole_whole _) (iblk W c 0 t) (iblk W c 1 t) (iblk W c 2 t)
def outs_5 (c : Dev nD) (t : Fin cfg0.N) : Vec F S1x64 .f32 :=
  out_5 c (ms_0 t) (hs_0 t) (ms_1 t) (hs_1 t) (ms_2 t) (hs_2 t) (ms_3 t) (hs_3 t) (ms_4 t) (hs_4 t) (ms_5 t) (hs_5 t) scM (Memref.isWhole_whole _) (iblk W c 0 t) (iblk W c 1 t) (iblk W c 2 t)

/-- What is said of each window: its array as the call finds it; after the body an input at its block, an output at what the body left. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => outs_3 W c t
    | ⟨4, _⟩ => outs_4 W c t
    | ⟨5, _⟩ => outs_5 W c t
  Φ _ := Pipeline.ΦA spec0 c
  q _ := fullShare
  owed _ := 0

theorem A_eq (c : Dev nD) (w : Fin cfg0.W) : (dat W c).A w = W c (Proc.devRef .tc (Pipeline.arrRef spec0 w)) := by
  dsimp only [dat]

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = outs_3 W c t := by dsimp only [dat]
theorem after_4 (c : Dev nD) (t : Fin cfg0.N) : (dat W c).after 4 t = outs_4 W c t := by dsimp only [dat]
theorem after_5 (c : Dev nD) (t : Fin cfg0.N) : (dat W c).after 5 t = outs_5 W c t := by dsimp only [dat]

theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at the grid point -/

/-- What the body is called with, -/
def bodyPre (c : Dev nD) (t : Fin cfg0.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d)))

/-- and what it returns. -/
def bodyPost (c : Dev nD) (t : Fin cfg0.N) : sProp 𝕄 :=
  iprop((dat W c).Φ t.succ ∗ (dat W c).owesAt () t.succ
    ∗ owns (c : Thread nD τ) (ms_0 t) fullShare ((dat W c).after 0 t)
    ∗ owns (c : Thread nD τ) (ms_1 t) fullShare ((dat W c).after 1 t)
    ∗ owns (c : Thread nD τ) (ms_2 t) fullShare ((dat W c).after 2 t)
    ∗ owns (c : Thread nD τ) (ms_3 t) fullShare ((dat W c).after 3 t)
    ∗ owns (c : Thread nD τ) (ms_4 t) fullShare ((dat W c).after 4 t)
    ∗ owns (c : Thread nD τ) (ms_5 t) fullShare ((dat W c).after 5 t))

theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2]
  rw [show (dat W c).Φ t.succ = (dat W c).Φ t.castSucc from rfl,
    show (dat W c).owesAt () t.succ = (dat W c).owesAt () t.castSucc from rfl,
    after_0, after_1, after_2, after_3, after_4, after_5]
  rw [show (dat W c).Φ t.castSucc = Pipeline.ΦA spec0 c from rfl, PhiA_eq]
  unfold outs_3 outs_4 outs_5 out_3 out_4 out_5
  iintro ⟨⟨⟨HS0, Hr⟩, Hg⟩, Ho, ⟨%d0, H0⟩, ⟨%d1, H1⟩, ⟨%d2, H2⟩, ⟨%d3, H3⟩, ⟨%d4, H4⟩, ⟨%d5, H5⟩⟩
  iapply ((run c _ _ _ _ _ _ _ _ _ _ _ _ _ _ (iblk W c 0 t) (iblk W c 1 t) (iblk W c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, ⟨%e3, H3⟩, ⟨%e4, H4⟩, ⟨%e5, H5⟩, ⟨%fT0, HS0⟩⟩
  isplitl [HS0 Hr Hg]
  · isplitl [HS0 Hr]
    · isplitl [HS0]
      · iexists _; unfold owns; iexists _; isplitr
        swap; · iexact HS0
        ipureintro; rfl
      iexact Hr
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_3 c _ _ _ _ _ _ _ _ _ _ _ _ _ _ _ _ _)
  isplitl [H4]
  · unfold owns; iexists _; isplitr
    swap; · iexact H4
    ipureintro; exact View.read_writes_of_cover _ _ _ _ _ (cover_4 c _ _ _ _ _ _ _ _ _ _ _ _ _ _ _ _ _)
  unfold owns; iexists _; isplitr
  swap; · iexact H5
  ipureintro; exact View.read_writes_of_cover _ _ _ _ _ (cover_5 c _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body's triple in the form that the launch asks for. -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

end Cert.FirstCall

end
-- ==== Proof.SecondCall.lean ====
/- The second of the kernel's two calls inside the whole program: what one run of its body leaves, over any contents of the
   device's buffers when the call is entered, and any words of `starts` its body can use. -/
module

public import proofs.«01_k».proof.Proof.Gen.WholeIdeal.Skeleton
public import proofs.«01_k».proof.Proof.Gen.WholeIdeal.Launch
public import proofs.«01_k».proof.Proof.Gen.WholeIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.SecondCall

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The words of `starts` the call reads beforehand. -/
abbrev tbM : Memref sig .tc .smem S65 .i32 := Memref.whole main_v4
abbrev Tbl (c : Dev nD) : Type := Buf (Elt F) (tbM.view.loc (c : Thread nD τ))
/-- Held whole. -/
abbrev tblAt (c : Dev nD) (f : Tbl (F := F) c) : sProp 𝕄 := tbM.view.loc (c : Thread nD τ) ↦{fullShare} f
/-- The word of them at an offset. -/
abbrev word (c : Dev nD) (x : Tbl (F := F) c) (off : Fin 1 → ℕ) (inb : ∀ a, off a + S1.size a ≤ S65.size a) : BitVec 32 :=
  tbM.view.readAt (Elt F) (Rect.unit (s := S65) off S1.size inb).toLoadRect x (Shape.Idx.first (numel1_S1.symm ▸ Nat.one_pos))

section Body

variable (c : Dev nD) (i : grid1.Coords) (arg2 : Memref sig .tc .vmem S128x8192 .f32) (harg2 : arg2.IsWhole) (arg3 : Memref sig .tc .vmem S8192x128 .f32)
  (harg3 : arg3.IsWhole) (arg4 : Memref sig .tc .vmem S1x8192 .i32) (harg4 : arg4.IsWhole) (arg5 : Memref sig .tc .vmem S1x64 .f32)
  (harg5 : arg5.IsWhole) (arg6 : Memref sig .tc .vmem S8x128x128 .f32) (harg6 : arg6.IsWhole)
  (x0 : Vec F S128x8192 .f32) (x1 : Vec F S8192x128 .f32) (x2 : Vec F S1x8192 .i32) (x3 : Vec F S1x64 .f32) (xt : Tbl (F := F) c)
  (k1_hw1 : k1_chk1 (word c xt (k1_off1 i) (k1_off1_inb i)) (word c xt (k1_off2 i) (k1_off2_inb i)))
  (k1_hw2 : k1_chk2 (word c xt (k1_off9 i) (k1_off9_inb i)) (word c xt (k1_off10 i) (k1_off10_inb i)))
  (k1_hw3 : k1_chk3 (word c xt (k1_off17 i) (k1_off17_inb i)) (word c xt (k1_off18 i) (k1_off18_inb i)))
  (k1_hw4 : k1_chk4 (word c xt (k1_off25 i) (k1_off25_inb i)) (word c xt (k1_off26 i) (k1_off26_inb i)))
  (k1_hw5 : k1_chk5 (word c xt (k1_off33 i) (k1_off33_inb i)) (word c xt (k1_off34 i) (k1_off34_inb i)))
  (k1_hw6 : k1_chk6 (word c xt (k1_off41 i) (k1_off41_inb i)) (word c xt (k1_off42 i) (k1_off42_inb i)))
  (k1_hw7 : k1_chk7 (word c xt (k1_off49 i) (k1_off49_inb i)) (word c xt (k1_off50 i) (k1_off50_inb i)))
  (k1_hw8 : k1_chk8 (word c xt (k1_off57 i) (k1_off57_inb i)) (word c xt (k1_off58 i) (k1_off58_inb i)))

set_option maxHeartbeats 1876000 in
/-- What the body's stores leave in its output block, and that it runs to its end with the inputs and the table unchanged. -/
noncomputable def run :
    { L4 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tblAt c xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ tblAt c xt) -∗ K ⟨⟩))
          ⊢ wp frame (wpE (defs₀ (F := F)) Variants.none c none) E (cc1_pool_ns i tbM (Memref.isWhole_whole _) arg2 harg2 arg3 harg3 arg4 harg4 arg5 harg5 arg6 harg6) K } := by
  refine ⟨?_, fun E K => ?run⟩
  case run =>
    simp only [cc1_pool_ns_eq_skeleton]; unfold cc1_pool_ns_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg2.eq_unread hf0; obtain rfl := harg3.eq_unread hf1; obtain rfl := harg4.eq_unread hf2; obtain rfl := harg5.eq_unread hf3
    sl_exec (disch := first | sl_exact k1_hw1 | sl_exact k1_hw2 | sl_exact k1_hw3 | sl_exact k1_hw4 | sl_exact k1_hw5 | sl_exact k1_hw6 | sl_exact k1_hw7 | sl_exact k1_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HT0

/-- The output block is stored whole. -/
theorem cover (y : S8x128x128.Idx) : ∃ pc ∈ (run c i arg2 harg2 arg3 harg3 arg4 harg4 arg5 harg5 arg6 harg6 x0 x1 x2 x3 xt k1_hw1 k1_hw2 k1_hw3 k1_hw4 k1_hw5 k1_hw6 k1_hw7 k1_hw8).1, y ∈ pc.1.set :=
  View.cover_of_tiledL (run c i arg2 harg2 arg3 harg3 arg4 harg4 arg5 harg5 arg6 harg6 x0 x1 x2 x3 xt k1_hw1 k1_hw2 k1_hw3 k1_hw4 k1_hw5 k1_hw6 k1_hw7 k1_hw8).1 S1x128x128.size (by sl_kernel_rfl) y

/-- One staging buffer of the output, through which its contents are stated. -/
abbrev VO : View sig .tc .vmem S8x128x128 .f32 := (Memref.whole cc1_stg4_0 : Memref sig .tc .vmem S8x128x128 .f32).view

/-- What the body leaves in it. -/
def out : Vec F S8x128x128 .f32 :=
  VO.read (Elt F) (VO.writes (Elt F) VO.junk (run c i arg2 harg2 arg3 harg3 arg4 harg4 arg5 harg5 arg6 harg6 x0 x1 x2 x3 xt k1_hw1 k1_hw2 k1_hw3 k1_hw4 k1_hw5 k1_hw6 k1_hw7 k1_hw8).1)

end Body

/-! ## The call's proof data, over the contents `W` of the buffers when it is entered and the table's `a` -/

/-- The words of `starts` are as the body needs them: those of every graph, one after the other. -/
def Good (c : Dev nD) (x : Tbl (F := F) c) : Prop :=
  ∀ (i : grid1.Coords) (g : Fin 8) (o1 o2 : Fin 1 → ℕ) (_ : o1 = ![8 * (i 0).val + g.val]) (_ : o2 = ![8 * (i 0).val + g.val + 1]) (i1) (i2),
    k1_chk1 (word c x o1 i1) (word c x o2 i2)

variable (W : Dev nD → Valuation τ sig (Elt F)) (a : (pcfg1 (F := F)).Adm)

abbrev tab (c : Dev nD) : Tbl (F := F) c := a.1 0

variable (hg : ∀ c, Good c (tab a c))

/-- Window `w`'s block at point `t`, read off its array. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The window's staging memref at point `t`, and that it is whole. -/
abbrev ms_0 (t : Fin (cfg1 a).N) : Memref sig .tc .vmem S128x8192 .f32 := spec1_0.stage ((cfg1 a).slots t 0)
abbrev hs_0 (t : Fin (cfg1 a).N) : (ms_0 a t).IsWhole := hstage1_0 (((cfg1 a).slots t 0).cast nbuf1_0)
abbrev ms_1 (t : Fin (cfg1 a).N) : Memref sig .tc .vmem S8192x128 .f32 := spec1_1.stage ((cfg1 a).slots t 1)
abbrev hs_1 (t : Fin (cfg1 a).N) : (ms_1 a t).IsWhole := hstage1_1 (((cfg1 a).slots t 1).cast nbuf1_1)
abbrev ms_2 (t : Fin (cfg1 a).N) : Memref sig .tc .vmem S1x8192 .i32 := spec1_2.stage ((cfg1 a).slots t 2)
abbrev hs_2 (t : Fin (cfg1 a).N) : (ms_2 a t).IsWhole := hstage1_2 (((cfg1 a).slots t 2).cast nbuf1_2)
abbrev ms_3 (t : Fin (cfg1 a).N) : Memref sig .tc .vmem S1x64 .f32 := spec1_3.stage ((cfg1 a).slots t 3)
abbrev hs_3 (t : Fin (cfg1 a).N) : (ms_3 a t).IsWhole := hstage1_3 (((cfg1 a).slots t 3).cast nbuf1_3)
abbrev ms_4 (t : Fin (cfg1 a).N) : Memref sig .tc .vmem S8x128x128 .f32 := spec1_4.stage ((cfg1 a).slots t 4)
abbrev hs_4 (t : Fin (cfg1 a).N) : (ms_4 a t).IsWhole := hstage1_4 (((cfg1 a).slots t 4).cast nbuf1_4)

/-- The body as the call runs it at point `t`. -/
abbrev bodyAt (t : Fin (cfg1 a).N) : Prog (TpuEff nD τ sig (Elt F) Λ₀ .tc) PUnit :=
  cc1_pool_ns (grid1.coords t) tbM (Memref.isWhole_whole _) (ms_0 a t) (hs_0 a t) (ms_1 a t) (hs_1 a t) (ms_2 a t) (hs_2 a t) (ms_3 a t) (hs_3 a t) (ms_4 a t) (hs_4 a t)

/-- The output is written back at every point. -/
theorem flush_4 : ∀ t : Fin (cfg1 a).N, ((cfg1 a).win 4).flush t = true :=
  (fun t => (Pipeline.Window.flushOf_reads cc1_transform_4 reads1_4 hreads1_4 0 (by decide) (by decide) (Pipeline.Window.sep_of_coord cc1_transform_4 0 0 (fun _ => rfl) (by decide)) (P := 1) (m := 0) (by decide) rfl t).mpr (Nat.mod_one _) : ∀ t : Fin grid1.N, Pipeline.Window.flushOf grid1 true cc1_transform_4 t = true)

section Facts
include hg
theorem fact1 (c : Dev nD) (i : grid1.Coords) : k1_chk1 (word c (tab a c) (k1_off1 i) (k1_off1_inb i)) (word c (tab a c) (k1_off2 i) (k1_off2_inb i)) :=
  hg c i 0 _ _ (k1_off1_eq i) (k1_off2_eq i) _ _
theorem fact2 (c : Dev nD) (i : grid1.Coords) : k1_chk2 (word c (tab a c) (k1_off9 i) (k1_off9_inb i)) (word c (tab a c) (k1_off10 i) (k1_off10_inb i)) :=
  hg c i 1 _ _ (k1_off9_eq i) (k1_off10_eq i) _ _
theorem fact3 (c : Dev nD) (i : grid1.Coords) : k1_chk3 (word c (tab a c) (k1_off17 i) (k1_off17_inb i)) (word c (tab a c) (k1_off18 i) (k1_off18_inb i)) :=
  hg c i 2 _ _ (k1_off17_eq i) (k1_off18_eq i) _ _
theorem fact4 (c : Dev nD) (i : grid1.Coords) : k1_chk4 (word c (tab a c) (k1_off25 i) (k1_off25_inb i)) (word c (tab a c) (k1_off26 i) (k1_off26_inb i)) :=
  hg c i 3 _ _ (k1_off25_eq i) (k1_off26_eq i) _ _
theorem fact5 (c : Dev nD) (i : grid1.Coords) : k1_chk5 (word c (tab a c) (k1_off33 i) (k1_off33_inb i)) (word c (tab a c) (k1_off34 i) (k1_off34_inb i)) :=
  hg c i 4 _ _ (k1_off33_eq i) (k1_off34_eq i) _ _
theorem fact6 (c : Dev nD) (i : grid1.Coords) : k1_chk6 (word c (tab a c) (k1_off41 i) (k1_off41_inb i)) (word c (tab a c) (k1_off42 i) (k1_off42_inb i)) :=
  hg c i 5 _ _ (k1_off41_eq i) (k1_off42_eq i) _ _
theorem fact7 (c : Dev nD) (i : grid1.Coords) : k1_chk7 (word c (tab a c) (k1_off49 i) (k1_off49_inb i)) (word c (tab a c) (k1_off50 i) (k1_off50_inb i)) :=
  hg c i 6 _ _ (k1_off49_eq i) (k1_off50_eq i) _ _
theorem fact8 (c : Dev nD) (i : grid1.Coords) : k1_chk8 (word c (tab a c) (k1_off57 i) (k1_off57_inb i)) (word c (tab a c) (k1_off58 i) (k1_off58_inb i)) :=
  hg c i 7 _ _ (k1_off57_eq i) (k1_off58_eq i) _ _
end Facts

/-- What the output block holds after the body. -/
def outs (c : Dev nD) (t : Fin (cfg1 a).N) : Vec F S8x128x128 .f32 :=
  out c (grid1.coords t) (ms_0 a t) (hs_0 a t) (ms_1 a t) (hs_1 a t) (ms_2 a t) (hs_2 a t) (ms_3 a t) (hs_3 a t) (ms_4 a t) (hs_4 a t) (iblk W a c 0 t) (iblk W a c 1 t) (iblk W a c 2 t) (iblk W a c 3 t) (tab a c) (fact1 a hg c _) (fact2 a hg c _) (fact3 a hg c _) (fact4 a hg c _) (fact5 a hg c _) (fact6 a hg c _) (fact7 a hg c _) (fact8 a hg c _)

/-- What is said of each window: its array as the call finds it; after the body an input at its block, the output at what the body left. -/
def dat (c : Dev nD) : Dat τ (Elt F) Unit ℕ (UR sig nD τ) ℕ (cfg1 a) c where
  A w := W c (Proc.devRef .tc (Pipeline.arrRef spec1 w))
  after w t := match w with
    | ⟨0, _⟩ => iblk W a c 0 t
    | ⟨1, _⟩ => iblk W a c 1 t
    | ⟨2, _⟩ => iblk W a c 2 t
    | ⟨3, _⟩ => iblk W a c 3 t
    | ⟨4, _⟩ => outs W a hg c t
  Φ _ := iprop(Pipeline.ΦA spec1 c ∗ Pipeline.prefHeld pre1 c (fun _ => fullShare) a.1)
  q _ := fullShare
  owed _ := 0

/-- The table, held whole. -/
theorem table_eq (c : Dev nD) : (Pipeline.prefHeld pre1 c (fun _ => fullShare) a.1 : sProp 𝕄) = iprop(tblAt c (tab a c)) := by
  unfold Pipeline.prefHeld
  rw [show (Finset.univ : Finset (Fin 1)) = {(0 : Fin 1)} from by decide, bigSep_singleton]
  rfl

theorem A_eq (c : Dev nD) (w : Fin (cfg1 a).W) : (dat W a hg c).A w = W c (Proc.devRef .tc (Pipeline.arrRef spec1 w)) := by
  dsimp only [dat]

theorem after_0 (c : Dev nD) (t : Fin (cfg1 a).N) : (dat W a hg c).after 0 t = iblk W a c 0 t := by dsimp only [dat]; try rfl
theorem after_1 (c : Dev nD) (t : Fin (cfg1 a).N) : (dat W a hg c).after 1 t = iblk W a c 1 t := by dsimp only [dat]; try rfl
theorem after_2 (c : Dev nD) (t : Fin (cfg1 a).N) : (dat W a hg c).after 2 t = iblk W a c 2 t := by dsimp only [dat]; try rfl
theorem after_3 (c : Dev nD) (t : Fin (cfg1 a).N) : (dat W a hg c).after 3 t = iblk W a c 3 t := by dsimp only [dat]; try rfl
theorem after_4 (c : Dev nD) (t : Fin (cfg1 a).N) : (dat W a hg c).after 4 t = outs W a hg c t := by dsimp only [dat]; try rfl

theorem before_0 (c : Dev nD) (t : Fin (cfg1 a).N) (d) : (dat W a hg c).before 0 t d = iblk W a c 0 t :=
  ((dat W a hg c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat W a hg c).before 1 t d = iblk W a c 1 t :=
  ((dat W a hg c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat W a hg c).before 2 t d = iblk W a c 2 t :=
  ((dat W a hg c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat W a hg c).before 3 t d = iblk W a c 3 t :=
  ((dat W a hg c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body at a grid point -/

/-- What the body is called with, -/
def bodyPre (c : Dev nD) (t : Fin (cfg1 a).N) : sProp 𝕄 :=
  iprop((dat W a hg c).Φ t.castSucc ∗ (dat W a hg c).owesAt () t.castSucc
    ∗ (∃ d, owns (c : Thread nD τ) (ms_0 a t) fullShare ((dat W a hg c).before 0 t d))
    ∗ (∃ d, owns (c : Thread nD τ) (ms_1 a t) fullShare ((dat W a hg c).before 1 t d))
    ∗ (∃ d, owns (c : Thread nD τ) (ms_2 a t) fullShare ((dat W a hg c).before 2 t d))
    ∗ (∃ d, owns (c : Thread nD τ) (ms_3 a t) fullShare ((dat W a hg c).before 3 t d))
    ∗ (∃ d, owns (c : Thread nD τ) (ms_4 a t) fullShare ((dat W a hg c).before 4 t d)))

/-- and what it returns. -/
def bodyPost (c : Dev nD) (t : Fin (cfg1 a).N) : sProp 𝕄 :=
  iprop((dat W a hg c).Φ t.succ ∗ (dat W a hg c).owesAt () t.succ
    ∗ owns (c : Thread nD τ) (ms_0 a t) fullShare ((dat W a hg c).after 0 t)
    ∗ owns (c : Thread nD τ) (ms_1 a t) fullShare ((dat W a hg c).after 1 t)
    ∗ owns (c : Thread nD τ) (ms_2 a t) fullShare ((dat W a hg c).after 2 t)
    ∗ owns (c : Thread nD τ) (ms_3 a t) fullShare ((dat W a hg c).after 3 t)
    ∗ owns (c : Thread nD τ) (ms_4 a t) fullShare ((dat W a hg c).after 4 t))

theorem sound_body (c : Dev nD) (t : Fin (cfg1 a).N) :
    bodyPre W a hg c t ⊢ wp frame (wpE (defs₀ (F := F)) Variants.none c none) Set.univ (bodyAt a t) (fun _ => bodyPost W a hg c t) := by
  unfold bodyPre bodyPost bodyAt
  simp only [before_0, before_1, before_2, before_3]
  rw [show (dat W a hg c).Φ t.succ = (dat W a hg c).Φ t.castSucc from rfl,
    show (dat W a hg c).owesAt () t.succ = (dat W a hg c).owesAt () t.castSucc from rfl,
    after_0, after_1, after_2, after_3, after_4]
  rw [show (dat W a hg c).Φ t.castSucc = iprop(Pipeline.ΦA spec1 c ∗ Pipeline.prefHeld pre1 c (fun _ => fullShare) a.1) from rfl, table_eq]
  unfold outs out
  iintro ⟨⟨HΦ, HT0⟩, Ho, ⟨%d0, H0⟩, ⟨%d1, H1⟩, ⟨%d2, H2⟩, ⟨%d3, H3⟩, ⟨%d4, H4⟩⟩
  iapply ((run c (grid1.coords t) _ _ _ _ _ _ _ _ _ _ (iblk W a c 0 t) (iblk W a c 1 t) (iblk W a c 2 t) (iblk W a c 3 t) (tab a c) (fact1 a hg c _) (fact2 a hg c _) (fact3 a hg c _) (fact4 a hg c _) (fact5 a hg c _) (fact6 a hg c _) (fact7 a hg c _) (fact8 a hg c _)).2 Set.univ _)
  isplitl [H0]; · iexact H0
  isplitl [H1]; · iexact H1
  isplitl [H2]; · iexact H2
  isplitl [H3]; · iexact H3
  isplitl [H4]; · iexists _; iexact H4
  isplitl [HT0]; · iexact HT0
  iintro ⟨H0, H1, H2, H3, ⟨%e4, H4⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _ _ _ _ _ _ _ _ _)

theorem defs₀_row (t : Fin (cfg1 a).N) :
    defs₀ (F := F) .tc (cfg1 a).body ((cfg1 a).bodyArgs t ((cfg1 a).slots t)) = bodyAt a t := by
  unfold defs₀; rw [Defs.onTc_tc]

/-- The body's triple in the form that the launch asks for. -/
theorem body_obligation (c : Dev nD) : BodyObligation (dat W a hg c) (defs₀ (F := F)) Variants.none () Set.univ := fun t => by
  rw [bigSep_W1, bigSep_W1, defs₀_row a]
  exact triple_restated (sound_body W a hg c t) rfl .rfl fun _ => .rfl

end Cert.SecondCall

end
-- ==== Proof.WholeRun.lean ====
/- The whole program, both calls and the host lines around them: every run of it ends, and where it leaves each buffer. -/
module

public import proofs.«01_k».proof.Proof.FirstCall
public import proofs.«01_k».proof.Proof.SecondCall
public import proofs.«01_k».proof.Proof.Gen.WholeIdeal.Regions
public import Idealize.ShloMosaic.Lib.Pipeline.RegionArraysS
public import Idealize.ShloMosaic.Lib.Pipeline.RegionArraysTS

@[expose] public section

set_option maxRecDepth 16384

noncomputable section

namespace Cert.WholeRun

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf PCfg.Adm RegionSeg Seg LevelCut ucRefs afterRegion arrRef)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first call leaves in every buffer. -/
def outs₁ : Outs (F := F) := fun _ r c => afterRegion (FirstCall.dat (V1 m) c) (V1 m c) (Proc.devRef .tc r)

/-- What the second call finds, -/
abbrev entry (c : Dev nD) : Valuation τ sig (Elt F) := V3 m (outs₁ m) c

/-- and the words of `starts` it reads beforehand. -/
def words : (pcfg1 (F := F)).Adm := ⟨fun k => entry m 0 (Proc.devRef .tc (pre1.ref k)), trivial⟩

variable (hg : ∀ c, SecondCall.Good c (SecondCall.tab (words m) c))

/-- What each call leaves in every buffer. -/
def outs : Outs (F := F) := fun j r c =>
  if j = 2 then outs₁ m j r c else afterRegion (SecondCall.dat (entry m) (words m) hg c) (entry m c) (Proc.devRef .tc r)

theorem entry_eq (c : Dev nD) : V3 m (outs m hg) c = entry m c := rfl

/-- The two calls' tables and proof data. -/
def adm : (p : Fin 2) → (pcfgs (F := F) p).Adm
  | ⟨0, _⟩ => cfg0.toPCfg_adm
  | ⟨1, _⟩ => words m

def pdats : (p : Fin 2) → (c : Dev nD) → Dat τ (Elt F) Unit ℕ (UR sig nD τ) ℕ (Pipeline.pin (pcfgs (F := F)) (adm m) p) c
  | ⟨0, _⟩ => FirstCall.dat (V1 m)
  | ⟨1, _⟩ => SecondCall.dat (entry m) (words m) hg

/-- A buffer held across a call is one of the TensorCore's. -/
theorem exists_ref {b : DevRef τ sig} (hb : b ∈ ucRefs τ sig) : ∃ r : Ref sig .tc, b = Proc.devRef .tc r := by
  obtain ⟨r, _, h⟩ := Finset.mem_map.mp (Finset.mem_filter.mp hb).1
  exact ⟨r, h.symm⟩

/-- After the first call the buffers are as the next host lines take them, -/
theorem after_first (c : Dev nD) {b : DevRef τ sig} (hb : b ∈ ucRefs τ sig) :
    afterRegion (FirstCall.dat (V1 m) c) (V1 m c) b = V2 m (outs m hg) c b := by
  obtain ⟨r, rfl⟩ := exists_ref hb
  by_cases h : r ∈ ([main_v2_0, main_v2_1, main_v2_2] : List (Ref sig .tc))
  · simp only [List.mem_cons, List.not_mem_nil, or_false] at h
    unfold V2
    rcases h with rfl | rfl | rfl
    · rw [Function.update_of_ne (by decide), Function.update_of_ne (by decide), Function.update_self]; rfl
    · rw [Function.update_of_ne (by decide), Function.update_self]; rfl
    · rw [Function.update_self]; rfl
  · rw [V2_of m (outs m hg) c r h]
    refine Pipeline.afterRegion_keeps (FirstCall.dat (V1 m) c) (V1 m c) (launch0 (F := F)).win.arr_inj (fun w => FirstCall.A_eq (V1 m) c w) r fun w hw => ?_
    subst hw
    revert h
    fin_cases w <;> intro h <;> first | rfl | exact absurd (by decide) h

/-- and after the second. -/
theorem after_second (c : Dev nD) {b : DevRef τ sig} (hb : b ∈ ucRefs τ sig) :
    afterRegion (SecondCall.dat (entry m) (words m) hg c) (entry m c) b = V4 m (outs m hg) c b := by
  obtain ⟨r, rfl⟩ := exists_ref hb
  by_cases h : r ∈ ([main_v5] : List (Ref sig .tc))
  · simp only [List.mem_cons, List.not_mem_nil, or_false] at h
    subst h
    unfold V4
    rw [Function.update_self]; rfl
  · rw [V4_of m (outs m hg) c r h]
    refine Pipeline.afterRegion_keeps (SecondCall.dat (entry m) (words m) hg c) (entry m c) (launch1 (F := F)).win.arr_inj
      (fun w => SecondCall.A_eq (entry m) (words m) hg c w) r fun w hw => ?_
    subst hw
    revert h
    fin_cases w <;> intro h <;> first | rfl | exact absurd (show main_v5 ∈ ([main_v5] : List (Ref sig .tc)) from by decide) h

/-- One level of waiting, on the TensorCores' cells. -/
def L : GSem nD τ sig → Finset Unit := fun g => if g.1.2 = .tc then {()} else ∅
def lv : GSem nD τ sig → Unit → ℕ := fun _ _ => 0

theorem cut (p : Fin 2) : LevelCut (pcfgs (F := F)) (adm m) () L lv p (fun _ => 0) (fun _ => 0) where
  hι _ _ _ := by unfold L; rw [if_pos rfl]; exact Finset.mem_singleton_self _
  hιb _ _ _ := le_refl _
  hD _ _ _ h := absurd h (lt_irrefl _)

/-- The generator register, which neither call reads. -/
abbrev gen (c : Dev nD) : sProp 𝕄 := iprop(∃ r, prngReg c r)
/-- What rides beside the buffers: nothing owed, and the register. -/
abbrev rest (c : Dev nD) : sProp 𝕄 := iprop((∃ Wd, owes (c : Thread nD τ) (0 : CellTallies nD τ sig Unit) Wd) ∗ gen c ∗ emp)

def region0 : RegionSeg (pcfgs (F := F)) (adm m) (pdats m hg) () defs₀ Variants.none L lv 0 :=
  RegionSeg.ofHeldIn (pcfgs (F := F)) (adm m) (pdats m hg) () defs₀ Variants.none L lv 0 (fun _ => 0) (ucRefs τ sig) gen gen launch0 rfl
    (fun c => (FirstCall.body_obligation (V1 m) c).loose) (fun _ _ => rfl) (fun _ => rfl)
    (fun c => (FirstCall.dat (V1 m) c).share_full fun _ => rfl) (fun _ => .rfl) (fun _ => .rfl) (fun _ => 0) (cut m 0) (fun _ => iprop(emp)) (V1 m)
    (fun c w => FirstCall.A_eq (V1 m) c w)

def region1 : RegionSeg (pcfgs (F := F)) (adm m) (pdats m hg) () defs₀ Variants.none L lv 1 :=
  RegionSeg.ofHeldInT (pcfgs (F := F)) (adm m) (pdats m hg) () defs₀ Variants.none L lv 1 (fun _ => 0) (ucRefs τ sig) gen gen launch1
    (fun c => (SecondCall.body_obligation (entry m) (words m) hg c).loose) (fun _ _ => rfl) (fun _ => rfl)
    (fun c => (SecondCall.dat (entry m) (words m) hg c).share_full fun _ => rfl) (fun _ => .rfl) (fun _ => .rfl) (fun _ => 0) (cut m 1)
    (fun _ => iprop(emp)) (entry m) (fun c w => SecondCall.A_eq (entry m) (words m) hg c w)
    (fun c k => by rw [Subsingleton.elim c 0]; rfl)

theorem held_first (c : Dev nD) :
    (StableHlo.held (c : Thread nD τ) (ucRefs τ sig) (afterRegion (FirstCall.dat (V1 m) c) (V1 m c)) : sProp 𝕄)
      = StableHlo.held (c : Thread nD τ) (ucRefs τ sig) (V2 m (outs m hg) c) :=
  StableHlo.held_congr (c : Thread nD τ) fun b hb => after_first m hg c hb

theorem held_second (c : Dev nD) :
    (StableHlo.held (c : Thread nD τ) (ucRefs τ sig) (afterRegion (SecondCall.dat (entry m) (words m) hg c) (entry m c)) : sProp 𝕄)
      = StableHlo.held (c : Thread nD τ) (ucRefs τ sig) (V4 m (outs m hg) c) :=
  StableHlo.held_congr (c : Thread nD τ) fun b hb => after_second m hg c hb

theorem arrays0_sub : Pipeline.arrRefs (pcfgs (F := F) 0).spec ⊆ ucRefs τ sig :=
  Pipeline.arrRefs_sub_ucRefs _ (launch0 (F := F)).win.arr_unscoped
theorem arrays1_sub : Pipeline.arrRefs (pcfgs (F := F) 1).spec ⊆ ucRefs τ sig :=
  Pipeline.arrRefs_sub_ucRefs _ (launch1 (F := F)).win.arr_unscoped
theorem tables_sub : Pipeline.tblRefs (pcfgs (F := F) 1).pre ⊆ ucRefs τ sig := by
  show Pipeline.tblRefs pre1 ⊆ ucRefs τ sig
  decide

/-- What each call is entered from and left with. -/
theorem pre0 (c : Dev nD) : iprop(StableHlo.held (c : Thread nD τ) (ucRefs τ sig) (V1 m c) ∗ rest c) ⊢ (region0 m hg).pre c := by
  unfold region0
  exact RegionSeg.ofHeldIn_pre (pcs := pcfgs (F := F)) (a := adm m) (pdats := pdats m hg) (p := 0) (D := fun _ => 0) (X := gen) (R := fun _ => iprop(emp)) (W := V1 m) arrays0_sub c

theorem post0 (c : Dev nD) : (region0 m hg).post c ⊢ iprop(StableHlo.held (c : Thread nD τ) (ucRefs τ sig) (V2 m (outs m hg) c) ∗ rest c) := by
  rw [← held_first]
  exact RegionSeg.ofHeldIn_post arrays0_sub c

theorem pre1_ (c : Dev nD) : iprop(StableHlo.held (c : Thread nD τ) (ucRefs τ sig) (V3 m (outs m hg) c) ∗ rest c) ⊢ (region1 m hg).pre c := by
  unfold region1
  exact RegionSeg.ofHeldInT_pre (pcs := pcfgs (F := F)) (a := adm m) (pdats := pdats m hg) (p := 1) (D := fun _ => 0) (X := gen) (R := fun _ => iprop(emp)) (W := entry m) arrays1_sub tables_sub c

theorem post1 (c : Dev nD) : (region1 m hg).post c ⊢ iprop(StableHlo.held (c : Thread nD τ) (ucRefs τ sig) (V4 m (outs m hg) c) ∗ rest c) := by
  rw [← held_second]
  exact RegionSeg.ofHeldInT_post arrays1_sub tables_sub c

set_option backward.isDefEq.respectTransparency.types false in
/-- The run: every buffer ends as the last host lines leave it, and every semaphore at zero. -/
theorem run : θ_run defs (onTc (τ := τ) (main (F := F))) ⟨m, fun _ => 0, ρ⟩ (fun r =>
    (∀ c : Dev nD, ∀ b ∈ ucRefs τ sig, r.2.mem ((c.tc : Thread nD τ).1, b) = V23 m (outs m hg) c b) ∧ r.2.sem = fun _ => 0) := by
  refine Pipeline.θ_run_regions_kit_dev_sems (pcfgs (F := F)) (adm m) (pdats m hg) () (cellOf_inj (adm m)) emb₁ defs₀ Variants.none L lv m ρ main
    (segs m (outs m hg) Variants.none L lv (fun _ => rest) () (adm m) (pdats m hg) (region0 m hg) (region1 m hg))
    (fun c Q => by
      rewrite [main_chain c, Seg.run_eq_chain,
        show (segs m (outs m hg) Variants.none L lv (fun _ => rest) () (adm m) (pdats m hg) (region0 m hg) (region1 m hg) c).map Seg.prog = [
          StableHlo.seq hostOps0, Prog.lift (.customCall (Pipeline.entry 0) ()), StableHlo.seq hostOps1,
          Prog.lift (.customCall (Pipeline.entry 1) ()), StableHlo.seq hostOps2, StableHlo.seq hostOps2_1, StableHlo.seq hostOps2_2,
          StableHlo.seq hostOps2_3, StableHlo.seq hostOps2_4, StableHlo.seq hostOps2_5, StableHlo.seq hostOps2_6, StableHlo.seq hostOps2_7,
          StableHlo.seq hostOps2_8, StableHlo.seq hostOps2_9, StableHlo.seq hostOps2_10, StableHlo.seq hostOps2_11, StableHlo.seq hostOps2_12,
          StableHlo.seq hostOps2_13, StableHlo.seq hostOps2_14, StableHlo.seq hostOps2_15, StableHlo.seq hostOps2_16, StableHlo.seq hostOps2_17,
          StableHlo.seq hostOps2_18 ] from rfl]
      dsimp (config := { failIfUnchanged := false }) only
      exact .rfl)
    (fun c => by simp only [segs, Seg.pipes_host, Seg.pipes_region, Seg.pipes_nil]; decide) (O₀ := 0)
    (fun g hg => by unfold L; rw [if_neg hg]) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU _ : sProp 𝕄) ⊢ BI.own (emb₁ (initOf (Pipeline.cells (Pipeline.pin (pcfgs (F := F)) (adm m)) (cellOf_inj (adm m)))
          (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ rest c))
    (Tₙ := fun c => StableHlo.held (c : Thread nD τ) (ucRefs τ sig) (V23 m (outs m hg) c))
    (hch := fun c => ⟨.rfl, pre0 m hg c, post0 m hg c, pre1_ m hg c, post1 m hg c, .rfl, .rfl, .rfl, .rfl, .rfl, .rfl, .rfl, .rfl, .rfl, .rfl, .rfl, .rfl,
      .rfl, .rfl, .rfl, .rfl, .rfl, .rfl, sep_mono .rfl (show rest c ⊢ (iprop(∃ W, owes (c : Thread nD τ) (0 : CellTallies nD τ sig Unit) W) : sProp 𝕄) from by
        iintro ⟨HO, -, -⟩
        iexact HO)⟩)
    (hinit := ?_) (QY := fun c s => ∀ b ∈ ucRefs τ sig, s.mem ((c.tc : Thread nD τ).1, b) = V23 m (outs m hg) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (ucRefs τ sig) (fun b => ((c : Thread nD τ).1, b)) (V23 m (outs m hg) c) s') $$ [Hh HSI]
    · isplitl [Hh] <;> iassumption
    imodintro; iexact Hr

end Cert.WholeRun

end
-- ==== Proof.WholeTail.lean ====
/- The host operations after the pooling call: they build the row and column numbers of the upper triangle, the same way
   the reference does, and read the pooled matrices there. -/
module

public import proofs.«01_k».proof.Proof.Gen.WholeIdeal.Regions
public import proofs.«01_k».proof.Proof.Tail

@[expose] public section

set_option maxRecDepth 8192

noncomputable section

namespace Cert.WholeTail

open Cert.WholeIdeal Cert.WholeIdeal.Gen
open Idealize.ShloMosaic Idealize.ShloMosaic.TcCoe Idealize.ShloMosaic.StableHlo Idealize.SL.Sem
open Cert.ReferenceIdeal.Read

variable {F : FTy → Type} [FloatOps F]
variable (V : Valuation τ sig (Elt F))

theorem at_v6  :
    after (hostOps2 (F := F)) V (no_index (Proc.devRef .tc main_v6)) = val_main_v87 (F := F) := by
  simp only [hostOps2, TRef.binary, TRef.nullary, TRef.ternary, TRef.unary, TRef.toBuf, TRef.ofBuf, cast_eq]
  after_results_simp
  rfl

theorem at_v7 (h0 : V (Proc.devRef .tc main_v6) = val_main_v87 (F := F)) :
    after (hostOps2_1 (F := F)) V (no_index (Proc.devRef .tc main_v7)) = val_main_v88 (F := F) := by
  simp only [hostOps2_1, TRef.binary, TRef.nullary, TRef.ternary, TRef.unary, TRef.toBuf, TRef.ofBuf, cast_eq]
  after_results_simp
  simp only [h0] <;> rfl

theorem at_v10 (h0 : V (Proc.devRef .tc main_v7) = val_main_v88 (F := F)) :
    after (hostOps2_2 (F := F)) V (no_index (Proc.devRef .tc main_v10)) = val_main_v91 (F := F) := by
  simp only [hostOps2_2, TRef.binary, TRef.nullary, TRef.ternary, TRef.unary, TRef.toBuf, TRef.ofBuf, cast_eq]
  after_results_simp
  simp only [h0] <;> rfl

theorem at_v11 (h0 : V (Proc.devRef .tc main_v10) = val_main_v91 (F := F)) :
    after (hostOps2_3 (F := F)) V (no_index (Proc.devRef .tc main_v11)) = val_main_v92 (F := F) := by
  simp only [hostOps2_3, TRef.binary, TRef.nullary, TRef.ternary, TRef.unary, TRef.toBuf, TRef.ofBuf, cast_eq]
  after_results_simp
  simp only [h0] <;> rfl

theorem at_v20 (h0 : V (Proc.devRef .tc main_v11) = val_main_v92 (F := F)) :
    after (hostOps2_4 (F := F)) V (no_index (Proc.devRef .tc main_v20)) = val_main_v101 (F := F) := by
  simp only [hostOps2_4, TRef.binary, TRef.nullary, TRef.ternary, TRef.unary, TRef.toBuf, TRef.ofBuf, cast_eq]
  after_results_simp
  simp only [h0] <;> rfl

theorem at_v21 (h0 : V (Proc.devRef .tc main_v20) = val_main_v101 (F := F)) :
    after (hostOps2_5 (F := F)) V (no_index (Proc.devRef .tc main_v21)) = val_main_v102 (F := F) := by
  simp only [hostOps2_5, TRef.binary, TRef.nullary, TRef.ternary, TRef.unary, TRef.toBuf, TRef.ofBuf, cast_eq]
  after_results_simp
  simp only [h0] <;> rfl

theorem at_c_4  :
    after (hostOps2_6 (F := F)) V (no_index (Proc.devRef .tc main_c_4)) = val_main_c_19 (F := F) := by
  simp only [hostOps2_6, TRef.binary, TRef.nullary, TRef.ternary, TRef.unary, TRef.toBuf, TRef.ofBuf, cast_eq]
  after_results_simp
  rfl

theorem at_v22 (h0 : V (Proc.devRef .tc main_v21) = val_main_v102 (F := F)) (h1 : V (Proc.devRef .tc main_c_4) = val_main_c_19 (F := F)) :
    after (hostOps2_7 (F := F)) V (no_index (Proc.devRef .tc main_v22)) = val_main_v103 (F := F) := by
  simp only [hostOps2_7, TRef.binary, TRef.nullary, TRef.ternary, TRef.unary, TRef.toBuf, TRef.ofBuf, cast_eq]
  after_results_simp
  simp only [h0, h1] <;> rfl

theorem at_c_5  :
    after (hostOps2_8 (F := F)) V (no_index (Proc.devRef .tc main_c_5)) = val_main_c_20 (F := F) := by
  simp only [hostOps2_8, TRef.binary, TRef.nullary, TRef.ternary, TRef.unary, TRef.toBuf, TRef.ofBuf, cast_eq]
  after_results_simp
  rfl

theorem at_v23 (h0 : V (Proc.devRef .tc main_v22) = val_main_v103 (F := F)) (h1 : V (Proc.devRef .tc main_c_5) = val_main_c_20 (F := F)) :
    after (hostOps2_9 (F := F)) V (no_index (Proc.devRef .tc main_v23)) = val_main_v104 (F := F) := by
  simp only [hostOps2_9, TRef.binary, TRef.nullary, TRef.ternary, TRef.unary, TRef.toBuf, TRef.ofBuf, cast_eq]
  after_results_simp
  simp only [h0, h1] <;> rfl

theorem at_c_6  :
    after (hostOps2_10 (F := F)) V (no_index (Proc.devRef .tc main_c_6)) = val_main_c_21 (F := F) := by
  simp only [hostOps2_10, TRef.binary, TRef.nullary, TRef.ternary, TRef.unary, TRef.toBuf, TRef.ofBuf, cast_eq]
  after_results_simp
  rfl

theorem at_v24 (h0 : V (Proc.devRef .tc main_v21) = val_main_v102 (F := F)) (h1 : V (Proc.devRef .tc main_c_6) = val_main_c_21 (F := F)) :
    after (hostOps2_11 (F := F)) V (no_index (Proc.devRef .tc main_v24)) = val_main_v105 (F := F) := by
  simp only [hostOps2_11, TRef.binary, TRef.nullary, TRef.ternary, TRef.unary, TRef.toBuf, TRef.ofBuf, cast_eq]
  after_results_simp
  simp only [h0, h1] <;> rfl

theorem at_c_7  :
    after (hostOps2_12 (F := F)) V (no_index (Proc.devRef .tc main_c_7)) = val_main_c_22 (F := F) := by
  simp only [hostOps2_12, TRef.binary, TRef.nullary, TRef.ternary, TRef.unary, TRef.toBuf, TRef.ofBuf, cast_eq]
  after_results_simp
  rfl

theorem at_v25 (h0 : V (Proc.devRef .tc main_v24) = val_main_v105 (F := F)) (h1 : V (Proc.devRef .tc main_c_7) = val_main_c_22 (F := F)) :
    after (hostOps2_13 (F := F)) V (no_index (Proc.devRef .tc main_v25)) = val_main_v106 (F := F) := by
  simp only [hostOps2_13, TRef.binary, TRef.nullary, TRef.ternary, TRef.unary, TRef.toBuf, TRef.ofBuf, cast_eq]
  after_results_simp
  simp only [h0, h1] <;> rfl

theorem at_v31 (h0 : V (Proc.devRef .tc main_v10) = val_main_v91 (F := F)) :
    after (hostOps2_14 (F := F)) V (no_index (Proc.devRef .tc main_v31)) = val_main_v112 (F := F) := by
  simp only [hostOps2_14, TRef.binary, TRef.nullary, TRef.ternary, TRef.unary, TRef.toBuf, TRef.ofBuf, cast_eq]
  after_results_simp
  simp only [h0] <;> rfl

theorem at_c_9  :
    after (hostOps2_14 (F := F)) V (no_index (Proc.devRef .tc main_c_9)) = val_main_c_24 (F := F) := by
  simp only [hostOps2_14, TRef.binary, TRef.nullary, TRef.ternary, TRef.unary, TRef.toBuf, TRef.ofBuf, cast_eq]
  after_results_simp
  rfl

theorem at_v32 (h0 : V (Proc.devRef .tc main_v31) = val_main_v112 (F := F)) (h1 : V (Proc.devRef .tc main_c_9) = val_main_c_24 (F := F)) (h2 : V (Proc.devRef .tc main_v23) = val_main_v104 (F := F)) :
    after (hostOps2_15 (F := F)) V (no_index (Proc.devRef .tc main_v32)) = val_main_v113 (F := F) := by
  simp only [hostOps2_15, TRef.binary, TRef.nullary, TRef.ternary, TRef.unary, TRef.toBuf, TRef.ofBuf, cast_eq]
  after_results_simp
  simp only [h0, h1, h2] <;> rfl

theorem at_c_10  :
    after (hostOps2_16 (F := F)) V (no_index (Proc.devRef .tc main_c_10)) = val_main_c_25 (F := F) := by
  simp only [hostOps2_16, TRef.binary, TRef.nullary, TRef.ternary, TRef.unary, TRef.toBuf, TRef.ofBuf, cast_eq]
  after_results_simp
  rfl

theorem at_v33 (h0 : V (Proc.devRef .tc main_v31) = val_main_v112 (F := F)) (h1 : V (Proc.devRef .tc main_c_10) = val_main_c_25 (F := F)) (h2 : V (Proc.devRef .tc main_v25) = val_main_v106 (F := F)) :
    after (hostOps2_17 (F := F)) V (no_index (Proc.devRef .tc main_v33)) = val_main_v114 (F := F) := by
  simp only [hostOps2_17, TRef.binary, TRef.nullary, TRef.ternary, TRef.unary, TRef.toBuf, TRef.ofBuf, cast_eq]
  after_results_simp
  simp only [h0, h1, h2] <;> rfl

theorem at_v44 (h0 : V (Proc.devRef .tc main_v32) = val_main_v113 (F := F)) (h1 : V (Proc.devRef .tc main_v33) = val_main_v114 (F := F)) :
    after (hostOps2_18 (F := F)) V (no_index (Proc.devRef .tc main_v44)) = Tail.picked (F := F) (V (Proc.devRef .tc main_v5)) := by
  simp only [hostOps2_18]
  after_results_simp
  simp only [h0, h1] <;> rfl

/-- All of them: the result is read off the pooled matrices. -/
theorem tail : after ([hostOps2 (F := F), hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18] : List (List (HloOp τ sig (Elt F)))).flatten V (Proc.devRef .tc main_v44)
    = Tail.picked (F := F) (V (Proc.devRef .tc main_v5)) := by
  simp only [List.flatten_cons, List.flatten_nil, List.append_nil, after_append]
  obtain ⟨X, z_v5⟩ : ∃ X, V (Proc.devRef .tc main_v5) = X := ⟨_, rfl⟩
  rw [z_v5]
  have y_v6 := at_v6 V
  have y_v5 := (after_of_writes_sub (hostOps2 (F := F)) _ hostOps2_writes (r := main_v5) (by decide)).trans z_v5
  clear z_v5
  generalize after (hostOps2 (F := F)) V = V1 at y_v6 y_v5 ⊢
  have z_v6 := y_v6; clear y_v6
  have z_v5 := y_v5; clear y_v5
  have y_v7 := at_v7 V1 z_v6
  have y_v5 := (after_of_writes_sub (hostOps2_1 (F := F)) _ hostOps2_1_writes (r := main_v5) (by decide)).trans z_v5
  clear z_v6 z_v5
  generalize after (hostOps2_1 (F := F)) V1 = V2 at y_v7 y_v5 ⊢
  have z_v7 := y_v7; clear y_v7
  have z_v5 := y_v5; clear y_v5
  have y_v10 := at_v10 V2 z_v7
  have y_v5 := (after_of_writes_sub (hostOps2_2 (F := F)) _ hostOps2_2_writes (r := main_v5) (by decide)).trans z_v5
  clear z_v7 z_v5
  generalize after (hostOps2_2 (F := F)) V2 = V3 at y_v10 y_v5 ⊢
  have z_v10 := y_v10; clear y_v10
  have z_v5 := y_v5; clear y_v5
  have y_v11 := at_v11 V3 z_v10
  have y_v10 := (after_of_writes_sub (hostOps2_3 (F := F)) _ hostOps2_3_writes (r := main_v10) (by decide)).trans z_v10
  have y_v5 := (after_of_writes_sub (hostOps2_3 (F := F)) _ hostOps2_3_writes (r := main_v5) (by decide)).trans z_v5
  clear z_v10 z_v5
  generalize after (hostOps2_3 (F := F)) V3 = V4 at y_v11 y_v10 y_v5 ⊢
  have z_v11 := y_v11; clear y_v11
  have z_v10 := y_v10; clear y_v10
  have z_v5 := y_v5; clear y_v5
  have y_v20 := at_v20 V4 z_v11
  have y_v10 := (after_of_writes_sub (hostOps2_4 (F := F)) _ hostOps2_4_writes (r := main_v10) (by decide)).trans z_v10
  have y_v5 := (after_of_writes_sub (hostOps2_4 (F := F)) _ hostOps2_4_writes (r := main_v5) (by decide)).trans z_v5
  clear z_v11 z_v10 z_v5
  generalize after (hostOps2_4 (F := F)) V4 = V5 at y_v20 y_v10 y_v5 ⊢
  have z_v20 := y_v20; clear y_v20
  have z_v10 := y_v10; clear y_v10
  have z_v5 := y_v5; clear y_v5
  have y_v21 := at_v21 V5 z_v20
  have y_v10 := (after_of_writes_sub (hostOps2_5 (F := F)) _ hostOps2_5_writes (r := main_v10) (by decide)).trans z_v10
  have y_v5 := (after_of_writes_sub (hostOps2_5 (F := F)) _ hostOps2_5_writes (r := main_v5) (by decide)).trans z_v5
  clear z_v20 z_v10 z_v5
  generalize after (hostOps2_5 (F := F)) V5 = V6 at y_v21 y_v10 y_v5 ⊢
  have z_v21 := y_v21; clear y_v21
  have z_v10 := y_v10; clear y_v10
  have z_v5 := y_v5; clear y_v5
  have y_c_4 := at_c_4 V6
  have y_v21 := (after_of_writes_sub (hostOps2_6 (F := F)) _ hostOps2_6_writes (r := main_v21) (by decide)).trans z_v21
  have y_v10 := (after_of_writes_sub (hostOps2_6 (F := F)) _ hostOps2_6_writes (r := main_v10) (by decide)).trans z_v10
  have y_v5 := (after_of_writes_sub (hostOps2_6 (F := F)) _ hostOps2_6_writes (r := main_v5) (by decide)).trans z_v5
  clear z_v21 z_v10 z_v5
  generalize after (hostOps2_6 (F := F)) V6 = V7 at y_c_4 y_v21 y_v10 y_v5 ⊢
  have z_c_4 := y_c_4; clear y_c_4
  have z_v21 := y_v21; clear y_v21
  have z_v10 := y_v10; clear y_v10
  have z_v5 := y_v5; clear y_v5
  have y_v22 := at_v22 V7 z_v21 z_c_4
  have y_v21 := (after_of_writes_sub (hostOps2_7 (F := F)) _ hostOps2_7_writes (r := main_v21) (by decide)).trans z_v21
  have y_v10 := (after_of_writes_sub (hostOps2_7 (F := F)) _ hostOps2_7_writes (r := main_v10) (by decide)).trans z_v10
  have y_v5 := (after_of_writes_sub (hostOps2_7 (F := F)) _ hostOps2_7_writes (r := main_v5) (by decide)).trans z_v5
  clear z_c_4 z_v21 z_v10 z_v5
  generalize after (hostOps2_7 (F := F)) V7 = V8 at y_v22 y_v21 y_v10 y_v5 ⊢
  have z_v22 := y_v22; clear y_v22
  have z_v21 := y_v21; clear y_v21
  have z_v10 := y_v10; clear y_v10
  have z_v5 := y_v5; clear y_v5
  have y_c_5 := at_c_5 V8
  have y_v22 := (after_of_writes_sub (hostOps2_8 (F := F)) _ hostOps2_8_writes (r := main_v22) (by decide)).trans z_v22
  have y_v21 := (after_of_writes_sub (hostOps2_8 (F := F)) _ hostOps2_8_writes (r := main_v21) (by decide)).trans z_v21
  have y_v10 := (after_of_writes_sub (hostOps2_8 (F := F)) _ hostOps2_8_writes (r := main_v10) (by decide)).trans z_v10
  have y_v5 := (after_of_writes_sub (hostOps2_8 (F := F)) _ hostOps2_8_writes (r := main_v5) (by decide)).trans z_v5
  clear z_v22 z_v21 z_v10 z_v5
  generalize after (hostOps2_8 (F := F)) V8 = V9 at y_c_5 y_v22 y_v21 y_v10 y_v5 ⊢
  have z_c_5 := y_c_5; clear y_c_5
  have z_v22 := y_v22; clear y_v22
  have z_v21 := y_v21; clear y_v21
  have z_v10 := y_v10; clear y_v10
  have z_v5 := y_v5; clear y_v5
  have y_v23 := at_v23 V9 z_v22 z_c_5
  have y_v21 := (after_of_writes_sub (hostOps2_9 (F := F)) _ hostOps2_9_writes (r := main_v21) (by decide)).trans z_v21
  have y_v10 := (after_of_writes_sub (hostOps2_9 (F := F)) _ hostOps2_9_writes (r := main_v10) (by decide)).trans z_v10
  have y_v5 := (after_of_writes_sub (hostOps2_9 (F := F)) _ hostOps2_9_writes (r := main_v5) (by decide)).trans z_v5
  clear z_c_5 z_v22 z_v21 z_v10 z_v5
  generalize after (hostOps2_9 (F := F)) V9 = V10 at y_v23 y_v21 y_v10 y_v5 ⊢
  have z_v23 := y_v23; clear y_v23
  have z_v21 := y_v21; clear y_v21
  have z_v10 := y_v10; clear y_v10
  have z_v5 := y_v5; clear y_v5
  have y_c_6 := at_c_6 V10
  have y_v23 := (after_of_writes_sub (hostOps2_10 (F := F)) _ hostOps2_10_writes (r := main_v23) (by decide)).trans z_v23
  have y_v21 := (after_of_writes_sub (hostOps2_10 (F := F)) _ hostOps2_10_writes (r := main_v21) (by decide)).trans z_v21
  have y_v10 := (after_of_writes_sub (hostOps2_10 (F := F)) _ hostOps2_10_writes (r := main_v10) (by decide)).trans z_v10
  have y_v5 := (after_of_writes_sub (hostOps2_10 (F := F)) _ hostOps2_10_writes (r := main_v5) (by decide)).trans z_v5
  clear z_v23 z_v21 z_v10 z_v5
  generalize after (hostOps2_10 (F := F)) V10 = V11 at y_c_6 y_v23 y_v21 y_v10 y_v5 ⊢
  have z_c_6 := y_c_6; clear y_c_6
  have z_v23 := y_v23; clear y_v23
  have z_v21 := y_v21; clear y_v21
  have z_v10 := y_v10; clear y_v10
  have z_v5 := y_v5; clear y_v5
  have y_v24 := at_v24 V11 z_v21 z_c_6
  have y_v23 := (after_of_writes_sub (hostOps2_11 (F := F)) _ hostOps2_11_writes (r := main_v23) (by decide)).trans z_v23
  have y_v10 := (after_of_writes_sub (hostOps2_11 (F := F)) _ hostOps2_11_writes (r := main_v10) (by decide)).trans z_v10
  have y_v5 := (after_of_writes_sub (hostOps2_11 (F := F)) _ hostOps2_11_writes (r := main_v5) (by decide)).trans z_v5
  clear z_c_6 z_v23 z_v21 z_v10 z_v5
  generalize after (hostOps2_11 (F := F)) V11 = V12 at y_v24 y_v23 y_v10 y_v5 ⊢
  have z_v24 := y_v24; clear y_v24
  have z_v23 := y_v23; clear y_v23
  have z_v10 := y_v10; clear y_v10
  have z_v5 := y_v5; clear y_v5
  have y_c_7 := at_c_7 V12
  have y_v24 := (after_of_writes_sub (hostOps2_12 (F := F)) _ hostOps2_12_writes (r := main_v24) (by decide)).trans z_v24
  have y_v23 := (after_of_writes_sub (hostOps2_12 (F := F)) _ hostOps2_12_writes (r := main_v23) (by decide)).trans z_v23
  have y_v10 := (after_of_writes_sub (hostOps2_12 (F := F)) _ hostOps2_12_writes (r := main_v10) (by decide)).trans z_v10
  have y_v5 := (after_of_writes_sub (hostOps2_12 (F := F)) _ hostOps2_12_writes (r := main_v5) (by decide)).trans z_v5
  clear z_v24 z_v23 z_v10 z_v5
  generalize after (hostOps2_12 (F := F)) V12 = V13 at y_c_7 y_v24 y_v23 y_v10 y_v5 ⊢
  have z_c_7 := y_c_7; clear y_c_7
  have z_v24 := y_v24; clear y_v24
  have z_v23 := y_v23; clear y_v23
  have z_v10 := y_v10; clear y_v10
  have z_v5 := y_v5; clear y_v5
  have y_v25 := at_v25 V13 z_v24 z_c_7
  have y_v23 := (after_of_writes_sub (hostOps2_13 (F := F)) _ hostOps2_13_writes (r := main_v23) (by decide)).trans z_v23
  have y_v10 := (after_of_writes_sub (hostOps2_13 (F := F)) _ hostOps2_13_writes (r := main_v10) (by decide)).trans z_v10
  have y_v5 := (after_of_writes_sub (hostOps2_13 (F := F)) _ hostOps2_13_writes (r := main_v5) (by decide)).trans z_v5
  clear z_c_7 z_v24 z_v23 z_v10 z_v5
  generalize after (hostOps2_13 (F := F)) V13 = V14 at y_v25 y_v23 y_v10 y_v5 ⊢
  have z_v25 := y_v25; clear y_v25
  have z_v23 := y_v23; clear y_v23
  have z_v10 := y_v10; clear y_v10
  have z_v5 := y_v5; clear y_v5
  have y_v31 := at_v31 V14 z_v10
  have y_c_9 := at_c_9 V14
  have y_v25 := (after_of_writes_sub (hostOps2_14 (F := F)) _ hostOps2_14_writes (r := main_v25) (by decide)).trans z_v25
  have y_v23 := (after_of_writes_sub (hostOps2_14 (F := F)) _ hostOps2_14_writes (r := main_v23) (by decide)).trans z_v23
  have y_v5 := (after_of_writes_sub (hostOps2_14 (F := F)) _ hostOps2_14_writes (r := main_v5) (by decide)).trans z_v5
  clear z_v25 z_v23 z_v10 z_v5
  generalize after (hostOps2_14 (F := F)) V14 = V15 at y_v31 y_c_9 y_v25 y_v23 y_v5 ⊢
  have z_v31 := y_v31; clear y_v31
  have z_c_9 := y_c_9; clear y_c_9
  have z_v25 := y_v25; clear y_v25
  have z_v23 := y_v23; clear y_v23
  have z_v5 := y_v5; clear y_v5
  have y_v32 := at_v32 V15 z_v31 z_c_9 z_v23
  have y_v31 := (after_of_writes_sub (hostOps2_15 (F := F)) _ hostOps2_15_writes (r := main_v31) (by decide)).trans z_v31
  have y_v25 := (after_of_writes_sub (hostOps2_15 (F := F)) _ hostOps2_15_writes (r := main_v25) (by decide)).trans z_v25
  have y_v5 := (after_of_writes_sub (hostOps2_15 (F := F)) _ hostOps2_15_writes (r := main_v5) (by decide)).trans z_v5
  clear z_v31 z_c_9 z_v25 z_v23 z_v5
  generalize after (hostOps2_15 (F := F)) V15 = V16 at y_v32 y_v31 y_v25 y_v5 ⊢
  have z_v32 := y_v32; clear y_v32
  have z_v31 := y_v31; clear y_v31
  have z_v25 := y_v25; clear y_v25
  have z_v5 := y_v5; clear y_v5
  have y_c_10 := at_c_10 V16
  have y_v32 := (after_of_writes_sub (hostOps2_16 (F := F)) _ hostOps2_16_writes (r := main_v32) (by decide)).trans z_v32
  have y_v31 := (after_of_writes_sub (hostOps2_16 (F := F)) _ hostOps2_16_writes (r := main_v31) (by decide)).trans z_v31
  have y_v25 := (after_of_writes_sub (hostOps2_16 (F := F)) _ hostOps2_16_writes (r := main_v25) (by decide)).trans z_v25
  have y_v5 := (after_of_writes_sub (hostOps2_16 (F := F)) _ hostOps2_16_writes (r := main_v5) (by decide)).trans z_v5
  clear z_v32 z_v31 z_v25 z_v5
  generalize after (hostOps2_16 (F := F)) V16 = V17 at y_c_10 y_v32 y_v31 y_v25 y_v5 ⊢
  have z_c_10 := y_c_10; clear y_c_10
  have z_v32 := y_v32; clear y_v32
  have z_v31 := y_v31; clear y_v31
  have z_v25 := y_v25; clear y_v25
  have z_v5 := y_v5; clear y_v5
  have y_v33 := at_v33 V17 z_v31 z_c_10 z_v25
  have y_v32 := (after_of_writes_sub (hostOps2_17 (F := F)) _ hostOps2_17_writes (r := main_v32) (by decide)).trans z_v32
  have y_v5 := (after_of_writes_sub (hostOps2_17 (F := F)) _ hostOps2_17_writes (r := main_v5) (by decide)).trans z_v5
  clear z_c_10 z_v32 z_v31 z_v25 z_v5
  generalize after (hostOps2_17 (F := F)) V17 = V18 at y_v33 y_v32 y_v5 ⊢
  have z_v33 := y_v33; clear y_v33
  have z_v32 := y_v32; clear y_v32
  have z_v5 := y_v5; clear y_v5
  rw [at_v44 _ z_v32 z_v33, z_v5]

end Cert.WholeTail
-- ==== Proof.FirstValues.lean ====
/- The three results of the first call inside the whole program are those of the weights kernel on the same three arrays. -/
module

public import proofs.«01_k».proof.Proof.FirstCall
public import proofs.«01_k».proof.Proof.Outputs

@[expose] public section

set_option maxRecDepth 16384

noncomputable section

namespace Cert.FirstValues

open Cert.WholeIdeal Cert.WholeIdeal.Gen Cert.FirstCall
open Idealize.ShloMosaic Idealize.ShloMosaic.TcCoe Idealize.SL.Sem

variable {F : FTy → Type} [FloatOps F]

section Body

variable (c : Dev nD) (arg0 : Memref sig .tc .vmem S8192x128 .f32) (harg0 : arg0.IsWhole) (arg1 : Memref sig .tc .vmem S1x8256 .f32)
  (harg1 : arg1.IsWhole) (arg2 : Memref sig .tc .vmem S1x8192 .i32) (harg2 : arg2.IsWhole) (arg3 : Memref sig .tc .vmem S128x8192 .f32)
  (harg3 : arg3.IsWhole) (arg4 : Memref sig .tc .vmem S1x128 .i32) (harg4 : arg4.IsWhole) (arg5 : Memref sig .tc .vmem S1x64 .f32)
  (harg5 : arg5.IsWhole) (arg6 : Memref sig .tc .vmem S128x128 .f32) (harg6 : arg6.IsWhole)
  (x0 : Vec F S8192x128 .f32) (x1 : Vec F S1x8256 .f32) (x2 : Vec F S1x8192 .i32)

set_option maxHeartbeats 2000000 in
theorem stores_eq :
    run.sl.HS0_128 c arg1 harg1 x1
      = Strips.rows (shapeCast S1x8256 (View.readAt (Elt F) arg1.view (Rect.unit (s := S1x8256) ![0, 0] S1x8256.size inb_S1x8256_S1x8256_0_0).toLoadRect (harg1.unread x1)) shapeCasts_S1x8256_S1x8256) 128 (Nat.le_refl _) :=
  rfl

/-- The matrix that the stored rows make, read back whole. -/
theorem read_back : run.sl.v1027 c arg1 harg1 arg6 x1 = Strips.full x1 := by
  unfold run.sl.v1027
  rw [stores_eq, show shapeCast S1x8256 (View.readAt (Elt F) arg1.view (Rect.unit (s := S1x8256) ![0, 0] S1x8256.size inb_S1x8256_S1x8256_0_0).toLoadRect (harg1.unread x1)) shapeCasts_S1x8256_S1x8256 = _
      from shapeCast_self _ _, View.readAt_eq_ld, harg1.read_unread, View.ld_unit_zero (by funext a; match a with | ⟨0, _⟩ => rfl | ⟨1, _⟩ => rfl)]
  funext y
  unfold View.readCov
  rw [View.readAt_apply, View.read_writes_apply_of_pieces _ _ (Strips.full x1) _ (Strips.rows_agree x1 128 _) _ (Strips.rows_cover x1 _ 128 _ (Fin.isLt _))]
  congr 1
  exact funext fun a => Fin.ext (match a with
    | ⟨0, _⟩ => (Nat.zero_add _).trans (Nat.one_mul _)
    | ⟨1, _⟩ => (Nat.zero_add _).trans (Nat.one_mul _))

/-- A load of all nodes, … -/
theorem nodes_full : run.sl.r_27 c arg0 harg0 x0 = x0 := by
  unfold run.sl.r_27
  rw [View.readAt_eq_ld, harg0.read_unread]
  exact View.ld_unit_zero (by funext a; match a with | ⟨0, _⟩ => rfl | ⟨1, _⟩ => rfl) _ _

/-- … and of all graph numbers. -/
theorem batch_full :
    View.readAt (Elt F) arg2.view (Rect.unit (s := S1x8192) ![0, 0] S1x8192.size inb_S1x8192_S1x8192_0_0).toLoadRect (harg2.unread x2) = x2 := by
  rw [View.readAt_eq_ld, harg2.read_unread]
  exact View.ld_unit_zero (by funext a; match a with | ⟨0, _⟩ => rfl | ⟨1, _⟩ => rfl) _ _

/-- The node-graph mask is the weights kernel's: it reads the graph numbers through a cast to their own shape. -/
theorem mask_eq : k0_pay167 (F := F) x2 = WeightsIdeal.Gen.k0_pay166 (F := F) x2 := by
  unfold k0_pay167
  rw [show shapeCast S1x8192 x2 shapeCasts_S1x8192_S1x8192 = x2 from shapeCast_self _ _]
  rfl

theorem starts_eq : k0_pay169 (F := F) x2 = Outputs.starts (F := F) x2 := by
  unfold k0_pay169
  rw [mask_eq]
  rfl

theorem sums_eq : k0_pay168 (k0_pay165 (Strips.full x1)) x0 x2 = Outputs.sums x0 x1 x2 := by
  unfold k0_pay168
  rw [mask_eq]
  rfl

theorem out_scaled : out_3 c arg0 harg0 arg1 harg1 arg2 harg2 arg3 harg3 arg4 harg4 arg5 harg5 arg6 harg6 x0 x1 x2 = Outputs.scaled x0 x1 := by
  unfold out_3
  rw [View.read_writes_eq_canon _ _ _ (cover_3 c arg0 harg0 arg1 harg1 arg2 harg2 arg3 harg3 arg4 harg4 arg5 harg5 arg6 harg6 x0 x1 x2)]
  unfold run
  dsimp only
  refine (View.canon_cons_unit_zero (by funext a; match a with | ⟨0, _⟩ => rfl | ⟨1, _⟩ => rfl) _ _ _).trans ?_
  unfold run.sl.r_28 run.sl.r_26
  rw [read_back, nodes_full]
  rfl

theorem out_starts : out_4 c arg0 harg0 arg1 harg1 arg2 harg2 arg3 harg3 arg4 harg4 arg5 harg5 arg6 harg6 x0 x1 x2 = Outputs.starts (F := F) x2 := by
  unfold out_4
  rw [View.read_writes_eq_canon _ _ _ (cover_4 c arg0 harg0 arg1 harg1 arg2 harg2 arg3 harg3 arg4 harg4 arg5 harg5 arg6 harg6 x0 x1 x2)]
  unfold run
  dsimp only
  refine (View.canon_cons_unit_zero (by funext a; match a with | ⟨0, _⟩ => rfl | ⟨1, _⟩ => rfl) _ _ _).trans ?_
  erw [batch_full]
  exact starts_eq x2

theorem out_sums : out_5 c arg0 harg0 arg1 harg1 arg2 harg2 arg3 harg3 arg4 harg4 arg5 harg5 arg6 harg6 x0 x1 x2 = Outputs.sums x0 x1 x2 := by
  unfold out_5
  rw [View.read_writes_eq_canon _ _ _ (cover_5 c arg0 harg0 arg1 harg1 arg2 harg2 arg3 harg3 arg4 harg4 arg5 harg5 arg6 harg6 x0 x1 x2)]
  unfold run
  dsimp only
  refine (View.canon_cons_unit_zero (by funext a; match a with | ⟨0, _⟩ => rfl | ⟨1, _⟩ => rfl) _ _ _).trans ?_
  unfold run.sl.r_26
  rw [read_back, nodes_full]
  erw [batch_full]
  exact sums_eq x0 x1 x2

end Body

variable (W : Dev nD → Valuation τ sig (Elt F)) (c : Dev nD)

/-- The three arrays the call reads: nodes, flattened weights, graph numbers. -/
abbrev nodes : Vec F S8192x128 .f32 := W c (Proc.devRef .tc main_arg0)
abbrev flat : Vec F S1x8256 .f32 := W c (Proc.devRef .tc main_v0)
abbrev graphs : Vec F S1x8192 .i32 := W c (Proc.devRef .tc main_v1)

theorem iblk_0 (t : Fin cfg0.N) : iblk W c 0 t = nodes W c := by
  refine funext fun (x : S8192x128.Idx) => ?_
  refine congrArg (nodes W c) (funext fun a => ?_)
  match a with
  | ⟨0, _⟩ => exact Fin.ext (by show 0 * 8192 + 1 * (x 0).val = (x 0).val; omega)
  | ⟨1, _⟩ => exact Fin.ext (by show 0 * 128 + 1 * (x 1).val = (x 1).val; omega)

theorem iblk_1 (t : Fin cfg0.N) : iblk W c 1 t = flat W c := by
  refine funext fun (x : S1x8256.Idx) => ?_
  refine congrArg (flat W c) (funext fun a => ?_)
  match a with
  | ⟨0, _⟩ => exact Fin.ext (by show 0 * 1 + 1 * (x 0).val = (x 0).val; omega)
  | ⟨1, _⟩ => exact Fin.ext (by show 0 * 8256 + 1 * (x 1).val = (x 1).val; omega)

theorem iblk_2 (t : Fin cfg0.N) : iblk W c 2 t = graphs W c := by
  refine funext fun (x : S1x8192.Idx) => ?_
  refine congrArg (graphs W c) (funext fun a => ?_)
  match a with
  | ⟨0, _⟩ => exact Fin.ext (by show 0 * 1 + 1 * (x 0).val = (x 0).val; omega)
  | ⟨1, _⟩ => exact Fin.ext (by show 0 * 8192 + 1 * (x 1).val = (x 1).val; omega)

/-- The one grid point. -/
def only : Fin cfg0.N := ⟨0, (by decide : 0 < grid0.N)⟩

/-- It writes each result whole. -/
theorem final_scaled : (dat W c).arrAt 3 cfg0.N = Outputs.scaled (nodes W c) (flat W c) := by
  refine (dat W c).arrAt_eq_of_after_last 3 only (by decide +kernel) _ fun j => ?_
  rw [after_3]
  unfold outs_3
  rw [out_scaled, iblk_0, iblk_1]
  rfl

theorem final_starts : (dat W c).arrAt 4 cfg0.N = Outputs.starts (F := F) (graphs W c) := by
  refine (dat W c).arrAt_eq_of_after_last 4 only (by decide +kernel) _ fun j => ?_
  rw [after_4]
  unfold outs_4
  rw [out_starts, iblk_2]
  rfl

theorem final_sums : (dat W c).arrAt 5 cfg0.N = Outputs.sums (nodes W c) (flat W c) (graphs W c) := by
  refine (dat W c).arrAt_eq_of_after_last 5 only (by decide +kernel) _ fun j => ?_
  rw [after_5]
  unfold outs_5
  rw [out_sums, iblk_0, iblk_1, iblk_2]
  rfl

end Cert.FirstValues

end
-- ==== Proof.SecondValues.lean ====
/- The second call inside the whole program, on the extended reals: its result array holds the same matrices as the pooling
   kernel's, of the arrays and the words that the call finds. -/
module

public import proofs.«01_k».proof.Proof.SecondCall
public import proofs.«01_k».proof.Proof.Pooled

@[expose] public section

set_option maxRecDepth 16384

noncomputable section

namespace Cert.SecondValues

open Cert.WholeIdeal Cert.WholeIdeal.Gen Cert.SecondCall
open Idealize.ShloMosaic Idealize.ShloMosaic.TcCoe Idealize.SL.Sem
open Idealize.ShloMosaic.Tactic
open Cert.IdealHyps (graph)

variable {F : FTy → Type} [FloatOps F]

/-- A word read off `starts` at offset `v` is the array's word `v`. -/
theorem word_at (c : Dev nD) (x : Tbl (F := F) c) (off : Fin 1 → ℕ) (v : Fin 65) (h : off = ![v.val]) (inb) : word c x off inb = x (ix1 v) := by
  subst h
  refine congrArg x (funext fun a => ?_)
  match a with
  | ⟨0, _⟩ => exact Fin.ext (by show v.val + 1 * 0 = v.val; omega)

/-- Words that lie in order among the nodes are words the body can use. -/
theorem good {c : Dev nD} {x : Tbl (F := F) c} (h : ∀ g : Fin 64, Words.Bounds (x (ix1 g.castSucc)) (x (ix1 g.succ))) : Good c x := by
  intro i g o1 o2 e1 e2 i1 i2
  rw [word_at c x o1 (graph i g).castSucc e1, word_at c x o2 (graph i g).succ e2]
  exact Words.chk_ideal (h (graph i g))

section Body

variable (c : Dev nD) (i : grid1.Coords) (arg2 : Memref sig .tc .vmem S128x8192 .f32) (harg2 : arg2.IsWhole) (arg3 : Memref sig .tc .vmem S8192x128 .f32)
  (harg3 : arg3.IsWhole) (arg4 : Memref sig .tc .vmem S1x8192 .i32) (harg4 : arg4.IsWhole) (arg5 : Memref sig .tc .vmem S1x64 .f32)
  (harg5 : arg5.IsWhole) (arg6 : Memref sig .tc .vmem S8x128x128 .f32) (harg6 : arg6.IsWhole)
  (x0 : Vec F S128x8192 .f32) (x1 : Vec F S8192x128 .f32) (x2 : Vec F S1x8192 .i32) (x3 : Vec F S1x64 .f32) (xt : Tbl (F := F) c)
  (k1_hw1 : k1_chk1 (word c xt (k1_off1 i) (k1_off1_inb i)) (word c xt (k1_off2 i) (k1_off2_inb i)))
  (k1_hw2 : k1_chk2 (word c xt (k1_off9 i) (k1_off9_inb i)) (word c xt (k1_off10 i) (k1_off10_inb i)))
  (k1_hw3 : k1_chk3 (word c xt (k1_off17 i) (k1_off17_inb i)) (word c xt (k1_off18 i) (k1_off18_inb i)))
  (k1_hw4 : k1_chk4 (word c xt (k1_off25 i) (k1_off25_inb i)) (word c xt (k1_off26 i) (k1_off26_inb i)))
  (k1_hw5 : k1_chk5 (word c xt (k1_off33 i) (k1_off33_inb i)) (word c xt (k1_off34 i) (k1_off34_inb i)))
  (k1_hw6 : k1_chk6 (word c xt (k1_off41 i) (k1_off41_inb i)) (word c xt (k1_off42 i) (k1_off42_inb i)))
  (k1_hw7 : k1_chk7 (word c xt (k1_off49 i) (k1_off49_inb i)) (word c xt (k1_off50 i) (k1_off50_inb i)))
  (k1_hw8 : k1_chk8 (word c xt (k1_off57 i) (k1_off57_inb i)) (word c xt (k1_off58 i) (k1_off58_inb i)))

/-- A load of the whole row of sums. -/
theorem row_full :
    k1_pay27 (View.readAt (Elt F) arg5.view (Rect.unit (s := S1x64) ![0, 0] S1x64.size inb_S1x64_S1x64_0_0).toLoadRect (harg5.unread x3)) = x3 := by
  refine (shapeCast_self _ _).trans ?_
  rw [View.readAt_eq_ld, harg5.read_unread]
  exact View.ld_unit_zero (by funext a; match a with | ⟨0, _⟩ => rfl | ⟨1, _⟩ => rfl) _ _

/-- The sum of a trip, whose loads pass through casts to their own shapes. -/
theorem trip_pay (b : BitVec 32) (a : FVec F S128x128 .f32) (v0 : Vec F S1x1024 .i32) (v1 : Vec F S128x1024 .f32) (v2 : Vec F S1024x128 .f32) :
    k1_pay7 b a v0 v1 v2 = KernelIdeal.Gen.k0_pay7 b a v0 v1 v2 := by
  unfold k1_pay7
  rw [show shapeCast S1x1024 v0 shapeCasts_S1x1024_S1x1024 = v0 from shapeCast_self _ _,
    show shapeCast S128x1024 v1 shapeCasts_S128x1024_S128x1024 = v1 from shapeCast_self _ _]
  rfl

/-- One trip, its three chunks loaded from buffers that hold the arrays. -/
theorem trip_read (b : BitVec 32) (a : FVec F S128x128 .f32) {r0 r1 : BitVec 32} (h : KernelIdeal.k0_chk1 r0 r1)
    (k : Fin (KernelIdeal.k0_t1_loop r0 r1).trips) :
    k1_pay7 b a (View.readAt (Elt F) arg4.view (Rect.unit (s := S1x8192) (KernelIdeal.k0_off3 r0 r1 k) S1x1024.size (KernelIdeal.k0_off3_inb r0 r1 h k)).toLoadRect (harg4.unread x2))
        (View.readAt (Elt F) arg2.view (Rect.unit (s := S128x8192) (KernelIdeal.k0_off4 r0 r1 k) S128x1024.size (KernelIdeal.k0_off4_inb r0 r1 h k)).toLoadRect (harg2.unread x0))
        (View.readAt (Elt F) arg3.view (Rect.unit (s := S8192x128) (KernelIdeal.k0_off5 r0 r1 k) S1024x128.size (KernelIdeal.k0_off5_inb r0 r1 h k)).toLoadRect (harg3.unread x1))
      = Acc.trip b x0 x1 x2 r0 r1 h k a := by
  simp only [View.readAt_eq_ld, harg2.read_unread, harg3.read_unread, harg4.read_unread]
  exact trip_pay ..

set_option maxHeartbeats 2000000 in
/-- The block the body leaves: the square roots of the means of the eight graphs' sums `S`. -/
theorem out_stack (S : Fin 8 → FVec F S128x128 .f32)
    (hS : ∀ g : Fin 8, ∀ r0 r1 (h : KernelIdeal.k0_chk1 r0 r1), r0 = xt (ix1 (graph i g).castSucc) → r1 = xt (ix1 (graph i g).succ) →
      Acc.acc (Point.num i (BitVec.ofNat 32 g.val)) x0 x1 x2 r0 r1 h = S g) :
    out c i arg2 harg2 arg3 harg3 arg4 harg4 arg5 harg5 arg6 harg6 x0 x1 x2 x3 xt k1_hw1 k1_hw2 k1_hw3 k1_hw4 k1_hw5 k1_hw6 k1_hw7 k1_hw8
      = stackAlong0 (d := ![128, 128]) fun g : Fin 8 => Point.root (Point.mean (Point.num i (BitVec.ofNat 32 g.val)) (S g) x3) := by
  unfold out
  rw [View.read_writes_eq_canon _ _ _ (cover c i arg2 harg2 arg3 harg3 arg4 harg4 arg5 harg5 arg6 harg6 x0 x1 x2 x3 xt k1_hw1 k1_hw2 k1_hw3 k1_hw4 k1_hw5 k1_hw6 k1_hw7 k1_hw8)]
  unfold run
  dsimp only
  funext y
  canon_tiles x h
  · refine Point.fill i 7 S x3 x y (by omega) h1 h2 rfl (Eq.trans ?_ (hS 7 _ _ k1_hw8 (word_at c xt _ _ (k1_off57_eq i) _) (word_at c xt _ _ (k1_off58_eq i) _))) (row_full arg5 harg5 x3)
    exact Acc.of_loops _ (Words.trips_rest _ _) (st_k1_t16_zero ..) rfl (st_k1_t15_zero ..)
      fun k => (st_k1_t15_succ ..).trans (by unfold tripR_k1_t15 trip_k1_t15; exact trip_read arg2 harg2 arg3 harg3 arg4 harg4 x0 x1 x2 _ _ _ k)
  · refine Point.fill i 6 S x3 x y (by omega) h1 h2 rfl (Eq.trans ?_ (hS 6 _ _ k1_hw7 (word_at c xt _ _ (k1_off49_eq i) _) (word_at c xt _ _ (k1_off50_eq i) _))) (row_full arg5 harg5 x3)
    exact Acc.of_loops _ (Words.trips_rest _ _) (st_k1_t14_zero ..) rfl (st_k1_t13_zero ..)
      fun k => (st_k1_t13_succ ..).trans (by unfold tripR_k1_t13 trip_k1_t13; exact trip_read arg2 harg2 arg3 harg3 arg4 harg4 x0 x1 x2 _ _ _ k)
  · refine Point.fill i 5 S x3 x y (by omega) h1 h2 rfl (Eq.trans ?_ (hS 5 _ _ k1_hw6 (word_at c xt _ _ (k1_off41_eq i) _) (word_at c xt _ _ (k1_off42_eq i) _))) (row_full arg5 harg5 x3)
    exact Acc.of_loops _ (Words.trips_rest _ _) (st_k1_t12_zero ..) rfl (st_k1_t11_zero ..)
      fun k => (st_k1_t11_succ ..).trans (by unfold tripR_k1_t11 trip_k1_t11; exact trip_read arg2 harg2 arg3 harg3 arg4 harg4 x0 x1 x2 _ _ _ k)
  · refine Point.fill i 4 S x3 x y (by omega) h1 h2 rfl (Eq.trans ?_ (hS 4 _ _ k1_hw5 (word_at c xt _ _ (k1_off33_eq i) _) (word_at c xt _ _ (k1_off34_eq i) _))) (row_full arg5 harg5 x3)
    exact Acc.of_loops _ (Words.trips_rest _ _) (st_k1_t10_zero ..) rfl (st_k1_t9_zero ..)
      fun k => (st_k1_t9_succ ..).trans (by unfold tripR_k1_t9 trip_k1_t9; exact trip_read arg2 harg2 arg3 harg3 arg4 harg4 x0 x1 x2 _ _ _ k)
  · refine Point.fill i 3 S x3 x y (by omega) h1 h2 rfl (Eq.trans ?_ (hS 3 _ _ k1_hw4 (word_at c xt _ _ (k1_off25_eq i) _) (word_at c xt _ _ (k1_off26_eq i) _))) (row_full arg5 harg5 x3)
    exact Acc.of_loops _ (Words.trips_rest _ _) (st_k1_t8_zero ..) rfl (st_k1_t7_zero ..)
      fun k => (st_k1_t7_succ ..).trans (by unfold tripR_k1_t7 trip_k1_t7; exact trip_read arg2 harg2 arg3 harg3 arg4 harg4 x0 x1 x2 _ _ _ k)
  · refine Point.fill i 2 S x3 x y (by omega) h1 h2 rfl (Eq.trans ?_ (hS 2 _ _ k1_hw3 (word_at c xt _ _ (k1_off17_eq i) _) (word_at c xt _ _ (k1_off18_eq i) _))) (row_full arg5 harg5 x3)
    exact Acc.of_loops _ (Words.trips_rest _ _) (st_k1_t6_zero ..) rfl (st_k1_t5_zero ..)
      fun k => (st_k1_t5_succ ..).trans (by unfold tripR_k1_t5 trip_k1_t5; exact trip_read arg2 harg2 arg3 harg3 arg4 harg4 x0 x1 x2 _ _ _ k)
  · refine Point.fill i 1 S x3 x y (by omega) h1 h2 rfl (Eq.trans ?_ (hS 1 _ _ k1_hw2 (word_at c xt _ _ (k1_off9_eq i) _) (word_at c xt _ _ (k1_off10_eq i) _))) (row_full arg5 harg5 x3)
    exact Acc.of_loops _ (Words.trips_rest _ _) (st_k1_t4_zero ..) rfl (st_k1_t3_zero ..)
      fun k => (st_k1_t3_succ ..).trans (by unfold tripR_k1_t3 trip_k1_t3; exact trip_read arg2 harg2 arg3 harg3 arg4 harg4 x0 x1 x2 _ _ _ k)
  · refine Point.fill i 0 S x3 x y (by omega) h1 h2 rfl (Eq.trans ?_ (hS 0 _ _ k1_hw1 (word_at c xt _ _ (k1_off1_eq i) _) (word_at c xt _ _ (k1_off2_eq i) _))) (row_full arg5 harg5 x3)
    exact Acc.of_loops _ (Words.trips_rest _ _) (st_k1_t2_zero ..) rfl (st_k1_t1_zero ..)
      fun k => (st_k1_t1_succ ..).trans (by unfold tripR_k1_t1 trip_k1_t1; exact trip_read arg2 harg2 arg3 harg3 arg4 harg4 x0 x1 x2 _ _ _ k)

end Body

section Array

variable (W : Dev nD → Valuation τ sig (Elt Ideal)) (a : (pcfg1 (F := Ideal)).Adm) (hg : ∀ c, Good c (tab a c)) (c : Dev nD)

/-- The four arrays the call reads: scaled nodes, nodes, graph numbers, sums. -/
abbrev scaled : Vec Ideal S128x8192 .f32 := W c (Proc.devRef .tc main_v2_0)
abbrev nodes : Vec Ideal S8192x128 .f32 := W c (Proc.devRef .tc main_arg0)
abbrev graphs : Vec Ideal S1x8192 .i32 := W c (Proc.devRef .tc main_v1)
abbrev sums : Vec Ideal S1x64 .f32 := W c (Proc.devRef .tc main_v2_2)

/-- All 64 matrices. -/
def pooled (x0 : Vec Ideal S128x8192 .f32) (x1 : Vec Ideal S8192x128 .f32) (x2 : Vec Ideal S1x8192 .i32) (x3 : Vec Ideal S1x64 .f32) :
    FVec Ideal S64x128x128 .f32 := fun i => Pooled.matrix (BitVec.ofNat 32 (i 0).val) x0 x1 x2 x3 (ix2 (i 1) (i 2))

theorem iblk_0 (t : Fin (cfg1 a).N) : iblk W a c 0 t = scaled W c := by
  refine funext fun (x : S128x8192.Idx) => ?_
  refine congrArg (scaled W c) (funext fun a => ?_)
  match a with
  | ⟨0, _⟩ => exact Fin.ext (by show 0 * 128 + 1 * (x 0).val = (x 0).val; omega)
  | ⟨1, _⟩ => exact Fin.ext (by show 0 * 8192 + 1 * (x 1).val = (x 1).val; omega)

theorem iblk_1 (t : Fin (cfg1 a).N) : iblk W a c 1 t = nodes W c := by
  refine funext fun (x : S8192x128.Idx) => ?_
  refine congrArg (nodes W c) (funext fun a => ?_)
  match a with
  | ⟨0, _⟩ => exact Fin.ext (by show 0 * 8192 + 1 * (x 0).val = (x 0).val; omega)
  | ⟨1, _⟩ => exact Fin.ext (by show 0 * 128 + 1 * (x 1).val = (x 1).val; omega)

theorem iblk_2 (t : Fin (cfg1 a).N) : iblk W a c 2 t = graphs W c := by
  refine funext fun (x : S1x8192.Idx) => ?_
  refine congrArg (graphs W c) (funext fun a => ?_)
  match a with
  | ⟨0, _⟩ => exact Fin.ext (by show 0 * 1 + 1 * (x 0).val = (x 0).val; omega)
  | ⟨1, _⟩ => exact Fin.ext (by show 0 * 8192 + 1 * (x 1).val = (x 1).val; omega)

theorem iblk_3 (t : Fin (cfg1 a).N) : iblk W a c 3 t = sums W c := by
  refine funext fun (x : S1x64.Idx) => ?_
  refine congrArg (sums W c) (funext fun a => ?_)
  match a with
  | ⟨0, _⟩ => exact Fin.ext (by show 0 * 1 + 1 * (x 0).val = (x 0).val; omega)
  | ⟨1, _⟩ => exact Fin.ext (by show 0 * 64 + 1 * (x 1).val = (x 1).val; omega)

variable (hS : Words.Segs (tab a c) (graphs W c))

include hS in
theorem outs_eq (t : Fin (cfg1 a).N) :
    outs W a hg c t = stackAlong0 (d := ![128, 128]) fun g : Fin 8 =>
      Pooled.matrix (BitVec.ofNat 32 (8 * (grid1.coords t 0).val + g.val)) (scaled W c) (nodes W c) (graphs W c) (sums W c) := by
  unfold outs
  refine (out_stack c (grid1.coords t) _ _ _ _ _ _ _ _ _ _ (iblk W a c 0 t) (iblk W a c 1 t) (iblk W a c 2 t) (iblk W a c 3 t) (tab a c) _ _ _ _ _ _ _ _
    (fun g => Pooled.accSum (BitVec.ofNat 32 (8 * (grid1.coords t 0).val + g.val)) (scaled W c) (nodes W c) (graphs W c)) ?_).trans ?_
  · intro g r0 r1 h e0 e1
    have hg := hS (graph (grid1.coords t) g)
    funext j
    rw [Pooled.num_eq, iblk_0, iblk_1, iblk_2]
    idx_vars j
    refine AccSum.acc_apply _ _ _ _ _ _ ?_ h ?_
    · rw [e0, e1]; exact hg.1
    · intro n
      rw [e0, e1]
      exact hg.2 n
  · refine congrArg (stackAlong0 (d := ![128, 128])) (funext fun g => ?_)
    rw [Pooled.num_eq, iblk_3]
    rfl

/-- The eight blocks of the result cover it. -/
theorem covers : ((cfg1 a).win 4).Covers := by
  refine ⟨fun a => ?_, fun β => ?_⟩
  · have h : ∀ a : Fin 3, 0 < (![8, 128, 128] : Fin 3 → ℕ) a := by decide
    exact h a
  · have hc : ∀ n : Fin 8, cc1_transform_4 (grid1.coords (n.cast (by decide) : Fin grid1.N)) 0 = n.val := by decide
    have h0 : (β (0 : Fin 3)).val < 8 := Nat.lt_of_lt_of_eq (β (0 : Fin 3)).isLt (show (64 + 8 - 1) / 8 = 8 by decide)
    have h1 : (β (1 : Fin 3)).val < 1 := Nat.lt_of_lt_of_eq (β (1 : Fin 3)).isLt (show (128 + 128 - 1) / 128 = 1 by decide)
    have h2 : (β (2 : Fin 3)).val < 1 := Nat.lt_of_lt_of_eq (β (2 : Fin 3)).isLt (show (128 + 128 - 1) / 128 = 1 by decide)
    refine ⟨((⟨(β (0 : Fin 3)).val, h0⟩ : Fin 8).cast (by decide) : Fin grid1.N), flush_4 a _, fun (a : Fin 3) => ?_⟩
    match a with
    | ⟨0, _⟩ => exact ⟨hc ⟨_, h0⟩, Or.inl rfl⟩
    | ⟨1, _⟩ => exact ⟨(Nat.lt_one_iff.1 h1).symm, Or.inl rfl⟩
    | ⟨2, _⟩ => exact ⟨(Nat.lt_one_iff.1 h2).symm, Or.inl rfl⟩

include hS in
theorem final : (dat W a hg c).arrAt 4 (cfg1 a).N = pooled (scaled W c) (nodes W c) (graphs W c) (sums W c) := by
  refine (dat W a hg c).arrAt_eq_of_covers 4 _ (covers a) fun t hf => ?_
  rw [after_4, outs_eq W a hg c hS t]
  refine fun (y : S8x128x128.Idx) => ?_
  have key : ∀ z : S64x128x128.Idx, (z 0).val = (grid1.coords t 0).val * 8 + 1 * (y 0).val → z 1 = y 1 → z 2 = y 2 →
      stackAlong0 (d := ![128, 128]) (fun g : Fin 8 =>
        Pooled.matrix (BitVec.ofNat 32 (8 * (grid1.coords t 0).val + g.val)) (scaled W c) (nodes W c) (graphs W c) (sums W c)) y
        = pooled (scaled W c) (nodes W c) (graphs W c) (sums W c) z := by
    intro z e0 e1 e2
    unfold pooled stackAlong0
    rw [e0, e1, e2, show (grid1.coords t 0).val * 8 + 1 * (y 0).val = 8 * (grid1.coords t 0).val + (y 0).val by omega]
    refine congrArg (Pooled.matrix _ _ _ _ _) (funext fun a => ?_)
    match a with
    | ⟨0, _⟩ => rfl
    | ⟨1, _⟩ => rfl
  have hc : ∀ t : Fin grid1.N, cc1_transform_4 (grid1.coords t) 0 = (grid1.coords t 0).val := by decide
  exact key _ (by rw [← hc t]; rfl) (Fin.ext (by show 0 * 128 + 1 * (y 1).val = (y 1).val; omega)) (Fin.ext (by show 0 * 128 + 1 * (y 2).val = (y 2).val; omega))

end Array

end Cert.SecondValues

end
-- ==== Proof.WholeAlgebraic.lean ====
/- The value claim of the whole kernel, both calls and the lines around them: on finite arguments with sorted graph numbers its
   run and its reference's end with the same upper triangles. -/
module

public import proofs.«01_k».proof.Proof.Shares
public import proofs.«01_k».proof.Proof.WholeRun
public import proofs.«01_k».proof.Proof.WholeTail
public import proofs.«01_k».proof.Proof.FirstValues
public import proofs.«01_k».proof.Proof.SecondValues
public import proofs.«01_k».proof.Proof.Gen.WholeReferenceIdeal.Read
public import Idealize.ShloMosaic.Lib.Quiescent

@[expose] public section

set_option maxRecDepth 16384

noncomputable section

namespace Cert.WholeAlgebraic

open Cert.WholeIdeal Cert.WholeIdeal.Gen
open Idealize.ShloMosaic Idealize.ShloMosaic.TcCoe Idealize.SL.Sem
open Idealize.ShloMosaic.StableHlo (after)
open Idealize.ShloMosaic.Pipeline (ucRefs)
open Cert.WholeReferenceIdeal.Read (val_main_v70)

attribute [local instance] Sorted.preFacts

/-! ## The host lines before and between the calls -/

section Lines

variable (V : Valuation τ sig (Elt Ideal))

theorem flat_at : after (hostOps0 (F := Ideal)) V (no_index (Proc.devRef .tc main_v0)) = Shares.flat (V (Proc.devRef .tc main_arg1)) := by
  simp only [hostOps0]
  after_results_simp
  rfl

theorem graphs_at : after (hostOps0 (F := Ideal)) V (no_index (Proc.devRef .tc main_v1)) = val_main_v70 (F := Ideal) (V (Proc.devRef .tc main_arg3)) := by
  simp only [hostOps0]
  after_results_simp
  rfl

theorem words_at (j : Fin 65) : (show IVec S65 32 from after (hostOps1 (F := Ideal)) V (no_index (Proc.devRef .tc main_v4))) (ix1 j)
    = (show IVec S1x128 32 from V (Proc.devRef .tc main_v2_1)) (ix2 0 ⟨j.val, by omega⟩) := by
  simp only [hostOps1]
  after_results_simp
  pointwise

end Lines

variable (m : (ℓ : Loc nD τ sig) → Buf (Elt Ideal) ℓ) (c : Dev nD)

/-- The arguments: nodes, weights, bias, graph numbers. -/
abbrev nodes : FVec Ideal S8192x128 .f32 := m ((c : Thread nD τ).loc main_arg0)
abbrev weights : FVec Ideal S8256x1 .f32 := m ((c : Thread nD τ).loc main_arg1)
abbrev bias : FVec Ideal S1 .f32 := m ((c : Thread nD τ).loc main_arg2)
abbrev graphs : IVec S8192 32 := m ((c : Thread nD τ).loc main_arg3)

/-! ## What the second call finds -/

theorem first_nodes : V1 m c (Proc.devRef .tc main_arg0) = nodes m c := V1_of m c main_arg0 (by decide)
theorem first_flat : V1 m c (Proc.devRef .tc main_v0) = Shares.flat (weights m c) := flat_at _
theorem first_graphs : V1 m c (Proc.devRef .tc main_v1) = val_main_v70 (F := Ideal) (graphs m c) := graphs_at _

theorem entry_scaled : WholeRun.entry m c (Proc.devRef .tc main_v2_0) = Outputs.scaled (F := Ideal) (nodes m c) (Shares.flat (weights m c)) := by
  refine (V3_of m _ c main_v2_0 (by decide)).trans ?_
  unfold V2
  rw [Function.update_of_ne (by decide), Function.update_of_ne (by decide), Function.update_self]
  refine (Pipeline.afterRegion_arr (FirstCall.dat (V1 m) c) (V1 m c) (launch0 (F := Ideal)).win.arr_inj 3).trans ((FirstValues.final_scaled (V1 m) c).trans ?_)
  exact congrArg₂ (Outputs.scaled (F := Ideal)) (first_nodes m c) (first_flat m c)

theorem entry_starts : V2 m (WholeRun.outs₁ m) c (Proc.devRef .tc main_v2_1) = Outputs.starts (F := Ideal) (val_main_v70 (F := Ideal) (graphs m c)) := by
  unfold V2
  rw [Function.update_of_ne (by decide), Function.update_self]
  refine (Pipeline.afterRegion_arr (FirstCall.dat (V1 m) c) (V1 m c) (launch0 (F := Ideal)).win.arr_inj 4).trans ((FirstValues.final_starts (V1 m) c).trans ?_)
  exact congrArg (Outputs.starts (F := Ideal)) (first_graphs m c)

theorem entry_sums : WholeRun.entry m c (Proc.devRef .tc main_v2_2)
    = Outputs.sums (F := Ideal) (nodes m c) (Shares.flat (weights m c)) (val_main_v70 (F := Ideal) (graphs m c)) := by
  refine (V3_of m _ c main_v2_2 (by decide)).trans ?_
  unfold V2
  rw [Function.update_self]
  refine (Pipeline.afterRegion_arr (FirstCall.dat (V1 m) c) (V1 m c) (launch0 (F := Ideal)).win.arr_inj 5).trans ((FirstValues.final_sums (V1 m) c).trans ?_)
  exact congr (congrArg₂ (Outputs.sums (F := Ideal)) (first_nodes m c) (first_flat m c)) (first_graphs m c)

theorem entry_nodes : WholeRun.entry m c (Proc.devRef .tc main_arg0) = nodes m c :=
  (V3_of m _ c main_arg0 (by decide)).trans ((V2_of m _ c main_arg0 (by decide)).trans (first_nodes m c))

theorem entry_graphs : WholeRun.entry m c (Proc.devRef .tc main_v1) = val_main_v70 (F := Ideal) (graphs m c) :=
  (V3_of m _ c main_v1 (by decide)).trans ((V2_of m _ c main_v1 (by decide)).trans (first_graphs m c))

/-- The words the second call reads are the starts. -/
theorem words_start (j : Fin 65) : SecondCall.tab (WholeRun.words m) c (ix1 j)
    = BitVec.ofNat 32 (Counts.start (val_main_v70 (F := Ideal) (graphs m c)) ⟨j.val, by omega⟩) := by
  obtain rfl : c = 0 := Subsingleton.elim _ _
  refine (words_at (V2 m (WholeRun.outs₁ m) 0) j).trans ((congrFun (entry_starts m 0) _).trans ?_)
  exact Counts.kernel_start _ _

/-- So its loops stay among the nodes, whatever the arguments are, … -/
theorem good (c : Dev nD) : SecondCall.Good c (SecondCall.tab (WholeRun.words m) c) :=
  SecondValues.good (Sorted.bounds _ _ (words_start m c))

variable {m}

/-- … and they cut sorted graph numbers into the graphs. -/
theorem segs (h : Pre_WholeIdeal_sorted_and_sums m) (c : Dev nD) : Words.Segs (SecondCall.tab (WholeRun.words m) c) (SecondValues.graphs (WholeRun.entry m) c) := by
  obtain ⟨-, -, -, hs, h0, -⟩ := Sorted.decode fun y => congrFun (h c) y
  have e : SecondValues.graphs (WholeRun.entry m) c = val_main_v70 (F := Ideal) (graphs m c) := entry_graphs m c
  rw [e]
  refine Sorted.segs _ (fun k => ?_) (fun k => ?_) _ (words_start m c)
  · rw [Shares.batch_apply, Shares.batch_apply]; exact hs k
  · rw [Shares.batch_apply]; exact h0 k

/-! ## The result -/

/-- All matrices the second call leaves, -/
def pooled (m : (ℓ : Loc nD τ sig) → Buf (Elt Ideal) ℓ) (c : Dev nD) : FVec Ideal S64x128x128 .f32 :=
  SecondValues.pooled (Outputs.scaled (F := Ideal) (nodes m c) (Shares.flat (weights m c))) (nodes m c) (val_main_v70 (F := Ideal) (graphs m c))
    (Outputs.sums (F := Ideal) (nodes m c) (Shares.flat (weights m c)) (val_main_v70 (F := Ideal) (graphs m c)))

/-- and their upper triangles. -/
def result (m : (ℓ : Loc nD τ sig) → Buf (Elt Ideal) ℓ) (c : Dev nD) : FVec Ideal S64x8256 .f32 := Tail.picked (F := Ideal) (pooled m c)

theorem final (h : Pre_WholeIdeal_sorted_and_sums m) (c : Dev nD) :
    V23 m (WholeRun.outs m (good m)) c (Proc.devRef .tc main_v44) = result m c := by
  have t := WholeTail.tail (F := Ideal) (V4 m (WholeRun.outs m (good m)) c)
  simp only [List.flatten_cons, List.flatten_nil, List.append_nil, StableHlo.after_append] at t
  refine t.trans (congrArg (Tail.picked (F := Ideal)) ?_)
  unfold V4
  rw [Function.update_self]
  refine (Pipeline.afterRegion_arr (SecondCall.dat (WholeRun.entry m) (WholeRun.words m) (good m) c) (WholeRun.entry m c) (launch1 (F := Ideal)).win.arr_inj 4).trans ?_
  refine (SecondValues.final (WholeRun.entry m) (WholeRun.words m) (good m) c (segs h c)).trans ?_
  unfold pooled
  exact congr (congr (congrArg₂ SecondValues.pooled (entry_scaled m c) (entry_nodes m c)) (entry_graphs m c)) (entry_sums m c)

/-- The reference's upper triangles are the kernel's. -/
theorem result_eq (h : Pre_WholeIdeal_sorted_and_sums m) (c : Dev nD) :
    WholeReferenceIdeal.Read.val_main_v203 (F := Ideal) (nodes m c) (weights m c) (bias m c) (graphs m c) = result m c := by
  obtain ⟨hx, hw, hb, -, -, he⟩ := Sorted.decode fun y => congrFun (h c) y
  have hf : Logits.Finite (Shares.flat (weights m c)) := fun i => hw _
  rw [WholeReference.final_eq]
  refine (Triu.picked_eq (F := Ideal) (pooled m c) _ fun g p q => ?_).symm
  refine Eq.trans ?_ (Agree.root_eq _ _ _ _ g (Shares.least (nodes m c) (weights m c) (bias m c) (graphs m c) hx hw hb g) p q).symm
  show Pooled.matrix (BitVec.ofNat 32 g.val) _ _ _ _ (ix2 p q) = _
  unfold Pooled.matrix
  refine congrFun (congrArg Point.root (funext fun y => ?_)) _
  obtain ⟨r, s, rfl⟩ : ∃ (r : Fin 128) (s : Fin 128), y = ix2 r s := ⟨y 0, y 1, eq_ix2 y⟩
  rw [← Agree.mean_eq _ _ _ _ g (Shares.least (nodes m c) (weights m c) (bias m c) (graphs m c) hx hw hb g) r s, ← Agree.mean_eq _ _ _ _ g ?_ r s,
    ReferenceIdeal.Read.val_main_v31_apply, ReferenceIdeal.Read.val_main_v31_apply, Shares.pooled_eq (nodes m c) (weights m c) (bias m c) (graphs m c) hx hw hb g r s]
  intro k hk
  rw [Shares.batch_apply] at hk
  refine (he g k hk).trans (le_of_eq ?_)
  rw [Shares.sums_apply]
  refine (Sorted.total_apply _ _ g).trans (Finset.sum_congr rfl fun k _ => ?_)
  rw [Shares.select_eq]
  exact congrArg (fun v : EReal => if (graphs m c) (ix1 k) = BitVec.ofNat 32 g.val then v else 0) (Logits.weight_eq (nodes m c) (Shares.flat (weights m c)) hx hf k)

/-! ## The runs -/

/-- The run leaves every buffer as the last line finds it, and every semaphore at zero. -/
theorem ends (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v44) = V23 m (WholeRun.outs m (good m)) c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 := by
  refine (θ_run defs _ _).mono (fun r k => ⟨fun c => ?_, k.2⟩) (WholeRun.run m ρ (good m))
  have at_ (b : Ref sig .tc) (u : ¬ (Proc.devRef .tc b : DevRef τ sig).isScoped = true) : r.2.mem ((c.tc : Thread nD τ).loc b) = V23 m (WholeRun.outs m (good m)) c (Proc.devRef .tc b) :=
    k.1 c _ (Finset.mem_filter.mpr ⟨StableHlo.devRef_mem_tcRefs b, u⟩)
  exact ⟨at_ main_v44 (by decide), (at_ main_arg0 (by decide)).trans (V23_main_arg0 m _ c),
    (at_ main_arg1 (by decide)).trans (V23_main_arg1 m _ c), (at_ main_arg2 (by decide)).trans (V23_main_arg2 m _ c),
    (at_ main_arg3 (by decide)).trans (V23_main_arg3 m _ c), (at_ main_arg4 (by decide)).trans (V23_main_arg4 m _ c)⟩

theorem frame : quiescent_WholeIdeal := fun m ρ _ => (θ_run defs _ _).mono (fun _ k => ⟨fun c => (k.1 c).2, k.2⟩) (ends m ρ)

theorem frame_reference : quiescent_WholeReferenceIdeal := fun m ρ _ =>
  (θ_run WholeReferenceIdeal.defs _ _).mono (fun r h => ⟨fun c => (h c).2, sem_eq_zero_of_no_sems (by decide) r.2⟩)
    (WholeReferenceIdeal.Value.run (F := Ideal) m ρ)

theorem algebraic : algebraic_WholeIdeal_WholeReferenceIdeal_pre_sorted_and_sums := by
  intro m ρ m' ρ' h same
  refine ⟨fun c => result m c, (θ_run defs _ _).mono (fun _ k c => ⟨(k.1 c).1.trans (final h c), (k.1 c).2⟩) (ends m ρ),
    (θ_run WholeReferenceIdeal.defs _ _).mono (fun _ r c => ⟨(r c).1.trans ?_, (r c).2⟩) (WholeReferenceIdeal.Value.run (F := Ideal) m' ρ')⟩
  obtain ⟨e0, e1, e2, e3, -⟩ := same c
  refine (WholeReferenceIdeal.Read.val_main_v203_eq (StableHlo.launchContents m' c)).trans ?_
  refine Eq.trans ?_ (result_eq h c)
  exact congr (congr (congrArg₂ (WholeReferenceIdeal.Read.val_main_v203 (F := Ideal)) e0 e1) e2) e3

end Cert.WholeAlgebraic

end
-- ==== Proof.lean ====
/- The claims about the whole kernel, about its pooling call and its weights call, and about their references. Each program
   leaves its arguments unchanged and every semaphore at zero, and on the extended reals each kernel ends with its reference's
   results. Of the two calls taken alone the frames hold on machine floats too, and each is one program read at two kinds of
   number. The pooling call's preconditions give what its body assumes of the words of `starts` (`BitsHyps`, `IdealHyps`);
   `Algebraic`, `WeightsAlgebraic` and `WholeAlgebraic` have the values. -/
module

public import proofs.«01_k».proof.Proof.Algebraic
public import proofs.«01_k».proof.Proof.BitsHyps
public import proofs.«01_k».proof.Proof.KernelFrame
public import proofs.«01_k».proof.Proof.WeightsAlgebraic
public import proofs.«01_k».proof.Proof.Gen.Weights.Frame
public import proofs.«01_k».proof.Proof.WholeAlgebraic
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Words.orderFacts Words.preFacts WeightsAlgebraic.preFacts Sorted.preFacts

/-- The kernel on machine floats keeps its arguments and ends with its semaphores at zero. -/
theorem frame_kernel : quiescent_Kernel := fun m ρ h =>
  KernelFrame.frame m ρ trivial (BitsHyps.hyps m _ (Words.decode_order fun y => congrFun (h 0) y))

/-- The kernel on the extended reals does too. -/
theorem frame_ideal : quiescent_KernelIdeal := fun m ρ h =>
  KernelIdeal.Gen.frame m ρ trivial (IdealHyps.hyps m _ (Words.decode_order fun y => congrFun (h 0) y))

/-- So it does where the value claim's precondition holds, of which this is a part. -/
theorem frame_ideal_sums : quiescent_KernelIdeal_pre_segments_and_sums := fun m ρ h =>
  KernelIdeal.Gen.frame m ρ trivial (IdealHyps.hyps m _ fun b => (Algebraic.segs h 0 b).1)

/-- The reference writes no argument, and has no semaphore. -/
theorem frame_reference : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The weights kernel keeps its arguments and ends with its semaphores at zero, on machine floats … -/
theorem frame_weights : quiescent_Weights := fun m ρ _ => Weights.Gen.frame m ρ

/-- … and on the extended reals. -/
theorem frame_weights_ideal : quiescent_WeightsIdeal := fun m ρ _ => WeightsIdeal.Gen.frame m ρ

/-- Its reference writes no argument, and has no semaphore. -/
theorem frame_weights_reference : quiescent_WeightsReferenceIdeal := fun m ρ _ =>
  (θ_run WeightsReferenceIdeal.defs _ _).mono (fun r h => ⟨fun c => (h c).2.2.2, sem_eq_zero_of_no_sems (by decide) r.2⟩)
    (WeightsReferenceIdeal.Value.run (F := Ideal) m ρ)

theorem claim : Cert.Claim :=
  ⟨Kernel.Gen.facts, KernelIdeal.Gen.facts, ReferenceIdeal.Gen.facts, Weights.Gen.facts, WeightsIdeal.Gen.facts,
    WeightsReferenceIdeal.Gen.facts, WholeIdeal.Gen.facts, WholeReferenceIdeal.Gen.facts,
    Words.orderFacts, Words.preFacts, WeightsAlgebraic.preFacts, Sorted.preFacts,
    frame_kernel, frame_ideal, frame_ideal_sums, frame_reference, fun m ρ _ => frame_reference m ρ trivial,
    frame_weights, frame_weights_ideal, fun m ρ _ => frame_weights_ideal m ρ trivial,
    frame_weights_reference, fun m ρ _ => frame_weights_reference m ρ trivial,
    WholeAlgebraic.frame, fun m ρ _ => WholeAlgebraic.frame m ρ trivial,
    WholeAlgebraic.frame_reference, fun m ρ _ => WholeAlgebraic.frame_reference m ρ trivial,
    trivial, Algebraic.algebraic, trivial, WeightsAlgebraic.algebraic, WholeAlgebraic.algebraic⟩

end Cert.Proof

end
